-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_DiffKernel (m : (ℓ : Loc Cert.DiffKernel.nD Cert.DiffKernel.τ Cert.DiffKernel.sig) → Buf (Elt Bits) ℓ) : Prop :=
  True

def Pre_DiffKernelIdeal (m : (ℓ : Loc Cert.DiffKernelIdeal.nD Cert.DiffKernelIdeal.τ Cert.DiffKernelIdeal.sig) → Buf (Elt Ideal) ℓ) : Prop :=
  True

def Pre_DiffKernelIdeal_finite_diff [hPre_finite_diff : Cert.Pre_finite_diff.Facts] (m : (ℓ : Loc Cert.DiffKernelIdeal.nD Cert.DiffKernelIdeal.τ Cert.DiffKernelIdeal.sig) → Buf (Elt Ideal) ℓ) : Prop :=
  ∀ c : Dev Cert.DiffKernelIdeal.nD,
    (Cert.Pre_finite_diff.fn (F := Ideal) (m ((c.tc : Thread Cert.DiffKernelIdeal.nD Cert.DiffKernelIdeal.τ).loc Cert.DiffKernelIdeal.main_arg0)) (m ((c.tc : Thread Cert.DiffKernelIdeal.nD Cert.DiffKernelIdeal.τ).loc Cert.DiffKernelIdeal.main_arg1)) (m ((c.tc : Thread Cert.DiffKernelIdeal.nD Cert.DiffKernelIdeal.τ).loc Cert.DiffKernelIdeal.main_arg2)) (m ((c.tc : Thread Cert.DiffKernelIdeal.nD Cert.DiffKernelIdeal.τ).loc Cert.DiffKernelIdeal.main_arg3)) (m ((c.tc : Thread Cert.DiffKernelIdeal.nD Cert.DiffKernelIdeal.τ).loc Cert.DiffKernelIdeal.main_arg4)) (m ((c.tc : Thread Cert.DiffKernelIdeal.nD Cert.DiffKernelIdeal.τ).loc Cert.DiffKernelIdeal.main_arg5)) (m ((c.tc : Thread Cert.DiffKernelIdeal.nD Cert.DiffKernelIdeal.τ).loc Cert.DiffKernelIdeal.main_arg6)) (m ((c.tc : Thread Cert.DiffKernelIdeal.nD Cert.DiffKernelIdeal.τ).loc Cert.DiffKernelIdeal.main_arg7))) = (fun _ => 1#1)

def Pre_DiffReferenceIdeal (m : (ℓ : Loc Cert.DiffReferenceIdeal.nD Cert.DiffReferenceIdeal.τ Cert.DiffReferenceIdeal.sig) → Buf (Elt Ideal) ℓ) : Prop :=
  True

def Pre_DiffReferenceIdeal_finite_diff [hPre_finite_diff : Cert.Pre_finite_diff.Facts] (m : (ℓ : Loc Cert.DiffReferenceIdeal.nD Cert.DiffReferenceIdeal.τ Cert.DiffReferenceIdeal.sig) → Buf (Elt Ideal) ℓ) : Prop :=
  ∀ c : Dev Cert.DiffReferenceIdeal.nD,
    (Cert.Pre_finite_diff.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3)) (m ((c.tc : Thread Cert.DiffReferenceIdeal.nD Cert.DiffReferenceIdeal.τ).loc Cert.DiffReferenceIdeal.main_arg4)) (m ((c.tc : Thread Cert.DiffReferenceIdeal.nD Cert.DiffReferenceIdeal.τ).loc Cert.DiffReferenceIdeal.main_arg5)) (m ((c.tc : Thread Cert.DiffReferenceIdeal.nD Cert.DiffReferenceIdeal.τ).loc Cert.DiffReferenceIdeal.main_arg6)) (m ((c.tc : Thread Cert.DiffReferenceIdeal.nD Cert.DiffReferenceIdeal.τ).loc Cert.DiffReferenceIdeal.main_arg7))) = (fun _ => 1#1)

def Pre_MidKernel (m : (ℓ : Loc Cert.MidKernel.nD Cert.MidKernel.τ Cert.MidKernel.sig) → Buf (Elt Bits) ℓ) : Prop :=
  True

def Pre_MidKernelIdeal (m : (ℓ : Loc Cert.MidKernelIdeal.nD Cert.MidKernelIdeal.τ Cert.MidKernelIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2)
      ∧ r.2.mem ((c.tc : Thread Cert.PostKernel.nD Cert.PostKernel.τ).loc Cert.PostKernel.main_arg3) = m ((c.tc : Thread Cert.PostKernel.nD Cert.PostKernel.τ).loc Cert.PostKernel.main_arg3)
      ∧ r.2.mem ((c.tc : Thread Cert.PostKernel.nD Cert.PostKernel.τ).loc Cert.PostKernel.main_arg4) = m ((c.tc : Thread Cert.PostKernel.nD Cert.PostKernel.τ).loc Cert.PostKernel.main_arg4)
      ∧ r.2.mem ((c.tc : Thread Cert.PostKernel.nD Cert.PostKernel.τ).loc Cert.PostKernel.main_arg5) = m ((c.tc : Thread Cert.PostKernel.nD Cert.PostKernel.τ).loc Cert.PostKernel.main_arg5)
      ∧ r.2.mem ((c.tc : Thread Cert.PostKernel.nD Cert.PostKernel.τ).loc Cert.PostKernel.main_arg6) = m ((c.tc : Thread Cert.PostKernel.nD Cert.PostKernel.τ).loc Cert.PostKernel.main_arg6)
      ∧ r.2.mem ((c.tc : Thread Cert.PostKernel.nD Cert.PostKernel.τ).loc Cert.PostKernel.main_arg7) = m ((c.tc : Thread Cert.PostKernel.nD Cert.PostKernel.τ).loc Cert.PostKernel.main_arg7)
      ∧ r.2.mem ((c.tc : Thread Cert.PostKernel.nD Cert.PostKernel.τ).loc Cert.PostKernel.main_arg8) = m ((c.tc : Thread Cert.PostKernel.nD Cert.PostKernel.τ).loc Cert.PostKernel.main_arg8)
      ∧ r.2.mem ((c.tc : Thread Cert.PostKernel.nD Cert.PostKernel.τ).loc Cert.PostKernel.main_arg9) = m ((c.tc : Thread Cert.PostKernel.nD Cert.PostKernel.τ).loc Cert.PostKernel.main_arg9)
      ∧ r.2.mem ((c.tc : Thread Cert.PostKernel.nD Cert.PostKernel.τ).loc Cert.PostKernel.main_arg10) = m ((c.tc : Thread Cert.PostKernel.nD Cert.PostKernel.τ).loc Cert.PostKernel.main_arg10))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
      ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
      ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7)
      ∧ r.2.mem ((c.tc : Thread Cert.PostKernelIdeal.nD Cert.PostKernelIdeal.τ).loc Cert.PostKernelIdeal.main_arg8) = m ((c.tc : Thread Cert.PostKernelIdeal.nD Cert.PostKernelIdeal.τ).loc Cert.PostKernelIdeal.main_arg8)
      ∧ r.2.mem ((c.tc : Thread Cert.PostKernelIdeal.nD Cert.PostKernelIdeal.τ).loc Cert.PostKernelIdeal.main_arg9) = m ((c.tc : Thread Cert.PostKernelIdeal.nD Cert.PostKernelIdeal.τ).loc Cert.PostKernelIdeal.main_arg9)
      ∧ r.2.mem ((c.tc : Thread Cert.PostKernelIdeal.nD Cert.PostKernelIdeal.τ).loc Cert.PostKernelIdeal.main_arg10) = m ((c.tc : Thread Cert.PostKernelIdeal.nD Cert.PostKernelIdeal.τ).loc Cert.PostKernelIdeal.main_arg10))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9)
      ∧ r.2.mem ((c.tc : Thread Cert.PostReferenceIdeal.nD Cert.PostReferenceIdeal.τ).loc Cert.PostReferenceIdeal.main_arg10) = m ((c.tc : Thread Cert.PostReferenceIdeal.nD Cert.PostReferenceIdeal.τ).loc Cert.PostReferenceIdeal.main_arg10))
      ∧ r.2.sem = fun _ => 0)

def quiescent_DiffKernel [hDiffKernel : Cert.DiffKernel.Facts] : Prop :=
  ∀ (m : (ℓ : Loc Cert.DiffKernel.nD Cert.DiffKernel.τ Cert.DiffKernel.sig) → Buf (Elt Bits) ℓ) (g : Dev Cert.DiffKernel.nD → PrngReg), Pre_DiffKernel m →
    θ_run (Cert.DiffKernel.defs (F := Bits)) (onTc (τ := Cert.DiffKernel.τ) (Cert.DiffKernel.main (F := Bits))) ⟨m, fun _ => 0, g⟩ (fun r => (∀ c : Dev Cert.DiffKernel.nD,
      r.2.mem ((c.tc : Thread Cert.DiffKernel.nD Cert.DiffKernel.τ).loc Cert.DiffKernel.main_arg0) = m ((c.tc : Thread Cert.DiffKernel.nD Cert.DiffKernel.τ).loc Cert.DiffKernel.main_arg0)
      ∧ r.2.mem ((c.tc : Thread Cert.DiffKernel.nD Cert.DiffKernel.τ).loc Cert.DiffKernel.main_arg1) = m ((c.tc : Thread Cert.DiffKernel.nD Cert.DiffKernel.τ).loc Cert.DiffKernel.main_arg1)
      ∧ r.2.mem ((c.tc : Thread Cert.DiffKernel.nD Cert.DiffKernel.τ).loc Cert.DiffKernel.main_arg2) = m ((c.tc : Thread Cert.DiffKernel.nD Cert.DiffKernel.τ).loc Cert.DiffKernel.main_arg2)
      ∧ r.2.mem ((c.tc : Thread Cert.DiffKernel.nD Cert.DiffKernel.τ).loc Cert.DiffKernel.main_arg3) = m ((c.tc : Thread Cert.DiffKernel.nD Cert.DiffKernel.τ).loc Cert.DiffKernel.main_arg3)
      ∧ r.2.mem ((c.tc : Thread Cert.DiffKernel.nD Cert.DiffKernel.τ).loc Cert.DiffKernel.main_arg4) = m ((c.tc : Thread Cert.DiffKernel.nD Cert.DiffKernel.τ).loc Cert.DiffKernel.main_arg4)
      ∧ r.2.mem ((c.tc : Thread Cert.DiffKernel.nD Cert.DiffKernel.τ).loc Cert.DiffKernel.main_arg5) = m ((c.tc : Thread Cert.DiffKernel.nD Cert.DiffKernel.τ).loc Cert.DiffKernel.main_arg5)
      ∧ r.2.mem ((c.tc : Thread Cert.DiffKernel.nD Cert.DiffKernel.τ).loc Cert.DiffKernel.main_arg6) = m ((c.tc : Thread Cert.DiffKernel.nD Cert.DiffKernel.τ).loc Cert.DiffKernel.main_arg6)
      ∧ r.2.mem ((c.tc : Thread Cert.DiffKernel.nD Cert.DiffKernel.τ).loc Cert.DiffKernel.main_arg7) = m ((c.tc : Thread Cert.DiffKernel.nD Cert.DiffKernel.τ).loc Cert.DiffKernel.main_arg7))
      ∧ r.2.sem = fun _ => 0)

def quiescent_DiffKernelIdeal [hDiffKernelIdeal : Cert.DiffKernelIdeal.Facts] : Prop :=
  ∀ (m : (ℓ : Loc Cert.DiffKernelIdeal.nD Cert.DiffKernelIdeal.τ Cert.DiffKernelIdeal.sig) → Buf (Elt Ideal) ℓ) (g : Dev Cert.DiffKernelIdeal.nD → PrngReg), Pre_DiffKernelIdeal m →
    θ_run (Cert.DiffKernelIdeal.defs (F := Ideal)) (onTc (τ := Cert.DiffKernelIdeal.τ) (Cert.DiffKernelIdeal.main (F := Ideal))) ⟨m, fun _ => 0, g⟩ (fun r => (∀ c : Dev Cert.DiffKernelIdeal.nD,
      r.2.mem ((c.tc : Thread Cert.DiffKernelIdeal.nD Cert.DiffKernelIdeal.τ).loc Cert.DiffKernelIdeal.main_arg0) = m ((c.tc : Thread Cert.DiffKernelIdeal.nD Cert.DiffKernelIdeal.τ).loc Cert.DiffKernelIdeal.main_arg0)
      ∧ r.2.mem ((c.tc : Thread Cert.DiffKernelIdeal.nD Cert.DiffKernelIdeal.τ).loc Cert.DiffKernelIdeal.main_arg1) = m ((c.tc : Thread Cert.DiffKernelIdeal.nD Cert.DiffKernelIdeal.τ).loc Cert.DiffKernelIdeal.main_arg1)
      ∧ r.2.mem ((c.tc : Thread Cert.DiffKernelIdeal.nD Cert.DiffKernelIdeal.τ).loc Cert.DiffKernelIdeal.main_arg2) = m ((c.tc : Thread Cert.DiffKernelIdeal.nD Cert.DiffKernelIdeal.τ).loc Cert.DiffKernelIdeal.main_arg2)
      ∧ r.2.mem ((c.tc : Thread Cert.DiffKernelIdeal.nD Cert.DiffKernelIdeal.τ).loc Cert.DiffKernelIdeal.main_arg3) = m ((c.tc : Thread Cert.DiffKernelIdeal.nD Cert.DiffKernelIdeal.τ).loc Cert.DiffKernelIdeal.main_arg3)
      ∧ r.2.mem ((c.tc : Thread Cert.DiffKernelIdeal.nD Cert.DiffKernelIdeal.τ).loc Cert.DiffKernelIdeal.main_arg4) = m ((c.tc : Thread Cert.DiffKernelIdeal.nD Cert.DiffKernelIdeal.τ).loc Cert.DiffKernelIdeal.main_arg4)
      ∧ r.2.mem ((c.tc : Thread Cert.DiffKernelIdeal.nD Cert.DiffKernelIdeal.τ).loc Cert.DiffKernelIdeal.main_arg5) = m ((c.tc : Thread Cert.DiffKernelIdeal.nD Cert.DiffKernelIdeal.τ).loc Cert.DiffKernelIdeal.main_arg5)
      ∧ r.2.mem ((c.tc : Thread Cert.DiffKernelIdeal.nD Cert.DiffKernelIdeal.τ).loc Cert.DiffKernelIdeal.main_arg6) = m ((c.tc : Thread Cert.DiffKernelIdeal.nD Cert.DiffKernelIdeal.τ).loc Cert.DiffKernelIdeal.main_arg6)
      ∧ r.2.mem ((c.tc : Thread Cert.DiffKernelIdeal.nD Cert.DiffKernelIdeal.τ).loc Cert.DiffKernelIdeal.main_arg7) = m ((c.tc : Thread Cert.DiffKernelIdeal.nD Cert.DiffKernelIdeal.τ).loc Cert.DiffKernelIdeal.main_arg7))
      ∧ r.2.sem = fun _ => 0)

def quiescent_DiffKernelIdeal_pre_finite_diff [hDiffKernelIdeal : Cert.DiffKernelIdeal.Facts] [hPre_finite_diff : Cert.Pre_finite_diff.Facts] : Prop :=
  ∀ (m : (ℓ : Loc Cert.DiffKernelIdeal.nD Cert.DiffKernelIdeal.τ Cert.DiffKernelIdeal.sig) → Buf (Elt Ideal) ℓ) (g : Dev Cert.DiffKernelIdeal.nD → PrngReg), Pre_DiffKernelIdeal_finite_diff m →
    θ_run (Cert.DiffKernelIdeal.defs (F := Ideal)) (onTc (τ := Cert.DiffKernelIdeal.τ) (Cert.DiffKernelIdeal.main (F := Ideal))) ⟨m, fun _ => 0, g⟩ (fun r => (∀ c : Dev Cert.DiffKernelIdeal.nD,
      r.2.mem ((c.tc : Thread Cert.DiffKernelIdeal.nD Cert.DiffKernelIdeal.τ).loc Cert.DiffKernelIdeal.main_arg0) = m ((c.tc : Thread Cert.DiffKernelIdeal.nD Cert.DiffKernelIdeal.τ).loc Cert.DiffKernelIdeal.main_arg0)
      ∧ r.2.mem ((c.tc : Thread Cert.DiffKernelIdeal.nD Cert.DiffKernelIdeal.τ).loc Cert.DiffKernelIdeal.main_arg1) = m ((c.tc : Thread Cert.DiffKernelIdeal.nD Cert.DiffKernelIdeal.τ).loc Cert.DiffKernelIdeal.main_arg1)
      ∧ r.2.mem ((c.tc : Thread Cert.DiffKernelIdeal.nD Cert.DiffKernelIdeal.τ).loc Cert.DiffKernelIdeal.main_arg2) = m ((c.tc : Thread Cert.DiffKernelIdeal.nD Cert.DiffKernelIdeal.τ).loc Cert.DiffKernelIdeal.main_arg2)
      ∧ r.2.mem ((c.tc : Thread Cert.DiffKernelIdeal.nD Cert.DiffKernelIdeal.τ).loc Cert.DiffKernelIdeal.main_arg3) = m ((c.tc : Thread Cert.DiffKernelIdeal.nD Cert.DiffKernelIdeal.τ).loc Cert.DiffKernelIdeal.main_arg3)
      ∧ r.2.mem ((c.tc : Thread Cert.DiffKernelIdeal.nD Cert.DiffKernelIdeal.τ).loc Cert.DiffKernelIdeal.main_arg4) = m ((c.tc : Thread Cert.DiffKernelIdeal.nD Cert.DiffKernelIdeal.τ).loc Cert.DiffKernelIdeal.main_arg4)
      ∧ r.2.mem ((c.tc : Thread Cert.DiffKernelIdeal.nD Cert.DiffKernelIdeal.τ).loc Cert.DiffKernelIdeal.main_arg5) = m ((c.tc : Thread Cert.DiffKernelIdeal.nD Cert.DiffKernelIdeal.τ).loc Cert.DiffKernelIdeal.main_arg5)
      ∧ r.2.mem ((c.tc : Thread Cert.DiffKernelIdeal.nD Cert.DiffKernelIdeal.τ).loc Cert.DiffKernelIdeal.main_arg6) = m ((c.tc : Thread Cert.DiffKernelIdeal.nD Cert.DiffKernelIdeal.τ).loc Cert.DiffKernelIdeal.main_arg6)
      ∧ r.2.mem ((c.tc : Thread Cert.DiffKernelIdeal.nD Cert.DiffKernelIdeal.τ).loc Cert.DiffKernelIdeal.main_arg7) = m ((c.tc : Thread Cert.DiffKernelIdeal.nD Cert.DiffKernelIdeal.τ).loc Cert.DiffKernelIdeal.main_arg7))
      ∧ r.2.sem = fun _ => 0)

def quiescent_DiffReferenceIdeal [hDiffReferenceIdeal : Cert.DiffReferenceIdeal.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4)
      ∧ r.2.mem ((c.tc : Thread Cert.DiffReferenceIdeal.nD Cert.DiffReferenceIdeal.τ).loc Cert.DiffReferenceIdeal.main_arg5) = m ((c.tc : Thread Cert.DiffReferenceIdeal.nD Cert.DiffReferenceIdeal.τ).loc Cert.DiffReferenceIdeal.main_arg5)
      ∧ r.2.mem ((c.tc : Thread Cert.DiffReferenceIdeal.nD Cert.DiffReferenceIdeal.τ).loc Cert.DiffReferenceIdeal.main_arg6) = m ((c.tc : Thread Cert.DiffReferenceIdeal.nD Cert.DiffReferenceIdeal.τ).loc Cert.DiffReferenceIdeal.main_arg6)
      ∧ r.2.mem ((c.tc : Thread Cert.DiffReferenceIdeal.nD Cert.DiffReferenceIdeal.τ).loc Cert.DiffReferenceIdeal.main_arg7) = m ((c.tc : Thread Cert.DiffReferenceIdeal.nD Cert.DiffReferenceIdeal.τ).loc Cert.DiffReferenceIdeal.main_arg7))
      ∧ r.2.sem = fun _ => 0)

def quiescent_DiffReferenceIdeal_pre_finite_diff [hDiffReferenceIdeal : Cert.DiffReferenceIdeal.Facts] [hPre_finite_diff : Cert.Pre_finite_diff.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal_finite_diff m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4)
      ∧ r.2.mem ((c.tc : Thread Cert.DiffReferenceIdeal.nD Cert.DiffReferenceIdeal.τ).loc Cert.DiffReferenceIdeal.main_arg5) = m ((c.tc : Thread Cert.DiffReferenceIdeal.nD Cert.DiffReferenceIdeal.τ).loc Cert.DiffReferenceIdeal.main_arg5)
      ∧ r.2.mem ((c.tc : Thread Cert.DiffReferenceIdeal.nD Cert.DiffReferenceIdeal.τ).loc Cert.DiffReferenceIdeal.main_arg6) = m ((c.tc : Thread Cert.DiffReferenceIdeal.nD Cert.DiffReferenceIdeal.τ).loc Cert.DiffReferenceIdeal.main_arg6)
      ∧ r.2.mem ((c.tc : Thread Cert.DiffReferenceIdeal.nD Cert.DiffReferenceIdeal.τ).loc Cert.DiffReferenceIdeal.main_arg7) = m ((c.tc : Thread Cert.DiffReferenceIdeal.nD Cert.DiffReferenceIdeal.τ).loc Cert.DiffReferenceIdeal.main_arg7))
      ∧ r.2.sem = fun _ => 0)

def quiescent_MidKernel [hMidKernel : Cert.MidKernel.Facts] : Prop :=
  ∀ (m : (ℓ : Loc Cert.MidKernel.nD Cert.MidKernel.τ Cert.MidKernel.sig) → Buf (Elt Bits) ℓ) (g : Dev Cert.MidKernel.nD → PrngReg), Pre_MidKernel m →
    θ_run (Cert.MidKernel.defs (F := Bits)) (onTc (τ := Cert.MidKernel.τ) (Cert.MidKernel.main (F := Bits))) ⟨m, fun _ => 0, g⟩ (fun r => (∀ c : Dev Cert.MidKernel.nD,
      r.2.mem ((c.tc : Thread Cert.MidKernel.nD Cert.MidKernel.τ).loc Cert.MidKernel.main_arg0) = m ((c.tc : Thread Cert.MidKernel.nD Cert.MidKernel.τ).loc Cert.MidKernel.main_arg0)
      ∧ r.2.mem ((c.tc : Thread Cert.MidKernel.nD Cert.MidKernel.τ).loc Cert.MidKernel.main_arg1) = m ((c.tc : Thread Cert.MidKernel.nD Cert.MidKernel.τ).loc Cert.MidKernel.main_arg1)
      ∧ r.2.mem ((c.tc : Thread Cert.MidKernel.nD Cert.MidKernel.τ).loc Cert.MidKernel.main_arg2) = m ((c.tc : Thread Cert.MidKernel.nD Cert.MidKernel.τ).loc Cert.MidKernel.main_arg2)
      ∧ r.2.mem ((c.tc : Thread Cert.MidKernel.nD Cert.MidKernel.τ).loc Cert.MidKernel.main_arg3) = m ((c.tc : Thread Cert.MidKernel.nD Cert.MidKernel.τ).loc Cert.MidKernel.main_arg3)
      ∧ r.2.mem ((c.tc : Thread Cert.MidKernel.nD Cert.MidKernel.τ).loc Cert.MidKernel.main_arg4) = m ((c.tc : Thread Cert.MidKernel.nD Cert.MidKernel.τ).loc Cert.MidKernel.main_arg4)
      ∧ r.2.mem ((c.tc : Thread Cert.MidKernel.nD Cert.MidKernel.τ).loc Cert.MidKernel.main_arg5) = m ((c.tc : Thread Cert.MidKernel.nD Cert.MidKernel.τ).loc Cert.MidKernel.main_arg5)
      ∧ r.2.mem ((c.tc : Thread Cert.MidKernel.nD Cert.MidKernel.τ).loc Cert.MidKernel.main_arg6) = m ((c.tc : Thread Cert.MidKernel.nD Cert.MidKernel.τ).loc Cert.MidKernel.main_arg6)
      ∧ r.2.mem ((c.tc : Thread Cert.MidKernel.nD Cert.MidKernel.τ).loc Cert.MidKernel.main_arg7) = m ((c.tc : Thread Cert.MidKernel.nD Cert.MidKernel.τ).loc Cert.MidKernel.main_arg7)
      ∧ r.2.mem ((c.tc : Thread Cert.MidKernel.nD Cert.MidKernel.τ).loc Cert.MidKernel.main_arg8) = m ((c.tc : Thread Cert.MidKernel.nD Cert.MidKernel.τ).loc Cert.MidKernel.main_arg8)
      ∧ r.2.mem ((c.tc : Thread Cert.MidKernel.nD Cert.MidKernel.τ).loc Cert.MidKernel.main_arg9) = m ((c.tc : Thread Cert.MidKernel.nD Cert.MidKernel.τ).loc Cert.MidKernel.main_arg9)
      ∧ r.2.mem ((c.tc : Thread Cert.MidKernel.nD Cert.MidKernel.τ).loc Cert.MidKernel.main_arg10) = m ((c.tc : Thread Cert.MidKernel.nD Cert.MidKernel.τ).loc Cert.MidKernel.main_arg10)
      ∧ r.2.mem ((c.tc : Thread Cert.MidKernel.nD Cert.MidKernel.τ).loc Cert.MidKernel.main_arg11) = m ((c.tc : Thread Cert.MidKernel.nD Cert.MidKernel.τ).loc Cert.MidKernel.main_arg11)
      ∧ r.2.mem ((c.tc : Thread Cert.MidKernel.nD Cert.MidKernel.τ).loc Cert.MidKernel.main_arg12) = m ((c.tc : Thread Cert.MidKernel.nD Cert.MidKernel.τ).loc Cert.MidKernel.main_arg12)
      ∧ r.2.mem ((c.tc : Thread Cert.MidKernel.nD Cert.MidKernel.τ).loc Cert.MidKernel.main_arg13) = m ((c.tc : Thread Cert.MidKernel.nD Cert.MidKernel.τ).loc Cert.MidKernel.main_arg13))
      ∧ r.2.sem = fun _ => 0)

def quiescent_MidKernelIdeal [hMidKernelIdeal : Cert.MidKernelIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg), Pre_MidKernelIdeal m →
    θ_run (Cert.MidKernelIdeal.defs (F := Ideal)) (onTc (τ := Cert.MidKernelIdeal.τ) (Cert.MidKernelIdeal.main (F := Ideal))) ⟨m, fun _ => 0, g⟩ (fun r => (∀ c : Dev Cert.MidKernelIdeal.nD,
      r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
      ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
      ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
      ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
      ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
      ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5)
      ∧ r.2.mem ((c.tc : Thread Cert.MidKernelIdeal.nD Cert.MidKernelIdeal.τ).loc Cert.MidKernelIdeal.main_arg6) = m ((c.tc : Thread Cert.MidKernelIdeal.nD Cert.MidKernelIdeal.τ).loc Cert.MidKernelIdeal.main_arg6)
      ∧ r.2.mem ((c.tc : Thread Cert.MidKernelIdeal.nD Cert.MidKernelIdeal.τ).loc Cert.MidKernelIdeal.main_arg7) = m ((c.tc : Thread Cert.MidKernelIdeal.nD Cert.MidKernelIdeal.τ).loc Cert.MidKernelIdeal.main_arg7)
      ∧ r.2.mem ((c.tc : Thread Cert.MidKernelIdeal.nD Cert.MidKernelIdeal.τ).loc Cert.MidKernelIdeal.main_arg8) = m ((c.tc : Thread Cert.MidKernelIdeal.nD Cert.MidKernelIdeal.τ).loc Cert.MidKernelIdeal.main_arg8)
      ∧ r.2.mem ((c.tc : Thread Cert.MidKernelIdeal.nD Cert.MidKernelIdeal.τ).loc Cert.MidKernelIdeal.main_arg9) = m ((c.tc : Thread Cert.MidKernelIdeal.nD Cert.MidKernelIdeal.τ).loc Cert.MidKernelIdeal.main_arg9)
      ∧ r.2.mem ((c.tc : Thread Cert.MidKernelIdeal.nD Cert.MidKernelIdeal.τ).loc Cert.MidKernelIdeal.main_arg10) = m ((c.tc : Thread Cert.MidKernelIdeal.nD Cert.MidKernelIdeal.τ).loc Cert.MidKernelIdeal.main_arg10)
      ∧ r.2.mem ((c.tc : Thread Cert.MidKernelIdeal.nD Cert.MidKernelIdeal.τ).loc Cert.MidKernelIdeal.main_arg11) = m ((c.tc : Thread Cert.MidKernelIdeal.nD Cert.MidKernelIdeal.τ).loc Cert.MidKernelIdeal.main_arg11)
      ∧ r.2.mem ((c.tc : Thread Cert.MidKernelIdeal.nD Cert.MidKernelIdeal.τ).loc Cert.MidKernelIdeal.main_arg12) = m ((c.tc : Thread Cert.MidKernelIdeal.nD Cert.MidKernelIdeal.τ).loc Cert.MidKernelIdeal.main_arg12)
      ∧ r.2.mem ((c.tc : Thread Cert.MidKernelIdeal.nD Cert.MidKernelIdeal.τ).loc Cert.MidKernelIdeal.main_arg13) = m ((c.tc : Thread Cert.MidKernelIdeal.nD Cert.MidKernelIdeal.τ).loc Cert.MidKernelIdeal.main_arg13))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8)
      ∧ r.2.mem ((c.tc : Thread Cert.MidReferenceIdeal.nD Cert.MidReferenceIdeal.τ).loc Cert.MidReferenceIdeal.main_arg9) = m ((c.tc : Thread Cert.MidReferenceIdeal.nD Cert.MidReferenceIdeal.τ).loc Cert.MidReferenceIdeal.main_arg9)
      ∧ r.2.mem ((c.tc : Thread Cert.MidReferenceIdeal.nD Cert.MidReferenceIdeal.τ).loc Cert.MidReferenceIdeal.main_arg10) = m ((c.tc : Thread Cert.MidReferenceIdeal.nD Cert.MidReferenceIdeal.τ).loc Cert.MidReferenceIdeal.main_arg10)
      ∧ r.2.mem ((c.tc : Thread Cert.MidReferenceIdeal.nD Cert.MidReferenceIdeal.τ).loc Cert.MidReferenceIdeal.main_arg11) = m ((c.tc : Thread Cert.MidReferenceIdeal.nD Cert.MidReferenceIdeal.τ).loc Cert.MidReferenceIdeal.main_arg11)
      ∧ r.2.mem ((c.tc : Thread Cert.MidReferenceIdeal.nD Cert.MidReferenceIdeal.τ).loc Cert.MidReferenceIdeal.main_arg12) = m ((c.tc : Thread Cert.MidReferenceIdeal.nD Cert.MidReferenceIdeal.τ).loc Cert.MidReferenceIdeal.main_arg12)
      ∧ r.2.mem ((c.tc : Thread Cert.MidReferenceIdeal.nD Cert.MidReferenceIdeal.τ).loc Cert.MidReferenceIdeal.main_arg13) = m ((c.tc : Thread Cert.MidReferenceIdeal.nD Cert.MidReferenceIdeal.τ).loc Cert.MidReferenceIdeal.main_arg13))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5)
      ∧ r.2.mem ((c.tc : Thread Cert.ProjKernel.nD Cert.ProjKernel.τ).loc Cert.ProjKernel.main_arg6) = m ((c.tc : Thread Cert.ProjKernel.nD Cert.ProjKernel.τ).loc Cert.ProjKernel.main_arg6))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
      ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_PostKernel_PostKernelIdeal : Prop :=
  True

def algebraic_PostKernelIdeal_PostReferenceIdeal [hPostKernelIdeal : Cert.PostKernelIdeal.Facts] [hPostReferenceIdeal : Cert.PostReferenceIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostKernelIdeal m →
    (∀ c : Dev Cert.PostKernelIdeal.nD,
      m' ((c.tc : Thread Cert.PostReferenceIdeal.nD Cert.PostReferenceIdeal.τ).loc Cert.PostReferenceIdeal.main_arg0) = m ((c.tc : Thread Cert.PostKernelIdeal.nD Cert.PostKernelIdeal.τ).loc Cert.PostKernelIdeal.main_arg0)
      ∧ m' ((c.tc : Thread Cert.PostReferenceIdeal.nD Cert.PostReferenceIdeal.τ).loc Cert.PostReferenceIdeal.main_arg1) = m ((c.tc : Thread Cert.PostKernelIdeal.nD Cert.PostKernelIdeal.τ).loc Cert.PostKernelIdeal.main_arg1)
      ∧ m' ((c.tc : Thread Cert.PostReferenceIdeal.nD Cert.PostReferenceIdeal.τ).loc Cert.PostReferenceIdeal.main_arg2) = m ((c.tc : Thread Cert.PostKernelIdeal.nD Cert.PostKernelIdeal.τ).loc Cert.PostKernelIdeal.main_arg2)
      ∧ m' ((c.tc : Thread Cert.PostReferenceIdeal.nD Cert.PostReferenceIdeal.τ).loc Cert.PostReferenceIdeal.main_arg3) = m ((c.tc : Thread Cert.PostKernelIdeal.nD Cert.PostKernelIdeal.τ).loc Cert.PostKernelIdeal.main_arg3)
      ∧ m' ((c.tc : Thread Cert.PostReferenceIdeal.nD Cert.PostReferenceIdeal.τ).loc Cert.PostReferenceIdeal.main_arg4) = m ((c.tc : Thread Cert.PostKernelIdeal.nD Cert.PostKernelIdeal.τ).loc Cert.PostKernelIdeal.main_arg4)
      ∧ m' ((c.tc : Thread Cert.PostReferenceIdeal.nD Cert.PostReferenceIdeal.τ).loc Cert.PostReferenceIdeal.main_arg5) = m ((c.tc : Thread Cert.PostKernelIdeal.nD Cert.PostKernelIdeal.τ).loc Cert.PostKernelIdeal.main_arg5)
      ∧ m' ((c.tc : Thread Cert.PostReferenceIdeal.nD Cert.PostReferenceIdeal.τ).loc Cert.PostReferenceIdeal.main_arg6) = m ((c.tc : Thread Cert.PostKernelIdeal.nD Cert.PostKernelIdeal.τ).loc Cert.PostKernelIdeal.main_arg6)
      ∧ m' ((c.tc : Thread Cert.PostReferenceIdeal.nD Cert.PostReferenceIdeal.τ).loc Cert.PostReferenceIdeal.main_arg7) = m ((c.tc : Thread Cert.PostKernelIdeal.nD Cert.PostKernelIdeal.τ).loc Cert.PostKernelIdeal.main_arg7)
      ∧ m' ((c.tc : Thread Cert.PostReferenceIdeal.nD Cert.PostReferenceIdeal.τ).loc Cert.PostReferenceIdeal.main_arg8) = m ((c.tc : Thread Cert.PostKernelIdeal.nD Cert.PostKernelIdeal.τ).loc Cert.PostKernelIdeal.main_arg8)
      ∧ m' ((c.tc : Thread Cert.PostReferenceIdeal.nD Cert.PostReferenceIdeal.τ).loc Cert.PostReferenceIdeal.main_arg9) = m ((c.tc : Thread Cert.PostKernelIdeal.nD Cert.PostKernelIdeal.τ).loc Cert.PostKernelIdeal.main_arg9)
      ∧ m' ((c.tc : Thread Cert.PostReferenceIdeal.nD Cert.PostReferenceIdeal.τ).loc Cert.PostReferenceIdeal.main_arg10) = m ((c.tc : Thread Cert.PostKernelIdeal.nD Cert.PostKernelIdeal.τ).loc Cert.PostKernelIdeal.main_arg10)) →
    ∃ (v0 : (c : Dev Cert.PostKernelIdeal.nD) → Buf (Elt Ideal) ((c.tc : Thread Cert.PostKernelIdeal.nD Cert.PostKernelIdeal.τ).loc Cert.PostKernelIdeal.main_v7)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v7) = v0 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
          ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
          ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
          ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
          ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
          ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7)
          ∧ r.2.mem ((c.tc : Thread Cert.PostKernelIdeal.nD Cert.PostKernelIdeal.τ).loc Cert.PostKernelIdeal.main_arg8) = m ((c.tc : Thread Cert.PostKernelIdeal.nD Cert.PostKernelIdeal.τ).loc Cert.PostKernelIdeal.main_arg8)
          ∧ r.2.mem ((c.tc : Thread Cert.PostKernelIdeal.nD Cert.PostKernelIdeal.τ).loc Cert.PostKernelIdeal.main_arg9) = m ((c.tc : Thread Cert.PostKernelIdeal.nD Cert.PostKernelIdeal.τ).loc Cert.PostKernelIdeal.main_arg9)
          ∧ r.2.mem ((c.tc : Thread Cert.PostKernelIdeal.nD Cert.PostKernelIdeal.τ).loc Cert.PostKernelIdeal.main_arg10) = m ((c.tc : Thread Cert.PostKernelIdeal.nD Cert.PostKernelIdeal.τ).loc Cert.PostKernelIdeal.main_arg10))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v56) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9)
          ∧ r.2.mem ((c.tc : Thread Cert.PostReferenceIdeal.nD Cert.PostReferenceIdeal.τ).loc Cert.PostReferenceIdeal.main_arg10) = m' ((c.tc : Thread Cert.PostReferenceIdeal.nD Cert.PostReferenceIdeal.τ).loc Cert.PostReferenceIdeal.main_arg10))

def preserves_DiffKernel_DiffKernelIdeal : Prop :=
  True

def algebraic_DiffKernelIdeal_DiffReferenceIdeal_pre_finite_diff [hDiffKernelIdeal : Cert.DiffKernelIdeal.Facts] [hDiffReferenceIdeal : Cert.DiffReferenceIdeal.Facts] [hPre_finite_diff : Cert.Pre_finite_diff.Facts] : Prop :=
  ∀ (m : (ℓ : Loc Cert.DiffKernelIdeal.nD Cert.DiffKernelIdeal.τ Cert.DiffKernelIdeal.sig) → Buf (Elt Ideal) ℓ) (g : Dev Cert.DiffKernelIdeal.nD → PrngReg)
    (m' : (ℓ : Loc Cert.DiffReferenceIdeal.nD Cert.DiffReferenceIdeal.τ Cert.DiffReferenceIdeal.sig) → Buf (Elt Ideal) ℓ) (g' : Dev Cert.DiffReferenceIdeal.nD → PrngReg), Pre_DiffKernelIdeal_finite_diff m →
    (∀ c : Dev Cert.DiffKernelIdeal.nD,
      m' ((c.tc : Thread Cert.DiffReferenceIdeal.nD Cert.DiffReferenceIdeal.τ).loc Cert.DiffReferenceIdeal.main_arg0) = m ((c.tc : Thread Cert.DiffKernelIdeal.nD Cert.DiffKernelIdeal.τ).loc Cert.DiffKernelIdeal.main_arg0)
      ∧ m' ((c.tc : Thread Cert.DiffReferenceIdeal.nD Cert.DiffReferenceIdeal.τ).loc Cert.DiffReferenceIdeal.main_arg1) = m ((c.tc : Thread Cert.DiffKernelIdeal.nD Cert.DiffKernelIdeal.τ).loc Cert.DiffKernelIdeal.main_arg1)
      ∧ m' ((c.tc : Thread Cert.DiffReferenceIdeal.nD Cert.DiffReferenceIdeal.τ).loc Cert.DiffReferenceIdeal.main_arg2) = m ((c.tc : Thread Cert.DiffKernelIdeal.nD Cert.DiffKernelIdeal.τ).loc Cert.DiffKernelIdeal.main_arg2)
      ∧ m' ((c.tc : Thread Cert.DiffReferenceIdeal.nD Cert.DiffReferenceIdeal.τ).loc Cert.DiffReferenceIdeal.main_arg3) = m ((c.tc : Thread Cert.DiffKernelIdeal.nD Cert.DiffKernelIdeal.τ).loc Cert.DiffKernelIdeal.main_arg3)
      ∧ m' ((c.tc : Thread Cert.DiffReferenceIdeal.nD Cert.DiffReferenceIdeal.τ).loc Cert.DiffReferenceIdeal.main_arg4) = m ((c.tc : Thread Cert.DiffKernelIdeal.nD Cert.DiffKernelIdeal.τ).loc Cert.DiffKernelIdeal.main_arg4)
      ∧ m' ((c.tc : Thread Cert.DiffReferenceIdeal.nD Cert.DiffReferenceIdeal.τ).loc Cert.DiffReferenceIdeal.main_arg5) = m ((c.tc : Thread Cert.DiffKernelIdeal.nD Cert.DiffKernelIdeal.τ).loc Cert.DiffKernelIdeal.main_arg5)
      ∧ m' ((c.tc : Thread Cert.DiffReferenceIdeal.nD Cert.DiffReferenceIdeal.τ).loc Cert.DiffReferenceIdeal.main_arg6) = m ((c.tc : Thread Cert.DiffKernelIdeal.nD Cert.DiffKernelIdeal.τ).loc Cert.DiffKernelIdeal.main_arg6)
      ∧ m' ((c.tc : Thread Cert.DiffReferenceIdeal.nD Cert.DiffReferenceIdeal.τ).loc Cert.DiffReferenceIdeal.main_arg7) = m ((c.tc : Thread Cert.DiffKernelIdeal.nD Cert.DiffKernelIdeal.τ).loc Cert.DiffKernelIdeal.main_arg7)) →
    ∃ (v0 : (c : Dev Cert.DiffKernelIdeal.nD) → Buf (Elt Ideal) ((c.tc : Thread Cert.DiffKernelIdeal.nD Cert.DiffKernelIdeal.τ).loc Cert.DiffKernelIdeal.main_v24)),
      θ_run (Cert.DiffKernelIdeal.defs (F := Ideal)) (onTc (τ := Cert.DiffKernelIdeal.τ) (Cert.DiffKernelIdeal.main (F := Ideal))) ⟨m, fun _ => 0, g⟩ (fun r => ∀ c : Dev Cert.DiffKernelIdeal.nD,
          r.2.mem ((c.tc : Thread Cert.DiffKernelIdeal.nD Cert.DiffKernelIdeal.τ).loc Cert.DiffKernelIdeal.main_v24) = v0 c
          ∧ r.2.mem ((c.tc : Thread Cert.DiffKernelIdeal.nD Cert.DiffKernelIdeal.τ).loc Cert.DiffKernelIdeal.main_arg0) = m ((c.tc : Thread Cert.DiffKernelIdeal.nD Cert.DiffKernelIdeal.τ).loc Cert.DiffKernelIdeal.main_arg0)
          ∧ r.2.mem ((c.tc : Thread Cert.DiffKernelIdeal.nD Cert.DiffKernelIdeal.τ).loc Cert.DiffKernelIdeal.main_arg1) = m ((c.tc : Thread Cert.DiffKernelIdeal.nD Cert.DiffKernelIdeal.τ).loc Cert.DiffKernelIdeal.main_arg1)
          ∧ r.2.mem ((c.tc : Thread Cert.DiffKernelIdeal.nD Cert.DiffKernelIdeal.τ).loc Cert.DiffKernelIdeal.main_arg2) = m ((c.tc : Thread Cert.DiffKernelIdeal.nD Cert.DiffKernelIdeal.τ).loc Cert.DiffKernelIdeal.main_arg2)
          ∧ r.2.mem ((c.tc : Thread Cert.DiffKernelIdeal.nD Cert.DiffKernelIdeal.τ).loc Cert.DiffKernelIdeal.main_arg3) = m ((c.tc : Thread Cert.DiffKernelIdeal.nD Cert.DiffKernelIdeal.τ).loc Cert.DiffKernelIdeal.main_arg3)
          ∧ r.2.mem ((c.tc : Thread Cert.DiffKernelIdeal.nD Cert.DiffKernelIdeal.τ).loc Cert.DiffKernelIdeal.main_arg4) = m ((c.tc : Thread Cert.DiffKernelIdeal.nD Cert.DiffKernelIdeal.τ).loc Cert.DiffKernelIdeal.main_arg4)
          ∧ r.2.mem ((c.tc : Thread Cert.DiffKernelIdeal.nD Cert.DiffKernelIdeal.τ).loc Cert.DiffKernelIdeal.main_arg5) = m ((c.tc : Thread Cert.DiffKernelIdeal.nD Cert.DiffKernelIdeal.τ).loc Cert.DiffKernelIdeal.main_arg5)
          ∧ r.2.mem ((c.tc : Thread Cert.DiffKernelIdeal.nD Cert.DiffKernelIdeal.τ).loc Cert.DiffKernelIdeal.main_arg6) = m ((c.tc : Thread Cert.DiffKernelIdeal.nD Cert.DiffKernelIdeal.τ).loc Cert.DiffKernelIdeal.main_arg6)
          ∧ r.2.mem ((c.tc : Thread Cert.DiffKernelIdeal.nD Cert.DiffKernelIdeal.τ).loc Cert.DiffKernelIdeal.main_arg7) = m ((c.tc : Thread Cert.DiffKernelIdeal.nD Cert.DiffKernelIdeal.τ).loc Cert.DiffKernelIdeal.main_arg7))
      ∧ θ_run (Cert.DiffReferenceIdeal.defs (F := Ideal)) (onTc (τ := Cert.DiffReferenceIdeal.τ) (Cert.DiffReferenceIdeal.main (F := Ideal))) ⟨m', fun _ => 0, g'⟩ (fun r => ∀ c : Dev Cert.DiffReferenceIdeal.nD,
          r.2.mem ((c.tc : Thread Cert.DiffReferenceIdeal.nD Cert.DiffReferenceIdeal.τ).loc Cert.DiffReferenceIdeal.main_v60) = v0 c
          ∧ r.2.mem ((c.tc : Thread Cert.DiffReferenceIdeal.nD Cert.DiffReferenceIdeal.τ).loc Cert.DiffReferenceIdeal.main_arg0) = m' ((c.tc : Thread Cert.DiffReferenceIdeal.nD Cert.DiffReferenceIdeal.τ).loc Cert.DiffReferenceIdeal.main_arg0)
          ∧ r.2.mem ((c.tc : Thread Cert.DiffReferenceIdeal.nD Cert.DiffReferenceIdeal.τ).loc Cert.DiffReferenceIdeal.main_arg1) = m' ((c.tc : Thread Cert.DiffReferenceIdeal.nD Cert.DiffReferenceIdeal.τ).loc Cert.DiffReferenceIdeal.main_arg1)
          ∧ r.2.mem ((c.tc : Thread Cert.DiffReferenceIdeal.nD Cert.DiffReferenceIdeal.τ).loc Cert.DiffReferenceIdeal.main_arg2) = m' ((c.tc : Thread Cert.DiffReferenceIdeal.nD Cert.DiffReferenceIdeal.τ).loc Cert.DiffReferenceIdeal.main_arg2)
          ∧ r.2.mem ((c.tc : Thread Cert.DiffReferenceIdeal.nD Cert.DiffReferenceIdeal.τ).loc Cert.DiffReferenceIdeal.main_arg3) = m' ((c.tc : Thread Cert.DiffReferenceIdeal.nD Cert.DiffReferenceIdeal.τ).loc Cert.DiffReferenceIdeal.main_arg3)
          ∧ r.2.mem ((c.tc : Thread Cert.DiffReferenceIdeal.nD Cert.DiffReferenceIdeal.τ).loc Cert.DiffReferenceIdeal.main_arg4) = m' ((c.tc : Thread Cert.DiffReferenceIdeal.nD Cert.DiffReferenceIdeal.τ).loc Cert.DiffReferenceIdeal.main_arg4)
          ∧ r.2.mem ((c.tc : Thread Cert.DiffReferenceIdeal.nD Cert.DiffReferenceIdeal.τ).loc Cert.DiffReferenceIdeal.main_arg5) = m' ((c.tc : Thread Cert.DiffReferenceIdeal.nD Cert.DiffReferenceIdeal.τ).loc Cert.DiffReferenceIdeal.main_arg5)
          ∧ r.2.mem ((c.tc : Thread Cert.DiffReferenceIdeal.nD Cert.DiffReferenceIdeal.τ).loc Cert.DiffReferenceIdeal.main_arg6) = m' ((c.tc : Thread Cert.DiffReferenceIdeal.nD Cert.DiffReferenceIdeal.τ).loc Cert.DiffReferenceIdeal.main_arg6)
          ∧ r.2.mem ((c.tc : Thread Cert.DiffReferenceIdeal.nD Cert.DiffReferenceIdeal.τ).loc Cert.DiffReferenceIdeal.main_arg7) = m' ((c.tc : Thread Cert.DiffReferenceIdeal.nD Cert.DiffReferenceIdeal.τ).loc Cert.DiffReferenceIdeal.main_arg7))

def preserves_MidKernel_MidKernelIdeal : Prop :=
  True

def algebraic_MidKernelIdeal_MidReferenceIdeal [hMidKernelIdeal : Cert.MidKernelIdeal.Facts] [hMidReferenceIdeal : Cert.MidReferenceIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidKernelIdeal m →
    (∀ c : Dev Cert.MidKernelIdeal.nD,
      m' ((c.tc : Thread Cert.MidReferenceIdeal.nD Cert.MidReferenceIdeal.τ).loc Cert.MidReferenceIdeal.main_arg0) = m ((c.tc : Thread Cert.MidKernelIdeal.nD Cert.MidKernelIdeal.τ).loc Cert.MidKernelIdeal.main_arg0)
      ∧ m' ((c.tc : Thread Cert.MidReferenceIdeal.nD Cert.MidReferenceIdeal.τ).loc Cert.MidReferenceIdeal.main_arg1) = m ((c.tc : Thread Cert.MidKernelIdeal.nD Cert.MidKernelIdeal.τ).loc Cert.MidKernelIdeal.main_arg1)
      ∧ m' ((c.tc : Thread Cert.MidReferenceIdeal.nD Cert.MidReferenceIdeal.τ).loc Cert.MidReferenceIdeal.main_arg2) = m ((c.tc : Thread Cert.MidKernelIdeal.nD Cert.MidKernelIdeal.τ).loc Cert.MidKernelIdeal.main_arg2)
      ∧ m' ((c.tc : Thread Cert.MidReferenceIdeal.nD Cert.MidReferenceIdeal.τ).loc Cert.MidReferenceIdeal.main_arg3) = m ((c.tc : Thread Cert.MidKernelIdeal.nD Cert.MidKernelIdeal.τ).loc Cert.MidKernelIdeal.main_arg3)
      ∧ m' ((c.tc : Thread Cert.MidReferenceIdeal.nD Cert.MidReferenceIdeal.τ).loc Cert.MidReferenceIdeal.main_arg4) = m ((c.tc : Thread Cert.MidKernelIdeal.nD Cert.MidKernelIdeal.τ).loc Cert.MidKernelIdeal.main_arg4)
      ∧ m' ((c.tc : Thread Cert.MidReferenceIdeal.nD Cert.MidReferenceIdeal.τ).loc Cert.MidReferenceIdeal.main_arg5) = m ((c.tc : Thread Cert.MidKernelIdeal.nD Cert.MidKernelIdeal.τ).loc Cert.MidKernelIdeal.main_arg5)
      ∧ m' ((c.tc : Thread Cert.MidReferenceIdeal.nD Cert.MidReferenceIdeal.τ).loc Cert.MidReferenceIdeal.main_arg6) = m ((c.tc : Thread Cert.MidKernelIdeal.nD Cert.MidKernelIdeal.τ).loc Cert.MidKernelIdeal.main_arg6)
      ∧ m' ((c.tc : Thread Cert.MidReferenceIdeal.nD Cert.MidReferenceIdeal.τ).loc Cert.MidReferenceIdeal.main_arg7) = m ((c.tc : Thread Cert.MidKernelIdeal.nD Cert.MidKernelIdeal.τ).loc Cert.MidKernelIdeal.main_arg7)
      ∧ m' ((c.tc : Thread Cert.MidReferenceIdeal.nD Cert.MidReferenceIdeal.τ).loc Cert.MidReferenceIdeal.main_arg8) = m ((c.tc : Thread Cert.MidKernelIdeal.nD Cert.MidKernelIdeal.τ).loc Cert.MidKernelIdeal.main_arg8)
      ∧ m' ((c.tc : Thread Cert.MidReferenceIdeal.nD Cert.MidReferenceIdeal.τ).loc Cert.MidReferenceIdeal.main_arg9) = m ((c.tc : Thread Cert.MidKernelIdeal.nD Cert.MidKernelIdeal.τ).loc Cert.MidKernelIdeal.main_arg9)
      ∧ m' ((c.tc : Thread Cert.MidReferenceIdeal.nD Cert.MidReferenceIdeal.τ).loc Cert.MidReferenceIdeal.main_arg10) = m ((c.tc : Thread Cert.MidKernelIdeal.nD Cert.MidKernelIdeal.τ).loc Cert.MidKernelIdeal.main_arg10)
      ∧ m' ((c.tc : Thread Cert.MidReferenceIdeal.nD Cert.MidReferenceIdeal.τ).loc Cert.MidReferenceIdeal.main_arg11) = m ((c.tc : Thread Cert.MidKernelIdeal.nD Cert.MidKernelIdeal.τ).loc Cert.MidKernelIdeal.main_arg11)
      ∧ m' ((c.tc : Thread Cert.MidReferenceIdeal.nD Cert.MidReferenceIdeal.τ).loc Cert.MidReferenceIdeal.main_arg12) = m ((c.tc : Thread Cert.MidKernelIdeal.nD Cert.MidKernelIdeal.τ).loc Cert.MidKernelIdeal.main_arg12)
      ∧ m' ((c.tc : Thread Cert.MidReferenceIdeal.nD Cert.MidReferenceIdeal.τ).loc Cert.MidReferenceIdeal.main_arg13) = m ((c.tc : Thread Cert.MidKernelIdeal.nD Cert.MidKernelIdeal.τ).loc Cert.MidKernelIdeal.main_arg13)) →
    ∃ (v0 : (c : Dev Cert.MidKernelIdeal.nD) → Buf (Elt Ideal) ((c.tc : Thread Cert.MidKernelIdeal.nD Cert.MidKernelIdeal.τ).loc Cert.MidKernelIdeal.main_v5_0)) (v1 : (c : Dev Cert.MidKernelIdeal.nD) → Buf (Elt Ideal) ((c.tc : Thread Cert.MidKernelIdeal.nD Cert.MidKernelIdeal.τ).loc Cert.MidKernelIdeal.main_v5_1)),
      θ_run (Cert.MidKernelIdeal.defs (F := Ideal)) (onTc (τ := Cert.MidKernelIdeal.τ) (Cert.MidKernelIdeal.main (F := Ideal))) ⟨m, fun _ => 0, g⟩ (fun r => ∀ c : Dev Cert.MidKernelIdeal.nD,
          r.2.mem ((c.tc : Thread Cert.MidKernelIdeal.nD Cert.MidKernelIdeal.τ).loc Cert.MidKernelIdeal.main_v5_0) = v0 c
          ∧ r.2.mem ((c.tc : Thread Cert.MidKernelIdeal.nD Cert.MidKernelIdeal.τ).loc Cert.MidKernelIdeal.main_v5_1) = v1 c
          ∧ r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
          ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
          ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
          ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
          ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
          ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5)
          ∧ r.2.mem ((c.tc : Thread Cert.MidKernelIdeal.nD Cert.MidKernelIdeal.τ).loc Cert.MidKernelIdeal.main_arg6) = m ((c.tc : Thread Cert.MidKernelIdeal.nD Cert.MidKernelIdeal.τ).loc Cert.MidKernelIdeal.main_arg6)
          ∧ r.2.mem ((c.tc : Thread Cert.MidKernelIdeal.nD Cert.MidKernelIdeal.τ).loc Cert.MidKernelIdeal.main_arg7) = m ((c.tc : Thread Cert.MidKernelIdeal.nD Cert.MidKernelIdeal.τ).loc Cert.MidKernelIdeal.main_arg7)
          ∧ r.2.mem ((c.tc : Thread Cert.MidKernelIdeal.nD Cert.MidKernelIdeal.τ).loc Cert.MidKernelIdeal.main_arg8) = m ((c.tc : Thread Cert.MidKernelIdeal.nD Cert.MidKernelIdeal.τ).loc Cert.MidKernelIdeal.main_arg8)
          ∧ r.2.mem ((c.tc : Thread Cert.MidKernelIdeal.nD Cert.MidKernelIdeal.τ).loc Cert.MidKernelIdeal.main_arg9) = m ((c.tc : Thread Cert.MidKernelIdeal.nD Cert.MidKernelIdeal.τ).loc Cert.MidKernelIdeal.main_arg9)
          ∧ r.2.mem ((c.tc : Thread Cert.MidKernelIdeal.nD Cert.MidKernelIdeal.τ).loc Cert.MidKernelIdeal.main_arg10) = m ((c.tc : Thread Cert.MidKernelIdeal.nD Cert.MidKernelIdeal.τ).loc Cert.MidKernelIdeal.main_arg10)
          ∧ r.2.mem ((c.tc : Thread Cert.MidKernelIdeal.nD Cert.MidKernelIdeal.τ).loc Cert.MidKernelIdeal.main_arg11) = m ((c.tc : Thread Cert.MidKernelIdeal.nD Cert.MidKernelIdeal.τ).loc Cert.MidKernelIdeal.main_arg11)
          ∧ r.2.mem ((c.tc : Thread Cert.MidKernelIdeal.nD Cert.MidKernelIdeal.τ).loc Cert.MidKernelIdeal.main_arg12) = m ((c.tc : Thread Cert.MidKernelIdeal.nD Cert.MidKernelIdeal.τ).loc Cert.MidKernelIdeal.main_arg12)
          ∧ r.2.mem ((c.tc : Thread Cert.MidKernelIdeal.nD Cert.MidKernelIdeal.τ).loc Cert.MidKernelIdeal.main_arg13) = m ((c.tc : Thread Cert.MidKernelIdeal.nD Cert.MidKernelIdeal.τ).loc Cert.MidKernelIdeal.main_arg13))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v43) = v0 c
          ∧ r.2.mem ((c.tc : Thread Cert.MidReferenceIdeal.nD Cert.MidReferenceIdeal.τ).loc Cert.MidReferenceIdeal.main_v92) = v1 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6)
          ∧ r.2.mem ((c.tc : Thread Cert.MidReferenceIdeal.nD Cert.MidReferenceIdeal.τ).loc Cert.MidReferenceIdeal.main_arg7) = m' ((c.tc : Thread Cert.MidReferenceIdeal.nD Cert.MidReferenceIdeal.τ).loc Cert.MidReferenceIdeal.main_arg7)
          ∧ r.2.mem ((c.tc : Thread Cert.MidReferenceIdeal.nD Cert.MidReferenceIdeal.τ).loc Cert.MidReferenceIdeal.main_arg8) = m' ((c.tc : Thread Cert.MidReferenceIdeal.nD Cert.MidReferenceIdeal.τ).loc Cert.MidReferenceIdeal.main_arg8)
          ∧ r.2.mem ((c.tc : Thread Cert.MidReferenceIdeal.nD Cert.MidReferenceIdeal.τ).loc Cert.MidReferenceIdeal.main_arg9) = m' ((c.tc : Thread Cert.MidReferenceIdeal.nD Cert.MidReferenceIdeal.τ).loc Cert.MidReferenceIdeal.main_arg9)
          ∧ r.2.mem ((c.tc : Thread Cert.MidReferenceIdeal.nD Cert.MidReferenceIdeal.τ).loc Cert.MidReferenceIdeal.main_arg10) = m' ((c.tc : Thread Cert.MidReferenceIdeal.nD Cert.MidReferenceIdeal.τ).loc Cert.MidReferenceIdeal.main_arg10)
          ∧ r.2.mem ((c.tc : Thread Cert.MidReferenceIdeal.nD Cert.MidReferenceIdeal.τ).loc Cert.MidReferenceIdeal.main_arg11) = m' ((c.tc : Thread Cert.MidReferenceIdeal.nD Cert.MidReferenceIdeal.τ).loc Cert.MidReferenceIdeal.main_arg11)
          ∧ r.2.mem ((c.tc : Thread Cert.MidReferenceIdeal.nD Cert.MidReferenceIdeal.τ).loc Cert.MidReferenceIdeal.main_arg12) = m' ((c.tc : Thread Cert.MidReferenceIdeal.nD Cert.MidReferenceIdeal.τ).loc Cert.MidReferenceIdeal.main_arg12)
          ∧ r.2.mem ((c.tc : Thread Cert.MidReferenceIdeal.nD Cert.MidReferenceIdeal.τ).loc Cert.MidReferenceIdeal.main_arg13) = m' ((c.tc : Thread Cert.MidReferenceIdeal.nD Cert.MidReferenceIdeal.τ).loc Cert.MidReferenceIdeal.main_arg13))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)
      ∧ m' ((c.tc : Thread Cert.ProjReferenceIdeal.nD Cert.ProjReferenceIdeal.τ).loc Cert.ProjReferenceIdeal.main_arg6) = m ((c.tc : Thread Cert.ProjKernelIdeal.nD Cert.ProjKernelIdeal.τ).loc Cert.ProjKernelIdeal.main_arg6)) →
    ∃ (v0 : (c : Dev Cert.ProjKernelIdeal.nD) → Buf (Elt Ideal) ((c.tc : Thread Cert.ProjKernelIdeal.nD Cert.ProjKernelIdeal.τ).loc Cert.ProjKernelIdeal.main_v92_2)) (v1 : (c : Dev Cert.ProjKernelIdeal.nD) → Buf (Elt Ideal) ((c.tc : Thread Cert.ProjKernelIdeal.nD Cert.ProjKernelIdeal.τ).loc Cert.ProjKernelIdeal.main_v92_5)) (v2 : (c : Dev Cert.ProjKernelIdeal.nD) → Buf (Elt Ideal) ((c.tc : Thread Cert.ProjKernelIdeal.nD Cert.ProjKernelIdeal.τ).loc Cert.ProjKernelIdeal.main_v92_8)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v92_2) = v0 c
          ∧ r.2.mem ((c.tc : Thread Cert.ProjKernelIdeal.nD Cert.ProjKernelIdeal.τ).loc Cert.ProjKernelIdeal.main_v92_5) = v1 c
          ∧ r.2.mem ((c.tc : Thread Cert.ProjKernelIdeal.nD Cert.ProjKernelIdeal.τ).loc Cert.ProjKernelIdeal.main_v92_8) = v2 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
          ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v65) = v0 c
          ∧ r.2.mem ((c.tc : Thread Cert.ProjReferenceIdeal.nD Cert.ProjReferenceIdeal.τ).loc Cert.ProjReferenceIdeal.main_v76) = v1 c
          ∧ r.2.mem ((c.tc : Thread Cert.ProjReferenceIdeal.nD Cert.ProjReferenceIdeal.τ).loc Cert.ProjReferenceIdeal.main_v87) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6))

def Claim : Prop :=
  ∃ (hKernel : Cert.Kernel.Facts) (hKernelIdeal : Cert.KernelIdeal.Facts) (hReferenceIdeal : Cert.ReferenceIdeal.Facts) (hPostKernel : Cert.PostKernel.Facts) (hPostKernelIdeal : Cert.PostKernelIdeal.Facts) (hPostReferenceIdeal : Cert.PostReferenceIdeal.Facts) (hDiffKernel : Cert.DiffKernel.Facts) (hDiffKernelIdeal : Cert.DiffKernelIdeal.Facts) (hDiffReferenceIdeal : Cert.DiffReferenceIdeal.Facts) (hMidKernel : Cert.MidKernel.Facts) (hMidKernelIdeal : Cert.MidKernelIdeal.Facts) (hMidReferenceIdeal : Cert.MidReferenceIdeal.Facts) (hProjKernel : Cert.ProjKernel.Facts) (hProjKernelIdeal : Cert.ProjKernelIdeal.Facts) (hProjReferenceIdeal : Cert.ProjReferenceIdeal.Facts) (hPre_finite : Cert.Pre_finite.Facts) (hPre_finite_diff : Cert.Pre_finite_diff.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_PostKernel (hPostKernel := hPostKernel)
    ∧ quiescent_PostKernelIdeal (hPostKernelIdeal := hPostKernelIdeal)
    ∧ quiescent_PostReferenceIdeal (hPostReferenceIdeal := hPostReferenceIdeal)
    ∧ quiescent_DiffKernel (hDiffKernel := hDiffKernel)
    ∧ quiescent_DiffKernelIdeal (hDiffKernelIdeal := hDiffKernelIdeal)
    ∧ quiescent_DiffKernelIdeal_pre_finite_diff (hDiffKernelIdeal := hDiffKernelIdeal) (hPre_finite_diff := hPre_finite_diff)
    ∧ quiescent_DiffReferenceIdeal (hDiffReferenceIdeal := hDiffReferenceIdeal)
    ∧ quiescent_DiffReferenceIdeal_pre_finite_diff (hDiffReferenceIdeal := hDiffReferenceIdeal) (hPre_finite_diff := hPre_finite_diff)
    ∧ quiescent_MidKernel (hMidKernel := hMidKernel)
    ∧ quiescent_MidKernelIdeal (hMidKernelIdeal := hMidKernelIdeal)
    ∧ quiescent_MidReferenceIdeal (hMidReferenceIdeal := hMidReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_PostKernel_PostKernelIdeal
    ∧ algebraic_PostKernelIdeal_PostReferenceIdeal (hPostKernelIdeal := hPostKernelIdeal) (hPostReferenceIdeal := hPostReferenceIdeal)
    ∧ preserves_DiffKernel_DiffKernelIdeal
    ∧ algebraic_DiffKernelIdeal_DiffReferenceIdeal_pre_finite_diff (hDiffKernelIdeal := hDiffKernelIdeal) (hDiffReferenceIdeal := hDiffReferenceIdeal) (hPre_finite_diff := hPre_finite_diff)
    ∧ preserves_MidKernel_MidKernelIdeal
    ∧ algebraic_MidKernelIdeal_MidReferenceIdeal (hMidKernelIdeal := hMidKernelIdeal) (hMidReferenceIdeal := hMidReferenceIdeal)
    ∧ preserves_ProjKernel_ProjKernelIdeal
    ∧ algebraic_ProjKernelIdeal_ProjReferenceIdeal (hProjKernelIdeal := hProjKernelIdeal) (hProjReferenceIdeal := hProjReferenceIdeal)
-- ==== Pre_finite.lean ====
abbrev S2x2x3x16640x64 : Shape := ⟨5, ![2, 2, 3, 16640, 64]⟩
abbrev S2x2x16640x64 : Shape := ⟨4, ![2, 2, 16640, 64]⟩
abbrev S_ : Shape := ⟨0, ![]⟩

class Facts : Prop where
  bcast_S_S2x2x3x16640x64 : S_.BroadcastsInDim S2x2x3x16640x64 (![] : Fin 0 → Fin S2x2x3x16640x64.rank)
  reducesTo_S2x2x3x16640x64_S_d0_1_2_3_4 : S2x2x3x16640x64.ReducesTo [0, 1, 2, 3, 4] S_
  h_S_ : 0 < S_.numel
  bcast_S_S2x2x16640x64 : S_.BroadcastsInDim S2x2x16640x64 (![] : Fin 0 → Fin S2x2x16640x64.rank)
  reducesTo_S2x2x16640x64_S_d0_1_2_3 : S2x2x16640x64.ReducesTo [0, 1, 2, 3] S_

variable [Facts]

def fn {F : FTy → Type} [FloatOps F] (main_arg0 : FVec F S2x2x3x16640x64 .f32) (main_arg1 : FVec F S2x2x16640x64 .f32) (main_arg2 : FVec F S2x2x16640x64 .f32) : IVec S_ 1 :=
  let main_v0 : FVec F S2x2x3x16640x64 .f32 := Host.absf main_arg0
  let main_cst : FVec F S_ .f32 := constant S_ .f32 0x7F800000#32
  let main_v1 : FVec F S2x2x3x16640x64 .f32 := broadcastInDim S2x2x3x16640x64 ![] bcast_S_S2x2x3x16640x64 main_cst
  let main_v2 : IVec S2x2x3x16640x64 1 := cmpf .olt main_v0 main_v1
  let main_c : IVec S_ 1 := constantI S_ 1 1#1
  let main_v3 : IVec S_ 1 := (fun x v => Host.reduce IntOp.andi x v reducesTo_S2x2x3x16640x64_S_d0_1_2_3_4 h_S_) main_v2 main_c
  let main_v4 : FVec F S2x2x16640x64 .f32 := Host.absf main_arg1
  let main_cst_0 : FVec F S_ .f32 := constant S_ .f32 0x7F800000#32
  let main_v5 : FVec F S2x2x16640x64 .f32 := broadcastInDim S2x2x16640x64 ![] bcast_S_S2x2x16640x64 main_cst_0
  let main_v6 : IVec S2x2x16640x64 1 := cmpf .olt main_v4 main_v5
  let main_c_1 : IVec S_ 1 := constantI S_ 1 1#1
  let main_v7 : IVec S_ 1 := (fun x v => Host.reduce IntOp.andi x v reducesTo_S2x2x16640x64_S_d0_1_2_3 h_S_) main_v6 main_c_1
  let main_v8 : IVec S_ 1 := andi main_v3 main_v7
  main_v8
-- ==== Pre_finite_diff.lean ====
abbrev S2x4x16640x64 : Shape := ⟨4, ![2, 4, 16640, 64]⟩
abbrev S32 : Shape := ⟨1, ![32]⟩
abbrev S64 : Shape := ⟨1, ![64]⟩
abbrev S_ : Shape := ⟨0, ![]⟩

class Facts : Prop where
  bcast_S_S2x4x16640x64 : S_.BroadcastsInDim S2x4x16640x64 (![] : Fin 0 → Fin S2x4x16640x64.rank)
  reducesTo_S2x4x16640x64_S_d0_1_2_3 : S2x4x16640x64.ReducesTo [0, 1, 2, 3] S_
  h_S_ : 0 < S_.numel
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_arg5 : FVec F S32 .f32) (main_arg6 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S2x4x16640x64 .f32) (main_arg1 : FVec F S2x4x16640x64 .f32) (main_arg2 : FVec F S2x4x16640x64 .f32) (main_arg3 : FVec F S32 .f32) (main_arg4 : FVec F S32 .f32) (main_arg5 : FVec F S32 .f32) (main_arg6 : FVec F S32 .f32) (main_arg7 : FVec F S64 .f32) : IVec S_ 1 :=
  let main_v0 : FVec F S2x4x16640x64 .f32 := Host.absf main_arg0
  let main_cst : FVec F S_ .f32 := constant S_ .f32 0x7F800000#32
  let main_v1 : FVec F S2x4x16640x64 .f32 := broadcastInDim S2x4x16640x64 ![] bcast_S_S2x4x16640x64 main_cst
  let main_v2 : IVec S2x4x16640x64 1 := cmpf .olt main_v0 main_v1
  let main_c : IVec S_ 1 := constantI S_ 1 1#1
  let main_v3 : IVec S_ 1 := (fun x v => Host.reduce IntOp.andi x v reducesTo_S2x4x16640x64_S_d0_1_2_3 h_S_) main_v2 main_c
  let main_v4 : FVec F S2x4x16640x64 .f32 := Host.absf main_arg1
  let main_cst_0 : FVec F S_ .f32 := constant S_ .f32 0x7F800000#32
  let main_v5 : FVec F S2x4x16640x64 .f32 := broadcastInDim S2x4x16640x64 ![] bcast_S_S2x4x16640x64 main_cst_0
  let main_v6 : IVec S2x4x16640x64 1 := cmpf .olt main_v4 main_v5
  let main_c_1 : IVec S_ 1 := constantI S_ 1 1#1
  let main_v7 : IVec S_ 1 := (fun x v => Host.reduce IntOp.andi x v reducesTo_S2x4x16640x64_S_d0_1_2_3 h_S_) main_v6 main_c_1
  let main_v8 : IVec S_ 1 := andi main_v3 main_v7
  let main_v9 : FVec F S2x4x16640x64 .f32 := Host.absf main_arg2
  let main_cst_2 : FVec F S_ .f32 := constant S_ .f32 0x7F800000#32
  let main_v10 : FVec F S2x4x16640x64 .f32 := broadcastInDim S2x4x16640x64 ![] bcast_S_S2x4x16640x64 main_cst_2
  let main_v11 : IVec S2x4x16640x64 1 := cmpf .olt main_v9 main_v10
  let main_c_3 : IVec S_ 1 := constantI S_ 1 1#1
  let main_v12 : IVec S_ 1 := (fun x v => Host.reduce IntOp.andi x v reducesTo_S2x4x16640x64_S_d0_1_2_3 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_v13 main_v16
-- ==== Kernel.lean ====
abbrev S2x2x3x16640x64 : Shape := ⟨5, ![2, 2, 3, 16640, 64]⟩
abbrev S2x2x16640x64 : Shape := ⟨4, ![2, 2, 16640, 64]⟩
abbrev S_ : Shape := ⟨0, ![]⟩
abbrev S2x2x64x16640 : Shape := ⟨4, ![2, 2, 64, 16640]⟩
abbrev S2x2x16640x1 : Shape := ⟨4, ![2, 2, 16640, 1]⟩
abbrev S2x2x16640x63 : Shape := ⟨4, ![2, 2, 16640, 63]⟩
abbrev S2x2x16640x128 : Shape := ⟨4, ![2, 2, 16640, 128]⟩
abbrev S2x2x3x16384x64 : Shape := ⟨5, ![2, 2, 3, 16384, 64]⟩
abbrev S1x1x3x1024x64 : Shape := ⟨5, ![1, 1, 3, 1024, 64]⟩
abbrev S1x1x64x16640 : Shape := ⟨4, ![1, 1, 64, 16640]⟩
abbrev S1x1x16640x128 : Shape := ⟨4, ![1, 1, 16640, 128]⟩
abbrev S3072x256 : Shape := ⟨2, ![3072, 256]⟩
abbrev S3072x128 : Shape := ⟨2, ![3072, 128]⟩
abbrev S3x1024x64 : Shape := ⟨3, ![3, 1024, 64]⟩
abbrev S3072x64 : Shape := ⟨2, ![3072, 64]⟩
abbrev S1x1x64x256 : Shape := ⟨4, ![1, 1, 64, 256]⟩
abbrev S64x256 : Shape := ⟨2, ![64, 256]⟩
abbrev S3072 : Shape := ⟨1, ![3072]⟩
abbrev S3072x1 : Shape := ⟨2, ![3072, 1]⟩
abbrev S1x1x256x128 : Shape := ⟨4, ![1, 1, 256, 128]⟩
abbrev S256x128 : Shape := ⟨2, ![256, 128]⟩
abbrev S1024x128 : Shape := ⟨2, ![1024, 128]⟩
abbrev S1024x64 : Shape := ⟨2, ![1024, 64]⟩
abbrev S1024x1 : Shape := ⟨2, ![1024, 1]⟩
abbrev S1x1x1x1024x64 : Shape := ⟨5, ![1, 1, 1, 1024, 64]⟩

abbrev nBuf : Space → Nat
  | .hbm => 19
  | .vmem => 14
  | .smem => 0
  | _ => 0

abbrev bufTy : (tb : Table) → Fin (tcTables nBuf tb) → BufTy
  | .hbm, ⟨0, _⟩ => ⟨S2x2x3x16640x64, .f32⟩
  | .hbm, ⟨1, _⟩ => ⟨S2x2x16640x64, .f32⟩
  | .hbm, ⟨2, _⟩ => ⟨S2x2x16640x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x2x3x16640x64, .f32⟩
  | .hbm, ⟨8, _⟩ => ⟨S2x2x3x16640x64, .f32⟩
  | .hbm, ⟨9, _⟩ => ⟨S2x2x3x16640x64, .bf16⟩
  | .hbm, ⟨10, _⟩ => ⟨S2x2x64x16640, .f32⟩
  | .hbm, ⟨11, _⟩ => ⟨S2x2x64x16640, .bf16⟩
  | .hbm, ⟨12, _⟩ => ⟨S_, .f32⟩
  | .hbm, ⟨13, _⟩ => ⟨S2x2x16640x1, .f32⟩
  | .hbm, ⟨14, _⟩ => ⟨S_, .f32⟩
  | .hbm, ⟨15, _⟩ => ⟨S2x2x16640x63, .f32⟩
  | .hbm, ⟨16, _⟩ => ⟨S2x2x16640x128, .f32⟩
  | .hbm, ⟨17, _⟩ => ⟨S2x2x16640x128, .bf16⟩
  | .hbm, ⟨18, _⟩ => ⟨S2x2x3x16384x64, .bf16⟩
  | .local _ .vmem, ⟨0, _⟩ => ⟨S1x1x3x1024x64, .bf16⟩
  | .local _ .vmem, ⟨1, _⟩ => ⟨S1x1x3x1024x64, .bf16⟩
  | .local _ .vmem, ⟨2, _⟩ => ⟨S1x1x64x16640, .bf16⟩
  | .local _ .vmem, ⟨3, _⟩ => ⟨S1x1x64x16640, .bf16⟩
  | .local _ .vmem, ⟨4, _⟩ => ⟨S1x1x16640x128, .bf16⟩
  | .local _ .vmem, ⟨5, _⟩ => ⟨S1x1x16640x128, .bf16⟩
  | .local _ .vmem, ⟨6, _⟩ => ⟨S1x1x3x1024x64, .bf16⟩
  | .local _ .vmem, ⟨7, _⟩ => ⟨S1x1x3x1024x64, .bf16⟩
  | .local _ .vmem, ⟨8, _⟩ => ⟨S3072x256, .bf16⟩
  | .local _ .vmem, ⟨9, _⟩ => ⟨S3072x128, .f32⟩
  | .local _ .vmem, ⟨10, _⟩ => ⟨S3072x256, .bf16⟩
  | .local _ .vmem, ⟨11, _⟩ => ⟨S3072x128, .f32⟩
  | .local _ .vmem, ⟨12, _⟩ => ⟨S3072x128, .f32⟩
  | .local _ .vmem, ⟨13, _⟩ => ⟨S3072x128, .f32⟩
  | _, _ => ⟨S2x2x3x16640x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 16], ![false, false, false]⟩

@[reducible] def k0_t1_loop : Scf.Loop 32 :=
  let c0_i32 : BitVec 32 := 0#32
  let c3_i32 : BitVec 32 := 3#32
  let v38 : BitVec 32 := Scalar.addi c0_i32 c3_i32
  let c1_i32 : BitVec 32 := 1#32
  ⟨c0_i32, v38, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c256_i32 : BitVec 32 := 256#32
  let v686 : BitVec 32 := Scalar.addi v685 c256_i32
  v686
def k0_off1 (k0_t1 : Fin k0_t1_loop.trips) (c256_i32 : BitVec 32) : Fin 4 → Nat :=
  let c0_469 : Index := 0#32
  let c0_470 : Index := 0#32
  let c0_471 : Index := 0#32
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let v686 : BitVec 32 := Scalar.addi v685 c256_i32
  let v687 : BitVec 32 := v686
  let v688 : Index := Scalar.indexCast v687
  ![0, 0, 0, v688.toNat]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c0_i32_482 : BitVec 32 := 0#32
  let v716 : BitVec 32 := Scalar.addi v685 c0_i32_482
  v716
def k0_off2 (k0_t1 : Fin k0_t1_loop.trips) (c0_i32_482 : BitVec 32) : Fin 4 → Nat :=
  let c0_485 : Index := 0#32
  let c0_486 : Index := 0#32
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let v716 : BitVec 32 := Scalar.addi v685 c0_i32_482
  let v717 : BitVec 32 := v716
  let v719 : Index := Scalar.indexCast v717
  let c0_487 : Index := 0#32
  ![0, 0, v719.toNat, 0]
def k0_mult3 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c512_i32 : BitVec 32 := 512#32
  let v730 : BitVec 32 := Scalar.addi v685 c512_i32
  v730
def k0_mult4 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c256_i32_508 : BitVec 32 := 256#32
  let v760 : BitVec 32 := Scalar.addi v685 c256_i32_508
  v760
def k0_mult5 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c768_i32 : BitVec 32 := 768#32
  let v774 : BitVec 32 := Scalar.addi v685 c768_i32
  v774
def k0_mult6 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c512_i32_534 : BitVec 32 := 512#32
  let v804 : BitVec 32 := Scalar.addi v685 c512_i32_534
  v804
def k0_mult7 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c1024_i32 : BitVec 32 := 1024#32
  let v818 : BitVec 32 := Scalar.addi v685 c1024_i32
  v818
def k0_mult8 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c768_i32_560 : BitVec 32 := 768#32
  let v848 : BitVec 32 := Scalar.addi v685 c768_i32_560
  v848
def k0_mult9 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c1280_i32 : BitVec 32 := 1280#32
  let v862 : BitVec 32 := Scalar.addi v685 c1280_i32
  v862
def k0_mult10 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c1024_i32_586 : BitVec 32 := 1024#32
  let v892 : BitVec 32 := Scalar.addi v685 c1024_i32_586
  v892
def k0_mult11 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c1536_i32 : BitVec 32 := 1536#32
  let v906 : BitVec 32 := Scalar.addi v685 c1536_i32
  v906
def k0_mult12 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c1280_i32_612 : BitVec 32 := 1280#32
  let v936 : BitVec 32 := Scalar.addi v685 c1280_i32_612
  v936
def k0_mult13 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c1792_i32 : BitVec 32 := 1792#32
  let v950 : BitVec 32 := Scalar.addi v685 c1792_i32
  v950
def k0_mult14 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c1536_i32_638 : BitVec 32 := 1536#32
  let v980 : BitVec 32 := Scalar.addi v685 c1536_i32_638
  v980
def k0_mult15 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c2048_i32 : BitVec 32 := 2048#32
  let v994 : BitVec 32 := Scalar.addi v685 c2048_i32
  v994
def k0_mult16 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c1792_i32_664 : BitVec 32 := 1792#32
  let v1024 : BitVec 32 := Scalar.addi v685 c1792_i32_664
  v1024
def k0_mult17 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c2304_i32 : BitVec 32 := 2304#32
  let v1038 : BitVec 32 := Scalar.addi v685 c2304_i32
  v1038
def k0_mult18 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c2048_i32_690 : BitVec 32 := 2048#32
  let v1068 : BitVec 32 := Scalar.addi v685 c2048_i32_690
  v1068
def k0_mult19 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c2560_i32 : BitVec 32 := 2560#32
  let v1082 : BitVec 32 := Scalar.addi v685 c2560_i32
  v1082
def k0_mult20 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c2304_i32_716 : BitVec 32 := 2304#32
  let v1112 : BitVec 32 := Scalar.addi v685 c2304_i32_716
  v1112
def k0_mult21 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c2816_i32 : BitVec 32 := 2816#32
  let v1126 : BitVec 32 := Scalar.addi v685 c2816_i32
  v1126
def k0_mult22 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c2560_i32_742 : BitVec 32 := 2560#32
  let v1156 : BitVec 32 := Scalar.addi v685 c2560_i32_742
  v1156
def k0_mult23 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c3072_i32 : BitVec 32 := 3072#32
  let v1170 : BitVec 32 := Scalar.addi v685 c3072_i32
  v1170
def k0_mult24 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c2816_i32_768 : BitVec 32 := 2816#32
  let v1200 : BitVec 32 := Scalar.addi v685 c2816_i32_768
  v1200
def k0_mult25 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c3328_i32 : BitVec 32 := 3328#32
  let v1214 : BitVec 32 := Scalar.addi v685 c3328_i32
  v1214
def k0_mult26 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c3072_i32_794 : BitVec 32 := 3072#32
  let v1244 : BitVec 32 := Scalar.addi v685 c3072_i32_794
  v1244
def k0_mult27 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c3584_i32 : BitVec 32 := 3584#32
  let v1258 : BitVec 32 := Scalar.addi v685 c3584_i32
  v1258
def k0_mult28 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c3328_i32_820 : BitVec 32 := 3328#32
  let v1288 : BitVec 32 := Scalar.addi v685 c3328_i32_820
  v1288
def k0_mult29 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c3840_i32 : BitVec 32 := 3840#32
  let v1302 : BitVec 32 := Scalar.addi v685 c3840_i32
  v1302
def k0_mult30 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c3584_i32_846 : BitVec 32 := 3584#32
  let v1332 : BitVec 32 := Scalar.addi v685 c3584_i32_846
  v1332
def k0_mult31 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c4096_i32_859 : BitVec 32 := 4096#32
  let v1346 : BitVec 32 := Scalar.addi v685 c4096_i32_859
  v1346
def k0_mult32 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v685 : BitVec 32 := Scalar.muli arg13 c4096_i32
  let c3840_i32_873 : BitVec 32 := 3840#32
  let v1376 : BitVec 32 := Scalar.addi v685 c3840_i32_873
  v1376
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  let c0_i32_2 : BitVec 32 := 0#32
  ![arg0.toNat, arg1.toNat, c0_i32_0.toNat, v0.toNat, c0_i32_1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

abbrev stage0_0 : Fin 2 → Memref sig .tc .vmem S1x1x3x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x16640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x3x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x2x3x16640x64 : Shape := ⟨5, ![2, 2, 3, 16640, 64]⟩
abbrev S2x2x16640x64 : Shape := ⟨4, ![2, 2, 16640, 64]⟩
abbrev S2x2x3x16384x64 : Shape := ⟨5, ![2, 2, 3, 16384, 64]⟩
abbrev S2x2x3x16384x16640 : Shape := ⟨5, ![2, 2, 3, 16384, 16640]⟩
abbrev S_ : Shape := ⟨0, ![]⟩
abbrev S2x2x3x16384 : Shape := ⟨4, ![2, 2, 3, 16384]⟩
abbrev S2x2x3x16384x1 : Shape := ⟨5, ![2, 2, 3, 16384, 1]⟩

abbrev nBuf : Space → Nat
  | .hbm => 24
  | .vmem => 0
  | .smem => 0
  | _ => 0

abbrev bufTy : (tb : Table) → Fin (tcTables nBuf tb) → BufTy
  | .hbm, ⟨0, _⟩ => ⟨S2x2x3x16640x64, .f32⟩
  | .hbm, ⟨1, _⟩ => ⟨S2x2x16640x64, .f32⟩
  | .hbm, ⟨2, _⟩ => ⟨S2x2x16640x64, .f32⟩
  | .hbm, ⟨3, _⟩ => ⟨S2x2x3x16384x64, .f32⟩
  | .hbm, ⟨4, _⟩ => ⟨S2x2x3x16384x16640, .f32⟩
  | .hbm, ⟨5, _⟩ => ⟨S_, .f32⟩
  | .hbm, ⟨6, _⟩ => ⟨S2x2x3x16384x16640, .f32⟩
  | .hbm, ⟨7, _⟩ => ⟨S2x2x3x16384x16640, .f32⟩
  | .hbm, ⟨8, _⟩ => ⟨S_, .f32⟩
  | .hbm, ⟨9, _⟩ => ⟨S2x2x3x16384, .f32⟩
  | .hbm, ⟨10, _⟩ => ⟨S_, .f32⟩
  | .hbm, ⟨11, _⟩ => ⟨S2x2x3x16384, .f32⟩
  | .hbm, ⟨12, _⟩ => ⟨S2x2x3x16384, .f32⟩
  | .hbm, ⟨13, _⟩ => ⟨S2x2x3x16384x1, .f32⟩
  | .hbm, ⟨14, _⟩ => ⟨S2x2x3x16384x16640, .f32⟩
  | .hbm, ⟨15, _⟩ => ⟨S2x2x3x16384x16640, .f32⟩
  | .hbm, ⟨16, _⟩ => ⟨S2x2x3x16384x16640, .f32⟩
  | .hbm, ⟨17, _⟩ => ⟨S_, .f32⟩
  | .hbm, ⟨18, _⟩ => ⟨S2x2x3x16384, .f32⟩
  | .hbm, ⟨19, _⟩ => ⟨S2x2x3x16384x1, .f32⟩
  | .hbm, ⟨20, _⟩ => ⟨S2x2x3x16384x16640, .f32⟩
  | .hbm, ⟨21, _⟩ => ⟨S2x2x3x16384x16640, .f32⟩
  | .hbm, ⟨22, _⟩ => ⟨S2x2x3x16384x64, .f32⟩
  | .hbm, ⟨23, _⟩ => ⟨S2x2x3x16384x64, .bf16⟩
  | _, _ => ⟨S2x2x3x16640x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== PostKernel.lean ====
abbrev S2x16384x1024 : Shape := ⟨3, ![2, 16384, 1024]⟩
abbrev S2x2x3x16384x64 : Shape := ⟨5, ![2, 2, 3, 16384, 64]⟩
abbrev S2x4x16384x64 : Shape := ⟨4, ![2, 4, 16384, 64]⟩
abbrev S3x1x6144 : Shape := ⟨3, ![3, 1, 6144]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x256x1024 : Shape := ⟨3, ![2, 256, 1024]⟩
abbrev S1x1024 : Shape := ⟨2, ![1, 1024]⟩
abbrev S1x256x1024 : Shape := ⟨3, ![1, 256, 1024]⟩
abbrev S1x2x3x256x64 : Shape := ⟨5, ![1, 2, 3, 256, 64]⟩
abbrev S1x4x256x64 : Shape := ⟨4, ![1, 4, 256, 64]⟩
abbrev S1x1x6144 : Shape := ⟨3, ![1, 1, 6144]⟩
abbrev S256x1024 : Shape := ⟨2, ![256, 1024]⟩
abbrev S1x1x1x256x64 : Shape := ⟨5, ![1, 1, 1, 256, 64]⟩
abbrev S256x64 : Shape := ⟨2, ![256, 64]⟩
abbrev S1x1x256x64 : Shape := ⟨4, ![1, 1, 256, 64]⟩
abbrev S1x6144 : Shape := ⟨2, ![1, 6144]⟩
abbrev S256 : Shape := ⟨1, ![256]⟩
abbrev S256x1 : Shape := ⟨2, ![256, 1]⟩
abbrev S256x2816 : Shape := ⟨2, ![256, 2816]⟩

abbrev nBuf : Space → Nat
  | .hbm => 20
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S2x2x3x16384x64, .bf16⟩
  | .hbm, ⟨2, _⟩ => ⟨S2x4x16384x64, .bf16⟩
  | .hbm, ⟨3, _⟩ => ⟨S2x2x3x16384x64, .bf16⟩
  | .hbm, ⟨4, _⟩ => ⟨S3x1x6144, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S_, .f32⟩
  | .hbm, ⟨12, _⟩ => ⟨S2x256x1024, .f32⟩
  | .hbm, ⟨13, _⟩ => ⟨S1024x1024, .bf16⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S1x1024, .f32⟩
  | .hbm, ⟨18, _⟩ => ⟨S1x1024, .f32⟩
  | .hbm, ⟨19, _⟩ => ⟨S2x16384x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x2x3x256x64, .bf16⟩
  | .local _ .vmem, ⟨3, _⟩ => ⟨S1x2x3x256x64, .bf16⟩
  | .local _ .vmem, ⟨4, _⟩ => ⟨S1x4x256x64, .bf16⟩
  | .local _ .vmem, ⟨5, _⟩ => ⟨S1x4x256x64, .bf16⟩
  | .local _ .vmem, ⟨6, _⟩ => ⟨S1x2x3x256x64, .bf16⟩
  | .local _ .vmem, ⟨7, _⟩ => ⟨S1x2x3x256x64, .bf16⟩
  | .local _ .vmem, ⟨8, _⟩ => ⟨S1x1x6144, .f32⟩
  | .local _ .vmem, ⟨9, _⟩ => ⟨S1x1x6144, .f32⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S1x256x1024, .f32⟩
  | .local _ .vmem, ⟨17, _⟩ => ⟨S1x256x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  ![arg0.toNat, v0.toNat, c0_i32.toNat]

def cc0_transform_1 (i : grid0.Coords) : Fin 5 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, v0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  let c0_i32_1 : BitVec 32 := 0#32
  ![arg0.toNat, c0_i32.toNat, v0.toNat, c0_i32_0.toNat]

def cc0_transform_3 (i : grid0.Coords) : Fin 5 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, v0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg1 c64_i32
  let c2_i32 : BitVec 32 := 2#32
  let v1 : BitVec 32 := Scalar.select v0 arg0 c2_i32
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  ![arg0.toNat, v0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x3x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x3x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== PostReferenceIdeal.lean ====
abbrev S2x16384x1024 : Shape := ⟨3, ![2, 16384, 1024]⟩
abbrev S2x2x3x16384x64 : Shape := ⟨5, ![2, 2, 3, 16384, 64]⟩
abbrev S2x4x16384x64 : Shape := ⟨4, ![2, 4, 16384, 64]⟩
abbrev S3x1x6144 : Shape := ⟨3, ![3, 1, 6144]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S2x1x6144 : Shape := ⟨3, ![2, 1, 6144]⟩
abbrev S2x1x1024 : Shape := ⟨3, ![2, 1, 1024]⟩
abbrev S2x6x16384x64 : Shape := ⟨4, ![2, 6, 16384, 64]⟩
abbrev S2x16x16384x64 : Shape := ⟨4, ![2, 16, 16384, 64]⟩
abbrev S2x16384x16x64 : Shape := ⟨4, ![2, 16384, 16, 64]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2816 : Shape := ⟨3, ![2, 16384, 2816]⟩

abbrev nBuf : Space → Nat
  | .hbm => 83
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x2x3x16384x64, .bf16⟩
  | .hbm, ⟨2, _⟩ => ⟨S2x4x16384x64, .bf16⟩
  | .hbm, ⟨3, _⟩ => ⟨S2x2x3x16384x64, .bf16⟩
  | .hbm, ⟨4, _⟩ => ⟨S3x1x6144, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S2x1x6144, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x6x16384x64, .bf16⟩
  | .hbm, ⟨19, _⟩ => ⟨S2x6x16384x64, .bf16⟩
  | .hbm, ⟨20, _⟩ => ⟨S2x16x16384x64, .bf16⟩
  | .hbm, ⟨21, _⟩ => ⟨S2x16384x16x64, .bf16⟩
  | .hbm, ⟨22, _⟩ => ⟨S2x16384x1024, .bf16⟩
  | .hbm, ⟨23, _⟩ => ⟨S2x16384x1024, .f32⟩
  | .hbm, ⟨24, _⟩ => ⟨S2x16384x1024, .f32⟩
  | .hbm, ⟨25, _⟩ => ⟨S2x16384x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S_, .f32⟩
  | .hbm, ⟨30, _⟩ => ⟨S2x16384, .f32⟩
  | .hbm, ⟨31, _⟩ => ⟨S2x16384x1, .f32⟩
  | .hbm, ⟨32, _⟩ => ⟨S_, .f32⟩
  | .hbm, ⟨33, _⟩ => ⟨S2x16384x1, .f32⟩
  | .hbm, ⟨34, _⟩ => ⟨S2x16384x1, .f32⟩
  | .hbm, ⟨35, _⟩ => ⟨S_, .f32⟩
  | .hbm, ⟨36, _⟩ => ⟨S2x16384x1, .f32⟩
  | .hbm, ⟨37, _⟩ => ⟨S2x16384x1, .f32⟩
  | .hbm, ⟨38, _⟩ => ⟨S2x16384x1, .f32⟩
  | .hbm, ⟨39, _⟩ => ⟨S2x16384x1024, .f32⟩
  | .hbm, ⟨40, _⟩ => ⟨S2x16384x1024, .f32⟩
  | .hbm, ⟨41, _⟩ => ⟨S1x1x1024, .f32⟩
  | .hbm, ⟨42, _⟩ => ⟨S2x16384x1024, .f32⟩
  | .hbm, ⟨43, _⟩ => ⟨S2x16384x1024, .f32⟩
  | .hbm, ⟨44, _⟩ => ⟨S_, .f32⟩
  | .hbm, ⟨45, _⟩ => ⟨S2x1x1024, .f32⟩
  | .hbm, ⟨46, _⟩ => ⟨S2x1x1024, .f32⟩
  | .hbm, ⟨47, _⟩ => ⟨S2x16384x1024, .f32⟩
  | .hbm, ⟨48, _⟩ => ⟨S2x16384x1024, .f32⟩
  | .hbm, ⟨49, _⟩ => ⟨S2x16384x1024, .f32⟩
  | .hbm, ⟨50, _⟩ => ⟨S2x16384x1024, .f32⟩
  | .hbm, ⟨51, _⟩ => ⟨S2x16384x2816, .f32⟩
  | .hbm, ⟨52, _⟩ => ⟨S2x16384x2816, .f32⟩
  | .hbm, ⟨53, _⟩ => ⟨S2x16384x2816, .f32⟩
  | .hbm, ⟨54, _⟩ => ⟨S_, .f32⟩
  | .hbm, ⟨55, _⟩ => ⟨S2x16384x2816, .f32⟩
  | .hbm, ⟨56, _⟩ => ⟨S2x16384x2816, .f32⟩
  | .hbm, ⟨57, _⟩ => ⟨S_, .f32⟩
  | .hbm, ⟨58, _⟩ => ⟨S2x16384x2816, .f32⟩
  | .hbm, ⟨59, _⟩ => ⟨S2x16384x2816, .f32⟩
  | .hbm, ⟨60, _⟩ => ⟨S2x16384x2816, .f32⟩
  | .hbm, ⟨61, _⟩ => ⟨S2x16384x2816, .f32⟩
  | .hbm, ⟨62, _⟩ => ⟨S2x16384x2816, .f32⟩
  | .hbm, ⟨63, _⟩ => ⟨S2x16384x1024, .f32⟩
  | .hbm, ⟨64, _⟩ => ⟨S2x16384x1024, .f32⟩
  | .hbm, ⟨65, _⟩ => ⟨S2x16384x1024, .f32⟩
  | .hbm, ⟨66, _⟩ => ⟨S2x16384x1024, .f32⟩
  | .hbm, ⟨67, _⟩ => ⟨S2x16384x1024, .f32⟩
  | .hbm, ⟨68, _⟩ => ⟨S_, .f32⟩
  | .hbm, ⟨69, _⟩ => ⟨S2x16384, .f32⟩
  | .hbm, ⟨70, _⟩ => ⟨S2x16384x1, .f32⟩
  | .hbm, ⟨71, _⟩ => ⟨S_, .f32⟩
  | .hbm, ⟨72, _⟩ => ⟨S2x16384x1, .f32⟩
  | .hbm, ⟨73, _⟩ => ⟨S2x16384x1, .f32⟩
  | .hbm, ⟨74, _⟩ => ⟨S_, .f32⟩
  | .hbm, ⟨75, _⟩ => ⟨S2x16384x1, .f32⟩
  | .hbm, ⟨76, _⟩ => ⟨S2x16384x1, .f32⟩
  | .hbm, ⟨77, _⟩ => ⟨S2x16384x1, .f32⟩
  | .hbm, ⟨78, _⟩ => ⟨S2x16384x1024, .f32⟩
  | .hbm, ⟨79, _⟩ => ⟨S2x16384x1024, .f32⟩
  | .hbm, ⟨80, _⟩ => ⟨S1x1x1024, .f32⟩
  | .hbm, ⟨81, _⟩ => ⟨S2x16384x1024, .f32⟩
  | .hbm, ⟨82, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]
-- ==== DiffKernel.lean ====
abbrev S2x4x16640x64 : Shape := ⟨4, ![2, 4, 16640, 64]⟩
abbrev S32 : Shape := ⟨1, ![32]⟩
abbrev S64 : Shape := ⟨1, ![64]⟩
abbrev S_ : Shape := ⟨0, ![]⟩
abbrev S2x4x16640x32 : Shape := ⟨4, ![2, 4, 16640, 32]⟩
abbrev S2x4x1x16640x64 : Shape := ⟨5, ![2, 4, 1, 16640, 64]⟩
abbrev S2x4x2x16640x64 : Shape := ⟨5, ![2, 4, 2, 16640, 64]⟩
abbrev S2x4x64x16640 : Shape := ⟨4, ![2, 4, 64, 16640]⟩
abbrev S2x4x16640x1 : Shape := ⟨4, ![2, 4, 16640, 1]⟩
abbrev S2x4x16640x63 : Shape := ⟨4, ![2, 4, 16640, 63]⟩
abbrev S2x4x16640x128 : Shape := ⟨4, ![2, 4, 16640, 128]⟩
abbrev S1x32 : Shape := ⟨2, ![1, 32]⟩
abbrev S1x64 : Shape := ⟨2, ![1, 64]⟩
abbrev S2x4x16384x64 : Shape := ⟨4, ![2, 4, 16384, 64]⟩
abbrev S1x1x2x512x64 : Shape := ⟨5, ![1, 1, 2, 512, 64]⟩
abbrev S1x1x64x16640 : Shape := ⟨4, ![1, 1, 64, 16640]⟩
abbrev S1x1x16640x128 : Shape := ⟨4, ![1, 1, 16640, 128]⟩
abbrev S1x1x512x64 : Shape := ⟨4, ![1, 1, 512, 64]⟩
abbrev S1024x256 : Shape := ⟨2, ![1024, 256]⟩
abbrev S1024x128 : Shape := ⟨2, ![1024, 128]⟩
abbrev S2x512x64 : Shape := ⟨3, ![2, 512, 64]⟩
abbrev S1024x64 : Shape := ⟨2, ![1024, 64]⟩
abbrev S1x1x64x256 : Shape := ⟨4, ![1, 1, 64, 256]⟩
abbrev S64x256 : Shape := ⟨2, ![64, 256]⟩
abbrev S1024 : Shape := ⟨1, ![1024]⟩
abbrev S1024x1 : Shape := ⟨2, ![1024, 1]⟩
abbrev S1x1x256x128 : Shape := ⟨4, ![1, 1, 256, 128]⟩
abbrev S256x128 : Shape := ⟨2, ![256, 128]⟩
abbrev S1 : Shape := ⟨1, ![1]⟩
abbrev S1x1 : Shape := ⟨2, ![1, 1]⟩
abbrev S512x128 : Shape := ⟨2, ![512, 128]⟩
abbrev S512x64 : Shape := ⟨2, ![512, 64]⟩
abbrev S512x1 : Shape := ⟨2, ![512, 1]⟩
abbrev S512 : Shape := ⟨1, ![512]⟩

abbrev nBuf : Space → Nat
  | .hbm => 38
  | .vmem => 19
  | .smem => 0
  | _ => 0

abbrev bufTy : (tb : Table) → Fin (tcTables nBuf tb) → BufTy
  | .hbm, ⟨0, _⟩ => ⟨S2x4x16640x64, .f32⟩
  | .hbm, ⟨1, _⟩ => ⟨S2x4x16640x64, .f32⟩
  | .hbm, ⟨2, _⟩ => ⟨S2x4x16640x64, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x4x16640x64, .f32⟩
  | .hbm, ⟨13, _⟩ => ⟨S2x4x16640x64, .f32⟩
  | .hbm, ⟨14, _⟩ => ⟨S_, .f32⟩
  | .hbm, ⟨15, _⟩ => ⟨S2x4x16640x32, .f32⟩
  | .hbm, ⟨16, _⟩ => ⟨S2x4x16640x32, .f32⟩
  | .hbm, ⟨17, _⟩ => ⟨S2x4x16640x64, .f32⟩
  | .hbm, ⟨18, _⟩ => ⟨S2x4x16640x32, .f32⟩
  | .hbm, ⟨19, _⟩ => ⟨S2x4x16640x64, .f32⟩
  | .hbm, ⟨20, _⟩ => ⟨S2x4x1x16640x64, .f32⟩
  | .hbm, ⟨21, _⟩ => ⟨S2x4x1x16640x64, .f32⟩
  | .hbm, ⟨22, _⟩ => ⟨S2x4x2x16640x64, .f32⟩
  | .hbm, ⟨23, _⟩ => ⟨S2x4x2x16640x64, .bf16⟩
  | .hbm, ⟨24, _⟩ => ⟨S2x4x64x16640, .f32⟩
  | .hbm, ⟨25, _⟩ => ⟨S2x4x64x16640, .bf16⟩
  | .hbm, ⟨26, _⟩ => ⟨S_, .f32⟩
  | .hbm, ⟨27, _⟩ => ⟨S2x4x16640x1, .f32⟩
  | .hbm, ⟨28, _⟩ => ⟨S_, .f32⟩
  | .hbm, ⟨29, _⟩ => ⟨S2x4x16640x63, .f32⟩
  | .hbm, ⟨30, _⟩ => ⟨S2x4x16640x128, .f32⟩
  | .hbm, ⟨31, _⟩ => ⟨S2x4x16640x128, .bf16⟩
  | .hbm, ⟨32, _⟩ => ⟨S1x32, .f32⟩
  | .hbm, ⟨33, _⟩ => ⟨S1x32, .f32⟩
  | .hbm, ⟨34, _⟩ => ⟨S1x32, .f32⟩
  | .hbm, ⟨35, _⟩ => ⟨S1x32, .f32⟩
  | .hbm, ⟨36, _⟩ => ⟨S1x64, .f32⟩
  | .hbm, ⟨37, _⟩ => ⟨S2x4x16384x64, .bf16⟩
  | .local _ .vmem, ⟨0, _⟩ => ⟨S1x1x2x512x64, .bf16⟩
  | .local _ .vmem, ⟨1, _⟩ => ⟨S1x1x2x512x64, .bf16⟩
  | .local _ .vmem, ⟨2, _⟩ => ⟨S1x1x64x16640, .bf16⟩
  | .local _ .vmem, ⟨3, _⟩ => ⟨S1x1x64x16640, .bf16⟩
  | .local _ .vmem, ⟨4, _⟩ => ⟨S1x1x16640x128, .bf16⟩
  | .local _ .vmem, ⟨5, _⟩ => ⟨S1x1x16640x128, .bf16⟩
  | .local _ .vmem, ⟨6, _⟩ => ⟨S1x32, .f32⟩
  | .local _ .vmem, ⟨7, _⟩ => ⟨S1x32, .f32⟩
  | .local _ .vmem, ⟨8, _⟩ => ⟨S1x32, .f32⟩
  | .local _ .vmem, ⟨9, _⟩ => ⟨S1x32, .f32⟩
  | .local _ .vmem, ⟨10, _⟩ => ⟨S1x64, .f32⟩
  | .local _ .vmem, ⟨11, _⟩ => ⟨S1x1x512x64, .bf16⟩
  | .local _ .vmem, ⟨12, _⟩ => ⟨S1x1x512x64, .bf16⟩
  | .local _ .vmem, ⟨13, _⟩ => ⟨S1024x256, .bf16⟩
  | .local _ .vmem, ⟨14, _⟩ => ⟨S1024x128, .f32⟩
  | .local _ .vmem, ⟨15, _⟩ => ⟨S1024x256, .bf16⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | _, _ => ⟨S2x4x16640x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 4, 32], ![false, false, false]⟩

def k0_mult1 : BitVec 32 :=
  let c0_i32 : BitVec 32 := 0#32
  let c8192_i32 : BitVec 32 := 8192#32
  let v38 : BitVec 32 := Scalar.muli c0_i32 c8192_i32
  let c256_i32 : BitVec 32 := 256#32
  let v39 : BitVec 32 := Scalar.addi v38 c256_i32
  v39
def k0_off1 (c256_i32 : BitVec 32) : Fin 4 → Nat :=
  let c0_23 : Index := 0#32
  let c0_24 : Index := 0#32
  let c0_25 : Index := 0#32
  let c0_i32 : BitVec 32 := 0#32
  let c8192_i32 : BitVec 32 := 8192#32
  let v38 : BitVec 32 := Scalar.muli c0_i32 c8192_i32
  let v39 : BitVec 32 := Scalar.addi v38 c256_i32
  let v40 : BitVec 32 := v39
  let v41 : Index := Scalar.indexCast v40
  ![0, 0, 0, v41.toNat]
def k0_mult2 : BitVec 32 :=
  let c0_i32 : BitVec 32 := 0#32
  let c8192_i32 : BitVec 32 := 8192#32
  let v38 : BitVec 32 := Scalar.muli c0_i32 c8192_i32
  let c0_i32_36 : BitVec 32 := 0#32
  let v69 : BitVec 32 := Scalar.addi v38 c0_i32_36
  v69
def k0_off2 (c0_i32_36 : BitVec 32) : Fin 4 → Nat :=
  let c0_39 : Index := 0#32
  let c0_40 : Index := 0#32
  let c0_i32 : BitVec 32 := 0#32
  let c8192_i32 : BitVec 32 := 8192#32
  let v38 : BitVec 32 := Scalar.muli c0_i32 c8192_i32
  let v69 : BitVec 32 := Scalar.addi v38 c0_i32_36
  let v70 : BitVec 32 := v69
  let v72 : Index := Scalar.indexCast v70
  let c0_41 : Index := 0#32
  ![0, 0, v72.toNat, 0]
def k0_mult3 : BitVec 32 :=
  let c0_i32 : BitVec 32 := 0#32
  let c8192_i32 : BitVec 32 := 8192#32
  let v38 : BitVec 32 := Scalar.muli c0_i32 c8192_i32
  let c512_i32 : BitVec 32 := 512#32
  let v83 : BitVec 32 := Scalar.addi v38 c512_i32
  v83
def k0_mult4 : BitVec 32 :=
  let c0_i32 : BitVec 32 := 0#32
  let c8192_i32 : BitVec 32 := 8192#32
  let v38 : BitVec 32 := Scalar.muli c0_i32 c8192_i32
  let c256_i32_62 : BitVec 32 := 256#32
  let v113 : BitVec 32 := Scalar.addi v38 c256_i32_62
  v113
def k0_mult5 : BitVec 32 :=
  let c0_i32 : BitVec 32 := 0#32
  let c8192_i32 : BitVec 32 := 8192#32
  let v38 : BitVec 32 := Scalar.muli c0_i32 c8192_i32
  let c768_i32 : BitVec 32 := 768#32
  let v127 : BitVec 32 := Scalar.addi v38 c768_i32
  v127
def k0_mult6 : BitVec 32 :=
  let c0_i32 : BitVec 32 := 0#32
  let c8192_i32 : BitVec 32 := 8192#32
  let v38 : BitVec 32 := Scalar.muli c0_i32 c8192_i32
  let c512_i32_88 : BitVec 32 := 512#32
  let v157 : BitVec 32 := Scalar.addi v38 c512_i32_88
  v157
def k0_mult7 : BitVec 32 :=
  let c0_i32 : BitVec 32 := 0#32
  let c8192_i32 : BitVec 32 := 8192#32
  let v38 : BitVec 32 := Scalar.muli c0_i32 c8192_i32
  let c1024_i32 : BitVec 32 := 1024#32
  let v171 : BitVec 32 := Scalar.addi v38 c1024_i32
  v171
def k0_mult8 : BitVec 32 :=
  let c0_i32 : BitVec 32 := 0#32
  let c8192_i32 : BitVec 32 := 8192#32
  let v38 : BitVec 32 := Scalar.muli c0_i32 c8192_i32
  let c768_i32_114 : BitVec 32 := 768#32
  let v201 : BitVec 32 := Scalar.addi v38 c768_i32_114
  v201
def k0_mult9 : BitVec 32 :=
  let c0_i32 : BitVec 32 := 0#32
  let c8192_i32 : BitVec 32 := 8192#32
  let v38 : BitVec 32 := Scalar.muli c0_i32 c8192_i32
  let c1280_i32 : BitVec 32 := 1280#32
  let v215 : BitVec 32 := Scalar.addi v38 c1280_i32
  v215
def k0_mult10 : BitVec 32 :=
  let c0_i32 : BitVec 32 := 0#32
  let c8192_i32 : BitVec 32 := 8192#32
  let v38 : BitVec 32 := Scalar.muli c0_i32 c8192_i32
  let c1024_i32_140 : BitVec 32 := 1024#32
  let v245 : BitVec 32 := Scalar.addi v38 c1024_i32_140
  v245
def k0_mult11 : BitVec 32 :=
  let c0_i32 : BitVec 32 := 0#32
  let c8192_i32 : BitVec 32 := 8192#32
  let v38 : BitVec 32 := Scalar.muli c0_i32 c8192_i32
  let c1536_i32 : BitVec 32 := 1536#32
  let v259 : BitVec 32 := Scalar.addi v38 c1536_i32
  v259
def k0_mult12 : BitVec 32 :=
  let c0_i32 : BitVec 32 := 0#32
  let c8192_i32 : BitVec 32 := 8192#32
  let v38 : BitVec 32 := Scalar.muli c0_i32 c8192_i32
  let c1280_i32_166 : BitVec 32 := 1280#32
  let v289 : BitVec 32 := Scalar.addi v38 c1280_i32_166
  v289
def k0_mult13 : BitVec 32 :=
  let c0_i32 : BitVec 32 := 0#32
  let c8192_i32 : BitVec 32 := 8192#32
  let v38 : BitVec 32 := Scalar.muli c0_i32 c8192_i32
  let c1792_i32 : BitVec 32 := 1792#32
  let v303 : BitVec 32 := Scalar.addi v38 c1792_i32
  v303
def k0_mult14 : BitVec 32 :=
  let c0_i32 : BitVec 32 := 0#32
  let c8192_i32 : BitVec 32 := 8192#32
  let v38 : BitVec 32 := Scalar.muli c0_i32 c8192_i32
  let c1536_i32_192 : BitVec 32 := 1536#32
  let v333 : BitVec 32 := Scalar.addi v38 c1536_i32_192
  v333
def k0_mult15 : BitVec 32 :=
  let c0_i32 : BitVec 32 := 0#32
  let c8192_i32 : BitVec 32 := 8192#32
  let v38 : BitVec 32 := Scalar.muli c0_i32 c8192_i32
  let c2048_i32 : BitVec 32 := 2048#32
  let v347 : BitVec 32 := Scalar.addi v38 c2048_i32
  v347
def k0_mult16 : BitVec 32 :=
  let c0_i32 : BitVec 32 := 0#32
  let c8192_i32 : BitVec 32 := 8192#32
  let v38 : BitVec 32 := Scalar.muli c0_i32 c8192_i32
  let c1792_i32_218 : BitVec 32 := 1792#32
  let v377 : BitVec 32 := Scalar.addi v38 c1792_i32_218
  v377
def k0_mult17 : BitVec 32 :=
  let c0_i32 : BitVec 32 := 0#32
  let c8192_i32 : BitVec 32 := 8192#32
  let v38 : BitVec 32 := Scalar.muli c0_i32 c8192_i32
  let c2304_i32 : BitVec 32 := 2304#32
  let v391 : BitVec 32 := Scalar.addi v38 c2304_i32
  v391
def k0_mult18 : BitVec 32 :=
  let c0_i32 : BitVec 32 := 0#32
  let c8192_i32 : BitVec 32 := 8192#32
  let v38 : BitVec 32 := Scalar.muli c0_i32 c8192_i32
  let c2048_i32_244 : BitVec 32 := 2048#32
  let v421 : BitVec 32 := Scalar.addi v38 c2048_i32_244
  v421
def k0_mult19 : BitVec 32 :=
  let c0_i32 : BitVec 32 := 0#32
  let c8192_i32 : BitVec 32 := 8192#32
  let v38 : BitVec 32 := Scalar.muli c0_i32 c8192_i32
  let c2560_i32 : BitVec 32 := 2560#32
  let v435 : BitVec 32 := Scalar.addi v38 c2560_i32
  v435
def k0_mult20 : BitVec 32 :=
  let c0_i32 : BitVec 32 := 0#32
  let c8192_i32 : BitVec 32 := 8192#32
  let v38 : BitVec 32 := Scalar.muli c0_i32 c8192_i32
  let c2304_i32_270 : BitVec 32 := 2304#32
  let v465 : BitVec 32 := Scalar.addi v38 c2304_i32_270
  v465
def k0_mult21 : BitVec 32 :=
  let c0_i32 : BitVec 32 := 0#32
  let c8192_i32 : BitVec 32 := 8192#32
  let v38 : BitVec 32 := Scalar.muli c0_i32 c8192_i32
  let c2816_i32 : BitVec 32 := 2816#32
  let v479 : BitVec 32 := Scalar.addi v38 c2816_i32
  v479
def k0_mult22 : BitVec 32 :=
  let c0_i32 : BitVec 32 := 0#32
  let c8192_i32 : BitVec 32 := 8192#32
  let v38 : BitVec 32 := Scalar.muli c0_i32 c8192_i32
  let c2560_i32_296 : BitVec 32 := 2560#32
  let v509 : BitVec 32 := Scalar.addi v38 c2560_i32_296
  v509
def k0_mult23 : BitVec 32 :=
  let c0_i32 : BitVec 32 := 0#32
  let c8192_i32 : BitVec 32 := 8192#32
  let v38 : BitVec 32 := Scalar.muli c0_i32 c8192_i32
  let c3072_i32 : BitVec 32 := 3072#32
  let v523 : BitVec 32 := Scalar.addi v38 c3072_i32
  v523
def k0_mult24 : BitVec 32 :=
  let c0_i32 : BitVec 32 := 0#32
  let c8192_i32 : BitVec 32 := 8192#32
  let v38 : BitVec 32 := Scalar.muli c0_i32 c8192_i32
  let c2816_i32_322 : BitVec 32 := 2816#32
  let v553 : BitVec 32 := Scalar.addi v38 c2816_i32_322
  v553
def k0_mult25 : BitVec 32 :=
  let c0_i32 : BitVec 32 := 0#32
  let c8192_i32 : BitVec 32 := 8192#32
  let v38 : BitVec 32 := Scalar.muli c0_i32 c8192_i32
  let c3328_i32 : BitVec 32 := 3328#32
  let v567 : BitVec 32 := Scalar.addi v38 c3328_i32
  v567
def k0_mult26 : BitVec 32 :=
  let c0_i32 : BitVec 32 := 0#32
  let c8192_i32 : BitVec 32 := 8192#32
  let v38 : BitVec 32 := Scalar.muli c0_i32 c8192_i32
  let c3072_i32_348 : BitVec 32 := 3072#32
  let v597 : BitVec 32 := Scalar.addi v38 c3072_i32_348
  v597
def k0_mult27 : BitVec 32 :=
  let c0_i32 : BitVec 32 := 0#32
  let c8192_i32 : BitVec 32 := 8192#32
  let v38 : BitVec 32 := Scalar.muli c0_i32 c8192_i32
  let c3584_i32 : BitVec 32 := 3584#32
  let v611 : BitVec 32 := Scalar.addi v38 c3584_i32
  v611
def k0_mult28 : BitVec 32 :=
  let c0_i32 : BitVec 32 := 0#32
  let c8192_i32 : BitVec 32 := 8192#32
  let v38 : BitVec 32 := Scalar.muli c0_i32 c8192_i32
  let c3328_i32_374 : BitVec 32 := 3328#32
  let v641 : BitVec 32 := Scalar.addi v38 c3328_i32_374
  v641
def k0_mult29 : BitVec 32 :=
  let c0_i32 : BitVec 32 := 0#32
  let c8192_i32 : BitVec 32 := 8192#32
  let v38 : BitVec 32 := Scalar.muli c0_i32 c8192_i32
  let c3840_i32 : BitVec 32 := 3840#32
  let v655 : BitVec 32 := Scalar.addi v38 c3840_i32
  v655
def k0_mult30 : BitVec 32 :=
  let c0_i32 : BitVec 32 := 0#32
  let c8192_i32 : BitVec 32 := 8192#32
  let v38 : BitVec 32 := Scalar.muli c0_i32 c8192_i32
  let c3584_i32_400 : BitVec 32 := 3584#32
  let v685 : BitVec 32 := Scalar.addi v38 c3584_i32_400
  v685
def k0_mult31 : BitVec 32 :=
  let c0_i32 : BitVec 32 := 0#32
  let c8192_i32 : BitVec 32 := 8192#32
  let v38 : BitVec 32 := Scalar.muli c0_i32 c8192_i32
  let c4096_i32 : BitVec 32 := 4096#32
  let v699 : BitVec 32 := Scalar.addi v38 c4096_i32
  v699
def k0_mult32 : BitVec 32 :=
  let c0_i32 : BitVec 32 := 0#32
  let c8192_i32 : BitVec 32 := 8192#32
  let v38 : BitVec 32 := Scalar.muli c0_i32 c8192_i32
  let c3840_i32_426 : BitVec 32 := 3840#32
  let v729 : BitVec 32 := Scalar.addi v38 c3840_i32_426
  v729
def k0_mult33 : BitVec 32 :=
  let c0_i32 : BitVec 32 := 0#32
  let c8192_i32 : BitVec 32 := 8192#32
  let v38 : BitVec 32 := Scalar.muli c0_i32 c8192_i32
  let c4352_i32 : BitVec 32 := 4352#32
  let v743 : BitVec 32 := Scalar.addi v38 c4352_i32
  v743
def k0_mult34 : BitVec 32 :=
  let c0_i32 : BitVec 32 := 0#32
  let c8192_i32 : BitVec 32 := 8192#32
  let v38 : BitVec 32 := Scalar.muli c0_i32 c8192_i32
  let c4096_i32_452 : BitVec 32 := 4096#32
  let v773 : BitVec 32 := Scalar.addi v38 c4096_i32_452
  v773
def k0_mult35 : BitVec 32 :=
  let c0_i32 : BitVec 32 := 0#32
  let c8192_i32 : BitVec 32 := 8192#32
  let v38 : BitVec 32 := Scalar.muli c0_i32 c8192_i32
  let c4608_i32 : BitVec 32 := 4608#32
  let v787 : BitVec 32 := Scalar.addi v38 c4608_i32
  v787
def k0_mult36 : BitVec 32 :=
  let c0_i32 : BitVec 32 := 0#32
  let c8192_i32 : BitVec 32 := 8192#32
  let v38 : BitVec 32 := Scalar.muli c0_i32 c8192_i32
  let c4352_i32_478 : BitVec 32 := 4352#32
  let v817 : BitVec 32 := Scalar.addi v38 c4352_i32_478
  v817
def k0_mult37 : BitVec 32 :=
  let c0_i32 : BitVec 32 := 0#32
  let c8192_i32 : BitVec 32 := 8192#32
  let v38 : BitVec 32 := Scalar.muli c0_i32 c8192_i32
  let c4864_i32 : BitVec 32 := 4864#32
  let v831 : BitVec 32 := Scalar.addi v38 c4864_i32
  v831
def k0_mult38 : BitVec 32 :=
  let c0_i32 : BitVec 32 := 0#32
  let c8192_i32 : BitVec 32 := 8192#32
  let v38 : BitVec 32 := Scalar.muli c0_i32 c8192_i32
  let c4608_i32_504 : BitVec 32 := 4608#32
  let v861 : BitVec 32 := Scalar.addi v38 c4608_i32_504
  v861
def k0_mult39 : BitVec 32 :=
  let c0_i32 : BitVec 32 := 0#32
  let c8192_i32 : BitVec 32 := 8192#32
  let v38 : BitVec 32 := Scalar.muli c0_i32 c8192_i32
  let c5120_i32 : BitVec 32 := 5120#32
  let v875 : BitVec 32 := Scalar.addi v38 c5120_i32
  v875
def k0_mult40 : BitVec 32 :=
  let c0_i32 : BitVec 32 := 0#32
  let c8192_i32 : BitVec 32 := 8192#32
  let v38 : BitVec 32 := Scalar.muli c0_i32 c8192_i32
  let c4864_i32_530 : BitVec 32 := 4864#32
  let v905 : BitVec 32 := Scalar.addi v38 c4864_i32_530
  v905
def k0_mult41 : BitVec 32 :=
  let c0_i32 : BitVec 32 := 0#32
  let c8192_i32 : BitVec 32 := 8192#32
  let v38 : BitVec 32 := Scalar.muli c0_i32 c8192_i32
  let c5376_i32 : BitVec 32 := 5376#32
  let v919 : BitVec 32 := Scalar.addi v38 c5376_i32
  v919
def k0_mult42 : BitVec 32 :=
  let c0_i32 : BitVec 32 := 0#32
  let c8192_i32 : BitVec 32 := 8192#32
  let v38 : BitVec 32 := Scalar.muli c0_i32 c8192_i32
  let c5120_i32_556 : BitVec 32 := 5120#32
  let v949 : BitVec 32 := Scalar.addi v38 c5120_i32_556
  v949
def k0_mult43 : BitVec 32 :=
  let c0_i32 : BitVec 32 := 0#32
  let c8192_i32 : BitVec 32 := 8192#32
  let v38 : BitVec 32 := Scalar.muli c0_i32 c8192_i32
  let c5632_i32 : BitVec 32 := 5632#32
  let v963 : BitVec 32 := Scalar.addi v38 c5632_i32
  v963
def k0_mult44 : BitVec 32 :=
  let c0_i32 : BitVec 32 := 0#32
  let c8192_i32 : BitVec 32 := 8192#32
  let v38 : BitVec 32 := Scalar.muli c0_i32 c8192_i32
  let c5376_i32_582 : BitVec 32 := 5376#32
  let v993 : BitVec 32 := Scalar.addi v38 c5376_i32_582
  v993
def k0_mult45 : BitVec 32 :=
  let c0_i32 : BitVec 32 := 0#32
  let c8192_i32 : BitVec 32 := 8192#32
  let v38 : BitVec 32 := Scalar.muli c0_i32 c8192_i32
  let c5888_i32 : BitVec 32 := 5888#32
  let v1007 : BitVec 32 := Scalar.addi v38 c5888_i32
  v1007
def k0_mult46 : BitVec 32 :=
  let c0_i32 : BitVec 32 := 0#32
  let c8192_i32 : BitVec 32 := 8192#32
  let v38 : BitVec 32 := Scalar.muli c0_i32 c8192_i32
  let c5632_i32_608 : BitVec 32 := 5632#32
  let v1037 : BitVec 32 := Scalar.addi v38 c5632_i32_608
  v1037
def k0_mult47 : BitVec 32 :=
  let c0_i32 : BitVec 32 := 0#32
  let c8192_i32 : BitVec 32 := 8192#32
  let v38 : BitVec 32 := Scalar.muli c0_i32 c8192_i32
  let c6144_i32 : BitVec 32 := 6144#32
  let v1051 : BitVec 32 := Scalar.addi v38 c6144_i32
  v1051
def k0_mult48 : BitVec 32 :=
  let c0_i32 : BitVec 32 := 0#32
  let c8192_i32 : BitVec 32 := 8192#32
  let v38 : BitVec 32 := Scalar.muli c0_i32 c8192_i32
  let c5888_i32_634 : BitVec 32 := 5888#32
  let v1081 : BitVec 32 := Scalar.addi v38 c5888_i32_634
  v1081
def k0_mult49 : BitVec 32 :=
  let c0_i32 : BitVec 32 := 0#32
  let c8192_i32 : BitVec 32 := 8192#32
  let v38 : BitVec 32 := Scalar.muli c0_i32 c8192_i32
  let c6400_i32 : BitVec 32 := 6400#32
  let v1095 : BitVec 32 := Scalar.addi v38 c6400_i32
  v1095
def k0_mult50 : BitVec 32 :=
  let c0_i32 : BitVec 32 := 0#32
  let c8192_i32 : BitVec 32 := 8192#32
  let v38 : BitVec 32 := Scalar.muli c0_i32 c8192_i32
  let c6144_i32_660 : BitVec 32 := 6144#32
  let v1125 : BitVec 32 := Scalar.addi v38 c6144_i32_660
  v1125
def k0_mult51 : BitVec 32 :=
  let c0_i32 : BitVec 32 := 0#32
  let c8192_i32 : BitVec 32 := 8192#32
  let v38 : BitVec 32 := Scalar.muli c0_i32 c8192_i32
  let c6656_i32 : BitVec 32 := 6656#32
  let v1139 : BitVec 32 := Scalar.addi v38 c6656_i32
  v1139
def k0_mult52 : BitVec 32 :=
  let c0_i32 : BitVec 32 := 0#32
  let c8192_i32 : BitVec 32 := 8192#32
  let v38 : BitVec 32 := Scalar.muli c0_i32 c8192_i32
  let c6400_i32_686 : BitVec 32 := 6400#32
  let v1169 : BitVec 32 := Scalar.addi v38 c6400_i32_686
  v1169
def k0_mult53 : BitVec 32 :=
  let c0_i32 : BitVec 32 := 0#32
  let c8192_i32 : BitVec 32 := 8192#32
  let v38 : BitVec 32 := Scalar.muli c0_i32 c8192_i32
  let c6912_i32 : BitVec 32 := 6912#32
  let v1183 : BitVec 32 := Scalar.addi v38 c6912_i32
  v1183
def k0_mult54 : BitVec 32 :=
  let c0_i32 : BitVec 32 := 0#32
  let c8192_i32 : BitVec 32 := 8192#32
  let v38 : BitVec 32 := Scalar.muli c0_i32 c8192_i32
  let c6656_i32_712 : BitVec 32 := 6656#32
  let v1213 : BitVec 32 := Scalar.addi v38 c6656_i32_712
  v1213
def k0_mult55 : BitVec 32 :=
  let c0_i32 : BitVec 32 := 0#32
  let c8192_i32 : BitVec 32 := 8192#32
  let v38 : BitVec 32 := Scalar.muli c0_i32 c8192_i32
  let c7168_i32 : BitVec 32 := 7168#32
  let v1227 : BitVec 32 := Scalar.addi v38 c7168_i32
  v1227
def k0_mult56 : BitVec 32 :=
  let c0_i32 : BitVec 32 := 0#32
  let c8192_i32 : BitVec 32 := 8192#32
  let v38 : BitVec 32 := Scalar.muli c0_i32 c8192_i32
  let c6912_i32_738 : BitVec 32 := 6912#32
  let v1257 : BitVec 32 := Scalar.addi v38 c6912_i32_738
  v1257
def k0_mult57 : BitVec 32 :=
  let c0_i32 : BitVec 32 := 0#32
  let c8192_i32 : BitVec 32 := 8192#32
  let v38 : BitVec 32 := Scalar.muli c0_i32 c8192_i32
  let c7424_i32 : BitVec 32 := 7424#32
  let v1271 : BitVec 32 := Scalar.addi v38 c7424_i32
  v1271
def k0_mult58 : BitVec 32 :=
  let c0_i32 : BitVec 32 := 0#32
  let c8192_i32 : BitVec 32 := 8192#32
  let v38 : BitVec 32 := Scalar.muli c0_i32 c8192_i32
  let c7168_i32_764 : BitVec 32 := 7168#32
  let v1301 : BitVec 32 := Scalar.addi v38 c7168_i32_764
  v1301
def k0_mult59 : BitVec 32 :=
  let c0_i32 : BitVec 32 := 0#32
  let c8192_i32 : BitVec 32 := 8192#32
  let v38 : BitVec 32 := Scalar.muli c0_i32 c8192_i32
  let c7680_i32 : BitVec 32 := 7680#32
  let v1315 : BitVec 32 := Scalar.addi v38 c7680_i32
  v1315
def k0_mult60 : BitVec 32 :=
  let c0_i32 : BitVec 32 := 0#32
  let c8192_i32 : BitVec 32 := 8192#32
  let v38 : BitVec 32 := Scalar.muli c0_i32 c8192_i32
  let c7424_i32_790 : BitVec 32 := 7424#32
  let v1345 : BitVec 32 := Scalar.addi v38 c7424_i32_790
  v1345
def k0_mult61 : BitVec 32 :=
  let c0_i32 : BitVec 32 := 0#32
  let c8192_i32 : BitVec 32 := 8192#32
  let v38 : BitVec 32 := Scalar.muli c0_i32 c8192_i32
  let c7936_i32 : BitVec 32 := 7936#32
  let v1359 : BitVec 32 := Scalar.addi v38 c7936_i32
  v1359
def k0_mult62 : BitVec 32 :=
  let c0_i32 : BitVec 32 := 0#32
  let c8192_i32 : BitVec 32 := 8192#32
  let v38 : BitVec 32 := Scalar.muli c0_i32 c8192_i32
  let c7680_i32_816 : BitVec 32 := 7680#32
  let v1389 : BitVec 32 := Scalar.addi v38 c7680_i32_816
  v1389
def k0_mult63 : BitVec 32 :=
  let c0_i32 : BitVec 32 := 0#32
  let c8192_i32 : BitVec 32 := 8192#32
  let v38 : BitVec 32 := Scalar.muli c0_i32 c8192_i32
  let c8192_i32_829 : BitVec 32 := 8192#32
  let v1403 : BitVec 32 := Scalar.addi v38 c8192_i32_829
  v1403
def k0_mult64 : BitVec 32 :=
  let c0_i32 : BitVec 32 := 0#32
  let c8192_i32 : BitVec 32 := 8192#32
  let v38 : BitVec 32 := Scalar.muli c0_i32 c8192_i32
  let c7936_i32_843 : BitVec 32 := 7936#32
  let v1433 : BitVec 32 := Scalar.addi v38 c7936_i32_843
  v1433
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  let c0_i32_2 : BitVec 32 := 0#32
  ![arg0.toNat, arg1.toNat, c0_i32_0.toNat, v0.toNat, c0_i32_1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x2x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x16640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== DiffReferenceIdeal.lean ====
abbrev S2x4x16640x64 : Shape := ⟨4, ![2, 4, 16640, 64]⟩
abbrev S32 : Shape := ⟨1, ![32]⟩
abbrev S64 : Shape := ⟨1, ![64]⟩
abbrev S2x4x16384x64 : Shape := ⟨4, ![2, 4, 16384, 64]⟩
abbrev S_ : Shape := ⟨0, ![]⟩
abbrev S2x4x16384x32 : Shape := ⟨4, ![2, 4, 16384, 32]⟩
abbrev S2x4x16640x32 : Shape := ⟨4, ![2, 4, 16640, 32]⟩
abbrev S2x4x16384x16640 : Shape := ⟨4, ![2, 4, 16384, 16640]⟩
abbrev S2x4x16384 : Shape := ⟨3, ![2, 4, 16384]⟩
abbrev S2x4x16384x1 : Shape := ⟨4, ![2, 4, 16384, 1]⟩
abbrev S1x1x1x64 : Shape := ⟨4, ![1, 1, 1, 64]⟩

abbrev nBuf : Space → Nat
  | .hbm => 84
  | .vmem => 0
  | .smem => 0
  | _ => 0

abbrev bufTy : (tb : Table) → Fin (tcTables nBuf tb) → BufTy
  | .hbm, ⟨0, _⟩ => ⟨S2x4x16640x64, .f32⟩
  | .hbm, ⟨1, _⟩ => ⟨S2x4x16640x64, .f32⟩
  | .hbm, ⟨2, _⟩ => ⟨S2x4x16640x64, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S64, .f32⟩
  | .hbm, ⟨8, _⟩ => ⟨S2x4x16384x64, .f32⟩
  | .hbm, ⟨9, _⟩ => ⟨S32, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S32, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2x4x16384x32, .f32⟩
  | .hbm, ⟨21, _⟩ => ⟨S2x4x16640x32, .f32⟩
  | .hbm, ⟨22, _⟩ => ⟨S2x4x16384x16640, .f32⟩
  | .hbm, ⟨23, _⟩ => ⟨S_, .f32⟩
  | .hbm, ⟨24, _⟩ => ⟨S2x4x16384x16640, .f32⟩
  | .hbm, ⟨25, _⟩ => ⟨S2x4x16384x16640, .f32⟩
  | .hbm, ⟨26, _⟩ => ⟨S_, .f32⟩
  | .hbm, ⟨27, _⟩ => ⟨S2x4x16384, .f32⟩
  | .hbm, ⟨28, _⟩ => ⟨S_, .f32⟩
  | .hbm, ⟨29, _⟩ => ⟨S2x4x16384, .f32⟩
  | .hbm, ⟨30, _⟩ => ⟨S2x4x16384, .f32⟩
  | .hbm, ⟨31, _⟩ => ⟨S2x4x16384x1, .f32⟩
  | .hbm, ⟨32, _⟩ => ⟨S2x4x16384x16640, .f32⟩
  | .hbm, ⟨33, _⟩ => ⟨S2x4x16384x16640, .f32⟩
  | .hbm, ⟨34, _⟩ => ⟨S2x4x16384x16640, .f32⟩
  | .hbm, ⟨35, _⟩ => ⟨S_, .f32⟩
  | .hbm, ⟨36, _⟩ => ⟨S2x4x16384, .f32⟩
  | .hbm, ⟨37, _⟩ => ⟨S2x4x16384x1, .f32⟩
  | .hbm, ⟨38, _⟩ => ⟨S2x4x16384x16640, .f32⟩
  | .hbm, ⟨39, _⟩ => ⟨S2x4x16384x16640, .f32⟩
  | .hbm, ⟨40, _⟩ => ⟨S2x4x16384x32, .f32⟩
  | .hbm, ⟨41, _⟩ => ⟨S2x4x16640x32, .f32⟩
  | .hbm, ⟨42, _⟩ => ⟨S2x4x16384x16640, .f32⟩
  | .hbm, ⟨43, _⟩ => ⟨S_, .f32⟩
  | .hbm, ⟨44, _⟩ => ⟨S2x4x16384x16640, .f32⟩
  | .hbm, ⟨45, _⟩ => ⟨S2x4x16384x16640, .f32⟩
  | .hbm, ⟨46, _⟩ => ⟨S_, .f32⟩
  | .hbm, ⟨47, _⟩ => ⟨S2x4x16384, .f32⟩
  | .hbm, ⟨48, _⟩ => ⟨S_, .f32⟩
  | .hbm, ⟨49, _⟩ => ⟨S2x4x16384, .f32⟩
  | .hbm, ⟨50, _⟩ => ⟨S2x4x16384, .f32⟩
  | .hbm, ⟨51, _⟩ => ⟨S2x4x16384x1, .f32⟩
  | .hbm, ⟨52, _⟩ => ⟨S2x4x16384x16640, .f32⟩
  | .hbm, ⟨53, _⟩ => ⟨S2x4x16384x16640, .f32⟩
  | .hbm, ⟨54, _⟩ => ⟨S2x4x16384x16640, .f32⟩
  | .hbm, ⟨55, _⟩ => ⟨S_, .f32⟩
  | .hbm, ⟨56, _⟩ => ⟨S2x4x16384, .f32⟩
  | .hbm, ⟨57, _⟩ => ⟨S2x4x16384x1, .f32⟩
  | .hbm, ⟨58, _⟩ => ⟨S2x4x16384x16640, .f32⟩
  | .hbm, ⟨59, _⟩ => ⟨S2x4x16384x16640, .f32⟩
  | .hbm, ⟨60, _⟩ => ⟨S2x4x16384x16640, .f32⟩
  | .hbm, ⟨61, _⟩ => ⟨S2x4x16384x16640, .f32⟩
  | .hbm, ⟨62, _⟩ => ⟨S2x4x16384x16640, .f32⟩
  | .hbm, ⟨63, _⟩ => ⟨S2x4x16384x64, .f32⟩
  | .hbm, ⟨64, _⟩ => ⟨S2x4x16384x64, .f32⟩
  | .hbm, ⟨65, _⟩ => ⟨S_, .f32⟩
  | .hbm, ⟨66, _⟩ => ⟨S2x4x16384, .f32⟩
  | .hbm, ⟨67, _⟩ => ⟨S2x4x16384x1, .f32⟩
  | .hbm, ⟨68, _⟩ => ⟨S_, .f32⟩
  | .hbm, ⟨69, _⟩ => ⟨S2x4x16384x1, .f32⟩
  | .hbm, ⟨70, _⟩ => ⟨S2x4x16384x1, .f32⟩
  | .hbm, ⟨71, _⟩ => ⟨S_, .f32⟩
  | .hbm, ⟨72, _⟩ => ⟨S2x4x16384x1, .f32⟩
  | .hbm, ⟨73, _⟩ => ⟨S2x4x16384x1, .f32⟩
  | .hbm, ⟨74, _⟩ => ⟨S2x4x16384x1, .f32⟩
  | .hbm, ⟨75, _⟩ => ⟨S2x4x16384x64, .f32⟩
  | .hbm, ⟨76, _⟩ => ⟨S2x4x16384x64, .f32⟩
  | .hbm, ⟨77, _⟩ => ⟨S1x1x1x64, .f32⟩
  | .hbm, ⟨78, _⟩ => ⟨S2x4x16384x64, .f32⟩
  | .hbm, ⟨79, _⟩ => ⟨S2x4x16384x64, .f32⟩
  | .hbm, ⟨80, _⟩ => ⟨S_, .f32⟩
  | .hbm, ⟨81, _⟩ => ⟨S2x4x16384x64, .f32⟩
  | .hbm, ⟨82, _⟩ => ⟨S2x4x16384x64, .f32⟩
  | .hbm, ⟨83, _⟩ => ⟨S2x4x16384x64, .bf16⟩
  | _, _ => ⟨S2x4x16640x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== MidKernel.lean ====
abbrev S2x16384x1024 : Shape := ⟨3, ![2, 16384, 1024]⟩
abbrev S2x256x1024 : Shape := ⟨3, ![2, 256, 1024]⟩
abbrev S2x2x3x16384x64 : Shape := ⟨5, ![2, 2, 3, 16384, 64]⟩
abbrev S2x4x16384x64 : Shape := ⟨4, ![2, 4, 16384, 64]⟩
abbrev S2x2x3x256x64 : Shape := ⟨5, ![2, 2, 3, 256, 64]⟩
abbrev S2x4x256x64 : Shape := ⟨4, ![2, 4, 256, 64]⟩
abbrev S3x1x6144 : Shape := ⟨3, ![3, 1, 6144]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x256x1024 : Shape := ⟨3, ![1, 256, 1024]⟩
abbrev S1x2x3x256x64 : Shape := ⟨5, ![1, 2, 3, 256, 64]⟩
abbrev S1x4x256x64 : Shape := ⟨4, ![1, 4, 256, 64]⟩
abbrev S1x1x6144 : Shape := ⟨3, ![1, 1, 6144]⟩
abbrev S256x1024 : Shape := ⟨2, ![256, 1024]⟩
abbrev S1x1x1x256x64 : Shape := ⟨5, ![1, 1, 1, 256, 64]⟩
abbrev S256x64 : Shape := ⟨2, ![256, 64]⟩
abbrev S1x1x256x64 : Shape := ⟨4, ![1, 1, 256, 64]⟩
abbrev S1x6144 : Shape := ⟨2, ![1, 6144]⟩
abbrev S256 : Shape := ⟨1, ![256]⟩
abbrev S256x1 : Shape := ⟨2, ![256, 1]⟩
abbrev S256x2816 : Shape := ⟨2, ![256, 2816]⟩

abbrev nBuf : Space → Nat
  | .hbm => 21
  | .vmem => 27
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x2x3x16384x64, .bf16⟩
  | .hbm, ⟨3, _⟩ => ⟨S2x4x16384x64, .bf16⟩
  | .hbm, ⟨4, _⟩ => ⟨S2x2x3x16384x64, .bf16⟩
  | .hbm, ⟨5, _⟩ => ⟨S2x2x3x256x64, .bf16⟩
  | .hbm, ⟨6, _⟩ => ⟨S2x4x256x64, .bf16⟩
  | .hbm, ⟨7, _⟩ => ⟨S2x2x3x256x64, .bf16⟩
  | .hbm, ⟨8, _⟩ => ⟨S3x1x6144, .f32⟩
  | .hbm, ⟨9, _⟩ => ⟨S1024x1024, .f32⟩
  | .hbm, ⟨10, _⟩ => ⟨S1024, .f32⟩
  | .hbm, ⟨11, _⟩ => ⟨S1024x2816, .f32⟩
  | .hbm, ⟨12, _⟩ => ⟨S1024x2816, .f32⟩
  | .hbm, ⟨13, _⟩ => ⟨S2816x1024, .f32⟩
  | .hbm, ⟨14, _⟩ => ⟨S1024x1024, .bf16⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S1x1024, .f32⟩
  | .hbm, ⟨19, _⟩ => ⟨S2x16384x1024, .f32⟩
  | .hbm, ⟨20, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x2x3x256x64, .bf16⟩
  | .local _ .vmem, ⟨5, _⟩ => ⟨S1x2x3x256x64, .bf16⟩
  | .local _ .vmem, ⟨6, _⟩ => ⟨S1x4x256x64, .bf16⟩
  | .local _ .vmem, ⟨7, _⟩ => ⟨S1x4x256x64, .bf16⟩
  | .local _ .vmem, ⟨8, _⟩ => ⟨S1x2x3x256x64, .bf16⟩
  | .local _ .vmem, ⟨9, _⟩ => ⟨S1x2x3x256x64, .bf16⟩
  | .local _ .vmem, ⟨10, _⟩ => ⟨S1x2x3x256x64, .bf16⟩
  | .local _ .vmem, ⟨11, _⟩ => ⟨S1x2x3x256x64, .bf16⟩
  | .local _ .vmem, ⟨12, _⟩ => ⟨S1x4x256x64, .bf16⟩
  | .local _ .vmem, ⟨13, _⟩ => ⟨S1x4x256x64, .bf16⟩
  | .local _ .vmem, ⟨14, _⟩ => ⟨S1x2x3x256x64, .bf16⟩
  | .local _ .vmem, ⟨15, _⟩ => ⟨S1x2x3x256x64, .bf16⟩
  | .local _ .vmem, ⟨16, _⟩ => ⟨S1x1x6144, .f32⟩
  | .local _ .vmem, ⟨17, _⟩ => ⟨S1x1x6144, .f32⟩
  | .local _ .vmem, ⟨18, _⟩ => ⟨S1024x1024, .bf16⟩
  | .local _ .vmem, ⟨19, _⟩ => ⟨S1x1024, .f32⟩
  | .local _ .vmem, ⟨20, _⟩ => ⟨S1024x2816, .bf16⟩
  | .local _ .vmem, ⟨21, _⟩ => ⟨S1024x2816, .bf16⟩
  | .local _ .vmem, ⟨22, _⟩ => ⟨S2816x1024, .bf16⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![2, 65], ![false, false]⟩

def k0_cond2 (i : grid0.Coords) : BitVec 1 :=
  let arg1 : BitVec 32 := BitVec.ofNat 32 (i 1).val
  let c64_i32 : BitVec 32 := 64#32
  let v0 : BitVec 1 := Scalar.cmpi .sge arg1 c64_i32
  let v_true : BitVec 1 := 1#1
  let v138 : BitVec 1 := Scalar.xori v0 v_true
  let v139 : BitVec 32 := Scalar.extui v138
  let c0_i32_174 : BitVec 32 := 0#32
  let v140 : BitVec 1 := Scalar.cmpi .ne v139 c0_i32_174
  v140

def k0_cond1 (i : grid0.Coords) : BitVec 1 :=
  let arg1 : BitVec 32 := BitVec.ofNat 32 (i 1).val
  let c64_i32 : BitVec 32 := 64#32
  let v0 : BitVec 1 := Scalar.cmpi .sge arg1 c64_i32
  let v136 : BitVec 32 := Scalar.extui v0
  let c0_i32 : BitVec 32 := 0#32
  let v137 : BitVec 1 := Scalar.cmpi .ne v136 c0_i32
  v137

def cc0_transform_0 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.subi arg1 c64_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 5 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, v0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  let c0_i32_1 : BitVec 32 := 0#32
  ![arg0.toNat, c0_i32.toNat, v0.toNat, c0_i32_0.toNat]

def cc0_transform_4 (i : grid0.Coords) : Fin 5 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, v0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c64_i32 : BitVec 32 := 64#32
  let v0 : BitVec 32 := Scalar.subi arg1 c64_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![arg0.toNat, c0_i32_0.toNat, c0_i32_1.toNat, v1.toNat, c0_i32_2.toNat]

def cc0_transform_6 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.subi arg1 c64_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc0_transform_7 (i : grid0.Coords) : Fin 5 → Nat :=
  let arg0 : BitVec 32 := BitVec.ofNat 32 (i 0).val
  let arg1 : BitVec 32 := BitVec.ofNat 32 (i 1).val
  let c64_i32 : BitVec 32 := 64#32
  let v0 : BitVec 32 := Scalar.subi arg1 c64_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![arg0.toNat, c0_i32_0.toNat, c0_i32_1.toNat, v1.toNat, c0_i32_2.toNat]

def cc0_transform_8 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg1 c64_i32
  let c2_i32 : BitVec 32 := 2#32
  let v1 : BitVec 32 := Scalar.select v0 arg0 c2_i32
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  ![arg0.toNat, v0.toNat, c0_i32.toNat]

def cc0_transform_15 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.subi arg1 c64_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x3x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x3x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x3x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x3x256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x6144 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MidReferenceIdeal.lean ====
abbrev S2x16384x1024 : Shape := ⟨3, ![2, 16384, 1024]⟩
abbrev S2x256x1024 : Shape := ⟨3, ![2, 256, 1024]⟩
abbrev S2x2x3x16384x64 : Shape := ⟨5, ![2, 2, 3, 16384, 64]⟩
abbrev S2x4x16384x64 : Shape := ⟨4, ![2, 4, 16384, 64]⟩
abbrev S2x2x3x256x64 : Shape := ⟨5, ![2, 2, 3, 256, 64]⟩
abbrev S2x4x256x64 : Shape := ⟨4, ![2, 4, 256, 64]⟩
abbrev S3x1x6144 : Shape := ⟨3, ![3, 1, 6144]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S2x1x6144 : Shape := ⟨3, ![2, 1, 6144]⟩
abbrev S2x1x1024 : Shape := ⟨3, ![2, 1, 1024]⟩
abbrev S2x6x16384x64 : Shape := ⟨4, ![2, 6, 16384, 64]⟩
abbrev S2x16x16384x64 : Shape := ⟨4, ![2, 16, 16384, 64]⟩
abbrev S2x16384x16x64 : Shape := ⟨4, ![2, 16384, 16, 64]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2816 : Shape := ⟨3, ![2, 16384, 2816]⟩
abbrev S1x1x6144 : Shape := ⟨3, ![1, 1, 6144]⟩
abbrev S6144 : Shape := ⟨1, ![6144]⟩
abbrev S2x6x256x64 : Shape := ⟨4, ![2, 6, 256, 64]⟩
abbrev S2x16x256x64 : Shape := ⟨4, ![2, 16, 256, 64]⟩
abbrev S2x256x16x64 : Shape := ⟨4, ![2, 256, 16, 64]⟩
abbrev S2x256 : Shape := ⟨2, ![2, 256]⟩
abbrev S2x256x1 : Shape := ⟨3, ![2, 256, 1]⟩
abbrev S2x256x2816 : Shape := ⟨3, ![2, 256, 2816]⟩

abbrev nBuf : Space → Nat
  | .hbm => 131
  | .vmem => 0
  | .smem => 0
  | _ => 0

abbrev hbmTy0_0 (i : Nat) : BufTy := match i % 128 with
  | 0 => ⟨S2x16384x1024, .f32⟩
  | 1 => ⟨S2x256x1024, .f32⟩
  | 2 => ⟨S2x2x3x16384x64, .bf16⟩
  | 3 => ⟨S2x4x16384x64, .bf16⟩
  | 4 => ⟨S2x2x3x16384x64, .bf16⟩
  | 5 => ⟨S2x2x3x256x64, .bf16⟩
  | 6 => ⟨S2x4x256x64, .bf16⟩
  | 7 => ⟨S2x2x3x256x64, .bf16⟩
  | 8 => ⟨S3x1x6144, .f32⟩
  | 9 => ⟨S1024x1024, .f32⟩
  | 10 => ⟨S1024, .f32⟩
  | 11 => ⟨S1024x2816, .f32⟩
  | 12 => ⟨S1024x2816, .f32⟩
  | 13 => ⟨S2816x1024, .f32⟩
  | 14 => ⟨S2x1x6144, .f32⟩
  | 15 => ⟨S2x1x1024, .f32⟩
  | 16 => ⟨S2x1x1024, .f32⟩
  | 17 => ⟨S2x1x1024, .f32⟩
  | 18 => ⟨S2x1x1024, .f32⟩
  | 19 => ⟨S2x1x1024, .f32⟩
  | 20 => ⟨S2x1x1024, .f32⟩
  | 21 => ⟨S2x6x16384x64, .bf16⟩
  | 22 => ⟨S2x6x16384x64, .bf16⟩
  | 23 => ⟨S2x16x16384x64, .bf16⟩
  | 24 => ⟨S2x16384x16x64, .bf16⟩
  | 25 => ⟨S2x16384x1024, .bf16⟩
  | 26 => ⟨S2x16384x1024, .f32⟩
  | 27 => ⟨S2x16384x1024, .f32⟩
  | 28 => ⟨S2x16384x1024, .f32⟩
  | 29 => ⟨S2x16384x1024, .f32⟩
  | 30 => ⟨S2x16384x1024, .f32⟩
  | 31 => ⟨S2x16384x1024, .f32⟩
  | 32 => ⟨S_, .f32⟩
  | 33 => ⟨S2x16384, .f32⟩
  | 34 => ⟨S2x16384x1, .f32⟩
  | 35 => ⟨S_, .f32⟩
  | 36 => ⟨S2x16384x1, .f32⟩
  | 37 => ⟨S2x16384x1, .f32⟩
  | 38 => ⟨S_, .f32⟩
  | 39 => ⟨S2x16384x1, .f32⟩
  | 40 => ⟨S2x16384x1, .f32⟩
  | 41 => ⟨S2x16384x1, .f32⟩
  | 42 => ⟨S2x16384x1024, .f32⟩
  | 43 => ⟨S2x16384x1024, .f32⟩
  | 44 => ⟨S1x1x1024, .f32⟩
  | 45 => ⟨S2x16384x1024, .f32⟩
  | 46 => ⟨S2x16384x1024, .f32⟩
  | 47 => ⟨S_, .f32⟩
  | 48 => ⟨S2x1x1024, .f32⟩
  | 49 => ⟨S2x1x1024, .f32⟩
  | 50 => ⟨S2x16384x1024, .f32⟩
  | 51 => ⟨S2x16384x1024, .f32⟩
  | 52 => ⟨S2x16384x1024, .f32⟩
  | 53 => ⟨S2x16384x1024, .f32⟩
  | 54 => ⟨S2x16384x2816, .f32⟩
  | 55 => ⟨S2x16384x2816, .f32⟩
  | 56 => ⟨S2x16384x2816, .f32⟩
  | 57 => ⟨S_, .f32⟩
  | 58 => ⟨S2x16384x2816, .f32⟩
  | 59 => ⟨S2x16384x2816, .f32⟩
  | 60 => ⟨S_, .f32⟩
  | 61 => ⟨S2x16384x2816, .f32⟩
  | 62 => ⟨S2x16384x2816, .f32⟩
  | 63 => ⟨S2x16384x2816, .f32⟩
  | 64 => ⟨S2x16384x2816, .f32⟩
  | 65 => ⟨S2x16384x2816, .f32⟩
  | 66 => ⟨S2x16384x1024, .f32⟩
  | 67 => ⟨S2x16384x1024, .f32⟩
  | 68 => ⟨S2x16384x1024, .f32⟩
  | 69 => ⟨S2x16384x1024, .f32⟩
  | 70 => ⟨S1x1x6144, .f32⟩
  | 71 => ⟨S6144, .f32⟩
  | 72 => ⟨S1024, .f32⟩
  | 73 => ⟨S1024, .f32⟩
  | 74 => ⟨S1024, .f32⟩
  | 75 => ⟨S1024, .f32⟩
  | 76 => ⟨S1024, .f32⟩
  | 77 => ⟨S1024, .f32⟩
  | 78 => ⟨S2x6x256x64, .bf16⟩
  | 79 => ⟨S2x6x256x64, .bf16⟩
  | 80 => ⟨S2x16x256x64, .bf16⟩
  | 81 => ⟨S2x256x16x64, .bf16⟩
  | 82 => ⟨S2x256x1024, .bf16⟩
  | 83 => ⟨S2x256x1024, .f32⟩
  | 84 => ⟨S2x256x1024, .f32⟩
  | 85 => ⟨S1x1x1024, .f32⟩
  | 86 => ⟨S2x256x1024, .f32⟩
  | 87 => ⟨S2x256x1024, .f32⟩
  | 88 => ⟨S2x256x1024, .f32⟩
  | 89 => ⟨S2x256x1024, .f32⟩
  | 90 => ⟨S_, .f32⟩
  | 91 => ⟨S2x256, .f32⟩
  | 92 => ⟨S2x256x1, .f32⟩
  | 93 => ⟨S_, .f32⟩
  | 94 => ⟨S2x256x1, .f32⟩
  | 95 => ⟨S2x256x1, .f32⟩
  | 96 => ⟨S_, .f32⟩
  | 97 => ⟨S2x256x1, .f32⟩
  | 98 => ⟨S2x256x1, .f32⟩
  | 99 => ⟨S2x256x1, .f32⟩
  | 100 => ⟨S2x256x1024, .f32⟩
  | 101 => ⟨S2x256x1024, .f32⟩
  | 102 => ⟨S1x1x1024, .f32⟩
  | 103 => ⟨S2x256x1024, .f32⟩
  | 104 => ⟨S2x256x1024, .f32⟩
  | 105 => ⟨S_, .f32⟩
  | 106 => ⟨S1024, .f32⟩
  | 107 => ⟨S1024, .f32⟩
  | 108 => ⟨S1x1x1024, .f32⟩
  | 109 => ⟨S2x256x1024, .f32⟩
  | 110 => ⟨S2x256x1024, .f32⟩
  | 111 => ⟨S1x1x1024, .f32⟩
  | 112 => ⟨S2x256x1024, .f32⟩
  | 113 => ⟨S2x256x1024, .f32⟩
  | 114 => ⟨S2x256x2816, .f32⟩
  | 115 => ⟨S2x256x2816, .f32⟩
  | 116 => ⟨S2x256x2816, .f32⟩
  | 117 => ⟨S_, .f32⟩
  | 118 => ⟨S2x256x2816, .f32⟩
  | 119 => ⟨S2x256x2816, .f32⟩
  | 120 => ⟨S_, .f32⟩
  | 121 => ⟨S2x256x2816, .f32⟩
  | 122 => ⟨S2x256x2816, .f32⟩
  | 123 => ⟨S2x256x2816, .f32⟩
  | 124 => ⟨S2x256x2816, .f32⟩
  | 125 => ⟨S2x256x2816, .f32⟩
  | 126 => ⟨S2x256x1024, .f32⟩
  | 127 => ⟨S1x1x1024, .f32⟩
  | _ => ⟨S2x16384x1024, .f32⟩

abbrev hbmTy0_1 (i : Nat) : BufTy := match i % 128 with
  | 0 => ⟨S2x256x1024, .f32⟩
  | 1 => ⟨S2x256x1024, .f32⟩
  | 2 => ⟨S2x256x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_3 : Ref sig .tc := ⟨.hbm, 90, rfl⟩
abbrev main_v64 : Ref sig .tc := ⟨.hbm, 91, rfl⟩
abbrev main_v65 : Ref sig .tc := ⟨.hbm, 92, rfl⟩
abbrev main_cst_4 : Ref sig .tc := ⟨.hbm, 93, rfl⟩
abbrev main_v66 : Ref sig .tc := ⟨.hbm, 94, rfl⟩
abbrev main_v67 : Ref sig .tc := ⟨.hbm, 95, rfl⟩
abbrev main_cst_5 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_6 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_call1_v0 : Ref sig .tc := ⟨.hbm, 115, rfl⟩
abbrev main_call1_v1 : Ref sig .tc := ⟨.hbm, 116, rfl⟩
abbrev main_call1_cst : Ref sig .tc := ⟨.hbm, 117, rfl⟩
abbrev main_call1_v2 : Ref sig .tc := ⟨.hbm, 118, rfl⟩
abbrev main_call1_v3 : Ref sig .tc := ⟨.hbm, 119, rfl⟩
abbrev main_call1_cst_0 : Ref sig .tc := ⟨.hbm, 120, rfl⟩
abbrev main_call1_v4 : Ref sig .tc := ⟨.hbm, 121, rfl⟩
abbrev main_call1_v5 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩

abbrev nD : Nat := 1
abbrev τ : Topo := Topo.v7x

variable {F : FTy → Type} [FloatOps F]
-- ==== ProjKernel.lean ====
abbrev S2x16384x1024 : Shape := ⟨3, ![2, 16384, 1024]⟩
abbrev S2x256x1024 : Shape := ⟨3, ![2, 256, 1024]⟩
abbrev S3x1x6144 : Shape := ⟨3, ![3, 1, 6144]⟩
abbrev S1024 : Shape := ⟨1, ![1024]⟩
abbrev S1024x2048 : Shape := ⟨2, ![1024, 2048]⟩
abbrev S64 : Shape := ⟨1, ![64]⟩
abbrev S16384 : Shape := ⟨1, ![16384]⟩
abbrev S_ : Shape := ⟨0, ![]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S256x64 : Shape := ⟨2, ![256, 64]⟩
abbrev S16640x64 : Shape := ⟨2, ![16640, 64]⟩
abbrev S1x16640x1x64 : Shape := ⟨4, ![1, 16640, 1, 64]⟩
abbrev S1x16640x2x64 : Shape := ⟨4, ![1, 16640, 2, 64]⟩
abbrev S16640x128 : Shape := ⟨2, ![16640, 128]⟩
abbrev S8 : Shape := ⟨1, ![8]⟩
abbrev S1x8 : Shape := ⟨2, ![1, 8]⟩
abbrev S16384x8 : Shape := ⟨2, ![16384, 8]⟩
abbrev S16384x32 : Shape := ⟨2, ![16384, 32]⟩
abbrev S256x32 : Shape := ⟨2, ![256, 32]⟩
abbrev S16640x32 : Shape := ⟨2, ![16640, 32]⟩
abbrev S1x16640x1x32 : Shape := ⟨4, ![1, 16640, 1, 32]⟩
abbrev S1x16640x4x32 : Shape := ⟨4, ![1, 16640, 4, 32]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x1024 : Shape := ⟨2, ![1, 1024]⟩
abbrev S2x2x3x16640x64 : Shape := ⟨5, ![2, 2, 3, 16640, 64]⟩
abbrev S2x2x64x16640 : Shape := ⟨4, ![2, 2, 64, 16640]⟩
abbrev S2x2x16640x128 : Shape := ⟨4, ![2, 2, 16640, 128]⟩
abbrev S2x4x2x16640x64 : Shape := ⟨5, ![2, 4, 2, 16640, 64]⟩
abbrev S2x4x64x16640 : Shape := ⟨4, ![2, 4, 64, 16640]⟩
abbrev S2x4x16640x128 : Shape := ⟨4, ![2, 4, 16640, 128]⟩
abbrev S1x256x1024 : Shape := ⟨3, ![1, 256, 1024]⟩
abbrev S1x1x6144 : Shape := ⟨3, ![1, 1, 6144]⟩
abbrev S256x128 : Shape := ⟨2, ![256, 128]⟩
abbrev S1x2x3x256x64 : Shape := ⟨5, ![1, 2, 3, 256, 64]⟩
abbrev S1x2x64x256 : Shape := ⟨4, ![1, 2, 64, 256]⟩
abbrev S1x2x256x128 : Shape := ⟨4, ![1, 2, 256, 128]⟩
abbrev S1x4x2x256x64 : Shape := ⟨5, ![1, 4, 2, 256, 64]⟩
abbrev S1x4x64x256 : Shape := ⟨4, ![1, 4, 64, 256]⟩
abbrev S1x4x256x128 : Shape := ⟨4, ![1, 4, 256, 128]⟩
abbrev S256x1024 : Shape := ⟨2, ![256, 1024]⟩
abbrev S1x6144 : Shape := ⟨2, ![1, 6144]⟩
abbrev S256 : Shape := ⟨1, ![256]⟩
abbrev S256x1 : Shape := ⟨2, ![256, 1]⟩
abbrev S256x2048 : Shape := ⟨2, ![256, 2048]⟩
abbrev S1x1x1x256x64 : Shape := ⟨5, ![1, 1, 1, 256, 64]⟩
abbrev S128x256 : Shape := ⟨2, ![128, 256]⟩
abbrev S64x256 : Shape := ⟨2, ![64, 256]⟩
abbrev S1x1x64x256 : Shape := ⟨4, ![1, 1, 64, 256]⟩
abbrev S1x1x256x128 : Shape := ⟨4, ![1, 1, 256, 128]⟩

abbrev nBuf : Space → Nat
  | .hbm => 192
  | .vmem => 36
  | .smem => 0
  | _ => 0

abbrev hbmTy0_0 (i : Nat) : BufTy := match i % 128 with
  | 0 => ⟨S2x16384x1024, .f32⟩
  | 1 => ⟨S2x256x1024, .f32⟩
  | 2 => ⟨S3x1x6144, .f32⟩
  | 3 => ⟨S1024, .f32⟩
  | 4 => ⟨S1024x2048, .f32⟩
  | 5 => ⟨S64, .f32⟩
  | 6 => ⟨S64, .f32⟩
  | 7 => ⟨S16384, .i32⟩
  | 8 => ⟨S_, .i32⟩
  | 9 => ⟨S_, .i32⟩
  | 10 => ⟨S16384, .i32⟩
  | 11 => ⟨S16384, .i32⟩
  | 12 => ⟨S16384, .i32⟩
  | 13 => ⟨S_, .i32⟩
  | 14 => ⟨S16384, .i32⟩
  | 15 => ⟨S16384, .i1⟩
  | 16 => ⟨S16384, .i32⟩
  | 17 => ⟨S16384, .i32⟩
  | 18 => ⟨S_, .i32⟩
  | 19 => ⟨S16384, .i32⟩
  | 20 => ⟨S16384, .i1⟩
  | 21 => ⟨S16384, .i1⟩
  | 22 => ⟨S_, .i32⟩
  | 23 => ⟨S16384, .i32⟩
  | 24 => ⟨S16384, .i32⟩
  | 25 => ⟨S16384, .i32⟩
  | 26 => ⟨S16384, .f32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S16384, .i32⟩
  | 34 => ⟨S16384, .i32⟩
  | 35 => ⟨S_, .i32⟩
  | 36 => ⟨S16384, .i32⟩
  | 37 => ⟨S16384, .i1⟩
  | 38 => ⟨S_, .i32⟩
  | 39 => ⟨S16384, .i32⟩
  | 40 => ⟨S16384, .i1⟩
  | 41 => ⟨S_, .i32⟩
  | 42 => ⟨S_, .i1⟩
  | 43 => ⟨S16384, .i1⟩
  | 44 => ⟨S16384, .i1⟩
  | 45 => ⟨S16384, .i1⟩
  | 46 => ⟨S16384, .i32⟩
  | 47 => ⟨S16384, .i32⟩
  | 48 => ⟨S16384, .i32⟩
  | 49 => ⟨S16384, .f32⟩
  | 50 => ⟨S16, .f32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S16384x1, .f32⟩
  | 59 => ⟨S1x16, .f32⟩
  | 60 => ⟨S16384x16, .f32⟩
  | 61 => ⟨S16384x16, .f32⟩
  | 62 => ⟨S16384x16, .f32⟩
  | 63 => ⟨S16384x1, .f32⟩
  | 64 => ⟨S1x16, .f32⟩
  | 65 => ⟨S16384x16, .f32⟩
  | 66 => ⟨S16384x16, .f32⟩
  | 67 => ⟨S16384x16, .f32⟩
  | 68 => ⟨S16384x16, .f32⟩
  | 69 => ⟨S16384x16, .f32⟩
  | 70 => ⟨S16384x64, .f32⟩
  | 71 => ⟨S16384x16, .f32⟩
  | 72 => ⟨S16384x16, .f32⟩
  | 73 => ⟨S16384x16, .f32⟩
  | 74 => ⟨S16384x16, .f32⟩
  | 75 => ⟨S16384x16, .f32⟩
  | 76 => ⟨S16384x16, .f32⟩
  | 77 => ⟨S16384x64, .f32⟩
  | 78 => ⟨S_, .f32⟩
  | 79 => ⟨S256x64, .f32⟩
  | 80 => ⟨S16640x64, .f32⟩
  | 81 => ⟨S_, .f32⟩
  | 82 => ⟨S256x64, .f32⟩
  | 83 => ⟨S16640x64, .f32⟩
  | 84 => ⟨S1x16640x1x64, .f32⟩
  | 85 => ⟨S1x16640x2x64, .f32⟩
  | 86 => ⟨S16640x128, .f32⟩
  | 87 => ⟨S1x16640x1x64, .f32⟩
  | 88 => ⟨S1x16640x2x64, .f32⟩
  | 89 => ⟨S16640x128, .f32⟩
  | 90 => ⟨S16384, .i32⟩
  | 91 => ⟨S_, .i32⟩
  | 92 => ⟨S_, .i32⟩
  | 93 => ⟨S16384, .i32⟩
  | 94 => ⟨S16384, .i32⟩
  | 95 => ⟨S16384, .i32⟩
  | 96 => ⟨S_, .i32⟩
  | 97 => ⟨S16384, .i32⟩
  | 98 => ⟨S16384, .i1⟩
  | 99 => ⟨S16384, .i32⟩
  | 100 => ⟨S16384, .i32⟩
  | 101 => ⟨S_, .i32⟩
  | 102 => ⟨S16384, .i32⟩
  | 103 => ⟨S16384, .i1⟩
  | 104 => ⟨S16384, .i1⟩
  | 105 => ⟨S_, .i32⟩
  | 106 => ⟨S16384, .i32⟩
  | 107 => ⟨S16384, .i32⟩
  | 108 => ⟨S16384, .i32⟩
  | 109 => ⟨S16384, .f32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S16384, .i32⟩
  | 117 => ⟨S16384, .i32⟩
  | 118 => ⟨S_, .i32⟩
  | 119 => ⟨S16384, .i32⟩
  | 120 => ⟨S16384, .i1⟩
  | 121 => ⟨S_, .i32⟩
  | 122 => ⟨S16384, .i32⟩
  | 123 => ⟨S16384, .i1⟩
  | 124 => ⟨S_, .i32⟩
  | 125 => ⟨S_, .i1⟩
  | 126 => ⟨S16384, .i1⟩
  | 127 => ⟨S16384, .i1⟩
  | _ => ⟨S2x16384x1024, .f32⟩

abbrev hbmTy0_1 (i : Nat) : BufTy := match i % 128 with
  | 0 => ⟨S16384, .i1⟩
  | 1 => ⟨S16384, .i32⟩
  | 2 => ⟨S16384, .i32⟩
  | 3 => ⟨S16384, .i32⟩
  | 4 => ⟨S16384, .f32⟩
  | 5 => ⟨S8, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S16384x1, .f32⟩
  | 14 => ⟨S1x8, .f32⟩
  | 15 => ⟨S16384x8, .f32⟩
  | 16 => ⟨S16384x8, .f32⟩
  | 17 => ⟨S16384x8, .f32⟩
  | 18 => ⟨S16384x1, .f32⟩
  | 19 => ⟨S1x8, .f32⟩
  | 20 => ⟨S16384x8, .f32⟩
  | 21 => ⟨S16384x8, .f32⟩
  | 22 => ⟨S16384x8, .f32⟩
  | 23 => ⟨S16384x8, .f32⟩
  | 24 => ⟨S16384x8, .f32⟩
  | 25 => ⟨S16384x32, .f32⟩
  | 26 => ⟨S16384x8, .f32⟩
  | 27 => ⟨S16384x8, .f32⟩
  | 28 => ⟨S16384x8, .f32⟩
  | 29 => ⟨S16384x8, .f32⟩
  | 30 => ⟨S16384x8, .f32⟩
  | 31 => ⟨S16384x8, .f32⟩
  | 32 => ⟨S16384x32, .f32⟩
  | 33 => ⟨S_, .f32⟩
  | 34 => ⟨S256x32, .f32⟩
  | 35 => ⟨S16640x32, .f32⟩
  | 36 => ⟨S_, .f32⟩
  | 37 => ⟨S256x32, .f32⟩
  | 38 => ⟨S16640x32, .f32⟩
  | 39 => ⟨S1x16640x1x32, .f32⟩
  | 40 => ⟨S1x16640x4x32, .f32⟩
  | 41 => ⟨S16640x128, .f32⟩
  | 42 => ⟨S1x16640x1x32, .f32⟩
  | 43 => ⟨S1x16640x4x32, .f32⟩
  | 44 => ⟨S16640x128, .f32⟩
  | 45 => ⟨S1024x2048, .bf16⟩
  | 46 => ⟨S1x64, .f32⟩
  | 47 => ⟨S2x64, .f32⟩
  | 48 => ⟨S128, .f32⟩
  | 49 => ⟨S1x128, .f32⟩
  | 50 => ⟨S1x64, .f32⟩
  | 51 => ⟨S2x64, .f32⟩
  | 52 => ⟨S128, .f32⟩
  | 53 => ⟨S1x128, .f32⟩
  | 54 => ⟨S1x1024, .f32⟩
  | 55 => ⟨S2x2x3x16640x64, .bf16⟩
  | 56 => ⟨S2x2x64x16640, .bf16⟩
  | 57 => ⟨S2x2x16640x128, .bf16⟩
  | 58 => ⟨S2x4x2x16640x64, .bf16⟩
  | 59 => ⟨S2x4x64x16640, .bf16⟩
  | 60 => ⟨S2x4x16640x128, .bf16⟩
  | 61 => ⟨S2x2x3x16640x64, .bf16⟩
  | 62 => ⟨S2x2x64x16640, .bf16⟩
  | 63 => ⟨S2x2x16640x128, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x6144, .f32⟩
  | .local _ .vmem, ⟨5, _⟩ => ⟨S1x1x6144, .f32⟩
  | .local _ .vmem, ⟨6, _⟩ => ⟨S1x1024, .f32⟩
  | .local _ .vmem, ⟨7, _⟩ => ⟨S1024x2048, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S1x128, .f32⟩
  | .local _ .vmem, ⟨17, _⟩ => ⟨S1x128, .f32⟩
  | .local _ .vmem, ⟨18, _⟩ => ⟨S1x2x3x256x64, .bf16⟩
  | .local _ .vmem, ⟨19, _⟩ => ⟨S1x2x3x256x64, .bf16⟩
  | .local _ .vmem, ⟨20, _⟩ => ⟨S1x2x64x256, .bf16⟩
  | .local _ .vmem, ⟨21, _⟩ => ⟨S1x2x64x256, .bf16⟩
  | .local _ .vmem, ⟨22, _⟩ => ⟨S1x2x256x128, .bf16⟩
  | .local _ .vmem, ⟨23, _⟩ => ⟨S1x2x256x128, .bf16⟩
  | .local _ .vmem, ⟨24, _⟩ => ⟨S1x4x2x256x64, .bf16⟩
  | .local _ .vmem, ⟨25, _⟩ => ⟨S1x4x2x256x64, .bf16⟩
  | .local _ .vmem, ⟨26, _⟩ => ⟨S1x4x64x256, .bf16⟩
  | .local _ .vmem, ⟨27, _⟩ => ⟨S1x4x64x256, .bf16⟩
  | .local _ .vmem, ⟨28, _⟩ => ⟨S1x4x256x128, .bf16⟩
  | .local _ .vmem, ⟨29, _⟩ => ⟨S1x4x256x128, .bf16⟩
  | .local _ .vmem, ⟨30, _⟩ => ⟨S1x2x3x256x64, .bf16⟩
  | .local _ .vmem, ⟨31, _⟩ => ⟨S1x2x3x256x64, .bf16⟩
  | .local _ .vmem, ⟨32, _⟩ => ⟨S1x2x64x256, .bf16⟩
  | .local _ .vmem, ⟨33, _⟩ => ⟨S1x2x64x256, .bf16⟩
  | .local _ .vmem, ⟨34, _⟩ => ⟨S1x2x256x128, .bf16⟩
  | .local _ .vmem, ⟨35, _⟩ => ⟨S1x2x256x128, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_cst : Ref sig .tc := ⟨.hbm, 52, rfl⟩
abbrev main_v7 : Ref sig .tc := ⟨.hbm, 53, rfl⟩
abbrev main_v8 : Ref sig .tc := ⟨.hbm, 54, rfl⟩
abbrev main_cst_1 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_cst_2 : Ref sig .tc := ⟨.hbm, 78, rfl⟩
abbrev main_v31 : Ref sig .tc := ⟨.hbm, 79, rfl⟩
abbrev main_v32 : Ref sig .tc := ⟨.hbm, 80, rfl⟩
abbrev main_cst_3 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_c_4 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_c : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_c_0 : Ref sig .tc := ⟨.hbm, 105, rfl⟩
abbrev main_call2_v12 : Ref sig .tc := ⟨.hbm, 106, rfl⟩
abbrev main_call2_v13 : Ref sig .tc := ⟨.hbm, 107, rfl⟩
abbrev main_v42 : Ref sig .tc := ⟨.hbm, 108, rfl⟩
abbrev main_v43 : Ref sig .tc := ⟨.hbm, 109, rfl⟩
abbrev main_c_5 : Ref sig .tc := ⟨.hbm, 110, rfl⟩
abbrev main_call3_v0 : Ref sig .tc := ⟨.hbm, 111, rfl⟩
abbrev main_call3_c : Ref sig .tc := ⟨.hbm, 112, rfl⟩
abbrev main_call3_v1 : Ref sig .tc := ⟨.hbm, 113, rfl⟩
abbrev main_call3_c_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_c_1 : Ref sig .tc := ⟨.hbm, 118, rfl⟩
abbrev main_call3_v5 : Ref sig .tc := ⟨.hbm, 119, rfl⟩
abbrev main_call3_v6 : Ref sig .tc := ⟨.hbm, 120, rfl⟩
abbrev main_call3_c_2 : Ref sig .tc := ⟨.hbm, 121, rfl⟩
abbrev main_call3_v7 : Ref sig .tc := ⟨.hbm, 122, rfl⟩
abbrev main_call3_v8 : Ref sig .tc := ⟨.hbm, 123, rfl⟩
abbrev main_call3_c_3 : Ref sig .tc := ⟨.hbm, 124, rfl⟩
abbrev main_call3_v9 : Ref sig .tc := ⟨.hbm, 125, rfl⟩
abbrev main_call3_v10 : Ref sig .tc := ⟨.hbm, 126, rfl⟩
abbrev main_call3_v11 : Ref sig .tc := ⟨.hbm, 127, rfl⟩
abbrev main_call3_v12 : Ref sig .tc := ⟨.hbm, 128, rfl⟩
abbrev main_call3_v13 : Ref sig .tc := ⟨.hbm, 129, rfl⟩
abbrev main_call3_v14 : Ref sig .tc := ⟨.hbm, 130, rfl⟩
abbrev main_v44 : Ref sig .tc := ⟨.hbm, 131, rfl⟩
abbrev main_v45 : Ref sig .tc := ⟨.hbm, 132, rfl⟩
abbrev main_v46 : Ref sig .tc := ⟨.hbm, 133, rfl⟩
abbrev main_v47 : Ref sig .tc := ⟨.hbm, 134, rfl⟩
abbrev main_cst_6 : Ref sig .tc := ⟨.hbm, 135, rfl⟩
abbrev main_v48 : Ref sig .tc := ⟨.hbm, 136, rfl⟩
abbrev main_v49 : Ref sig .tc := ⟨.hbm, 137, rfl⟩
abbrev main_cst_7 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_cst_8 : Ref sig .tc := ⟨.hbm, 161, rfl⟩
abbrev main_v72 : Ref sig .tc := ⟨.hbm, 162, rfl⟩
abbrev main_v73 : Ref sig .tc := ⟨.hbm, 163, rfl⟩
abbrev main_cst_9 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_v92_0 : Ref sig .tc := ⟨.hbm, 183, rfl⟩
abbrev main_v92_1 : Ref sig .tc := ⟨.hbm, 184, rfl⟩
abbrev main_v92_2 : Ref sig .tc := ⟨.hbm, 185, rfl⟩
abbrev main_v92_3 : Ref sig .tc := ⟨.hbm, 186, rfl⟩
abbrev main_v92_4 : Ref sig .tc := ⟨.hbm, 187, rfl⟩
abbrev main_v92_5 : Ref sig .tc := ⟨.hbm, 188, rfl⟩
abbrev main_v92_6 : Ref sig .tc := ⟨.hbm, 189, rfl⟩
abbrev main_v92_7 : Ref sig .tc := ⟨.hbm, 190, rfl⟩
abbrev main_v92_8 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.subi arg1 c64_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg1 c64_i32
  let c2_i32 : BitVec 32 := 2#32
  let v1 : BitVec 32 := Scalar.select v0 arg0 c2_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2x3x256x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x64x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x2x256x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x64x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2x3x256x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x2x64x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x2x256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ProjReferenceIdeal.lean ====
abbrev S2x16384x1024 : Shape := ⟨3, ![2, 16384, 1024]⟩
abbrev S2x256x1024 : Shape := ⟨3, ![2, 256, 1024]⟩
abbrev S3x1x6144 : Shape := ⟨3, ![3, 1, 6144]⟩
abbrev S1024 : Shape := ⟨1, ![1024]⟩
abbrev S1024x2048 : Shape := ⟨2, ![1024, 2048]⟩
abbrev S64 : Shape := ⟨1, ![64]⟩
abbrev S2x1x6144 : Shape := ⟨3, ![2, 1, 6144]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1x6144 : Shape := ⟨3, ![1, 1, 6144]⟩
abbrev S6144 : Shape := ⟨1, ![6144]⟩
abbrev S2x256 : Shape := ⟨2, ![2, 256]⟩
abbrev S2x256x1 : Shape := ⟨3, ![2, 256, 1]⟩
abbrev S2x16384x2048 : Shape := ⟨3, ![2, 16384, 2048]⟩
abbrev S2x16384x128 : Shape := ⟨3, ![2, 16384, 128]⟩
abbrev S2x256x2048 : Shape := ⟨3, ![2, 256, 2048]⟩
abbrev S2x256x128 : Shape := ⟨3, ![2, 256, 128]⟩
abbrev S2x16640x128 : Shape := ⟨3, ![2, 16640, 128]⟩
abbrev S2x16640x2x64 : Shape := ⟨4, ![2, 16640, 2, 64]⟩
abbrev S2x2x16640x64 : Shape := ⟨4, ![2, 2, 16640, 64]⟩
abbrev S2x2x16640x1 : Shape := ⟨4, ![2, 2, 16640, 1]⟩
abbrev S2x2x16640x63 : Shape := ⟨4, ![2, 2, 16640, 63]⟩
abbrev S2x2x16640x128 : Shape := ⟨4, ![2, 2, 16640, 128]⟩
abbrev S2x16384x256 : Shape := ⟨3, ![2, 16384, 256]⟩
abbrev S2x256x256 : Shape := ⟨3, ![2, 256, 256]⟩
abbrev S2x16640x256 : Shape := ⟨3, ![2, 16640, 256]⟩
abbrev S2x16640x4x64 : Shape := ⟨4, ![2, 16640, 4, 64]⟩
abbrev S2x4x16640x64 : Shape := ⟨4, ![2, 4, 16640, 64]⟩
abbrev S2x4x16640x1 : Shape := ⟨4, ![2, 4, 16640, 1]⟩
abbrev S2x4x16640x63 : Shape := ⟨4, ![2, 4, 16640, 63]⟩
abbrev S2x4x16640x128 : Shape := ⟨4, ![2, 4, 16640, 128]⟩

abbrev nBuf : Space → Nat
  | .hbm => 109
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S3x1x6144, .f32⟩
  | .hbm, ⟨3, _⟩ => ⟨S1024, .f32⟩
  | .hbm, ⟨4, _⟩ => ⟨S1024x2048, .f32⟩
  | .hbm, ⟨5, _⟩ => ⟨S64, .f32⟩
  | .hbm, ⟨6, _⟩ => ⟨S64, .f32⟩
  | .hbm, ⟨7, _⟩ => ⟨S2x1x6144, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x16384x1024, .f32⟩
  | .hbm, ⟨15, _⟩ => ⟨S_, .f32⟩
  | .hbm, ⟨16, _⟩ => ⟨S2x16384, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S2x16384x1, .f32⟩
  | .hbm, ⟨25, _⟩ => ⟨S2x16384x1024, .f32⟩
  | .hbm, ⟨26, _⟩ => ⟨S2x16384x1024, .f32⟩
  | .hbm, ⟨27, _⟩ => ⟨S1x1x1024, .f32⟩
  | .hbm, ⟨28, _⟩ => ⟨S2x16384x1024, .f32⟩
  | .hbm, ⟨29, _⟩ => ⟨S2x16384x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S2x16384x1024, .f32⟩
  | .hbm, ⟨37, _⟩ => ⟨S1x1x6144, .f32⟩
  | .hbm, ⟨38, _⟩ => ⟨S6144, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S2x256x1024, .f32⟩
  | .hbm, ⟨46, _⟩ => ⟨S_, .f32⟩
  | .hbm, ⟨47, _⟩ => ⟨S2x256, .f32⟩
  | .hbm, ⟨48, _⟩ => ⟨S2x256x1, .f32⟩
  | .hbm, ⟨49, _⟩ => ⟨S_, .f32⟩
  | .hbm, ⟨50, _⟩ => ⟨S2x256x1, .f32⟩
  | .hbm, ⟨51, _⟩ => ⟨S2x256x1, .f32⟩
  | .hbm, ⟨52, _⟩ => ⟨S_, .f32⟩
  | .hbm, ⟨53, _⟩ => ⟨S2x256x1, .f32⟩
  | .hbm, ⟨54, _⟩ => ⟨S2x256x1, .f32⟩
  | .hbm, ⟨55, _⟩ => ⟨S2x256x1, .f32⟩
  | .hbm, ⟨56, _⟩ => ⟨S2x256x1024, .f32⟩
  | .hbm, ⟨57, _⟩ => ⟨S2x256x1024, .f32⟩
  | .hbm, ⟨58, _⟩ => ⟨S1x1x1024, .f32⟩
  | .hbm, ⟨59, _⟩ => ⟨S2x256x1024, .f32⟩
  | .hbm, ⟨60, _⟩ => ⟨S2x256x1024, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S1x1x1024, .f32⟩
  | .hbm, ⟨65, _⟩ => ⟨S2x256x1024, .f32⟩
  | .hbm, ⟨66, _⟩ => ⟨S2x256x1024, .f32⟩
  | .hbm, ⟨67, _⟩ => ⟨S1x1x1024, .f32⟩
  | .hbm, ⟨68, _⟩ => ⟨S2x256x1024, .f32⟩
  | .hbm, ⟨69, _⟩ => ⟨S2x256x1024, .f32⟩
  | .hbm, ⟨70, _⟩ => ⟨S2x16384x2048, .f32⟩
  | .hbm, ⟨71, _⟩ => ⟨S2x16384x128, .f32⟩
  | .hbm, ⟨72, _⟩ => ⟨S2x256x2048, .f32⟩
  | .hbm, ⟨73, _⟩ => ⟨S2x256x128, .f32⟩
  | .hbm, ⟨74, _⟩ => ⟨S2x16640x128, .f32⟩
  | .hbm, ⟨75, _⟩ => ⟨S2x16640x2x64, .f32⟩
  | .hbm, ⟨76, _⟩ => ⟨S2x2x16640x64, .f32⟩
  | .hbm, ⟨77, _⟩ => ⟨S_, .f32⟩
  | .hbm, ⟨78, _⟩ => ⟨S2x2x16640x1, .f32⟩
  | .hbm, ⟨79, _⟩ => ⟨S_, .f32⟩
  | .hbm, ⟨80, _⟩ => ⟨S2x2x16640x63, .f32⟩
  | .hbm, ⟨81, _⟩ => ⟨S2x2x16640x128, .f32⟩
  | .hbm, ⟨82, _⟩ => ⟨S2x2x16640x128, .bf16⟩
  | .hbm, ⟨83, _⟩ => ⟨S2x16384x2048, .f32⟩
  | .hbm, ⟨84, _⟩ => ⟨S2x16384x256, .f32⟩
  | .hbm, ⟨85, _⟩ => ⟨S2x256x2048, .f32⟩
  | .hbm, ⟨86, _⟩ => ⟨S2x256x256, .f32⟩
  | .hbm, ⟨87, _⟩ => ⟨S2x16640x256, .f32⟩
  | .hbm, ⟨88, _⟩ => ⟨S2x16640x4x64, .f32⟩
  | .hbm, ⟨89, _⟩ => ⟨S2x4x16640x64, .f32⟩
  | .hbm, ⟨90, _⟩ => ⟨S_, .f32⟩
  | .hbm, ⟨91, _⟩ => ⟨S2x4x16640x1, .f32⟩
  | .hbm, ⟨92, _⟩ => ⟨S_, .f32⟩
  | .hbm, ⟨93, _⟩ => ⟨S2x4x16640x63, .f32⟩
  | .hbm, ⟨94, _⟩ => ⟨S2x4x16640x128, .f32⟩
  | .hbm, ⟨95, _⟩ => ⟨S2x4x16640x128, .bf16⟩
  | .hbm, ⟨96, _⟩ => ⟨S2x16384x2048, .f32⟩
  | .hbm, ⟨97, _⟩ => ⟨S2x16384x128, .f32⟩
  | .hbm, ⟨98, _⟩ => ⟨S2x256x2048, .f32⟩
  | .hbm, ⟨99, _⟩ => ⟨S2x256x128, .f32⟩
  | .hbm, ⟨100, _⟩ => ⟨S2x16640x128, .f32⟩
  | .hbm, ⟨101, _⟩ => ⟨S2x16640x2x64, .f32⟩
  | .hbm, ⟨102, _⟩ => ⟨S2x2x16640x64, .f32⟩
  | .hbm, ⟨103, _⟩ => ⟨S_, .f32⟩
  | .hbm, ⟨104, _⟩ => ⟨S2x2x16640x1, .f32⟩
  | .hbm, ⟨105, _⟩ => ⟨S_, .f32⟩
  | .hbm, ⟨106, _⟩ => ⟨S2x2x16640x63, .f32⟩
  | .hbm, ⟨107, _⟩ => ⟨S2x2x16640x128, .f32⟩
  | .hbm, ⟨108, _⟩ => ⟨S2x2x16640x128, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_7 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_9 : Ref sig .tc := ⟨.hbm, 90, rfl⟩
abbrev main_v73 : Ref sig .tc := ⟨.hbm, 91, rfl⟩
abbrev main_cst_10 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_11 : Ref sig .tc := ⟨.hbm, 103, rfl⟩
abbrev main_v84 : Ref sig .tc := ⟨.hbm, 104, rfl⟩
abbrev main_cst_12 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩

abbrev nD : Nat := 1
abbrev τ : Topo := Topo.v7x

variable {F : FTy → Type} [FloatOps F]
-- ==== Proof.Steps.lean ====
/-
  The two steps of a streamed softmax, written once: `probsP` forms the probabilities of one block of 256 keys
  against the running maximum and the factor by which the older sums shrink; `accP` folds the block's values into the
  running sums. Each is a program over symbolic memrefs, generic in the number of query rows `M`, the width `D` of a
  query and the float family; the kernels' printed bodies are sequences of these two.
-/
module

public import Idealize.ShloMosaic.Lib.Exec
public import Idealize.ShloMosaic.Lib.Tactic
public import Idealize.ShloMosaic.Lib.Pipeline.Kit
public import Idealize.ShloMosaic.Lib.VecWindow
public import Idealize.ShloMosaic.Lib.Pipeline.Value

@[expose] public section

noncomputable section

namespace Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Shapes -/

/-- A block of probabilities, a block of row statistics, and the query rows. -/
abbrev sP (M : ℕ) : Shape := ⟨2, ![M, 256]⟩
abbrev sR (M : ℕ) : Shape := ⟨2, ![M, 128]⟩
abbrev sQ (M D : ℕ) : Shape := ⟨2, ![M, D]⟩
/-- The transposed keys: all of them, 256 of them as loaded, and that block as a matrix. -/
abbrev sKT (D : ℕ) : Shape := ⟨4, ![1, 1, D, 16640]⟩
abbrev sKB (D : ℕ) : Shape := ⟨4, ![1, 1, D, 256]⟩
abbrev sK (D : ℕ) : Shape := ⟨2, ![D, 256]⟩
/-- The values: all of them, 256 of them as loaded, and that block as a matrix. -/
abbrev sVT : Shape := ⟨4, ![1, 1, 16640, 128]⟩
abbrev sVB : Shape := ⟨4, ![1, 1, 256, 128]⟩
abbrev sV : Shape := ⟨2, ![256, 128]⟩
/-- A number per row, and that as a column. -/
abbrev sRow (M : ℕ) : Shape := ⟨1, ![M]⟩
abbrev sCol (M : ℕ) : Shape := ⟨2, ![M, 1]⟩

/-- The shape relations the steps' operations ask for, at `M` rows and width `D`. -/
class Facts (M D : ℕ) : Prop where
  bits : FTy.bits .bf16 < FTy.bits .f32
  castK : (sKB D).ShapeCasts (sK D)
  castV : sVB.ShapeCasts sV
  castP : (sP M).ShapeCasts (sP M)
  castR : (sR M).ShapeCasts (sR M)
  castCol : (sRow M).ShapeCasts (sCol M)
  red : (sP M).Reduces [1] (sRow M)
  bcast : (sCol M).Broadcasts (sR M)
  lo : (sP M).Slices ![0, 0] (sR M)
  hi : (sP M).Slices ![0, 128] (sR M)
  cat : Shape.Concatenates [sR M, sR M] (sP M) 1
  inbP : ∀ a, (![0, 0] : Fin 2 → Nat) a + (sP M).size a ≤ (sP M).size a
  inbR : ∀ a, (![0, 0] : Fin 2 → Nat) a + (sR M).size a ≤ (sR M).size a
  posP : 0 < (sP M).numel
  posR : 0 < (sR M).numel
  posK : 0 < (sKB D).numel
  posV : 0 < sVB.numel
  packed : (Rect.unit (s := sP M) ![0, 0] (sP M).size inbP).PackedRows (EltTy.packing .bf16)
  wfK : DotDims.WF (sQ M D) (sK D) (sP M) [1] [0] [0] [1] [] []
  wfV : DotDims.WF (sP M) sV (sR M) [1] [0] [0] [1] [] []

open Facts

variable {M D : ℕ} [Facts M D]

/-- Queries times keys. -/
def dotK (M D : ℕ) [Facts M D] : DotDims (sQ M D) (sK D) (sP M) where
  lhsContracting := [1]
  rhsContracting := [0]
  lhsNonContracting := [0]
  rhsNonContracting := [1]
  lhsBatch := []
  rhsBatch := []
  wf := wfK

/-- Probabilities times values. -/
def dotV (M D : ℕ) [Facts M D] : DotDims (sP M) sV (sR M) where
  lhsContracting := [1]
  rhsContracting := [0]
  lhsNonContracting := [0]
  rhsNonContracting := [1]
  lhsBatch := []
  rhsBatch := []
  wf := wfV D

variable {F : FTy → Type} [FloatOps F]

/-! ## What the steps compute -/

/-- The scores of the queries against one block of keys. -/
def scores (q : FVec F (sQ M D) .bf16) (kb : FVec F (sKB D) .bf16) : FVec F (sP M) .f32 :=
  matmul (dotK M D) none q (shapeCast (sK D) kb (castK M)) (constant (sP M) .f32 0x00000000#32)

variable (D) in
/-- The running maximum after a block of scores. -/
def newMax (m : FVec F (sR M) .f32) (s : FVec F (sP M) .f32) : FVec F (sR M) .f32 :=
  maximumf m (broadcastTo (sR M) (shapeCast (sCol M) (multiReduction .maximumf [1] (sRow M) s 0xFF800000#32 (red D) (.inl rfl) rfl) (castCol D)) (bcast D))

variable (D) in
/-- The block's probabilities, relative to the maximum `m`. -/
def probs (m : FVec F (sR M) .f32) (s : FVec F (sP M) .f32) : FVec F (sP M) .bf16 :=
  truncf .bf16 (concatenate (sP M) 1
    [⟨sR M, exp2 (subf (extractStridedSlice (sR M) ![0, 0] s (lo D)) m)⟩,
     ⟨sR M, exp2 (subf (extractStridedSlice (sR M) ![0, 128] s (hi D)) m)⟩] (cat D)) (bits M D)

/-- The factor by which sums relative to the maximum `m` shrink when it becomes `m'`. -/
def shrink (m m' : FVec F (sR M) .f32) : FVec F (sR M) .f32 := exp2 (subf m m')

variable (D) in
/-- The running sums after a block. -/
def newAcc (p : FVec F (sP M) .bf16) (r acc : FVec F (sR M) .f32) (vb : FVec F sVB .bf16) : FVec F (sR M) .f32 :=
  addf (mulf r acc) (matmul (dotV M D) none p (shapeCast sV vb (castV M D)) (constant (sR M) .f32 0x00000000#32))

/-! ## The steps as programs -/

variable {nD : ℕ} {τ : Topo} {sig : RefSig} {Λ : Labels}

/-- A load of a whole block of row statistics. -/
abbrev loadR (D : ℕ) [Facts M D] (m : Memref sig .tc .vmem (sR M) .f32) : Prog (TpuEff nD τ sig (Elt F) Λ .tc) (Vec F (sR M) .f32) :=
  Prog.lift (.load m (Rect.unit (s := sR M) ![0, 0] (sR M).size (inbR D)).toLoadRect (View.loadsAt_vmem (posR D)))

/-- A store of a whole block of row statistics. -/
abbrev storeR (D : ℕ) [Facts M D] (m : Memref sig .tc .vmem (sR M) .f32) (w : FVec F (sR M) .f32) : Prog (TpuEff nD τ sig (Elt F) Λ .tc) PUnit :=
  Prog.lift (.store m (Rect.unit (s := sR M) ![0, 0] (sR M).size (inbR D)) (shapeCast (sR M) w (castR D)) Finset.univ (View.stores_vmem_bits_univ (posR D) rfl) (.inl rfl))

/-- A store over a whole block of row statistics, after the load of what it overwrites. -/
def initP (D : ℕ) [Facts M D] (m : Memref sig .tc .vmem (sR M) .f32) (w : FVec F (sR M) .f32) : Prog (TpuEff nD τ sig (Elt F) Λ .tc) PUnit := do
  let _ : Vec F (sR M) .f32 ← loadR D m
  storeR D m w

/-- Load the block of keys at `off` and the running maximum; store the block's probabilities, the shrinking factor and
    the new maximum. (The printed stores each follow a load of what they overwrite, whose value nothing reads.) -/
def probsP (q : FVec F (sQ M D) .bf16) (kt : Memref sig .tc .vmem (sKT D) .bf16) (off : Fin 4 → ℕ)
    (hoff : ∀ a, off a + (sKB D).size a ≤ (sKT D).size a)
    (pM : Memref sig .tc .vmem (sP M) .bf16) (hp : pM.IsWhole) (rM mM : Memref sig .tc .vmem (sR M) .f32) :
    Prog (TpuEff nD τ sig (Elt F) Λ .tc) PUnit := do
  let kb : Vec F (sKB D) .bf16 ← Prog.lift (.load kt (Rect.unit (s := sKT D) off (sKB D).size hoff).toLoadRect (View.loadsAt_vmem (posK M)))
  let m : Vec F (sR M) .f32 ← loadR D mM
  let _ : Vec F (sP M) .bf16 ← Prog.lift (.load pM (Rect.unit (s := sP M) ![0, 0] (sP M).size (inbP D)).toLoadRect (View.loadsAt_vmem (posP D)))
  Prog.lift (.store pM (Rect.unit (s := sP M) ![0, 0] (sP M).size (inbP D)) (shapeCast (sP M) (probs D (newMax D m (scores q kb)) (scores q kb)) (castP D)) Finset.univ
    (View.stores_vmem (posP D) (hp.storeExact_slice rfl _ (packed (M := M) (D := D))) (fun _ => rfl)) (.inl rfl))
  let _ : Vec F (sR M) .f32 ← loadR D rM
  storeR D rM (shrink m (newMax D m (scores q kb)))
  let _ : Vec F (sR M) .f32 ← loadR D mM
  storeR D mM (newMax D m (scores q kb))

/-- Load the block's probabilities, its values at `off`, the shrinking factor and the running sums; store the new sums. -/
def accP (D : ℕ) [Facts M D] (v : Memref sig .tc .vmem sVT .bf16) (off : Fin 4 → ℕ) (hoff : ∀ a, off a + sVB.size a ≤ sVT.size a)
    (pM : Memref sig .tc .vmem (sP M) .bf16) (rM aM : Memref sig .tc .vmem (sR M) .f32) :
    Prog (TpuEff nD τ sig (Elt F) Λ .tc) PUnit := do
  let p : Vec F (sP M) .bf16 ← Prog.lift (.load pM (Rect.unit (s := sP M) ![0, 0] (sP M).size (inbP D)).toLoadRect (View.loadsAt_vmem (posP D)))
  let vb : Vec F sVB .bf16 ← Prog.lift (.load v (Rect.unit (s := sVT) off sVB.size hoff).toLoadRect (View.loadsAt_vmem (posV M D)))
  let r : Vec F (sR M) .f32 ← loadR D rM
  let acc : Vec F (sR M) .f32 ← loadR D aM
  let _ : Vec F (sR M) .f32 ← loadR D aM
  storeR D aM (newAcc D p r acc vb)

/-! ## The steps' triples -/

variable {Ix : Type} [DecidableEq Ix] {Name : Type} [DecidableEq Name] {U : Type} [URA U] {Lvl : Type} [Preorder Lvl]

local notation "𝕄" => MT nD τ sig Ix (Elt F) Name U Lvl

/-- Core `c` holds memref `m` at values `X`. -/
abbrev holds (c : Dev nD) {s : Shape} {e : EltTy} (m : Memref sig .tc .vmem s e) (X : s.Idx → Elt F e) : sProp 𝕄 :=
  m.view.loc (c : Thread nD τ) ↦[m.view.set]{fullShare} m.view.rep X

/-- The overwriting store's triple. -/
theorem wp_initP (defs : Defs nD τ sig (Elt F) Λ) (𝒱 : Variants) (c : Dev nD) (E : Set Name) (m : Memref sig .tc .vmem (sR M) .f32) (hm : m.IsWhole)
    (w : FVec F (sR M) .f32) (X : (sR M).Idx → Elt F .f32) (Q : PUnit → sProp 𝕄) :
    iprop(holds c m X ∗ (holds c m w -∗ Q ⟨⟩)) ⊢ wp frame (wpE defs 𝒱 (c : Thread nD τ) none) E (initP D m w) Q := by
  unfold initP holds
  iintro ⟨Hm, HQ⟩
  sl_exec!
  sl_step
  iapply HQ
  iapply (pointsTo_rep_of_read (c : Thread nD τ) m _ fullShare _ ?_) $$ Hm
  rw [View.read_writes_full, shapeCast_self]

/-- The probability step's triple: from the keys, the buffers and the running maximum at values, the buffers and the
    maximum end at what `probs`, `shrink` and `newMax` say. -/
theorem wp_probsP (defs : Defs nD τ sig (Elt F) Λ) (𝒱 : Variants) (c : Dev nD) (E : Set Name) (q : FVec F (sQ M D) .bf16) (kt : Memref sig .tc .vmem (sKT D) .bf16) (off : Fin 4 → ℕ)
    (hkt : kt.IsWhole)
    (hoff : ∀ a, off a + (sKB D).size a ≤ (sKT D).size a)
    (pM : Memref sig .tc .vmem (sP M) .bf16) (hp : pM.IsWhole) (rM mM : Memref sig .tc .vmem (sR M) .f32) (hr : rM.IsWhole) (hm : mM.IsWhole)
    (Xk : (sKT D).Idx → Elt F .bf16) (Xp : (sP M).Idx → Elt F .bf16) (Xr Xm : (sR M).Idx → Elt F .f32) (Q : PUnit → sProp 𝕄) :
    iprop(holds c kt Xk ∗ holds c pM Xp ∗ holds c rM Xr ∗ holds c mM Xm ∗
      ((holds c kt Xk ∗ holds c pM (probs D (newMax D Xm (scores q (VecWindow.window Xk off (sKB D).size hoff))) (scores q (VecWindow.window Xk off (sKB D).size hoff)))
        ∗ holds c rM (shrink Xm (newMax D Xm (scores q (VecWindow.window Xk off (sKB D).size hoff))))
        ∗ holds c mM (newMax D Xm (scores q (VecWindow.window Xk off (sKB D).size hoff)))) -∗ Q ⟨⟩))
    ⊢ wp frame (wpE defs 𝒱 (c : Thread nD τ) none) E (probsP q kt off hoff pM hp rM mM) Q := by
  unfold probsP holds
  iintro ⟨Hk, Hp, Hr, Hm, HQ⟩
  sl_exec!
  sl_step
  have e1 : wp_probsP.sl.r (D := D) mM Xm = Xm := View.readAt_rep_full mM.view Xm (inbR D)
  have e2 : View.readAt (Elt F) kt.view (Rect.unit (s := sKT D) off (sKB D).size hoff).toLoadRect (kt.view.rep Xk) = VecWindow.window Xk off (sKB D).size hoff :=
    View.readAt_rep_unit kt.view Xk hoff rfl hoff
  iapply HQ
  isplitl [Hk]; · iexact Hk
  isplitl [Hp]
  · iapply (pointsTo_rep_of_read (c : Thread nD τ) pM _ fullShare _ ?_) $$ Hp
    rw [View.read_writes_full, shapeCast_self, e1, e2]
  isplitl [Hr]
  · iapply (pointsTo_rep_of_read (c : Thread nD τ) rM _ fullShare _ ?_) $$ Hr
    rw [View.read_writes_full, shapeCast_self, e1, e2]
  iapply (pointsTo_rep_of_read (c : Thread nD τ) mM _ fullShare _ ?_) $$ Hm
  rw [View.read_writes_full, shapeCast_self, e1, e2]

/-- The accumulating step's triple: the running sums take the block's values in. -/
theorem wp_accP (defs : Defs nD τ sig (Elt F) Λ) (𝒱 : Variants) (c : Dev nD) (E : Set Name) (v : Memref sig .tc .vmem sVT .bf16) (hv : v.IsWhole) (off : Fin 4 → ℕ)
    (hoff : ∀ a, off a + sVB.size a ≤ sVT.size a)
    (pM : Memref sig .tc .vmem (sP M) .bf16) (hp : pM.IsWhole) (rM aM : Memref sig .tc .vmem (sR M) .f32) (hr : rM.IsWhole) (ha : aM.IsWhole)
    (Xv : sVT.Idx → Elt F .bf16) (Xp : (sP M).Idx → Elt F .bf16) (Xr Xa : (sR M).Idx → Elt F .f32) (Q : PUnit → sProp 𝕄) :
    iprop(holds c v Xv ∗ holds c pM Xp ∗ holds c rM Xr ∗ holds c aM Xa ∗
      ((holds c v Xv ∗ holds c pM Xp ∗ holds c rM Xr ∗ holds c aM (newAcc D Xp Xr Xa (VecWindow.window Xv off sVB.size hoff))) -∗ Q ⟨⟩))
    ⊢ wp frame (wpE defs 𝒱 (c : Thread nD τ) none) E (accP D v off hoff pM rM aM) Q := by
  unfold accP holds
  iintro ⟨Hv, Hp, Hr, Ha, HQ⟩
  sl_exec!
  sl_step
  have e1 : wp_accP.sl.r (D := D) rM Xr = Xr := View.readAt_rep_full rM.view Xr (inbR D)
  have e2 : wp_accP.sl.r_1 (D := D) aM Xa = Xa := View.readAt_rep_full aM.view Xa (inbR D)
  have e3 : View.readAt (Elt F) pM.view (Rect.unit ![0, 0] (sP M).size (inbP D)).toLoadRect (pM.view.rep Xp) = Xp := View.readAt_rep_full pM.view Xp (inbP D)
  have e4 : View.readAt (Elt F) v.view (Rect.unit (s := sVT) off sVB.size hoff).toLoadRect (v.view.rep Xv) = VecWindow.window Xv off sVB.size hoff :=
    View.readAt_rep_unit v.view Xv hoff rfl hoff
  iapply HQ
  isplitl [Hv]; · iexact Hv
  isplitl [Hp]; · iexact Hp
  isplitl [Hr]; · iexact Hr
  iapply (pointsTo_rep_of_read (c : Thread nD τ) aM _ fullShare _ ?_) $$ Ha
  rw [View.read_writes_full, shapeCast_self, e1, e2, e3, e4]

section Block

variable {sA sO : Shape} {eA eO : EltTy}

/-- Load a block of one buffer, store what `f` makes of it over a block of another, after the load of what that
    overwrites. -/
def blockP (o : Memref sig .tc .vmem sO eO) (m : Memref sig .tc .vmem sA eA)
    (oA zA : Fin sA.rank → ℕ) (hA : ∀ a, oA a + zA a ≤ sA.size a) (oO zO : Fin sO.rank → ℕ) (hO : ∀ a, oO a + zO a ≤ sO.size a)
    (f : ((Rect.unit oA zA hA).shape.Idx → Elt F eA) → (Rect.unit oO zO hO).shape.Idx → Elt F eO)
    (lA : m.view.LoadsAt (Rect.unit oA zA hA).toLoadRect) (lO : o.view.LoadsAt (Rect.unit oO zO hO).toLoadRect)
    (sS : (o.access (Rect.unit oO zO hO)).Stores Finset.univ) : Prog (TpuEff nD τ sig (Elt F) Λ .tc) PUnit := do
  let a : (Rect.unit oA zA hA).shape.Idx → Elt F eA ← Prog.lift (.load m (Rect.unit oA zA hA).toLoadRect lA)
  let _ : (Rect.unit oO zO hO).shape.Idx → Elt F eO ← Prog.lift (.load o (Rect.unit oO zO hO).toLoadRect lO)
  Prog.lift (.store o (Rect.unit oO zO hO) (f a) Finset.univ sS (.inl rfl))

/-- Its triple: the block is put over the second buffer's value. -/
theorem wp_blockP (defs : Defs nD τ sig (Elt F) Λ) (𝒱 : Variants) (c : Dev nD) (E : Set Name)
    (o : Memref sig .tc .vmem sO eO) (m : Memref sig .tc .vmem sA eA)
    (oA zA : Fin sA.rank → ℕ) (hA : ∀ a, oA a + zA a ≤ sA.size a) (oO zO : Fin sO.rank → ℕ) (hO : ∀ a, oO a + zO a ≤ sO.size a)
    (f : ((Rect.unit oA zA hA).shape.Idx → Elt F eA) → (Rect.unit oO zO hO).shape.Idx → Elt F eO)
    (lA : m.view.LoadsAt (Rect.unit oA zA hA).toLoadRect) (lO : o.view.LoadsAt (Rect.unit oO zO hO).toLoadRect)
    (sS : (o.access (Rect.unit oO zO hO)).Stores Finset.univ) (Xa : sA.Idx → Elt F eA) (Xo : sO.Idx → Elt F eO) (Q : PUnit → sProp 𝕄) :
    iprop(holds c m Xa ∗ holds c o Xo ∗
      ((holds c m Xa ∗ holds c o (VecWindow.put Xo oO zO (f (VecWindow.window Xa oA zA hA)))) -∗ Q ⟨⟩))
    ⊢ wp frame (wpE defs 𝒱 (c : Thread nD τ) none) E (blockP o m oA zA hA oO zO hO f lA lO sS) Q := by
  unfold blockP holds
  iintro ⟨Ha, Ho, HQ⟩
  sl_exec!
  sl_step
  have e1 : View.readAt (Elt F) m.view (Rect.unit oA zA hA).toLoadRect (m.view.rep Xa) = VecWindow.window Xa oA zA hA :=
    View.readAt_rep_unit m.view Xa hA rfl hA
  iapply HQ
  isplitl [Ha]; · iexact Ha
  iapply (pointsTo_rep_of_read (c : Thread nD τ) o _ fullShare _ ?_) $$ Ho
  rw [View.read_writes_rep_unit o.view Xo hO _ rfl, e1]

/-- The triple of a load of a whole buffer. -/
theorem wp_loadP (defs : Defs nD τ sig (Elt F) Λ) (𝒱 : Variants) (c : Dev nD) (E : Set Name)
    (m : Memref sig .tc .vmem sA eA) (oA : Fin sA.rank → ℕ) (hA : ∀ a, oA a + sA.size a ≤ sA.size a)
    (lA : m.view.LoadsAt (Rect.unit oA sA.size hA).toLoadRect) (Xa : sA.Idx → Elt F eA) (Q : (sA.Idx → Elt F eA) → sProp 𝕄) :
    iprop(holds c m Xa ∗ (holds c m Xa -∗ Q Xa))
    ⊢ wp frame (wpE defs 𝒱 (c : Thread nD τ) none) E
      (Prog.lift (.load m (Rect.unit oA sA.size hA).toLoadRect lA) : Prog (TpuEff nD τ sig (Elt F) Λ .tc) _) Q := by
  unfold holds
  iintro ⟨Ha, HQ⟩
  have e1 : View.readAt (Elt F) m.view (Rect.unit oA sA.size hA).toLoadRect (m.view.rep Xa) = Xa := View.readAt_rep_full m.view Xa hA
  sl_exec!
  sl_step
  iapply HQ
  iexact Ha

end Block

end Stream
-- ==== Proof.Traj.lean ====
/-
  The trajectory of a streamed softmax: what the running maximum, the block's probabilities, the shrinking factor and
  the running sums are after each block of 256 keys, as functions of the queries, the keys and the values; and the
  triples of the program that goes through the blocks, stated at that trajectory.
-/
module

public import proofs.«01_k».proof.Proof.Steps
public import Idealize.ShloMosaic.Lib.Pointwise.Index
public import Idealize.ShloMosaic.Lib.Scf

@[expose] public section

noncomputable section

namespace Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {M D : ℕ} [Facts M D] {F : FTy → Type} [FloatOps F]

/-! ## The trajectory -/

/-- Block `k` of the keys. -/
def kBlock {α : Type} (X : (sKT D).Idx → α) (k : ℕ) : (sKB D).Idx → α :=
  fun y => X (ix4 (y 0) (y 1) (y 2) ⟨(256 * k + (y 3).val) % 16640, Nat.mod_lt _ (by decide)⟩)

/-- Block `k` of the values. -/
def vBlock {α : Type} (X : sVT.Idx → α) (k : ℕ) : sVB.Idx → α :=
  fun y => X (ix4 (y 0) (y 1) ⟨(256 * k + (y 2).val) % 16640, Nat.mod_lt _ (by decide)⟩ (y 3))

/-- Loading 256 keys from `256 k` on loads block `k`. -/
theorem window_kBlock {α : Type} (X : (sKT D).Idx → α) (k : ℕ) (off : Fin 4 → ℕ) (h : off = ![0, 0, 0, 256 * k])
    (hoff : ∀ a, off a + (sKB D).size a ≤ (sKT D).size a) : VecWindow.window X off (sKB D).size hoff = kBlock X k := by
  subst h
  have h3 : 256 * k + 256 ≤ 16640 := hoff 3
  funext y
  refine congrArg X (funext fun a => ?_)
  have y3 : (y 3).val < 256 := (y 3).isLt
  fin_cases a
  · exact Fin.ext (show 0 + 1 * (y 0).val = (y 0).val by omega)
  · exact Fin.ext (show 0 + 1 * (y 1).val = (y 1).val by omega)
  · exact Fin.ext (show 0 + 1 * (y 2).val = (y 2).val by omega)
  · exact Fin.ext (show 256 * k + 1 * (y 3).val = (256 * k + (y 3).val) % 16640 by omega)

/-- Loading 256 values from `256 k` on loads block `k`. -/
theorem window_vBlock {α : Type} (X : sVT.Idx → α) (k : ℕ) (off : Fin 4 → ℕ) (h : off = ![0, 0, 256 * k, 0])
    (hoff : ∀ a, off a + sVB.size a ≤ sVT.size a) : VecWindow.window X off sVB.size hoff = vBlock X k := by
  subst h
  have h2 : 256 * k + 256 ≤ 16640 := hoff 2
  funext y
  refine congrArg X (funext fun a => ?_)
  have y2 : (y 2).val < 256 := (y 2).isLt
  fin_cases a
  · exact Fin.ext (show 0 + 1 * (y 0).val = (y 0).val by omega)
  · exact Fin.ext (show 0 + 1 * (y 1).val = (y 1).val by omega)
  · exact Fin.ext (show 256 * k + 1 * (y 2).val = (256 * k + (y 2).val) % 16640 by omega)
  · exact Fin.ext (show 0 + 1 * (y 3).val = (y 3).val by omega)

variable (q : FVec F (sQ M D) .bf16) (Xk : FVec F (sKT D) .bf16) (Xv : FVec F sVT .bf16)

/-- The scores of block `k`. -/
def sc (k : ℕ) : FVec F (sP M) .f32 := scores q (kBlock Xk k)

/-- The running maximum before block `k`. -/
def mx : ℕ → FVec F (sR M) .f32
  | 0 => broadcast (sR M) (Scalar.ofBits .f32 0xF149F2CA#32)
  | k + 1 => newMax D (mx k) (sc q Xk k)

/-- Block `k`'s probabilities, relative to the maximum after it. -/
def pr (k : ℕ) : FVec F (sP M) .bf16 := probs D (mx q Xk (k + 1)) (sc q Xk k)

/-- By how much block `k` shrinks the sums before it. -/
def rr (k : ℕ) : FVec F (sR M) .f32 := shrink (mx q Xk k) (mx q Xk (k + 1))

/-- The running sums before block `k`. -/
def ac : ℕ → FVec F (sR M) .f32
  | 0 => broadcast (sR M) (Scalar.ofBits .f32 0x00000000#32)
  | k + 1 => newAcc D (pr q Xk k) (rr q Xk k) (ac k) (vBlock Xv k)

/-! ## The memrefs, and the steps on them -/

variable {nD : ℕ} {τ : Topo} {sig : RefSig} {Λ : Labels}

/-- The memrefs a streamed softmax works on: the keys, the values, two buffers of probabilities and of shrinking factors
    used in turn, the running maximum and the running sums; each a whole buffer. -/
structure Mems (sig : RefSig) (M D : ℕ) where
  kt : Memref sig .tc .vmem (sKT D) .bf16
  v : Memref sig .tc .vmem sVT .bf16
  p : Bool → Memref sig .tc .vmem (sP M) .bf16
  r : Bool → Memref sig .tc .vmem (sR M) .f32
  m : Memref sig .tc .vmem (sR M) .f32
  a : Memref sig .tc .vmem (sR M) .f32
  hkt : kt.IsWhole
  hv : v.IsWhole
  hp : ∀ b, (p b).IsWhole
  hr : ∀ b, (r b).IsWhole
  hm : m.IsWhole
  ha : a.IsWhole

variable (B : Mems sig M D)

/-- One pair of steps: the next block's probabilities into the other buffers, then this block's values into the sums. -/
def stepP (b : Bool) (offK : Fin 4 → ℕ) (hK : ∀ a, offK a + (sKB D).size a ≤ (sKT D).size a)
    (offV : Fin 4 → ℕ) (hV : ∀ a, offV a + sVB.size a ≤ sVT.size a) : Prog (TpuEff nD τ sig (Elt F) Λ .tc) PUnit := do
  probsP q B.kt offK hK (B.p !b) (B.hp !b) (B.r !b) B.m
  accP D B.v offV hV (B.p b) (B.r b) B.a

/-- The start: the maximum at the constant, the sums at zero, the first block's probabilities. -/
def startP (hK : ∀ a, (![0, 0, 0, 0] : Fin 4 → ℕ) a + (sKB D).size a ≤ (sKT D).size a) : Prog (TpuEff nD τ sig (Elt F) Λ .tc) PUnit := do
  initP D B.m (broadcast (sR M) (Scalar.ofBits .f32 0xF149F2CA#32))
  initP D B.a (broadcast (sR M) (Scalar.ofBits .f32 0x00000000#32))
  probsP q B.kt ![0, 0, 0, 0] hK (B.p false) (B.hp false) (B.r false) B.m

/-- `n` programs, in order. -/
def seqN {E : Type → Type} : (n : ℕ) → (Fin n → Prog E PUnit) → Prog E PUnit
  | 0, _ => .ret ⟨⟩
  | n + 1, f => f 0 >>= fun _ => seqN n fun i => f i.succ

/-! ## The triples at the trajectory -/

section Triples

variable {Ix : Type} [DecidableEq Ix] {Name : Type} [DecidableEq Name] {U : Type} [URA U] {Lvl : Type} [Preorder Lvl]

local notation "𝕄" => MT nD τ sig Ix (Elt F) Name U Lvl

/-- A sequence's triple, from an invariant its programs each take one step further. -/
theorem wp_seqN (defs : Defs nD τ sig (Elt F) Λ) (𝒱 : Variants) (c : Dev nD) (E : Set Name) (I : ℕ → sProp 𝕄) :
    ∀ (n : ℕ) (f : Fin n → Prog (TpuEff nD τ sig (Elt F) Λ .tc) PUnit) (i : ℕ)
      (_ : ∀ u : Fin n, I (i + u.val) ⊢ wp frame (wpE defs 𝒱 (c : Thread nD τ) none) E (f u) fun _ => I (i + u.val + 1)),
      I i ⊢ wp frame (wpE defs 𝒱 (c : Thread nD τ) none) E (seqN n f) fun _ => I (i + n)
  | 0, _, _, _ => by
    unfold seqN
    rw [wp_ret]
    exact fupd_intro
  | n + 1, f, i, h => by
    unfold seqN
    rw [wp_bind]
    refine (h 0).trans (wp_mono _ _ _ fun _ => ?_)
    have h' := wp_seqN defs 𝒱 c E I n (fun u => f u.succ) (i + 1) fun u => by
      have := h u.succ
      rwa [Fin.val_succ, show i + (u.val + 1) = i + 1 + u.val by omega] at this
    rwa [show i + 1 + n = i + (n + 1) by omega] at h'

/-- What a core holds when block `k`'s probabilities stand in the buffers of parity `b` and the sums have taken in the
    blocks before it. -/
def St (c : Dev nD) (k : ℕ) (b : Bool) : sProp 𝕄 :=
  iprop(holds c B.kt Xk ∗ holds c B.v Xv ∗ holds c B.m (mx q Xk (k + 1)) ∗ holds c B.a (ac q Xk Xv k) ∗
    holds c (B.p b) (pr q Xk k) ∗ holds c (B.r b) (rr q Xk k) ∗ (∃ X, holds c (B.p !b) X) ∗ (∃ X, holds c (B.r !b) X))

/-- A pair of steps takes the state one block further. -/
theorem wp_stepP (defs : Defs nD τ sig (Elt F) Λ) (𝒱 : Variants) (c : Dev nD) (E : Set Name) (k : ℕ) (b : Bool)
    (offK : Fin 4 → ℕ) (hK : ∀ a, offK a + (sKB D).size a ≤ (sKT D).size a)
    (offV : Fin 4 → ℕ) (hV : ∀ a, offV a + sVB.size a ≤ sVT.size a)
    (eK : offK = ![0, 0, 0, 256 * (k + 1)]) (eV : offV = ![0, 0, 256 * k, 0]) :
    (St q Xk Xv B c k b : sProp 𝕄) ⊢ wp frame (wpE defs 𝒱 (c : Thread nD τ) none) E (stepP q B b offK hK offV hV)
      fun _ => St q Xk Xv B c (k + 1) (!b) := by
  unfold stepP St
  rw [wp_bind]
  iintro ⟨Hk, Hv, Hm, Ha, Hp, Hr, ⟨%Xp, Hp'⟩, ⟨%Xr, Hr'⟩⟩
  iapply wp_probsP defs 𝒱 c E q B.kt offK B.hkt hK (B.p !b) (B.hp !b) (B.r !b) B.m (B.hr !b) B.hm Xk Xp Xr (mx q Xk (k + 1))
  isplitl [Hk]; · iexact Hk
  isplitl [Hp']; · iexact Hp'
  isplitl [Hr']; · iexact Hr'
  isplitl [Hm]; · iexact Hm
  iintro ⟨Hk, Hp', Hr', Hm⟩
  iapply wp_accP defs 𝒱 c E B.v B.hv offV hV (B.p b) (B.hp b) (B.r b) B.a (B.hr b) B.ha Xv (pr q Xk k) (rr q Xk k) (ac q Xk Xv k)
  isplitl [Hv]; · iexact Hv
  isplitl [Hp]; · iexact Hp
  isplitl [Hr]; · iexact Hr
  isplitl [Ha]; · iexact Ha
  iintro ⟨Hv, Hp, Hr, Ha⟩
  rw [window_kBlock Xk (k + 1) offK eK hK, window_vBlock Xv k offV eV hV, Bool.not_not]
  isplitl [Hk]; · iexact Hk
  isplitl [Hv]; · iexact Hv
  isplitl [Hm]; · iexact Hm
  isplitl [Ha]; · iexact Ha
  isplitl [Hp']; · iexact Hp'
  isplitl [Hr']; · iexact Hr'
  isplitl [Hp]; · iexists (pr q Xk k); iexact Hp
  iexists (rr q Xk k); iexact Hr

/-- The start's triple: whatever the buffers held, the state is that of block 0. -/
theorem wp_startP (defs : Defs nD τ sig (Elt F) Λ) (𝒱 : Variants) (c : Dev nD) (E : Set Name)
    (hK : ∀ a, (![0, 0, 0, 0] : Fin 4 → ℕ) a + (sKB D).size a ≤ (sKT D).size a) :
    (iprop(holds c B.kt Xk ∗ holds c B.v Xv ∗ (∃ X, holds c B.m X) ∗ (∃ X, holds c B.a X) ∗
      (∃ X, holds c (B.p false) X) ∗ (∃ X, holds c (B.r false) X) ∗ (∃ X, holds c (B.p true) X) ∗ (∃ X, holds c (B.r true) X)) : sProp 𝕄)
    ⊢ wp frame (wpE defs 𝒱 (c : Thread nD τ) none) E (startP q B hK) fun _ => St q Xk Xv B c 0 false := by
  unfold startP St
  obtain ⟨kt, v, p, r, m, a, hkt, hv, hp, hr, hm, ha⟩ := B
  dsimp only
  rw [wp_bind]
  iintro ⟨Hk, Hv, ⟨%Xm, Hm⟩, ⟨%Xa, Ha⟩, ⟨%Xp, Hp⟩, ⟨%Xr, Hr⟩, Hp', Hr'⟩
  iapply (wp_initP defs 𝒱 c E m hm (broadcast (sR M) (Scalar.ofBits .f32 0xF149F2CA#32)) Xm)
  isplitl [Hm]; · iexact Hm
  iintro Hm
  rw [wp_bind]
  iapply (wp_initP defs 𝒱 c E a ha (broadcast (sR M) (Scalar.ofBits .f32 0x00000000#32)) Xa)
  isplitl [Ha]; · iexact Ha
  iintro Ha
  iapply wp_probsP defs 𝒱 c E q kt ![0, 0, 0, 0] hkt hK (p false) (hp false) (r false) m (hr false) hm Xk Xp Xr (mx q Xk 0)
  isplitl [Hk]; · iexact Hk
  isplitl [Hp]; · iexact Hp
  isplitl [Hr]; · iexact Hr
  isplitl [Hm]; · iexact Hm
  iintro ⟨Hk, Hp, Hr, Hm⟩
  rw [window_kBlock Xk 0 _ rfl hK]
  isplitl [Hk]; · iexact Hk
  isplitl [Hv]; · iexact Hv
  isplitl [Hm]; · iexact Hm
  isplitl [Ha]; · iexact Ha
  isplitl [Hp]; · iexact Hp
  isplitl [Hr]; · iexact Hr
  isplitl [Hp']; · iexact Hp'
  iexact Hr'

/-- The last accumulating step's triple: block `k`, whose probabilities stand ready, is taken in. -/
theorem wp_lastP (defs : Defs nD τ sig (Elt F) Λ) (𝒱 : Variants) (c : Dev nD) (E : Set Name) (k : ℕ) (b : Bool)
    (offV : Fin 4 → ℕ) (hV : ∀ a, offV a + sVB.size a ≤ sVT.size a) (eV : offV = ![0, 0, 256 * k, 0]) :
    (St q Xk Xv B c k b : sProp 𝕄) ⊢ wp frame (wpE defs 𝒱 (c : Thread nD τ) none) E (accP D B.v offV hV (B.p b) (B.r b) B.a)
      fun _ => iprop(holds c B.kt Xk ∗ holds c B.v Xv ∗ (∃ X, holds c B.m X) ∗ holds c B.a (ac q Xk Xv (k + 1)) ∗
        (∃ X, holds c (B.p b) X) ∗ (∃ X, holds c (B.r b) X) ∗ (∃ X, holds c (B.p !b) X) ∗ (∃ X, holds c (B.r !b) X)) := by
  unfold St
  iintro ⟨Hk, Hv, Hm, Ha, Hp, Hr, Hp', Hr'⟩
  iapply wp_accP defs 𝒱 c E B.v B.hv offV hV (B.p b) (B.hp b) (B.r b) B.a (B.hr b) B.ha Xv (pr q Xk k) (rr q Xk k) (ac q Xk Xv k)
  isplitl [Hv]; · iexact Hv
  isplitl [Hp]; · iexact Hp
  isplitl [Hr]; · iexact Hr
  isplitl [Ha]; · iexact Ha
  iintro ⟨Hv, Hp, Hr, Ha⟩
  rw [window_vBlock Xv k offV eV hV]
  isplitl [Hk]; · iexact Hk
  isplitl [Hv]; · iexact Hv
  isplitl [Hm]; · iexists (mx q Xk (k + 1)); iexact Hm
  isplitl [Ha]; · iexact Ha
  isplitl [Hp]; · iexists (pr q Xk k); iexact Hp
  isplitl [Hr]; · iexists (rr q Xk k); iexact Hr
  isplitl [Hp']; · iexact Hp'
  iexact Hr'

end Triples

end Stream
-- ==== Proof.Gqa.lean ====
/-
  The attention kernel's printed body as a sequence of the streamed softmax's steps: the start, three trips of sixteen
  pairs of steps, sixteen more pairs, the last accumulation, and the quotients of the three heads.
-/
module

public import proofs.«01_k».proof.Proof.Traj
public import proofs.«01_k».proof.Proof.Gen.KernelIdeal.Skeleton

@[expose] public section

set_option maxRecDepth 16384

noncomputable section

namespace Gqa

open Cert.KernelIdeal Cert.KernelIdeal.Gen Stream
open Idealize.ShloMosaic Idealize.ShloMosaic.TcCoe Idealize.ShloMosaic.Tactic
open Idealize.SL.Sem

instance : Stream.Facts 3072 64 where
  bits := bitsLt_bf16_f32
  castK := shapeCasts_S1x1x64x256_S64x256
  castV := shapeCasts_S1x1x256x128_S256x128
  castP := shapeCasts_S3072x256_S3072x256
  castR := shapeCasts_S3072x128_S3072x128
  castCol := shapeCasts_S3072_S3072x1
  red := reduces_S3072x256_S3072
  bcast := broadcasts_S3072x1_S3072x128
  lo := slices_S3072x256_o0_0_S3072x128
  hi := slices_S3072x256_o0_128_S3072x128
  cat := concatenates_S3072x128_S3072x128_S3072x256_d1
  inbP := inb_S3072x256_S3072x256_0_0
  inbR := inb_S3072x128_S3072x128_0_0
  posP := h_S3072x256
  posR := h_S3072x128
  posK := h_S1x1x64x256
  posV := h_S1x1x256x128
  packed := packedbf16_S3072x256_S3072x256_0_0
  wfK := dot_S3072x64_S64x256_S3072x256_1_0_0_1_n_n_wf
  wfV := dot_S3072x256_S256x128_S3072x128_1_0_0_1_n_n_wf

variable {F : FTy → Type} [FloatOps F]

/-- The kernel's memrefs as the streamed softmax names them. -/
def mems (arg4 : Memref sig .tc .vmem S1x1x64x16640 .bf16) (harg4 : arg4.IsWhole) (arg5 : Memref sig .tc .vmem S1x1x16640x128 .bf16) (harg5 : arg5.IsWhole)
    (arg7 : Memref sig .tc .vmem S3072x256 .bf16) (harg7 : arg7.IsWhole) (arg8 : Memref sig .tc .vmem S3072x128 .f32) (harg8 : arg8.IsWhole)
    (arg9 : Memref sig .tc .vmem S3072x256 .bf16) (harg9 : arg9.IsWhole) (arg10 : Memref sig .tc .vmem S3072x128 .f32) (harg10 : arg10.IsWhole)
    (arg11 : Memref sig .tc .vmem S3072x128 .f32) (harg11 : arg11.IsWhole) (arg12 : Memref sig .tc .vmem S3072x128 .f32) (harg12 : arg12.IsWhole) :
    Mems sig 3072 64 where
  kt := arg4
  v := arg5
  p := fun | false => arg7 | true => arg9
  r := fun | false => arg8 | true => arg10
  m := arg11
  a := arg12
  hkt := harg4
  hv := harg5
  hp := fun | false => harg7 | true => harg9
  hr := fun | false => harg8 | true => harg10
  hm := harg11
  ha := harg12

/-- The queries as the matrix the kernel multiplies: the three heads' rows below each other. -/
def qMat (x : FVec F S1x1x3x1024x64 .bf16) : FVec F S3072x64 .bf16 :=
  shapeCast S3072x64 (shapeCast S3x1024x64 x shapeCasts_S1x1x3x1024x64_S3x1024x64) shapeCasts_S3x1024x64_S3072x64

/-- One head's results: its rows of the sums, divided by their column 64. -/
def quot (a : FVec F S1024x128 .f32) : FVec F S1x1x1x1024x64 .bf16 :=
  shapeCast S1x1x1x1024x64 (truncf .bf16 (divf (extractStridedSlice S1024x64 ![0, 0] a slices_S1024x128_o0_0_S1024x64)
    (broadcastTo S1024x64 (extractStridedSlice S1024x1 ![0, 64] a slices_S1024x128_o0_64_S1024x1) broadcasts_S1024x1_S1024x64)) bitsLt_bf16_f32)
    shapeCasts_S1024x64_S1x1x1x1024x64

/-- Load one head's rows of the sums, store its quotients. -/
def outP (arg6 : Memref sig .tc .vmem S1x1x3x1024x64 .bf16) (arg12 : Memref sig .tc .vmem S3072x128 .f32)
    (oA : Fin 2 → ℕ) (hA : ∀ a, oA a + S1024x128.size a ≤ S3072x128.size a)
    (oO : Fin 5 → ℕ) (hO : ∀ a, oO a + S1x1x1x1024x64.size a ≤ S1x1x3x1024x64.size a)
    (hS : (arg6.access (Rect.unit (s := S1x1x3x1024x64) oO S1x1x1x1024x64.size hO)).StoreExact Finset.univ) :
    Prog (TpuEff nD τ sig (Elt F) Λ₀ .tc) PUnit := do
  let a : Vec F S1024x128 .f32 ← Prog.lift (.load arg12 (Rect.unit (s := S3072x128) oA S1024x128.size hA).toLoadRect (View.loadsAt_vmem h_S1024x128))
  let _ : Vec F S1x1x1x1024x64 .bf16 ← Prog.lift (.load arg6 (Rect.unit (s := S1x1x3x1024x64) oO S1x1x1x1024x64.size hO).toLoadRect (View.loadsAt_vmem h_S1x1x1x1024x64))
  Prog.lift (.store arg6 (Rect.unit (s := S1x1x3x1024x64) oO S1x1x1x1024x64.size hO) (quot a) Finset.univ
    (View.stores_vmem h_S1x1x1x1024x64 hS (fun _ => rfl)) (.inl rfl))

/-- The keys that the pairs after the loop load lie within the array. -/
theorem tailK_inb (u : Fin 16) : ∀ a, (![0, 0, 0, 256 * (49 + u.val)] : Fin 4 → ℕ) a + (sKB 64).size a ≤ (sKT 64).size a := by
  intro a; fin_cases a <;> simp [Shape.size] <;> omega
/-- So do the values. -/
theorem tailV_inb (u : Fin 16) : ∀ a, (![0, 0, 256 * (48 + u.val), 0] : Fin 4 → ℕ) a + sVB.size a ≤ sVT.size a := by
  intro a; fin_cases a <;> simp [Shape.size] <;> omega

/-- The parity of the buffers that hold block `u`'s probabilities. -/
abbrev par (u : ℕ) : Bool := u % 2 == 1

/-- One trip of the loop: sixteen pairs of steps. -/
def trip (q : FVec F S3072x64 .bf16) (B : Mems sig 3072 64) (t : Fin k0_t1_loop.trips) : Prog (TpuEff nD τ sig (Elt F) Λ₀ .tc) PUnit :=
  seqN 16 fun u => stepP q B (par u.val) (k0_off1 t (BitVec.ofNat 32 (256 + 256 * u.val))) (k0_off1_inb t u)
    (k0_off2 t (BitVec.ofNat 32 (256 * u.val))) (k0_off2_inb t u)

/-- The sixteen pairs after the loop. -/
def tail (q : FVec F S3072x64 .bf16) (B : Mems sig 3072 64) : Prog (TpuEff nD τ sig (Elt F) Λ₀ .tc) PUnit :=
  seqN 16 fun u => stepP q B (par u.val) ![0, 0, 0, 256 * (49 + u.val)] (tailK_inb u) ![0, 0, 256 * (48 + u.val), 0] (tailV_inb u)

/-- The three heads' quotients. -/
def outs (arg6 : Memref sig .tc .vmem S1x1x3x1024x64 .bf16) (harg6 : arg6.IsWhole) (arg12 : Memref sig .tc .vmem S3072x128 .f32) :
    Prog (TpuEff nD τ sig (Elt F) Λ₀ .tc) PUnit := do
  outP arg6 arg12 ![0, 0] inb_S3072x128_S1024x128_0_0 ![0, 0, 0, 0, 0] inb_S1x1x3x1024x64_S1x1x1x1024x64_0_0_0_0_0
    (harg6.storeExact_slice rfl _ packedbf16_S1x1x3x1024x64_S1x1x1x1024x64_0_0_0_0_0)
  outP arg6 arg12 ![1024, 0] inb_S3072x128_S1024x128_1024_0 ![0, 0, 1, 0, 0] inb_S1x1x3x1024x64_S1x1x1x1024x64_0_0_1_0_0
    (harg6.storeExact_slice rfl _ packedbf16_S1x1x3x1024x64_S1x1x1x1024x64_0_0_1_0_0)
  outP arg6 arg12 ![2048, 0] inb_S3072x128_S1024x128_2048_0 ![0, 0, 2, 0, 0] inb_S1x1x3x1024x64_S1x1x1x1024x64_0_0_2_0_0
    (harg6.storeExact_slice rfl _ packedbf16_S1x1x3x1024x64_S1x1x1x1024x64_0_0_2_0_0)

/-- What follows the loop. -/
def afterLoop (q : FVec F S3072x64 .bf16) (B : Mems sig 3072 64) (arg6 : Memref sig .tc .vmem S1x1x3x1024x64 .bf16) (harg6 : arg6.IsWhole) :
    Prog (TpuEff nD τ sig (Elt F) Λ₀ .tc) PUnit := do
  tail q B
  accP 64 B.v ![0, 0, 16384, 0] inb_S1x1x16640x128_S1x1x256x128_0_0_16384_0 (B.p false) (B.r false) B.a
  outs arg6 harg6 B.a

/-- The printed body is the sequence of steps. -/
theorem body_eq (i : grid0.Coords) (arg3 : Memref sig .tc .vmem S1x1x3x1024x64 .bf16) (harg3 : arg3.IsWhole) (arg4 : Memref sig .tc .vmem S1x1x64x16640 .bf16) (harg4 : arg4.IsWhole) (arg5 : Memref sig .tc .vmem S1x1x16640x128 .bf16) (harg5 : arg5.IsWhole) (arg6 : Memref sig .tc .vmem S1x1x3x1024x64 .bf16) (harg6 : arg6.IsWhole) (arg7 : Memref sig .tc .vmem S3072x256 .bf16) (harg7 : arg7.IsWhole) (arg8 : Memref sig .tc .vmem S3072x128 .f32) (harg8 : arg8.IsWhole) (arg9 : Memref sig .tc .vmem S3072x256 .bf16) (harg9 : arg9.IsWhole) (arg10 : Memref sig .tc .vmem S3072x128 .f32) (harg10 : arg10.IsWhole) (arg11 : Memref sig .tc .vmem S3072x128 .f32) (harg11 : arg11.IsWhole) (arg12 : Memref sig .tc .vmem S3072x128 .f32) (harg12 : arg12.IsWhole) :
    cc0_gqa_attention (F := F) i arg3 harg3 arg4 harg4 arg5 harg5 arg6 harg6 arg7 harg7 arg8 harg8 arg9 harg9 arg10 harg10 arg11 harg11 arg12 harg12
      = (do
        let x : Vec F S1x1x3x1024x64 .bf16 ← Prog.lift (.load arg3 (Rect.unit (s := S1x1x3x1024x64) ![0, 0, 0, 0, 0] S1x1x3x1024x64.size inb_S1x1x3x1024x64_S1x1x3x1024x64_0_0_0_0_0).toLoadRect (View.loadsAt_vmem h_S1x1x3x1024x64))
        startP (qMat x) (mems arg4 harg4 arg5 harg5 arg7 harg7 arg8 harg8 arg9 harg9 arg10 harg10 arg11 harg11 arg12 harg12) inb_S1x1x64x16640_S1x1x64x256_0_0_0_0
        Scf.Loop.for k0_t1_loop k0_t1_ok ⟨⟩ fun t _ => trip (qMat x) (mems arg4 harg4 arg5 harg5 arg7 harg7 arg8 harg8 arg9 harg9 arg10 harg10 arg11 harg11 arg12 harg12) t
        afterLoop (qMat x) (mems arg4 harg4 arg5 harg5 arg7 harg7 arg8 harg8 arg9 harg9 arg10 harg10 arg11 harg11 arg12 harg12) arg6 harg6) := by
  unfold cc0_gqa_attention k0_part41 k0_part21 k0_part22
  simp only [bind_assoc, pure_bind]
  sl_kernel_rfl

end Gqa
-- ==== Proof.GqaRun.lean ====
/-
  The attention kernel's body as a triple: from the staged queries, keys and values to the staged result, whatever the
  scratch buffers held.
-/
module

public import proofs.«01_k».proof.Proof.Gqa

@[expose] public section

set_option maxRecDepth 16384

noncomputable section

namespace Gqa

open Cert.KernelIdeal Cert.KernelIdeal.Gen Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The loop runs three trips. -/
theorem trips_eq : k0_t1_loop.trips = 3 := by decide

/-- Where trip `t` loads the keys of its pair `u`. -/
theorem off1_eq (t : Fin k0_t1_loop.trips) (u : Fin 16) :
    k0_off1 t (BitVec.ofNat 32 (256 + 256 * u.val)) = ![0, 0, 0, 256 * (0 + 16 * t.val + u.val + 1)] :=
  (by decide +kernel : ∀ (t : Fin k0_t1_loop.trips) (u : Fin 16),
    k0_off1 t (BitVec.ofNat 32 (256 + 256 * u.val)) = ![0, 0, 0, 256 * (0 + 16 * t.val + u.val + 1)]) t u

/-- Where trip `t` loads the values of its pair `u`. -/
theorem off2_eq (t : Fin k0_t1_loop.trips) (u : Fin 16) :
    k0_off2 t (BitVec.ofNat 32 (256 * u.val)) = ![0, 0, 256 * (0 + 16 * t.val + u.val), 0] :=
  (by decide +kernel : ∀ (t : Fin k0_t1_loop.trips) (u : Fin 16),
    k0_off2 t (BitVec.ofNat 32 (256 * u.val)) = ![0, 0, 256 * (0 + 16 * t.val + u.val), 0]) t u

/-- The next block's parity is the other one. -/
theorem not_par (u : ℕ) : (!par u) = par (u + 1) := by
  unfold par; rcases Nat.mod_two_eq_zero_or_one u with h | h <;> simp [Nat.add_mod, h]

/-- Sixteen blocks on, the parity is the same. -/
theorem par_add16 (k u : ℕ) : par (0 + 16 * k + u) = par u := by
  unfold par; congr 1; omega

/-- What the three heads' quotients are: row `r` of head `h` from row `1024 h + r` of the sums. -/
def outBlock (A : FVec F S3072x128 .f32) : FVec F S1x1x3x1024x64 .bf16 :=
  VecWindow.put (VecWindow.put (VecWindow.put (fun _ => Scalar.ofBits .bf16 0x0000#16)
    ![0, 0, 0, 0, 0] S1x1x1x1024x64.size (quot (VecWindow.window A ![0, 0] S1024x128.size inb_S3072x128_S1024x128_0_0)))
    ![0, 0, 1, 0, 0] S1x1x1x1024x64.size (quot (VecWindow.window A ![1024, 0] S1024x128.size inb_S3072x128_S1024x128_1024_0)))
    ![0, 0, 2, 0, 0] S1x1x1x1024x64.size (quot (VecWindow.window A ![2048, 0] S1024x128.size inb_S3072x128_S1024x128_2048_0))

section Triples

variable {Ix : Type} [DecidableEq Ix] {Name : Type} [DecidableEq Name] {U : Type} [URA U] {Lvl : Type} [Preorder Lvl]

local notation "𝕄" => MT nD τ sig Ix (Elt F) Name U Lvl

variable (defs : Defs nD τ sig (Elt F) Λ₀) (𝒱 : Variants) (c : Dev nD) (E : Set Name)
variable (q : FVec F S3072x64 .bf16) (Xk : FVec F S1x1x64x16640 .bf16) (Xv : FVec F S1x1x16640x128 .bf16) (B : Mems sig 3072 64)

/-- One trip takes the state sixteen blocks on. -/
theorem wp_trip (t : Fin k0_t1_loop.trips) :
    (St q Xk Xv B c (0 + 16 * t.val) false : sProp 𝕄) ⊢ wp frame (wpE defs 𝒱 (c : Thread nD τ) none) E (trip q B t)
      fun _ => St q Xk Xv B c (0 + 16 * (t.val + 1)) false := by
  have h := wp_seqN defs 𝒱 c E (fun k => (St q Xk Xv B c k (par k) : sProp 𝕄)) 16
    (fun u => stepP q B (par u.val) (k0_off1 t (BitVec.ofNat 32 (256 + 256 * u.val))) (k0_off1_inb t u)
      (k0_off2 t (BitVec.ofNat 32 (256 * u.val))) (k0_off2_inb t u)) (0 + 16 * t.val) (fun u => by
        rw [← not_par, par_add16]
        exact wp_stepP q Xk Xv B defs 𝒱 c E _ _ _ (k0_off1_inb t u) _ (k0_off2_inb t u) (off1_eq t u) (off2_eq t u))
  have e0 : par (0 + 16 * t.val) = false := (par_add16 t.val 0)
  have e1 : par (0 + 16 * t.val + 16) = false := par_add16 t.val 16
  dsimp only at h
  rw [e0, e1, show 0 + 16 * t.val + 16 = 0 + 16 * (t.val + 1) by omega] at h
  exact h

/-- The pairs after the loop take the state from block 48 to block 64. -/
theorem wp_tail :
    (St q Xk Xv B c 48 false : sProp 𝕄) ⊢ wp frame (wpE defs 𝒱 (c : Thread nD τ) none) E (tail q B)
      fun _ => St q Xk Xv B c 64 false := by
  refine wp_seqN defs 𝒱 c E (fun k => (St q Xk Xv B c k (par k) : sProp 𝕄)) 16 _ 48 fun u => ?_
  have e : par (48 + u.val) = par u.val := par_add16 3 u.val
  rw [← not_par, e]
  exact wp_stepP q Xk Xv B defs 𝒱 c E _ _ _ (tailK_inb u) _ (tailV_inb u)
    (by rw [show 49 + u.val = 48 + u.val + 1 by omega]) rfl

/-- One head's quotients are put over its rows of the result. -/
theorem wp_outP (arg6 : Memref sig .tc .vmem S1x1x3x1024x64 .bf16) (harg6 : arg6.IsWhole) (arg12 : Memref sig .tc .vmem S3072x128 .f32) (harg12 : arg12.IsWhole)
    (oA : Fin 2 → ℕ) (hA : ∀ a, oA a + S1024x128.size a ≤ S3072x128.size a)
    (oO : Fin 5 → ℕ) (hO : ∀ a, oO a + S1x1x1x1024x64.size a ≤ S1x1x3x1024x64.size a)
    (hS : (arg6.access (Rect.unit (s := S1x1x3x1024x64) oO S1x1x1x1024x64.size hO)).StoreExact Finset.univ)
    (Xa : FVec F S3072x128 .f32) (Xo : FVec F S1x1x3x1024x64 .bf16) (Q : PUnit → sProp 𝕄) :
    iprop(holds c arg12 Xa ∗ holds c arg6 Xo ∗
      ((holds c arg12 Xa ∗ holds c arg6 (VecWindow.put Xo oO S1x1x1x1024x64.size (quot (VecWindow.window Xa oA S1024x128.size hA)))) -∗ Q ⟨⟩))
    ⊢ wp frame (wpE defs 𝒱 (c : Thread nD τ) none) E (outP arg6 arg12 oA hA oO hO hS) Q := by
  exact wp_blockP defs 𝒱 c E arg6 arg12 oA S1024x128.size hA oO S1x1x1x1024x64.size hO quot (View.loadsAt_vmem h_S1024x128)
    (View.loadsAt_vmem h_S1x1x1x1024x64) (View.stores_vmem h_S1x1x1x1024x64 hS (fun _ => rfl)) Xa Xo Q

/-- The three puts cover the result: what was there before does not matter. -/
theorem puts_eq (Xo : FVec F S1x1x3x1024x64 .bf16) (A : FVec F S3072x128 .f32) :
    VecWindow.put (VecWindow.put (VecWindow.put Xo
      ![0, 0, 0, 0, 0] S1x1x1x1024x64.size (quot (VecWindow.window A ![0, 0] S1024x128.size inb_S3072x128_S1024x128_0_0)))
      ![0, 0, 1, 0, 0] S1x1x1x1024x64.size (quot (VecWindow.window A ![1024, 0] S1024x128.size inb_S3072x128_S1024x128_1024_0)))
      ![0, 0, 2, 0, 0] S1x1x1x1024x64.size (quot (VecWindow.window A ![2048, 0] S1024x128.size inb_S3072x128_S1024x128_2048_0)) = outBlock A := by
  funext y
  unfold outBlock VecWindow.put
  have h0 : (y 0).val < 1 := (y 0).isLt
  have h1 : (y 1).val < 1 := (y 1).isLt
  have h2 : (y 2).val < 3 := (y 2).isLt
  have h3 : (y 3).val < 1024 := (y 3).isLt
  have h4 : (y 4).val < 64 := (y 4).isLt
  split_ifs with a b d
  · rfl
  · rfl
  · rfl
  · exfalso
    rcases (by omega : (y 2).val = 0 ∨ (y 2).val = 1 ∨ (y 2).val = 2) with e | e | e
    · exact d (fun a => by fin_cases a <;> simp [Shape.size] <;> omega)
    · exact b (fun a => by fin_cases a <;> simp [Shape.size] <;> omega)
    · exact a (fun a => by fin_cases a <;> simp [Shape.size] <;> omega)

/-- The quotients' triple. -/
theorem wp_outs (arg6 : Memref sig .tc .vmem S1x1x3x1024x64 .bf16) (harg6 : arg6.IsWhole) (arg12 : Memref sig .tc .vmem S3072x128 .f32) (harg12 : arg12.IsWhole)
    (Xa : FVec F S3072x128 .f32) (Xo : FVec F S1x1x3x1024x64 .bf16) (Q : PUnit → sProp 𝕄) :
    iprop(holds c arg12 Xa ∗ holds c arg6 Xo ∗ ((holds c arg12 Xa ∗ holds c arg6 (outBlock Xa)) -∗ Q ⟨⟩))
    ⊢ wp frame (wpE defs 𝒱 (c : Thread nD τ) none) E (outs arg6 harg6 arg12) Q := by
  unfold outs
  rw [← puts_eq Xo]
  iintro ⟨Ha, Ho, HQ⟩
  rw [wp_bind]
  iapply wp_outP defs 𝒱 c E arg6 harg6 arg12 harg12
  isplitl [Ha]; · iexact Ha
  isplitl [Ho]; · iexact Ho
  iintro ⟨Ha, Ho⟩
  rw [wp_bind]
  iapply wp_outP defs 𝒱 c E arg6 harg6 arg12 harg12
  isplitl [Ha]; · iexact Ha
  isplitl [Ho]; · iexact Ho
  iintro ⟨Ha, Ho⟩
  iapply wp_outP defs 𝒱 c E arg6 harg6 arg12 harg12
  isplitl [Ha]; · iexact Ha
  isplitl [Ho]; · iexact Ho
  iexact HQ

/-- The loop takes the state from block 0 to block 48. -/
theorem wp_loop :
    (St q Xk Xv B c 0 false : sProp 𝕄) ⊢ wp frame (wpE defs 𝒱 (c : Thread nD τ) none) E
      (Scf.Loop.for k0_t1_loop k0_t1_ok ⟨⟩ fun t _ => trip q B t) fun _ => St q Xk Xv B c 48 false := by
  have h := Scf.wp_for frame (wpE defs 𝒱 (c : Thread nD τ) none) E k0_t1_loop.lb k0_t1_loop.ub k0_t1_loop.st k0_t1_ok (⟨⟩ : PUnit)
    (fun t _ => trip q B t) (fun k _ => (St q Xk Xv B c (0 + 16 * k) false : sProp 𝕄)) (fun t _ => wp_trip defs 𝒱 c E q Xk Xv B t)
    (Q := fun _ => (St q Xk Xv B c 48 false : sProp 𝕄))
  refine .trans ?_ h
  iintro H
  isplitl [H]
  · iexact H
  iintro %_ H
  rw [show 0 + 16 * Scf.trips k0_t1_loop.lb k0_t1_loop.ub k0_t1_loop.st = 48 from by rw [show Scf.trips k0_t1_loop.lb k0_t1_loop.ub k0_t1_loop.st = 3 from trips_eq]]
  iexact H

/-- What the body leaves in the result's staging buffer, from the staged queries, keys and values. -/
def outsOf (Xq : FVec F S1x1x3x1024x64 .bf16) (Xk : FVec F S1x1x64x16640 .bf16) (Xv : FVec F S1x1x16640x128 .bf16) : FVec F S1x1x3x1024x64 .bf16 :=
  outBlock (ac (M := 3072) (D := 64) (qMat Xq) Xk Xv 65)

/-- The body's triple. -/
theorem wp_body (i : grid0.Coords) (arg3 : Memref sig .tc .vmem S1x1x3x1024x64 .bf16) (harg3 : arg3.IsWhole) (arg4 : Memref sig .tc .vmem S1x1x64x16640 .bf16) (harg4 : arg4.IsWhole) (arg5 : Memref sig .tc .vmem S1x1x16640x128 .bf16) (harg5 : arg5.IsWhole) (arg6 : Memref sig .tc .vmem S1x1x3x1024x64 .bf16) (harg6 : arg6.IsWhole) (arg7 : Memref sig .tc .vmem S3072x256 .bf16) (harg7 : arg7.IsWhole) (arg8 : Memref sig .tc .vmem S3072x128 .f32) (harg8 : arg8.IsWhole) (arg9 : Memref sig .tc .vmem S3072x256 .bf16) (harg9 : arg9.IsWhole) (arg10 : Memref sig .tc .vmem S3072x128 .f32) (harg10 : arg10.IsWhole) (arg11 : Memref sig .tc .vmem S3072x128 .f32) (harg11 : arg11.IsWhole) (arg12 : Memref sig .tc .vmem S3072x128 .f32) (harg12 : arg12.IsWhole)
    (Xq : FVec F S1x1x3x1024x64 .bf16) (Q : PUnit → sProp 𝕄) :
    iprop(holds c arg3 Xq ∗ holds c arg4 Xk ∗ holds c arg5 Xv ∗ (∃ X, holds c arg6 X) ∗ (∃ X, holds c arg7 X) ∗ (∃ X, holds c arg8 X)
      ∗ (∃ X, holds c arg9 X) ∗ (∃ X, holds c arg10 X) ∗ (∃ X, holds c arg11 X) ∗ (∃ X, holds c arg12 X) ∗
      ((holds c arg3 Xq ∗ holds c arg4 Xk ∗ holds c arg5 Xv ∗ holds c arg6 (outsOf Xq Xk Xv) ∗ (∃ X, holds c arg7 X) ∗ (∃ X, holds c arg8 X)
      ∗ (∃ X, holds c arg9 X) ∗ (∃ X, holds c arg10 X) ∗ (∃ X, holds c arg11 X) ∗ (∃ X, holds c arg12 X)) -∗ Q ⟨⟩))
    ⊢ wp frame (wpE defs 𝒱 (c : Thread nD τ) none) E (cc0_gqa_attention i arg3 harg3 arg4 harg4 arg5 harg5 arg6 harg6 arg7 harg7 arg8 harg8 arg9 harg9 arg10 harg10 arg11 harg11 arg12 harg12) Q := by
  rw [body_eq, wp_bind]
  iintro ⟨Hq, Hk, Hv, ⟨%Xo, Ho⟩, Hp, Hr, Hp', Hr', Hm, Ha, HQ⟩
  iapply (wp_loadP defs 𝒱 c E arg3 ![0, 0, 0, 0, 0] inb_S1x1x3x1024x64_S1x1x3x1024x64_0_0_0_0_0 (View.loadsAt_vmem h_S1x1x3x1024x64) Xq)
  isplitl [Hq]; · iexact Hq
  iintro Hq
  set B : Mems sig 3072 64 := mems arg4 harg4 arg5 harg5 arg7 harg7 arg8 harg8 arg9 harg9 arg10 harg10 arg11 harg11 arg12 harg12
  rw [wp_bind]
  iapply wp_wand_r
  isplitl [Hk Hv Hm Ha Hp Hr Hp' Hr']
  · iapply (wp_startP (qMat Xq) Xk Xv B defs 𝒱 c E inb_S1x1x64x16640_S1x1x64x256_0_0_0_0)
    isplitl [Hk]; · iexact Hk
    isplitl [Hv]; · iexact Hv
    isplitl [Hm]; · iexact Hm
    isplitl [Ha]; · iexact Ha
    isplitl [Hp]; · iexact Hp
    isplitl [Hr]; · iexact Hr
    isplitl [Hp']; · iexact Hp'
    iexact Hr'
  iintro %_ HS
  rw [wp_bind]
  iapply wp_wand_r
  isplitl [HS]
  · iapply (wp_loop defs 𝒱 c E (qMat Xq) Xk Xv B) $$ HS
  iintro %_ HS
  unfold afterLoop
  rw [wp_bind]
  iapply wp_wand_r
  isplitl [HS]
  · iapply (wp_tail defs 𝒱 c E (qMat Xq) Xk Xv B) $$ HS
  iintro %_ HS
  rw [wp_bind]
  iapply wp_wand_r
  isplitl [HS]
  · iapply (wp_lastP (qMat Xq) Xk Xv B defs 𝒱 c E 64 false ![0, 0, 16384, 0] inb_S1x1x16640x128_S1x1x256x128_0_0_16384_0 rfl) $$ HS
  iintro %_ ⟨Hk, Hv, Hm, Ha, Hp, Hr, Hp', Hr'⟩
  iapply (wp_outs defs 𝒱 c E arg6 harg6 B.a harg12 (ac (qMat Xq) Xk Xv 65) Xo)
  isplitl [Ha]; · iexact Ha
  isplitl [Ho]; · iexact Ho
  iintro ⟨Ha, Ho⟩
  iapply HQ
  isplitl [Hq]; · iexact Hq
  isplitl [Hk]; · iexact Hk
  isplitl [Hv]; · iexact Hv
  isplitl [Ho]; · iexact Ho
  isplitl [Hp]; · iexact Hp
  isplitl [Hr]; · iexact Hr
  isplitl [Hp']; · iexact Hp'
  isplitl [Hr']; · iexact Hr'
  isplitl [Hm]; · iexact Hm
  iexists _; iexact Ha

end Triples

end Gqa
-- ==== Proof.GqaLaunch.lean ====
/-
  The attention call's run: every result block ends at what the body computes from the blocks it was staged, and
  nothing else of the memory changes.
-/
module

public import proofs.«01_k».proof.Proof.GqaRun
public import proofs.«01_k».proof.Proof.Gen.KernelIdeal.Frame
public import Idealize.ShloMosaic.Lib.Pipeline.TableIdle

@[expose] public section

set_option maxRecDepth 16384

noncomputable section

namespace Gqa

open Cert.KernelIdeal Cert.KernelIdeal.Gen Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- No variants: the call's loop counts. -/
abbrev 𝒱₀ : Variants := Variants.none

variable (m : (ℓ : Loc nD τ sig) → Buf (Elt F) ℓ) (ρ : Dev nD → PrngReg)

/-- Ownership of a memref at a value is ownership of its elements at the value's representative. -/
theorem owns_holds (c : Dev nD) {sh : Shape} {e : EltTy} (M : Memref sig .tc .vmem sh e) (X : sh.Idx → Elt F e) :
    (owns (c : Thread nD τ) M fullShare X : sProp 𝕄) = holds c M X := owns_eq_rep (c : Thread nD τ) M fullShare X

/-- The result's block at point `t`: what the body computes from the three staged blocks. -/
def outsAt (c : Dev nD) (t : Fin cfg0.N) : FVec F S1x1x3x1024x64 .bf16 :=
  outsOf (X0_0 m c t) (iblk m c 1 t) (iblk m c 2 t)

/-- The arrays as the launch finds them; after the body each input's buffer as before it and the result's at
    `outsAt`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => outsAt m c t
  Φ _ := Pipeline.ΦA spec0 c
  q _ := fullShare
  owed _ := 0

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]

theorem before0_0 (c : Dev nD) (t : Fin cfg0.N) (d) : (dats m 0 c).before 0 t d = X0_0 m c t :=
  before0_0_of m (dats m 0 c) rfl (after0_0 m c) t d
theorem before0_1 (c : Dev nD) (t : Fin cfg0.N) (d) : (dats m 0 c).before 1 t d = iblk m c 1 t :=
  before0_1_of m (dats m 0 c) rfl (after0_1 m c) t d
theorem before0_2 (c : Dev nD) (t : Fin cfg0.N) (d) : (dats m 0 c).before 2 t d = iblk m c 2 t :=
  before0_2_of m (dats m 0 c) rfl (after0_2 m c) t d

/-- The launch's invariant: the six scratch buffers at any values, and the generator's register. -/
theorem inv_eq (c : Dev nD) : (Pipeline.ΦA spec0 c : sProp 𝕄) =
    iprop(((∃ X, holds c (Memref.whole cc0_scratch0) X) ∗ (∃ X, holds c (Memref.whole cc0_scratch1) X)
      ∗ (∃ X, holds c (Memref.whole cc0_scratch2) X) ∗ (∃ X, holds c (Memref.whole cc0_scratch3) X)
      ∗ (∃ X, holds c (Memref.whole cc0_scratch4) X) ∗ (∃ X, holds c (Memref.whole cc0_scratch5) X)) ∗ ∃ r, prngReg c r) := by
  unfold Pipeline.ΦA
  rw [scopedRest0_eq]
  simp only [← owns_holds, owns_whole]

/-- The body meets the launch's obligation at every point. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3]
  rw [show (dats m 0 c).Φ t.castSucc = Pipeline.ΦA spec0 c from rfl, inv_eq]
  unfold outsAt
  simp only [owns_holds]
  iintro ⟨⟨⟨Hp, Hr, Hp', Hr', Hm, Ha⟩, Hg⟩, Ho, ⟨%d0, H0⟩, ⟨%d1, H1⟩, ⟨%d2, H2⟩, ⟨%d3, H3⟩⟩
  iapply (wp_body defs₀ 𝒱₀ c Set.univ)
  isplitl [H0]; · iexact H0
  isplitl [H1]; · iexact H1
  isplitl [H2]; · iexact H2
  isplitl [H3]; · iexists _; iexact H3
  isplitl [Hp]; · iexact Hp
  isplitl [Hr]; · iexact Hr
  isplitl [Hp']; · iexact Hp'
  isplitl [Hr']; · iexact Hr'
  isplitl [Hm]; · iexact Hm
  isplitl [Ha]; · iexact Ha
  iintro ⟨H0, H1, H2, H3, Hp, Hr, Hp', Hr', Hm, Ha⟩
  isplitl [Hp Hr Hp' Hr' Hm Ha Hg]
  · isplitr [Hg]
    · isplitl [Hp]; · iexact Hp
      isplitl [Hr]; · iexact Hr
      isplitl [Hp']; · iexact Hp'
      isplitl [Hr']; · iexact Hr'
      isplitl [Hm]; · iexact Hm
      iexact Ha
    · iexact Hg
  isplitl [Ho]; · iexact Ho
  isplitl [H0]; · iexact H0
  isplitl [H1]; · iexact H1
  isplitl [H2]; · iexact H2
  iexact H3

set_option backward.isDefEq.respectTransparency.types false in
/-- Every execution ends, with every array at what the proof data say and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: the arguments end as they began, and the counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end Gqa
-- ==== Proof.Frames.lean ====
/-
  The frames: the kernel as printed and as idealized, from the same run.
-/
module

public import proofs.«01_k».proof.Proof.GqaLaunch
public import proofs.«01_k».proof.Proof.Gen.Kernel
public import proofs.«01_k».proof.Defs

@[expose] public section

set_option maxRecDepth 65536

noncomputable section

namespace Cert.Proof

open Idealize.ShloMosaic Idealize.SL.Sem

/-- The idealized program's frame, at any instance of the floats. -/
def FrameAt (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- It holds. -/
theorem frameAt (F : FTy → Type) [FloatOps F] : FrameAt F := fun m g _ => Gqa.run_frame m g

/-- The printed program and the idealized one are the same text, so that their frames are the same statement. -/
theorem quiescent_Kernel_eq : Cert.quiescent_Kernel = FrameAt Bits := by sl_kernel_rfl

/-- The printed kernel's frame. -/
theorem frame_kernel : Cert.quiescent_Kernel := quiescent_Kernel_eq ▸ frameAt Bits

/-- The idealized kernel's frame. -/
theorem frame_kernelIdeal : Cert.quiescent_KernelIdeal := frameAt Ideal

end Cert.Proof
-- ==== Proof.Finite.lean ====
/-
  The precondition: every query and every key is a real.
-/
module

public import proofs.«01_k».proof.Proof.Gen.Pre_finite
public import Idealize.ShloMosaic.Lib.ReduceAll
public import Idealize.ShloMosaic.Lib.Pointwise
public import Idealize.ShloMosaic.Lib.IdealHost
public import Idealize.ShloMosaic.Lib.Affine

@[expose] public section

noncomputable section

namespace Cert.Pre_finite

open Cert.Pre_finite.Gen Idealize.ShloMosaic

/-- An extended real whose size is less than `⊤` is a real. -/
theorem real_of_lt (x : EReal) (h : Ideal.cmp .olt (max x (-x)) (Ideal.ofBits .f32 0x7F800000#32) = 1#1) : ∃ r : ℝ, x = r := by
  have hb : Ideal.ofBits .f32 0x7F800000#32 = ⊤ := by simp [Ideal.ofBits, Ideal.ieee]
  rw [hb] at h
  induction x using EReal.rec with
  | bot => simp [Ideal.cmp] at h
  | coe r => exact ⟨r, rfl⟩
  | top => simp [Ideal.cmp] at h

/-- Under the precondition the queries and the keys are arrays of reals. -/
theorem reals (q : FVec Ideal S2x2x3x16640x64 .f32) (k v : FVec Ideal S2x2x16640x64 .f32) (h : fn q k v = fun _ => 1#1) :
    (∃ q' : S2x2x3x16640x64.Idx → ℝ, q = fun i => (q' i : EReal)) ∧ ∃ k' : S2x2x16640x64.Idx → ℝ, k = fun i => (k' i : EReal) := by
  have h0 := congrFun h (Shape.Idx.first h_S_)
  dsimp only [fn] at h0
  obtain ⟨h1, h2⟩ := IntOp.andi_eq_one.mp h0
  have hq := Host.reduce_andi_all _ _ _ _ _ h1
  have hk := Host.reduce_andi_all _ _ _ _ _ h2
  choose q' hq' using fun i => real_of_lt (q i) (hq i)
  choose k' hk' using fun i => real_of_lt (k i) (hk i)
  exact ⟨⟨q', funext hq'⟩, ⟨k', funext hk'⟩⟩

end Cert.Pre_finite
-- ==== Proof.RealSums.lean ====
/-
  Sums of extended reals with real weights, and the weights of a softmax: powers of two relative to any real are the
  exponentials relative to the maximum, once both are divided by their sum.
-/
module

public import Idealize.ShloMosaic.PureOps.Ideal
public import Idealize.ShloMosaic.PureOps.Ideal.Laws

@[expose] public section

noncomputable section

namespace Stream

open Idealize.ShloMosaic

/-- A nonnegative real factor goes into a sum of extended reals. -/
theorem coe_mul_sum {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- A sum of reals is that of their extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- So is a maximum. -/
theorem coe_max (x y : ℝ) : ((max x y : ℝ) : EReal) = max (x : EReal) (y : EReal) := EReal.coe_strictMono.monotone.map_max

/-- The maximum of reals, taken from a real or from `⊥` over a set with an element, is a real. -/
theorem fold_max_real {ι : Type} (s : Finset ι) (f : ι → ℝ) (b : EReal) (hb : b = ⊥) (h : s.Nonempty) :
    ∃ x : ℝ, s.fold max b (fun i => (f i : EReal)) = x := by
  classical
  induction h using Finset.Nonempty.cons_induction with
  | singleton a => exact ⟨f a, by subst hb; simp⟩
  | cons a s ha hs ih =>
    obtain ⟨x, hx⟩ := ih
    exact ⟨max (f a) x, by rw [Finset.fold_cons, hx, coe_max]⟩

/-- Two to the power of a real. -/
abbrev p2 (x : ℝ) : ℝ := Real.rpow 2 x

theorem p2_pos (x : ℝ) : 0 < p2 x := Real.rpow_pos_of_pos (by norm_num) x
theorem p2_add (x y : ℝ) : p2 (x + y) = p2 x * p2 y := Real.rpow_add (by norm_num) x y
theorem p2_exp (x : ℝ) : p2 x = Real.exp (Real.log 2 * x) := Real.rpow_def_of_pos (by norm_num) x

/-- Powers relative to `a`, shrunk from `a` to `b`, are relative to `b`. -/
theorem p2_shift (a b x : ℝ) : p2 (a - b) * p2 (x - a) = p2 (x - b) := by rw [← p2_add]; congr 1; ring

/-- What a softmax's weight is: the same for powers of two relative to any real as for exponentials relative to any
    real, when the exponents are the same up to the factor `log 2`. -/
theorem weight_eq (s : Finset ℕ) (σ τ : ℕ → ℝ) (hσ : ∀ n, τ n = Real.log 2 * σ n) (μ ν : ℝ) (n : ℕ) (h : s.Nonempty) :
    p2 (σ n - μ) * (1 / ∑ i ∈ s, p2 (σ i - μ)) = Real.exp (τ n - ν) * (1 / ∑ i ∈ s, Real.exp (τ i - ν)) := by
  have e : ∀ i, p2 (σ i - μ) = Real.exp (ν - Real.log 2 * μ) * Real.exp (τ i - ν) := fun i => by
    rw [p2_exp, ← Real.exp_add, hσ]; congr 1; ring
  have hc := Real.exp_pos (ν - Real.log 2 * μ)
  have hs : 0 < ∑ i ∈ s, Real.exp (τ i - ν) := Finset.sum_pos (fun _ _ => Real.exp_pos _) h
  simp only [e, ← Finset.mul_sum]
  field_simp

/-- A quotient by a positive real. -/
theorem div_pos_coe {y : ℝ} (h : 0 < y) (x : EReal) : Ideal.div x (y : EReal) = ((1 / y : ℝ) : EReal) * x := by
  rw [Ideal.div_coe h.ne', mul_comm]

/-- A sum with nonnegative real weights, divided by a positive real. -/
theorem div_sum {ι : Type} (s : Finset ι) (w : ι → ℝ) (v : ι → EReal) {y : ℝ} (h : 0 < y) :
    Ideal.div (∑ i ∈ s, (w i : EReal) * v i) (y : EReal) = ∑ i ∈ s, ((w i * (1 / y) : ℝ) : EReal) * v i := by
  rw [div_pos_coe h, coe_mul_sum _ (by positivity)]
  refine Finset.sum_congr rfl fun i _ => ?_
  rw [← mul_assoc, ← EReal.coe_mul, mul_comm (1 / y)]

/-- Two constants' bits. -/
theorem ofBits_eighth : Ideal.ofBits .f32 0x3E000000#32 = ((1 / 8 : ℝ) : EReal) := by
  rw [show Ideal.ofBits .f32 0x3E000000#32 = ((8388608 * (2 ^ 26)⁻¹ : ℝ) : EReal) from by simp [Ideal.ofBits, Ideal.ieee]]
  norm_num
theorem ofBits_two : Ideal.ofBits .f32 0x40000000#32 = ((2 : ℝ) : EReal) := by
  rw [show Ideal.ofBits .f32 0x40000000#32 = ((8388608 * (2 ^ 22)⁻¹ : ℝ) : EReal) from by simp [Ideal.ofBits, Ideal.ieee]]
  norm_num

end Stream
-- ==== Proof.Ideal.lean ====
/-
  The streamed softmax over the extended reals: after all blocks the running sums are the values weighted by the powers
  of two of the scores, relative to some real.
-/
module

public import proofs.«01_k».proof.Proof.Traj
public import proofs.«01_k».proof.Proof.RealSums
public import Idealize.ShloMosaic.Lib.Pointwise.IndexVar
public import Idealize.ShloMosaic.Lib.Pipeline.Value

@[expose] public section

noncomputable section

namespace Stream

open Idealize.ShloMosaic

variable {M D : ℕ} [Facts M D]

/-- A score is the product of a row of queries and a column of keys. -/
theorem scores_apply (q : FVec Ideal (sQ M D) .bf16) (kb : FVec Ideal (sKB D) .bf16) (i : Fin M) (j : Fin 256) :
    scores q kb (ix2 i j) = ∑ d : Fin D, q (ix2 i d) * kb (ix4 0 0 d j) := by
  pointwise [scores, dotK]
  rw [Ideal.matmul_apply₁ _ rfl rfl]
  pointwise
  refine Finset.sum_congr rfl fun d _ => congrArg (q (ix2 i d) * kb ·) (Shape.reshapeEquiv_eq_of_rowMajor _ ?_)
  rw [Shape.rowMajor_val_two, Shape.rowMajor_val_four]
  show ((0 * 1 + 0) * D + d.val) * 256 + j.val = d.val * 256 + j.val
  omega

/-- The new maximum is that of the old one and the block's scores. -/
theorem newMax_apply (m : FVec Ideal (sR M) .f32) (s : FVec Ideal (sP M) .f32) (i : Fin M) (j : Fin 128) :
    newMax D m s (ix2 i j) = max (m (ix2 i j)) (Finset.univ.fold max (Ideal.ofBits .f32 0xFF800000#32) fun k : Fin 256 => s (ix2 i k)) := by
  unfold newMax
  pointwise
  refine congrArg (max _) (congrArg (fun f => Finset.fold max _ f Finset.univ) (funext fun k => congrArg (fun z => s (ix2 z k)) ?_))
  refine congrFun (Shape.reshapeEquiv_eq_of_rowMajor _ (y := ix1 i) ?_) 0
  have hi := i.isLt
  rw [Shape.rowMajor_val_two, Shape.rowMajor_val_one]
  show i.val = (if h : M = 1 then (⟨0, _⟩ : Fin M) else i).val * 1 + 0
  split_ifs with h
  · show i.val = 0 * 1 + 0; omega
  · omega

/-- A probability is a power of two of a score less the maximum. -/
theorem probs_apply (m : FVec Ideal (sR M) .f32) (s : FVec Ideal (sP M) .f32) (i : Fin M) (j : Fin 256) :
    probs D m s (ix2 i j) = Ideal.exp2 (s (ix2 i j) - m (ix2 i ⟨j % 128, by omega⟩)) := by
  pointwise [probs]
  have hj := j.isLt
  by_cases h : j.val < 128
  · rw [dif_pos h]
    exact congrArg (fun z => Ideal.exp2 (s (ix2 i j) - m (ix2 i z))) (Fin.ext (by show j.val = j.val % 128; omega))
  · rw [dif_neg h]
    exact congrArg₂ (fun y z => Ideal.exp2 (s (ix2 i y) - m (ix2 i z))) (Fin.ext (by show 128 + (j.val - 128) = j.val; omega))
      (Fin.ext (by show j.val - 128 = j.val % 128; omega))

/-- The new sums: the old ones shrunk, and the block's values weighted by its probabilities. -/
theorem newAcc_apply (p : FVec Ideal (sP M) .bf16) (r acc : FVec Ideal (sR M) .f32) (vb : FVec Ideal sVB .bf16) (i : Fin M) (j : Fin 128) :
    newAcc D p r acc vb (ix2 i j) = r (ix2 i j) * acc (ix2 i j) + ∑ k : Fin 256, p (ix2 i k) * vb (ix4 0 0 k j) := by
  pointwise [newAcc, dotV]

/-- The constants the maximum and its folds start from. -/
theorem ofBits_start : Ideal.ofBits .f32 0xF149F2CA#32 = ((-(13234890 * 2 ^ 76) : ℝ) : EReal) := by
  simp [Ideal.ofBits, Ideal.ieee]
theorem ofBits_bot : Ideal.ofBits .f32 0xFF800000#32 = ⊥ := by
  simp [Ideal.ofBits, Ideal.ieee]

variable (q : FVec Ideal (sQ M D) .bf16) (Xk : FVec Ideal (sKT D) .bf16) (Xv : FVec Ideal sVT .bf16)
/-- The scores of row `i`, numbered by the key, are the reals `σ i`. -/
def Scores (σ : Fin M → ℕ → ℝ) : Prop :=
  ∀ i n, ∑ d : Fin D, q (ix2 i d) * Xk (ix4 0 0 d ⟨n % 16640, Nat.mod_lt _ (by decide)⟩) = (σ i n : EReal)

variable {q Xk} {σ : Fin M → ℕ → ℝ} (hσ : Scores q Xk σ)
include hσ

/-- A block's scores. -/
theorem sc_apply (k : ℕ) (i : Fin M) (j : Fin 256) : sc q Xk k (ix2 i j) = (σ i (256 * k + j.val) : EReal) := by
  unfold sc
  rw [scores_apply, ← hσ]
  rfl

/-- The running maximum is a real, the same in all columns. -/
theorem mx_real (k : ℕ) : ∃ μ : Fin M → ℝ, ∀ i j, mx q Xk k (ix2 i j) = (μ i : EReal) := by
  induction k with
  | zero => exact ⟨fun _ => _, fun i j => ofBits_start⟩
  | succ k ih =>
    obtain ⟨μ, hμ⟩ := ih
    have h := fun i => fold_max_real (Finset.univ : Finset (Fin 256)) (fun j => σ i (256 * k + j.val)) _ ofBits_bot ⟨0, Finset.mem_univ _⟩
    choose x hx using h
    refine ⟨fun i => max (μ i) (x i), fun i j => ?_⟩
    unfold mx
    rw [newMax_apply, hμ]
    simp only [sc_apply hσ]
    rw [hx, coe_max]

/-- The running sums: the values so far, weighted by the powers of two of their scores less the running maximum. -/
theorem ac_apply (k : ℕ) (μ : Fin M → ℝ) (hμ : ∀ i j, mx q Xk k (ix2 i j) = (μ i : EReal)) (i : Fin M) (j : Fin 128) :
    ac q Xk Xv k (ix2 i j)
      = ∑ n ∈ Finset.range (256 * k), (p2 (σ i n - μ i) : EReal) * Xv (ix4 0 0 ⟨n % 16640, Nat.mod_lt _ (by decide)⟩ j) := by
  induction k generalizing μ with
  | zero => exact Ideal.ofBits_zero_f32.trans (by simp)
  | succ k ih =>
    obtain ⟨ν, hν⟩ := mx_real hσ k
    unfold ac
    rw [newAcc_apply, ih ν hν, Nat.mul_succ, Finset.sum_range_add]
    congr 1
    · have e : rr q Xk k (ix2 i j) = (p2 (ν i - μ i) : EReal) := by
        show Ideal.exp2 (mx q Xk k (ix2 i j) - mx q Xk (k + 1) (ix2 i j)) = _
        rw [hν, hμ, ← EReal.coe_sub, Ideal.exp2_coe]
      rw [e, coe_mul_sum _ (p2_pos _).le]
      refine Finset.sum_congr rfl fun n _ => ?_
      rw [← mul_assoc, ← EReal.coe_mul, p2_shift]
    · rw [← Fin.sum_univ_eq_sum_range (fun n => (p2 (σ i (256 * k + n) - μ i) : EReal) * Xv (ix4 0 0 ⟨(256 * k + n) % 16640, Nat.mod_lt _ (by decide)⟩ j)) 256]
      refine Finset.sum_congr rfl fun n _ => ?_
      unfold pr
      rw [probs_apply, sc_apply hσ, hμ, ← EReal.coe_sub, Ideal.exp2_coe]
      rfl

end Stream
-- ==== Proof.Softmax.lean ====
/-
  The softmax: what its weights are, and that the streamed sums, divided by their column of ones, are the values
  weighted by it.
-/
module

public import proofs.«01_k».proof.Proof.Ideal

@[expose] public section

noncomputable section

namespace Stream

open Idealize.ShloMosaic

/-- The softmax's weight of key `n`: an exponential over the sum of all of them, relative to a real `ν`. -/
def weight {N : ℕ} (τ : Fin N → ℝ) (ν : ℝ) (n : Fin N) : ℝ :=
  Real.exp (τ n - ν) * (1 / ∑ i : Fin N, Real.exp (τ i - ν))

variable {M D : ℕ} [Facts M D] {q : FVec Ideal (sQ M D) .bf16} {Xk : FVec Ideal (sKT D) .bf16} (Xv : FVec Ideal sVT .bf16)

/-- After all 65 blocks, a column of the sums divided by the column of ones is the column of the values under the
    softmax's weights of the scores times `log 2`. -/
theorem quotient_apply (σ : Fin M → Fin 16640 → ℝ) (τ : Fin 16640 → ℝ) (ν : ℝ)
    (hσ : ∀ i n, ∑ d : Fin D, q (ix2 i d) * Xk (ix4 0 0 d n) = (σ i n : EReal)) (i : Fin M)
    (hτ : ∀ n, τ n = Real.log 2 * σ i n) (o : Fin 128) (ho : ∀ n, Xv (ix4 0 0 n o) = 1) (j : Fin 128) :
    Ideal.div (ac q Xk Xv 65 (ix2 i j)) (ac q Xk Xv 65 (ix2 i o))
      = ∑ n : Fin 16640, (weight τ ν n : EReal) * Xv (ix4 0 0 n j) := by
  have hlt : ∀ n : ℕ, n % 16640 < 16640 := fun n => Nat.mod_lt _ (by decide)
  have hS : Scores q Xk fun i n => σ i ⟨n % 16640, hlt n⟩ := fun i n => hσ i _
  obtain ⟨μ, hμ⟩ := mx_real hS 65
  rw [ac_apply Xv hS 65 μ hμ i j, ac_apply Xv hS 65 μ hμ i o]
  simp only [ho, mul_one]
  rw [← coe_sum, div_sum _ _ _ (Finset.sum_pos (fun _ _ => p2_pos _) ⟨0, Finset.mem_range.mpr (by omega)⟩)]
  rw [← Fin.sum_univ_eq_sum_range (fun n => ((p2 (σ i ⟨n % 16640, hlt n⟩ - μ i)
    * (1 / ∑ n ∈ Finset.range (256 * 65), p2 (σ i ⟨n % 16640, hlt n⟩ - μ i)) : ℝ) : EReal) * Xv (ix4 0 0 ⟨n % 16640, hlt n⟩ j)) (256 * 65)]
  refine Finset.sum_congr rfl fun n _ => ?_
  have hn : (⟨n.val % 16640, hlt n.val⟩ : Fin 16640) = n := Fin.ext (Nat.mod_eq_of_lt n.isLt)
  rw [weight_eq (Finset.range (256 * 65)) (fun n => σ i ⟨n % 16640, hlt n⟩) (fun n => τ ⟨n % 16640, hlt n⟩) (fun n => hτ _) (μ i) ν n.val
    ⟨0, Finset.mem_range.mpr (by omega)⟩, ← Fin.sum_univ_eq_sum_range (fun n => Real.exp (τ ⟨n % 16640, hlt n⟩ - ν)) (256 * 65), hn]
  unfold weight
  have hm : ∀ m : Fin (256 * 65), (⟨m.val % 16640, hlt m.val⟩ : Fin 16640) = m := fun m => Fin.ext (Nat.mod_eq_of_lt m.isLt)
  simp only [hm]

end Stream
-- ==== Proof.GqaValue.lean ====
/-
  What the attention kernel's body leaves, at an index: the values under the softmax's weights.
-/
module

public import proofs.«01_k».proof.Proof.Softmax
public import proofs.«01_k».proof.Proof.GqaRun

@[expose] public section

set_option maxRecDepth 16384

noncomputable section

namespace Gqa

open Cert.KernelIdeal Cert.KernelIdeal.Gen Stream
open Idealize.ShloMosaic

/-- A row of a head's results: its sums divided by their column 64. -/
theorem quot_apply (a : FVec Ideal S1024x128 .f32) (r : Fin 1024) (d : Fin 64) :
    quot a (ix5 0 0 0 r d) = Ideal.div (a (ix2 r ⟨d.val, by omega⟩)) (a (ix2 r 64)) := by
  unfold quot
  pointwise

/-- Row `r` of head `h` in the matrix of all heads' rows. -/
abbrev row (h : Fin 3) (r : Fin 1024) : Fin 3072 := ⟨1024 * h.val + r.val, by omega⟩

/-- The matrix of queries holds the heads' rows below each other. -/
theorem qMat_apply (x : FVec Ideal S1x1x3x1024x64 .bf16) (h : Fin 3) (r : Fin 1024) (d : Fin 64) :
    qMat x (ix2 (row h r) d) = x (ix5 0 0 h r d) := by
  unfold qMat
  refine Eq.trans (b := shapeCast S3x1024x64 x shapeCasts_S1x1x3x1024x64_S3x1024x64 (ix3 h r d)) ?_ ?_
  · refine congrArg (shapeCast S3x1024x64 x _) (Shape.reshapeEquiv_eq_of_rowMajor _ ?_)
    rw [Shape.rowMajor_val_two, Shape.rowMajor_val_three]
    show (h.val * 1024 + r.val) * 64 + d.val = (1024 * h.val + r.val) * 64 + d.val
    omega
  · refine congrArg x (Shape.reshapeEquiv_eq_of_rowMajor _ ?_)
    rw [Shape.rowMajor_val_five, Shape.rowMajor_val_three]
    show (((0 * 1 + 0) * 3 + h.val) * 1024 + r.val) * 64 + d.val = (h.val * 1024 + r.val) * 64 + d.val
    omega

/-- A result block's row is its head's row of the sums, divided by column 64. -/
theorem outBlock_apply (A : FVec Ideal S3072x128 .f32) (h : Fin 3) (r : Fin 1024) (d : Fin 64) :
    outBlock A (ix5 0 0 h r d) = Ideal.div (A (ix2 (row h r) ⟨d.val, by omega⟩)) (A (ix2 (row h r) 64)) := by
  have key : ∀ (w : FVec Ideal S1x1x1x1024x64 .bf16) (X : FVec Ideal S1x1x3x1024x64 .bf16) (k : Fin 3),
      VecWindow.put X ![0, 0, k.val, 0, 0] S1x1x1x1024x64.size w (ix5 0 0 h r d) = if h = k then w (ix5 0 0 0 r d) else X (ix5 0 0 h r d) := by
    intro w X k
    unfold VecWindow.put
    by_cases hk : h = k
    · subst hk
      rw [if_pos rfl, dif_pos (fun a => by fin_cases a <;> simp [Shape.size, ix5] <;> omega)]
      congr 1
      funext a
      apply Fin.ext
      fin_cases a <;> simp [Rect.unitLocal, ix5]
    · rw [if_neg hk, dif_neg]
      intro hall
      have h2 := hall 2
      simp [Shape.size, ix5] at h2
      omega
  have win : ∀ (o : ℕ) (inb) (k : Fin 3) (e : o = 1024 * k.val) (j : Fin 128),
      VecWindow.window A ![o, 0] S1024x128.size inb (ix2 r j) = A (ix2 (row k r) j) := by
    intro o inb k e j
    refine congrArg A (funext fun a => Fin.ext ?_)
    fin_cases a
    · show o + 1 * r.val = 1024 * k.val + r.val; omega
    · show 0 + 1 * j.val = j.val; omega
  have h3 := h.isLt
  unfold outBlock
  refine (key _ _ 2).trans ?_
  rcases (by omega : h.val = 2 ∨ h.val = 1 ∨ h.val = 0) with e | e | e
  · obtain rfl : h = 2 := Fin.ext e
    rw [if_pos rfl, quot_apply]
    exact congrArg₂ Ideal.div (win 2048 _ 2 rfl _) (win 2048 _ 2 rfl _)
  · obtain rfl : h = 1 := Fin.ext e
    rw [if_neg (by decide)]
    refine (key _ _ 1).trans ?_
    rw [if_pos rfl, quot_apply]
    exact congrArg₂ Ideal.div (win 1024 _ 1 rfl _) (win 1024 _ 1 rfl _)
  · obtain rfl : h = 0 := Fin.ext e
    rw [if_neg (by decide)]
    refine (key _ _ 1).trans ?_
    rw [if_neg (by decide)]
    refine (key _ _ 0).trans ?_
    rw [if_pos rfl, quot_apply]
    exact congrArg₂ Ideal.div (win 0 _ 0 rfl _) (win 0 _ 0 rfl _)

/-- A result block: the values under the softmax's weights, when the scores are reals and the values' column 64 is one. -/
theorem outsOf_apply (Xq : FVec Ideal S1x1x3x1024x64 .bf16) (Xk : FVec Ideal S1x1x64x16640 .bf16) (Xv : FVec Ideal S1x1x16640x128 .bf16)
    (σ : Fin 3 → Fin 1024 → Fin 16640 → ℝ)
    (hσ : ∀ h r n, ∑ d : Fin 64, Xq (ix5 0 0 h r d) * Xk (ix4 0 0 d n) = (σ h r n : EReal))
    (hone : ∀ n : Fin 16640, Xv (ix4 0 0 n 64) = 1) (h : Fin 3) (r : Fin 1024) (d : Fin 64)
    (τ : Fin 16640 → ℝ) (ν : ℝ) (hτ : ∀ n, τ n = Real.log 2 * σ h r n) :
    outsOf Xq Xk Xv (ix5 0 0 h r d) = ∑ n : Fin 16640, (weight τ ν n : EReal) * Xv (ix4 0 0 n ⟨d.val, by omega⟩) := by
  unfold outsOf
  rw [outBlock_apply]
  refine quotient_apply (M := 3072) (D := 64) (q := qMat Xq) (Xk := Xk) Xv
    (fun i n => σ ⟨i.val / 1024, by omega⟩ ⟨i.val % 1024, by omega⟩ n) τ ν (fun i n => ?_) (row h r) (fun n => ?_) 64 hone _
  · rw [← hσ]
    refine Finset.sum_congr rfl fun d _ => congrArg (· * _) ?_
    rw [← qMat_apply Xq]
    exact congrArg (fun z => qMat Xq (ix2 z d)) (Fin.ext (by show i.val = 1024 * (i.val / 1024) + i.val % 1024; omega))
  · rw [hτ]
    have hr := r.isLt
    have e1 : (⟨(row h r).val / 1024, by omega⟩ : Fin 3) = h := Fin.ext (by show (1024 * h.val + r.val) / 1024 = h.val; omega)
    have e2 : (⟨(row h r).val % 1024, by omega⟩ : Fin 1024) = r := Fin.ext (by show (1024 * h.val + r.val) % 1024 = r.val; omega)
    rw [e1, e2]

end Gqa
-- ==== Proof.GqaEntry.lean ====
/-
  The arrays the attention call is given: the scaled queries, the transposed keys, the values beside ones and zeros.
-/
module

public import proofs.«01_k».proof.Proof.RealSums
public import proofs.«01_k».proof.Proof.Gen.KernelIdeal.Frame
public import Idealize.ShloMosaic.Lib.Claim
public import Idealize.ShloMosaic.Lib.Pointwise
public import Idealize.ShloMosaic.Lib.Pointwise.IndexVar

@[expose] public section

set_option maxRecDepth 16384

noncomputable section

namespace Gqa

open Cert.KernelIdeal Cert.KernelIdeal.Gen Stream
open Idealize.ShloMosaic Idealize.ShloMosaic.TcCoe

/-- The queries the call is given. -/
def queries (q : FVec Ideal S2x2x3x16640x64 .f32) : FVec Ideal S2x2x3x16640x64 .bf16 :=
  truncf .bf16 (mulf q (broadcastInDim S2x2x3x16640x64 ![] bcast_S_S2x2x3x16640x64
    (Host.divf (constant S_ .f32 0x3E000000#32) (Host.log (constant S_ .f32 0x40000000#32))))) bitsLt_bf16_f32

/-- The keys the call is given. -/
def keys (k : FVec Ideal S2x2x16640x64 .f32) : FVec Ideal S2x2x64x16640 .bf16 :=
  truncf .bf16 (transpose S2x2x64x16640 [0, 1, 3, 2] k transposes_S2x2x16640x64_S2x2x64x16640_0_1_3_2) bitsLt_bf16_f32

/-- The values the call is given. -/
def values (v : FVec Ideal S2x2x16640x64 .f32) : FVec Ideal S2x2x16640x128 .bf16 :=
  truncf .bf16 (concatenate S2x2x16640x128 3 [⟨S2x2x16640x64, v⟩,
    ⟨S2x2x16640x1, broadcastInDim S2x2x16640x1 ![] bcast_S_S2x2x16640x1 (constant S_ .f32 0x3F800000#32)⟩,
    ⟨S2x2x16640x63, broadcastInDim S2x2x16640x63 ![] bcast_S_S2x2x16640x63 (constant S_ .f32 0x00000000#32)⟩]
    concatenates_S2x2x16640x64_S2x2x16640x1_S2x2x16640x63_S2x2x16640x128_d3) bitsLt_bf16_f32

/-- The scale of the queries is an eighth over `log 2`. -/
theorem queries_apply (q : FVec Ideal S2x2x3x16640x64 .f32) (b g : Fin 2) (h : Fin 3) (n : Fin 16640) (d : Fin 64) :
    queries q (ix5 b g h n d) = q (ix5 b g h n d) * ((1 / 8 / Real.log 2 : ℝ) : EReal) := by
  pointwise [queries]
  rw [ofBits_eighth, ofBits_two, Ideal.log_coe, if_neg (by norm_num), Ideal.div_coe (Real.log_pos (by norm_num)).ne', ← EReal.coe_mul, mul_one_div]

theorem keys_apply (k : FVec Ideal S2x2x16640x64 .f32) (b g : Fin 2) (d : Fin 64) (n : Fin 16640) :
    keys k (ix4 b g d n) = k (ix4 b g n d) := by
  pointwise [keys]

theorem values_apply (v : FVec Ideal S2x2x16640x64 .f32) (b g : Fin 2) (n : Fin 16640) (d : Fin 64) :
    values v (ix4 b g n ⟨d.val, by omega⟩) = v (ix4 b g n d) := by
  pointwise [values]

/-- Column 64 of the values is one. -/
theorem values_one (v : FVec Ideal S2x2x16640x64 .f32) (b g : Fin 2) (n : Fin 16640) :
    values v (ix4 b g n 64) = 1 := by
  pointwise [values]

variable (m : (ℓ : Loc nD τ sig) → Buf (Elt Ideal) ℓ) (c : Dev nD)

theorem entry_q : V m c main_v4 = queries (m ((c : Thread nD τ).loc main_arg0)) := by sl_kernel_rfl
theorem entry_k : V m c main_v6 = keys (m ((c : Thread nD τ).loc main_arg1)) := by sl_kernel_rfl
theorem entry_v : V m c main_v10 = values (m ((c : Thread nD τ).loc main_arg2)) := by sl_kernel_rfl

end Gqa
-- ==== Proof.RefValue.lean ====
/-
  The reference at an index: the values under the softmax's weights of the scores times an eighth.
-/
module

public import proofs.«01_k».proof.Proof.Softmax
public import proofs.«01_k».proof.Proof.Gen.ReferenceIdeal
public import Idealize.ShloMosaic.Lib.Pointwise

@[expose] public section

set_option maxRecDepth 16384

noncomputable section

namespace Ref

open Cert.ReferenceIdeal Cert.ReferenceIdeal.Gen Stream
open Idealize.ShloMosaic

/-- The scaled scores. -/
def scores (q : FVec Ideal S2x2x3x16640x64 .f32) (k : FVec Ideal S2x2x16640x64 .f32) : FVec Ideal S2x2x3x16384x16640 .f32 :=
  mulf (Host.dotGeneral dot_S2x2x3x16384x64_S2x2x16640x64_S2x2x3x16384x16640_4_3_23_2_01_01 none (extractStridedSlice S2x2x3x16384x64 ![0, 0, 0, 0, 0] q slices_S2x2x3x16640x64_S2x2x3x16384x64_0_0_0_0_0) k)
    (broadcastInDim S2x2x3x16384x16640 ![] bcast_S_S2x2x3x16384x16640 (constant S_ .f32 0x3E000000#32))

/-- The maximum of each query's scores. -/
def top (s : FVec Ideal S2x2x3x16384x16640 .f32) : FVec Ideal S2x2x3x16384 .f32 :=
  maximumf (broadcastInDim S2x2x3x16384 ![] bcast_S_S2x2x3x16384 (constant S_ .f32 0xFF800000#32))
    (Host.reduce FloatOps.maximumf s (constant S_ .f32 0xFF800000#32) reducesTo_S2x2x3x16384x16640_S2x2x3x16384_d4 h_S_)

/-- A number per query, repeated over the keys. -/
def spread (x : FVec Ideal S2x2x3x16384 .f32) : FVec Ideal S2x2x3x16384x16640 .f32 :=
  broadcastInDim S2x2x3x16384x16640 ![0, 1, 2, 3, 4] bcast_S2x2x3x16384x1_S2x2x3x16384x16640_0_1_2_3_4
    (broadcastInDim S2x2x3x16384x1 ![0, 1, 2, 3] bcast_S2x2x3x16384_S2x2x3x16384x1_0_1_2_3 x)

/-- The exponentials of the scores less the maximum. -/
def powers (s : FVec Ideal S2x2x3x16384x16640 .f32) : FVec Ideal S2x2x3x16384x16640 .f32 :=
  Host.exp (subf s (spread (top s)))

/-- The sum of each query's exponentials. -/
def total (p : FVec Ideal S2x2x3x16384x16640 .f32) : FVec Ideal S2x2x3x16384 .f32 :=
  Host.reduceAdd p (constant S_ .f32 0x00000000#32) reducesTo_S2x2x3x16384x16640_S2x2x3x16384_d4 h_S_

/-- The attention's result. -/
def result (q : FVec Ideal S2x2x3x16640x64 .f32) (k v : FVec Ideal S2x2x16640x64 .f32) : FVec Ideal S2x2x3x16384x64 .bf16 :=
  truncf .bf16 (Host.dotGeneral dot_S2x2x3x16384x16640_S2x2x16640x64_S2x2x3x16384x64_4_2_23_3_01_01 none
    (Host.divf (powers (scores q k)) (spread (total (powers (scores q k))))) v) bitsLt_bf16_f32

theorem scores_apply (q : FVec Ideal S2x2x3x16640x64 .f32) (k : FVec Ideal S2x2x16640x64 .f32) (b g : Fin 2) (h : Fin 3) (t : Fin 16384) (n : Fin 16640) :
    scores q k (ix5 b g h t n) = (∑ d : Fin 64, q (ix5 b g h ⟨t.val, by omega⟩ d) * k (ix4 b g n d)) * Ideal.ofBits .f32 0x3E000000#32 := by
  pointwise [scores]

/-- The larger of the least element and a number is the number. -/
theorem max_bot (y : FVec Ideal S2x2x3x16384 .f32) (j : S2x2x3x16384.Idx) :
    maximumf (broadcastInDim S2x2x3x16384 ![] bcast_S_S2x2x3x16384 (constant S_ .f32 0xFF800000#32)) y j = y j := by
  show max (Ideal.ofBits .f32 0xFF800000#32) (y j) = y j
  rw [ofBits_bot, max_eq_right bot_le]

/-- The maximum of real scores is a real. -/
theorem top_real (f : S2x2x3x16384x16640.Idx → ℝ) (j : S2x2x3x16384.Idx) : ∃ ν : ℝ, top (fun i => (f i : EReal)) j = (ν : EReal) := by
  have hr : S2x2x3x16384x16640.Reduces [(4 : Fin 5)] S2x2x3x16384 := by decide
  obtain ⟨x, hx⟩ := fold_max_real (Finset.univ : Finset (Fin (S2x2x3x16384x16640.size (4 : Fin 5)))) (fun n => f (hr.lift j n)) _ ofBits_bot
    ⟨⟨0, by decide⟩, Finset.mem_univ _⟩
  have e : Host.reduce (FloatOps.maximumf (F := Ideal) (φ := .f32)) (fun i => (f i : EReal)) (constant S_ .f32 0xFF800000#32)
      reducesTo_S2x2x3x16384x16640_S2x2x3x16384_d4 h_S_ j = (x : EReal) :=
    (Host.reduce_eq_fold_single _ _ _ _ hr _ _).trans hx
  exact ⟨x, (max_bot _ _).trans e⟩

theorem spread_apply (x : FVec Ideal S2x2x3x16384 .f32) (b g : Fin 2) (h : Fin 3) (t : Fin 16384) (n : Fin 16640) :
    spread x (ix5 b g h t n) = x (ix4 b g h t) := by
  pointwise [spread]

theorem powers_apply (s : FVec Ideal S2x2x3x16384x16640 .f32) (b g : Fin 2) (h : Fin 3) (t : Fin 16384) (n : Fin 16640) :
    powers s (ix5 b g h t n) = Ideal.exp (s (ix5 b g h t n) - top s (ix4 b g h t)) := by
  unfold powers
  refine Eq.trans (b := Ideal.exp (s (ix5 b g h t n) - spread (top s) (ix5 b g h t n))) rfl ?_
  rw [spread_apply]

theorem total_apply (p : FVec Ideal S2x2x3x16384x16640 .f32) (b g : Fin 2) (h : Fin 3) (t : Fin 16384) :
    total p (ix4 b g h t) = ∑ n : Fin 16640, p (ix5 b g h t n) := by
  pointwise [total]

theorem result_divided (q : FVec Ideal S2x2x3x16640x64 .f32) (k v : FVec Ideal S2x2x16640x64 .f32) (b g : Fin 2) (h : Fin 3) (t : Fin 16384) (d : Fin 64) :
    result q k v (ix5 b g h t d) = ∑ n : Fin 16640,
      Ideal.div (powers (scores q k) (ix5 b g h t n)) (total (powers (scores q k)) (ix4 b g h t)) * v (ix4 b g n d) := by
  unfold result
  generalize powers (scores q k) = p
  generalize total p = x
  pointwise [spread]

/-- The score of query `t` and key `n`, times an eighth. -/
def score (q : S2x2x3x16640x64.Idx → ℝ) (k : S2x2x16640x64.Idx → ℝ) (b g : Fin 2) (h : Fin 3) (t : Fin 16384) (n : Fin 16640) : ℝ :=
  (∑ d : Fin 64, q (ix5 b g h ⟨t.val, by omega⟩ d) * k (ix4 b g n d)) * (1 / 8)

/-- A sum of products of reals. -/
theorem coe_dot {N : ℕ} (x y : Fin N → ℝ) : ∑ d, (x d : EReal) * (y d : EReal) = ((∑ d, x d * y d : ℝ) : EReal) := by
  rw [coe_sum]
  exact Finset.sum_congr rfl fun d _ => (EReal.coe_mul _ _).symm

/-- With real queries and keys the result is the values under the softmax's weights of the scores. -/
theorem result_apply (q : S2x2x3x16640x64.Idx → ℝ) (k : S2x2x16640x64.Idx → ℝ) (v : FVec Ideal S2x2x16640x64 .f32)
    (b g : Fin 2) (h : Fin 3) (t : Fin 16384) (d : Fin 64) :
    ∃ ν : ℝ, result (fun i => (q i : EReal)) (fun i => (k i : EReal)) v (ix5 b g h t d)
      = ∑ n : Fin 16640, (weight (score q k b g h t) ν n : EReal) * v (ix4 b g n d) := by
  have hs : scores (fun i => (q i : EReal)) (fun i => (k i : EReal)) = fun i => ((score q k (i 0) (i 1) (i 2) (i 3) (i 4) : ℝ) : EReal) := by
    funext i
    refine Eq.trans (congrArg (scores _ _) (a₂ := ix5 (i 0) (i 1) (i 2) (i 3) (i 4)) (funext fun a => by fin_cases a <;> rfl)) ?_
    refine (scores_apply _ _ (i 0) (i 1) (i 2) (i 3) (i 4)).trans ?_
    rw [coe_dot, ofBits_eighth, ← EReal.coe_mul]
    rfl
  obtain ⟨ν, hν⟩ := top_real (fun i => score q k (i 0) (i 1) (i 2) (i 3) (i 4)) (ix4 b g h t)
  have hp : ∀ n, powers (scores (fun i => (q i : EReal)) (fun i => (k i : EReal))) (ix5 b g h t n) = ((Real.exp (score q k b g h t n - ν) : ℝ) : EReal) := by
    intro n
    rw [powers_apply, hs, hν]
    show Ideal.exp (((score q k b g h t n : ℝ) : EReal) - (ν : EReal)) = _
    rw [← EReal.coe_sub, Ideal.exp_coe]
  refine ⟨ν, (result_divided _ _ v b g h t d).trans (Finset.sum_congr rfl fun n _ => congrArg (· * v (ix4 b g n d)) ?_)⟩
  rw [total_apply]
  simp only [hp]
  rw [← coe_sum, div_pos_coe (Finset.sum_pos (fun _ _ => Real.exp_pos _) ⟨0, Finset.mem_univ _⟩), ← EReal.coe_mul, mul_comm]
  rfl

end Ref
-- ==== Proof.GqaFinal.lean ====
/-
  The attention call's result array is the reference's.
-/
module

public import proofs.«01_k».proof.Proof.GqaLaunch
public import proofs.«01_k».proof.Proof.GqaValue
public import proofs.«01_k».proof.Proof.GqaEntry
public import proofs.«01_k».proof.Proof.RefValue
public import Idealize.ShloMosaic.Lib.Pipeline.ValueKit

@[expose] public section

set_option maxRecDepth 16384

noncomputable section

namespace Gqa

open Cert.KernelIdeal Cert.KernelIdeal.Gen Stream
open Idealize.ShloMosaic Idealize.ShloMosaic.TcCoe
open Idealize.ShloMosaic.Pipeline (Dat)

variable (m : (ℓ : Loc nD τ sig) → Buf (Elt Ideal) ℓ) (c : Dev nD)

/-- Where each window's block lies at a point, by the point's batch, group and tile. -/
theorem idx : ∀ t : Fin cfg0.N, win0_0.index t = ![(grid0.coords t 0).val, (grid0.coords t 1).val, 0, (grid0.coords t 2).val, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 1).val, 0, (grid0.coords t 2).val, 0] :=
  (by decide +kernel : ∀ t : Fin grid0.N, _)

abbrev bOf (t : Fin cfg0.N) : Fin 2 := ⟨(grid0.coords t 0).val, (grid0.coords t 0).isLt⟩
abbrev gOf (t : Fin cfg0.N) : Fin 2 := ⟨(grid0.coords t 1).val, (grid0.coords t 1).isLt⟩
abbrev iOf (t : Fin cfg0.N) : Fin 16 := ⟨(grid0.coords t 2).val, (grid0.coords t 2).isLt⟩

/-- The queries' block. -/
theorem block_q (t : Fin cfg0.N) (h : Fin 3) (r : Fin 1024) (d : Fin 64) :
    (X0_0 m c t : FVec Ideal S1x1x3x1024x64 .bf16) (ix5 0 0 h r d)
      = queries (m ((c : Thread nD τ).loc main_arg0)) (ix5 (bOf t) (gOf t) h ⟨(iOf t).val * 1024 + r.val, by have := (iOf t).isLt; omega⟩ d) := by
  unfold X0_0 Pipeline.Window.fill
  rw [dif_pos (moved0_0 t _), ← entry_q]
  blk_ext [iblk, idx t]

/-- The keys' block. -/
theorem block_k (t : Fin cfg0.N) (d : Fin 64) (n : Fin 16640) :
    (iblk m c 1 t : FVec Ideal S1x1x64x16640 .bf16) (ix4 0 0 d n) = keys (m ((c : Thread nD τ).loc main_arg1)) (ix4 (bOf t) (gOf t) d n) := by
  rw [← entry_k]
  blk_ext [iblk, idx t]

/-- The values' block. -/
theorem block_v (t : Fin cfg0.N) (n : Fin 16640) (j : Fin 128) :
    (iblk m c 2 t : FVec Ideal S1x1x16640x128 .bf16) (ix4 0 0 n j) = values (m ((c : Thread nD τ).loc main_arg2)) (ix4 (bOf t) (gOf t) n j) := by
  rw [← entry_v]
  blk_ext [iblk, idx t]

/-- At real queries and keys, a point's result block is the reference's rows there. -/
theorem outsAt_apply (q : S2x2x3x16640x64.Idx → ℝ) (k : S2x2x16640x64.Idx → ℝ)
    (hq : m ((c : Thread nD τ).loc main_arg0) = fun i => (q i : EReal)) (hk : m ((c : Thread nD τ).loc main_arg1) = fun i => (k i : EReal))
    (t : Fin cfg0.N) (h : Fin 3) (r : Fin 1024) (d : Fin 64) :
    outsAt m c t (ix5 0 0 h r d)
      = Ref.result (fun i => (q i : EReal)) (fun i => (k i : EReal)) (m ((c : Thread nD τ).loc main_arg2))
        (ix5 (bOf t) (gOf t) h ⟨(iOf t).val * 1024 + r.val, by have := (iOf t).isLt; omega⟩ d) := by
  have hi := (iOf t).isLt
  obtain ⟨ν, hν⟩ := Ref.result_apply q k (m ((c : Thread nD τ).loc main_arg2)) (bOf t) (gOf t) h ⟨(iOf t).val * 1024 + r.val, by omega⟩ d
  rw [hν]
  have hl : (Real.log 2 : ℝ) ≠ 0 := (Real.log_pos (by norm_num)).ne'
  refine (outsOf_apply (X0_0 m c t) (iblk m c 1 t) (iblk m c 2 t)
    (fun h r n => (∑ d : Fin 64, (q (ix5 (bOf t) (gOf t) h ⟨(iOf t).val * 1024 + r.val, by omega⟩ d) * (1 / 8 / Real.log 2)) * k (ix4 (bOf t) (gOf t) n d)))
    (fun h r n => ?_) (fun n => ?_) h r d (Ref.score q k (bOf t) (gOf t) h ⟨(iOf t).val * 1024 + r.val, by omega⟩) ν (fun n => ?_)).trans
    (Finset.sum_congr rfl fun n _ => congrArg _ ?_)
  · rw [← Ref.coe_dot]
    refine Finset.sum_congr rfl fun d _ => congrArg₂ (· * ·) ?_ ?_
    · rw [block_q, queries_apply, hq, EReal.coe_mul]
    · rw [block_k, keys_apply, hk]
  · rw [block_v, values_one]
  · unfold Ref.score
    rw [Finset.mul_sum, Finset.sum_mul]
    refine Finset.sum_congr rfl fun d _ => ?_
    field_simp
  · rw [block_v, values_apply]

/-- At real queries and keys the call's result array is the reference's. -/
theorem final (q : S2x2x3x16640x64.Idx → ℝ) (k : S2x2x16640x64.Idx → ℝ)
    (hq : m ((c : Thread nD τ).loc main_arg0) = fun i => (q i : EReal)) (hk : m ((c : Thread nD τ).loc main_arg1) = fun i => (k i : EReal)) :
    (dats m 0 c).arrAt 3 cfg0.N
      = Ref.result (fun i => (q i : EReal)) (fun i => (k i : EReal)) (m ((c : Thread nD τ).loc main_arg2)) := by
  refine (dats m 0 c).arrAt_eq_of_covers 3 _ (by decide +kernel) fun t _ y => ?_
  blk_simp
  rw [after0_3]
  have hy : y = (ix5 0 0 (y 2) (y 3) (y 4) : S1x1x3x1024x64.Idx) := by blk_ext
  rw [hy]
  refine (outsAt_apply m c q k hq hk t (y 2) (y 3) (y 4)).trans (congrArg (Ref.result _ _ _) ?_)
  blk_ext [idx t]

end Gqa
-- ==== Proof.PostRow.lean ====
/-
  One token's row through the closing part of a layer: the output projection, the gated residuals, the feed-forward
  layer and the norms, as functions of the row and the weights.
-/
module

public import Idealize.ShloMosaic.Lib.Claim
public import Idealize.ShloMosaic.Lib.Pointwise
public import Idealize.ShloMosaic.Lib.Pointwise.IndexVar

@[expose] public section

noncomputable section

namespace Post

open Idealize.ShloMosaic

/-- A row over the root of its mean square and a small number. -/
def norm (y : Fin 1024 → EReal) (j : Fin 1024) : EReal :=
  y j * Ideal.rsqrt (Ideal.div (∑ k, y k * y k) (Ideal.ofBits .f32 0x44800000#32) + Ideal.ofBits .f32 0x358637BD#32)

/-- The row after the attention: the heads' rows under the output weights, gated by the modulation, added to the token. -/
def mid (x a : Fin 1024 → EReal) (md : Fin 6144 → EReal) (w : Fin 1024 → Fin 1024 → EReal) (j : Fin 1024) : EReal :=
  x j + md ⟨2048 + j.val, by omega⟩ * ∑ k, a k * w k j

/-- The row the feed-forward layer reads: normed, scaled, then scaled and shifted by the modulation. -/
def hid (y g : Fin 1024 → EReal) (md : Fin 6144 → EReal) (j : Fin 1024) : EReal :=
  norm y j * g j * (Ideal.ofBits .f32 0x3F800000#32 + md ⟨4096 + j.val, by omega⟩) + md ⟨3072 + j.val, by omega⟩

/-- The gated hidden row of the feed-forward layer. -/
def act (h : Fin 1024 → EReal) (w1 w3 : Fin 1024 → Fin 2816 → EReal) (n : Fin 2816) : EReal :=
  (∑ k, h k * w1 k n) * Ideal.logistic (∑ k, h k * w1 k n) * ∑ k, h k * w3 k n

/-- The row after the feed-forward layer. -/
def fin (y : Fin 1024 → EReal) (a : Fin 2816 → EReal) (md : Fin 6144 → EReal) (w2 : Fin 2816 → Fin 1024 → EReal) (j : Fin 1024) : EReal :=
  y j + md ⟨5120 + j.val, by omega⟩ * ∑ n, a n * w2 n j

/-- Head `h` of a token, of the three parts' heads: six of the first, four of the second, six of the third. -/
def head (oa : Fin 2 → Fin 3 → Fin 64 → EReal) (ob : Fin 4 → Fin 64 → EReal) (oc : Fin 2 → Fin 3 → Fin 64 → EReal) (h : Fin 16) (d : Fin 64) : EReal :=
  if ha : h.val < 6 then oa ⟨h.val / 3, by omega⟩ ⟨h.val % 3, by omega⟩ d
  else if hb : h.val - 6 < 4 then ob ⟨h.val - 6, hb⟩ d
  else oc ⟨(h.val - 6 - 4) / 3, by omega⟩ ⟨(h.val - 6 - 4) % 3, by omega⟩ d

/-- The token's heads as one row. -/
def heads (oa : Fin 2 → Fin 3 → Fin 64 → EReal) (ob : Fin 4 → Fin 64 → EReal) (oc : Fin 2 → Fin 3 → Fin 64 → EReal) (k : Fin 1024) : EReal :=
  head oa ob oc ⟨k.val / 64, by omega⟩ ⟨k.val % 64, by omega⟩

/-- The whole of it: the row a token leaves with. -/
def row (x a : Fin 1024 → EReal) (md : Fin 6144 → EReal) (w : Fin 1024 → Fin 1024 → EReal) (g : Fin 1024 → EReal)
    (w1 w3 : Fin 1024 → Fin 2816 → EReal) (w2 : Fin 2816 → Fin 1024 → EReal) (gf : Fin 1024 → EReal) (j : Fin 1024) : EReal :=
  norm (fin (mid x a md w) (act (hid (mid x a md w) g md) w1 w3) md w2) j * gf j

end Post
-- ==== Proof.PostValue.lean ====
/-
  What the closing kernel's body leaves, at an index, over its operands.
-/
module

public import proofs.«01_k».proof.Proof.PostRow
public import proofs.«01_k».proof.Proof.Gen.PostKernelIdeal.Skeleton
public import Idealize.ShloMosaic.Lib.Pipeline.Value

@[expose] public section

set_option maxRecDepth 16384

noncomputable section

namespace Post

open Cert.PostKernelIdeal Cert.PostKernelIdeal.Gen Stream
open Idealize.ShloMosaic

/-- The heads' rows beside each other. -/
def cat (hd : Fin 16 → FVec Ideal S256x64 .bf16) : FVec Ideal S256x1024 .bf16 :=
  concatenate S256x1024 1 [⟨S256x64, hd 0⟩, ⟨S256x64, hd 1⟩, ⟨S256x64, hd 2⟩, ⟨S256x64, hd 3⟩, ⟨S256x64, hd 4⟩, ⟨S256x64, hd 5⟩, ⟨S256x64, hd 6⟩, ⟨S256x64, hd 7⟩,
    ⟨S256x64, hd 8⟩, ⟨S256x64, hd 9⟩, ⟨S256x64, hd 10⟩, ⟨S256x64, hd 11⟩, ⟨S256x64, hd 12⟩, ⟨S256x64, hd 13⟩, ⟨S256x64, hd 14⟩, ⟨S256x64, hd 15⟩]
    concatenates_S256x64_S256x64_S256x64_S256x64_S256x64_S256x64_S256x64_S256x64_S256x64_S256x64_S256x64_S256x64_S256x64_S256x64_S256x64_S256x64_S256x1024_d1

theorem cat_apply (hd : Fin 16 → FVec Ideal S256x64 .bf16) (i : Fin 256) (k : Fin 1024) :
    cat hd (ix2 i k) = hd ⟨k.val / 64, by omega⟩ (ix2 i ⟨k.val % 64, by omega⟩) := by
  refine concatenate_ofFn_apply (t := S256x1024) (s₁ := S256x64) 1 hd _ rfl 64 rfl (ix2 i k) ⟨k.val / 64, by omega⟩ rfl
    (ix2 i ⟨k.val % 64, by omega⟩) rfl fun b hb => ?_
  fin_cases b
  · rfl
  · exact absurd rfl hb

/-- The rows after the attention. -/
def midV (x : FVec Ideal S256x1024 .f32) (a : FVec Ideal S256x1024 .bf16) (md : FVec Ideal S1x6144 .f32) (w : FVec Ideal S1024x1024 .bf16) :
    FVec Ideal S256x1024 .f32 :=
  addf x (mulf (broadcastTo S256x1024 (extractStridedSlice S1x1024 ![0, 2048] md slices_S1x6144_o0_2048_S1x1024) broadcasts_S1x1024_S256x1024)
    (matmul dot_S256x1024_S1024x1024_S256x1024_1_0_0_1_n_n none a (shapeCast S1024x1024 w shapeCasts_S1024x1024_S1024x1024)
      (constant S256x1024 .f32 0x00000000#32)))

theorem midV_apply (x : FVec Ideal S256x1024 .f32) (a : FVec Ideal S256x1024 .bf16) (md : FVec Ideal S1x6144 .f32) (w : FVec Ideal S1024x1024 .bf16)
    (i : Fin 256) (j : Fin 1024) :
    midV x a md w (ix2 i j) = mid (fun j => x (ix2 i j)) (fun k => a (ix2 i k)) (fun n => md (ix2 0 n)) (fun k j => w (ix2 k j)) j := by
  pointwise [midV, mid]

/-- The rows over the roots of their mean squares, scaled. -/
def normV (y : FVec Ideal S256x1024 .f32) (g : FVec Ideal S1x1024 .f32) : FVec Ideal S256x1024 .f32 :=
  mulf (mulf y (broadcastTo S256x1024 (rsqrt (addf (divf (shapeCast S256x1
      (multiReduction .add [1] S256 (mulf y y) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024))
    (broadcastTo S256x1024 (shapeCast S1x1024 g shapeCasts_S1x1024_S1x1024) broadcasts_S1x1024_S256x1024)

theorem normV_apply (y : FVec Ideal S256x1024 .f32) (g : FVec Ideal S1x1024 .f32) (i : Fin 256) (j : Fin 1024) :
    normV y g (ix2 i j) = norm (fun j => y (ix2 i j)) j * g (ix2 0 j) := by
  pointwise [normV, norm]

/-- The rows the feed-forward layer reads. -/
def hidV (z : FVec Ideal S256x1024 .f32) (md : FVec Ideal S1x6144 .f32) : FVec Ideal S256x1024 .bf16 :=
  truncf .bf16 (addf (mulf z (broadcastTo S256x1024 (addf (broadcast S1x1024 (Scalar.ofBits .f32 0x3F800000#32))
      (extractStridedSlice S1x1024 ![0, 4096] md slices_S1x6144_o0_4096_S1x1024)) broadcasts_S1x1024_S256x1024))
    (broadcastTo S256x1024 (extractStridedSlice S1x1024 ![0, 3072] md slices_S1x6144_o0_3072_S1x1024) broadcasts_S1x1024_S256x1024)) bitsLt_bf16_f32

theorem hidV_apply (z : FVec Ideal S256x1024 .f32) (md : FVec Ideal S1x6144 .f32) (i : Fin 256) (j : Fin 1024) :
    hidV z md (ix2 i j) = z (ix2 i j) * (Ideal.ofBits .f32 0x3F800000#32 + md (ix2 0 ⟨4096 + j.val, by omega⟩)) + md (ix2 0 ⟨3072 + j.val, by omega⟩) := by
  pointwise [hidV]

/-- The rows under a matrix of the feed-forward layer. -/
def upV (h : FVec Ideal S256x1024 .bf16) (w : FVec Ideal S1024x2816 .bf16) : FVec Ideal S256x2816 .f32 :=
  matmul dot_S256x1024_S1024x2816_S256x2816_1_0_0_1_n_n none h (shapeCast S1024x2816 w shapeCasts_S1024x2816_S1024x2816)
    (constant S256x2816 .f32 0x00000000#32)

theorem upV_apply (h : FVec Ideal S256x1024 .bf16) (w : FVec Ideal S1024x2816 .bf16) (i : Fin 256) (n : Fin 2816) :
    upV h w (ix2 i n) = ∑ k : Fin 1024, h (ix2 i k) * w (ix2 k n) := by
  pointwise [upV]

/-- The gated hidden rows. -/
def actV (u v : FVec Ideal S256x2816 .f32) : FVec Ideal S256x2816 .bf16 :=
  truncf .bf16 (mulf (mulf u (logistic u)) v) bitsLt_bf16_f32

theorem actV_apply (u v : FVec Ideal S256x2816 .f32) (i : S256x2816.Idx) :
    actV u v i = u i * Ideal.logistic (u i) * v i := rfl

/-- The rows after the feed-forward layer. -/
def finV (y : FVec Ideal S256x1024 .f32) (a : FVec Ideal S256x2816 .bf16) (md : FVec Ideal S1x6144 .f32) (w : FVec Ideal S2816x1024 .bf16) :
    FVec Ideal S256x1024 .f32 :=
  addf y (mulf (broadcastTo S256x1024 (extractStridedSlice S1x1024 ![0, 5120] md slices_S1x6144_o0_5120_S1x1024) broadcasts_S1x1024_S256x1024)
    (matmul dot_S256x2816_S2816x1024_S256x1024_1_0_0_1_n_n none a (shapeCast S2816x1024 w shapeCasts_S2816x1024_S2816x1024)
      (constant S256x1024 .f32 0x00000000#32)))

theorem finV_apply (y : FVec Ideal S256x1024 .f32) (a : FVec Ideal S256x2816 .bf16) (md : FVec Ideal S1x6144 .f32) (w : FVec Ideal S2816x1024 .bf16)
    (i : Fin 256) (j : Fin 1024) :
    finV y a md w (ix2 i j) = fin (fun j => y (ix2 i j)) (fun n => a (ix2 i n)) (fun n => md (ix2 0 n)) (fun n j => w (ix2 n j)) j := by
  pointwise [finV, fin]

/-- The body's result of its operands: the token's rows `x`, the heads' rows, the modulation, the weights. -/
def bodyV (x : FVec Ideal S256x1024 .f32) (hd : Fin 16 → FVec Ideal S256x64 .bf16) (md : FVec Ideal S1x6144 .f32) (w : FVec Ideal S1024x1024 .bf16)
    (g : FVec Ideal S1x1024 .f32) (w1 w3 : FVec Ideal S1024x2816 .bf16) (w2 : FVec Ideal S2816x1024 .bf16) (gf : FVec Ideal S1x1024 .f32) :
    FVec Ideal S1x256x1024 .f32 :=
  k0_pay1 (k0_pay20 x (hd 0) (hd 1) (hd 2) (hd 3) (hd 4) (hd 5) (hd 6) (hd 7) (hd 8) (hd 9) (hd 10) (hd 11) (hd 12) (hd 13) (hd 14) (hd 15) md w)
    (k0_pay21 x (hd 0) (hd 1) (hd 2) (hd 3) (hd 4) (hd 5) (hd 6) (hd 7) (hd 8) (hd 9) (hd 10) (hd 11) (hd 12) (hd 13) (hd 14) (hd 15) md w g w1 w3)
    (k0_pay22 md) w2 gf

/-- The body is its stages, one after another. -/
theorem bodyV_eq (x : FVec Ideal S256x1024 .f32) (hd : Fin 16 → FVec Ideal S256x64 .bf16) (md : FVec Ideal S1x6144 .f32) (w : FVec Ideal S1024x1024 .bf16)
    (g : FVec Ideal S1x1024 .f32) (w1 w3 : FVec Ideal S1024x2816 .bf16) (w2 : FVec Ideal S2816x1024 .bf16) (gf : FVec Ideal S1x1024 .f32) :
    bodyV x hd md w g w1 w3 w2 gf = shapeCast S1x256x1024 (normV (finV (midV x (cat hd) md w)
      (actV (upV (hidV (normV (midV x (cat hd) md w) g) md) w1) (upV (hidV (normV (midV x (cat hd) md w) g) md) w3)) md w2) gf) shapeCasts_S256x1024_S1x256x1024 := rfl

/-- Each row of the body's result is the row mathematics of the token's. -/
theorem bodyV_apply (x : FVec Ideal S256x1024 .f32) (hd : Fin 16 → FVec Ideal S256x64 .bf16) (md : FVec Ideal S1x6144 .f32) (w : FVec Ideal S1024x1024 .bf16)
    (g : FVec Ideal S1x1024 .f32) (w1 w3 : FVec Ideal S1024x2816 .bf16) (w2 : FVec Ideal S2816x1024 .bf16) (gf : FVec Ideal S1x1024 .f32)
    (i : Fin 256) (j : Fin 1024) :
    bodyV x hd md w g w1 w3 w2 gf (ix3 0 i j)
      = row (fun j => x (ix2 i j)) (fun k => hd ⟨k.val / 64, by omega⟩ (ix2 i ⟨k.val % 64, by omega⟩)) (fun n => md (ix2 0 n)) (fun k j => w (ix2 k j))
        (fun j => g (ix2 0 j)) (fun k n => w1 (ix2 k n)) (fun k n => w3 (ix2 k n)) (fun n j => w2 (ix2 n j)) (fun j => gf (ix2 0 j)) j := by
  rw [bodyV_eq]
  refine Eq.trans (b := normV (finV (midV x (cat hd) md w)
      (actV (upV (hidV (normV (midV x (cat hd) md w) g) md) w1) (upV (hidV (normV (midV x (cat hd) md w) g) md) w3)) md w2) gf (ix2 i j)) ?_ ?_
  · generalize normV _ gf = p
    pointwise
  · simp only [normV_apply, finV_apply, midV_apply, actV_apply, upV_apply, hidV_apply, cat_apply]
    rfl

end Post
-- ==== Proof.PostRef.lean ====
/-
  The reference of the closing part of a layer, at an index: the row mathematics of each token.
-/
module

public import proofs.«01_k».proof.Proof.PostRow
public import proofs.«01_k».proof.Proof.Gen.PostReferenceIdeal.Run

@[expose] public section

set_option maxRecDepth 16384

noncomputable section

namespace Post.Ref

open Cert.PostReferenceIdeal Cert.PostReferenceIdeal.Gen Stream
open Idealize.ShloMosaic Idealize.ShloMosaic.TcCoe

/-- The heads of the three parts, one after another. -/
def stack (oa : FVec Ideal S2x2x3x16384x64 .bf16) (ob : FVec Ideal S2x4x16384x64 .bf16) (oc : FVec Ideal S2x2x3x16384x64 .bf16) :
    FVec Ideal S2x16x16384x64 .bf16 :=
  concatenate S2x16x16384x64 1 [⟨S2x6x16384x64, shapeCast _ oa shapeCasts_S2x2x3x16384x64_S2x6x16384x64⟩, ⟨S2x4x16384x64, ob⟩,
    ⟨S2x6x16384x64, shapeCast _ oc shapeCasts_S2x2x3x16384x64_S2x6x16384x64⟩]
    concatenates_S2x6x16384x64_S2x4x16384x64_S2x6x16384x64_S2x16x16384x64_d1

/-- The heads merged into one row per token. -/
def merged (s : FVec Ideal S2x16x16384x64 .bf16) : FVec Ideal S2x16384x1024 .f32 :=
  extf .f32 (shapeCast _ (transpose S2x16384x16x64 [0, 2, 1, 3] s transposes_S2x16x16384x64_S2x16384x16x64_0_2_1_3)
    shapeCasts_S2x16384x16x64_S2x16384x1024) bitsLt_bf16_f32

/-- The modulation of the two batches of latent tokens. -/
def mod2 (md : FVec Ideal S3x1x6144 .f32) : FVec Ideal S2x1x6144 .f32 :=
  extractStridedSlice S2x1x6144 ![0, 0, 0] md slices_S3x1x6144_S2x1x6144_0_0_0

/-- One batch's number per column, repeated over the tokens. -/
def spread (v : FVec Ideal S2x1x1024 .f32) : FVec Ideal S2x16384x1024 .f32 :=
  broadcastInDim S2x16384x1024 ![0, 1, 2] bcast_S2x1x1024_S2x16384x1024_0_1_2 v

/-- The rows after the attention. -/
def midR (x a : FVec Ideal S2x16384x1024 .f32) (md : FVec Ideal S2x1x6144 .f32) (w : FVec Ideal S1024x1024 .f32) : FVec Ideal S2x16384x1024 .f32 :=
  addf x (mulf (spread (extractStridedSlice S2x1x1024 ![0, 0, 2048] md slices_S2x1x6144_S2x1x1024_0_0_2048))
    (Host.dotGeneral dot_S2x16384x1024_S1024x1024_S2x16384x1024_2_0_01_1_n_n none a w))

/-- The rows over the roots of their mean squares, scaled. -/
def normR (y : FVec Ideal S2x16384x1024 .f32) (g : FVec Ideal S1024 .f32) : FVec Ideal S2x16384x1024 .f32 :=
  mulf (mulf y (broadcastInDim S2x16384x1024 ![0, 1, 2] bcast_S2x16384x1_S2x16384x1024_0_1_2 (Host.rsqrt (addf (Host.divf
      (broadcastInDim S2x16384x1 ![0, 1] bcast_S2x16384_S2x16384x1_0_1
        (Host.reduceAdd (mulf y y) (constant S_ .f32 0x00000000#32) reducesTo_S2x16384x1024_S2x16384_d2 h_S_))
      (broadcastInDim S2x16384x1 ![] bcast_S_S2x16384x1 (constant S_ .f32 0x44800000#32)))
      (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- The rows the feed-forward layer reads. -/
def hidR (z : FVec Ideal S2x16384x1024 .f32) (md : FVec Ideal S2x1x6144 .f32) : FVec Ideal S2x16384x1024 .f32 :=
  addf (mulf z (spread (addf (broadcastInDim S2x1x1024 ![] bcast_S_S2x1x1024 (constant S_ .f32 0x3F800000#32))
      (extractStridedSlice S2x1x1024 ![0, 0, 4096] md slices_S2x1x6144_S2x1x1024_0_0_4096))))
    (spread (extractStridedSlice S2x1x1024 ![0, 0, 3072] md slices_S2x1x6144_S2x1x1024_0_0_3072))

/-- The rows under a matrix of the feed-forward layer. -/
def upR (h : FVec Ideal S2x16384x1024 .f32) (w : FVec Ideal S1024x2816 .f32) : FVec Ideal S2x16384x2816 .f32 :=
  Host.dotGeneral dot_S2x16384x1024_S1024x2816_S2x16384x2816_2_0_01_1_n_n none h w

/-- The gated hidden rows. -/
def actR (u v : FVec Ideal S2x16384x2816 .f32) : FVec Ideal S2x16384x2816 .f32 :=
  mulf (mulf u (Host.divf (broadcastInDim S2x16384x2816 ![] bcast_S_S2x16384x2816 (constant S_ .f32 0x3F800000#32))
    (addf (broadcastInDim S2x16384x2816 ![] bcast_S_S2x16384x2816 (constant S_ .f32 0x3F800000#32)) (Host.exp (Host.negf u))))) v

/-- The rows after the feed-forward layer. -/
def finR (y : FVec Ideal S2x16384x1024 .f32) (a : FVec Ideal S2x16384x2816 .f32) (md : FVec Ideal S2x1x6144 .f32) (w : FVec Ideal S2816x1024 .f32) :
    FVec Ideal S2x16384x1024 .f32 :=
  addf y (mulf (spread (extractStridedSlice S2x1x1024 ![0, 0, 5120] md slices_S2x1x6144_S2x1x1024_0_0_5120))
    (Host.dotGeneral dot_S2x16384x2816_S2816x1024_S2x16384x1024_2_0_01_1_n_n none a w))

/-- The rows after the attention, of the arguments. -/
def midOf (x : FVec Ideal S2x16384x1024 .f32) (oa : FVec Ideal S2x2x3x16384x64 .bf16) (ob : FVec Ideal S2x4x16384x64 .bf16)
    (oc : FVec Ideal S2x2x3x16384x64 .bf16) (md : FVec Ideal S3x1x6144 .f32) (w : FVec Ideal S1024x1024 .f32) : FVec Ideal S2x16384x1024 .f32 :=
  midR x (merged (stack oa ob oc)) (mod2 md) w

/-- The reference's result. -/
def result (x : FVec Ideal S2x16384x1024 .f32) (oa : FVec Ideal S2x2x3x16384x64 .bf16) (ob : FVec Ideal S2x4x16384x64 .bf16)
    (oc : FVec Ideal S2x2x3x16384x64 .bf16) (md : FVec Ideal S3x1x6144 .f32) (w : FVec Ideal S1024x1024 .f32) (g : FVec Ideal S1024 .f32)
    (w1 w3 : FVec Ideal S1024x2816 .f32) (w2 : FVec Ideal S2816x1024 .f32) (gf : FVec Ideal S1024 .f32) : FVec Ideal S2x16384x1024 .f32 :=
  normR (finR (midOf x oa ob oc md w) (actR (upR (hidR (normR (midOf x oa ob oc md w) g) (mod2 md)) w1)
    (upR (hidR (normR (midOf x oa ob oc md w) g) (mod2 md)) w3)) (mod2 md) w2) gf

/-- Number `k` of a token's merged row is of head `k / 64`. -/
theorem merged_apply (s : FVec Ideal S2x16x16384x64 .bf16) (b : Fin 2) (t : Fin 16384) (k : Fin 1024) :
    merged s (ix3 b t k) = s (ix4 b ⟨k.val / 64, by omega⟩ t ⟨k.val % 64, by omega⟩) := by
  unfold merged
  refine Eq.trans (b := transpose S2x16384x16x64 [0, 2, 1, 3] s transposes_S2x16x16384x64_S2x16384x16x64_0_2_1_3
    (ix4 b t ⟨k.val / 64, by omega⟩ ⟨k.val % 64, by omega⟩)) ?_ ?_
  · refine congrArg (transpose S2x16384x16x64 [0, 2, 1, 3] s _) (Shape.reshapeEquiv_eq_of_rowMajor _ ?_)
    rw [Shape.rowMajor_val_three, Shape.rowMajor_val_four]
    show ((b.val * 16384 + t.val) * 16 + k.val / 64) * 64 + k.val % 64 = (b.val * 16384 + t.val) * 1024 + k.val
    omega
  · pointwise

/-- The six heads of a part, by group and place. -/
theorem six_apply (o : FVec Ideal S2x2x3x16384x64 .bf16) (b : Fin 2) (h : Fin 6) (t : Fin 16384) (d : Fin 64) :
    shapeCast S2x6x16384x64 o shapeCasts_S2x2x3x16384x64_S2x6x16384x64 (ix4 b h t d)
      = o (ix5 b ⟨h.val / 3, by omega⟩ ⟨h.val % 3, by omega⟩ t d) := by
  refine congrArg o (Shape.reshapeEquiv_eq_of_rowMajor _ ?_)
  rw [Shape.rowMajor_val_five, Shape.rowMajor_val_four]
  show (((b.val * 2 + h.val / 3) * 3 + h.val % 3) * 16384 + t.val) * 64 + d.val = ((b.val * 6 + h.val) * 16384 + t.val) * 64 + d.val
  omega

/-- A head of the stack, by the part it is of. -/
theorem stack_apply (oa : FVec Ideal S2x2x3x16384x64 .bf16) (ob : FVec Ideal S2x4x16384x64 .bf16) (oc : FVec Ideal S2x2x3x16384x64 .bf16)
    (b : Fin 2) (h : Fin 16) (t : Fin 16384) (d : Fin 64) :
    stack oa ob oc (ix4 b h t d)
      = head (fun g r d => oa (ix5 b g r t d)) (fun h d => ob (ix4 b h t d)) (fun g r d => oc (ix5 b g r t d)) h d := by
  have hh := h.isLt
  unfold stack head
  generalize hA : shapeCast S2x6x16384x64 oa _ = A
  generalize hC : shapeCast S2x6x16384x64 oc _ = C
  pointwise
  by_cases h1 : h.val < 6
  · rw [dif_pos h1, dif_pos h1, ← hA]
    exact six_apply oa b ⟨h.val, h1⟩ t d
  by_cases h2 : h.val - 6 < 4
  · rw [dif_neg h1, dif_pos h2, dif_neg h1, dif_pos h2]
  · rw [dif_neg h1, dif_neg h2, dif_neg h1, dif_neg h2, ← hC]
    exact six_apply oc b ⟨h.val - 6 - 4, by omega⟩ t d

theorem midR_apply (x a : FVec Ideal S2x16384x1024 .f32) (md : FVec Ideal S2x1x6144 .f32) (w : FVec Ideal S1024x1024 .f32)
    (b : Fin 2) (t : Fin 16384) (j : Fin 1024) :
    midR x a md w (ix3 b t j) = mid (fun j => x (ix3 b t j)) (fun k => a (ix3 b t k)) (fun n => md (ix3 b 0 n)) (fun k j => w (ix2 k j)) j := by
  pointwise [midR, spread, mid]

theorem normR_apply (y : FVec Ideal S2x16384x1024 .f32) (g : FVec Ideal S1024 .f32) (b : Fin 2) (t : Fin 16384) (j : Fin 1024) :
    normR y g (ix3 b t j) = norm (fun j => y (ix3 b t j)) j * g (ix1 j) := by
  pointwise [normR, norm]

theorem hidR_apply (z : FVec Ideal S2x16384x1024 .f32) (md : FVec Ideal S2x1x6144 .f32) (b : Fin 2) (t : Fin 16384) (j : Fin 1024) :
    hidR z md (ix3 b t j) = z (ix3 b t j) * (Ideal.ofBits .f32 0x3F800000#32 + md (ix3 b 0 ⟨4096 + j.val, by omega⟩)) + md (ix3 b 0 ⟨3072 + j.val, by omega⟩) := by
  pointwise [hidR, spread]

theorem upR_apply (h : FVec Ideal S2x16384x1024 .f32) (w : FVec Ideal S1024x2816 .f32) (b : Fin 2) (t : Fin 16384) (n : Fin 2816) :
    upR h w (ix3 b t n) = ∑ k : Fin 1024, h (ix3 b t k) * w (ix2 k n) := by
  pointwise [upR]

theorem actR_apply (u v : FVec Ideal S2x16384x2816 .f32) (b : Fin 2) (t : Fin 16384) (n : Fin 2816) :
    actR u v (ix3 b t n) = u (ix3 b t n) * Ideal.logistic (u (ix3 b t n)) * v (ix3 b t n) := by
  pointwise [actR]
  rfl

theorem finR_apply (y : FVec Ideal S2x16384x1024 .f32) (a : FVec Ideal S2x16384x2816 .f32) (md : FVec Ideal S2x1x6144 .f32) (w : FVec Ideal S2816x1024 .f32)
    (b : Fin 2) (t : Fin 16384) (j : Fin 1024) :
    finR y a md w (ix3 b t j) = fin (fun j => y (ix3 b t j)) (fun n => a (ix3 b t n)) (fun n => md (ix3 b 0 n)) (fun n j => w (ix2 n j)) j := by
  pointwise [finR, spread, fin]

theorem mod2_apply (md : FVec Ideal S3x1x6144 .f32) (b : Fin 2) (n : Fin 6144) :
    mod2 md (ix3 b 0 n) = md (ix3 ⟨b.val, by omega⟩ 0 n) := by
  pointwise [mod2]

/-- Each row of the reference's result is the row mathematics of the token's. -/
theorem result_apply (x : FVec Ideal S2x16384x1024 .f32) (oa : FVec Ideal S2x2x3x16384x64 .bf16) (ob : FVec Ideal S2x4x16384x64 .bf16)
    (oc : FVec Ideal S2x2x3x16384x64 .bf16) (md : FVec Ideal S3x1x6144 .f32) (w : FVec Ideal S1024x1024 .f32) (g : FVec Ideal S1024 .f32)
    (w1 w3 : FVec Ideal S1024x2816 .f32) (w2 : FVec Ideal S2816x1024 .f32) (gf : FVec Ideal S1024 .f32) (b : Fin 2) (t : Fin 16384) (j : Fin 1024) :
    result x oa ob oc md w g w1 w3 w2 gf (ix3 b t j)
      = row (fun j => x (ix3 b t j)) (heads (fun g r d => oa (ix5 b g r t d)) (fun h d => ob (ix4 b h t d)) (fun g r d => oc (ix5 b g r t d)))
        (fun n => md (ix3 ⟨b.val, by omega⟩ 0 n)) (fun k j => w (ix2 k j)) (fun j => g (ix1 j)) (fun k n => w1 (ix2 k n)) (fun k n => w3 (ix2 k n))
        (fun n j => w2 (ix2 n j)) (fun j => gf (ix1 j)) j := by
  unfold result midOf
  simp only [normR_apply, finR_apply, midR_apply, actR_apply, upR_apply, hidR_apply, mod2_apply, merged_apply, stack_apply]
  rfl

variable (m : (ℓ : Loc nD τ sig) → Buf (Elt Ideal) ℓ) (c : Dev nD)

/-- What the reference leaves is `result` of its arguments. -/
theorem res_eq : Cert.PostReferenceIdeal.Value.res_main_v56 m c
    = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) := rfl

end Post.Ref
-- ==== Proof.PostFinal.lean ====
/-
  The closing call's result array is the reference's.
-/
module

public import proofs.«01_k».proof.Proof.Gen.PostKernelIdeal.Value
public import proofs.«01_k».proof.Proof.PostValue
public import proofs.«01_k».proof.Proof.PostRef
public import Idealize.ShloMosaic.Lib.Pipeline.ValueKit

@[expose] public section

set_option maxRecDepth 16384

noncomputable section

namespace Post

open Cert.PostKernelIdeal Cert.PostKernelIdeal.Gen Stream
open Idealize.ShloMosaic Idealize.ShloMosaic.TcCoe
open Idealize.ShloMosaic.Pipeline (Dat)

variable (m : (ℓ : Loc nD τ sig) → Buf (Elt Ideal) ℓ) (c : Dev nD)

/-- The weights are given to the call as they are. -/
theorem entry_w : (V m c main_v1 : FVec Ideal S1024x1024 .bf16) = m ((c : Thread nD τ).loc main_arg5) := by sl_kernel_rfl
theorem entry_w1 : (V m c main_v2 : FVec Ideal S1024x2816 .bf16) = m ((c : Thread nD τ).loc main_arg7) := by sl_kernel_rfl
theorem entry_w3 : (V m c main_v3 : FVec Ideal S1024x2816 .bf16) = m ((c : Thread nD τ).loc main_arg8) := by sl_kernel_rfl
theorem entry_w2 : (V m c main_v4 : FVec Ideal S2816x1024 .bf16) = m ((c : Thread nD τ).loc main_arg9) := by sl_kernel_rfl

/-- The norms' scales, as one row. -/
def oneRow (g : FVec Ideal S1024 .f32) : FVec Ideal S1x1024 .f32 := broadcastInDim S1x1024 ![1] bcast_S1024_S1x1024_1 g

theorem oneRow_apply (g : FVec Ideal S1024 .f32) (j : Fin 1024) : oneRow g (ix2 0 j) = g (ix1 j) := by
  pointwise [oneRow]

theorem entry_g : (V m c main_v5 : FVec Ideal S1x1024 .f32) = oneRow (m ((c : Thread nD τ).loc main_arg6)) := by sl_kernel_rfl
theorem entry_gf : (V m c main_v6 : FVec Ideal S1x1024 .f32) = oneRow (m ((c : Thread nD τ).loc main_arg10)) := by sl_kernel_rfl

/-- Where each window's block lies at a point, by the point's batch and tile. -/
theorem idx : ∀ t : Fin cfg0.N, win0_0.index t = ![(grid0.coords t 0).val, (grid0.coords t 1).val, 0]
    ∧ win0_1.index t = ![(grid0.coords t 0).val, 0, 0, (grid0.coords t 1).val, 0]
    ∧ win0_2.index t = ![(grid0.coords t 0).val, 0, (grid0.coords t 1).val, 0]
    ∧ win0_3.index t = ![(grid0.coords t 0).val, 0, 0, (grid0.coords t 1).val, 0]
    ∧ win0_4.index t = ![(grid0.coords t 0).val, 0, 0]
    ∧ win0_5.index t = ![0, 0] ∧ win0_6.index t = ![0, 0] ∧ win0_7.index t = ![0, 0] ∧ win0_8.index t = ![0, 0]
    ∧ win0_9.index t = ![0, 0] ∧ win0_10.index t = ![0, 0]
    ∧ win0_11.index t = ![(grid0.coords t 0).val, (grid0.coords t 1).val, 0] :=
  (by decide +kernel : ∀ t : Fin grid0.N, _)

abbrev bOf (t : Fin cfg0.N) : Fin 2 := ⟨(grid0.coords t 0).val, (grid0.coords t 0).isLt⟩
abbrev iOf (t : Fin cfg0.N) : Fin 64 := ⟨(grid0.coords t 1).val, (grid0.coords t 1).isLt⟩

/-- The token that row `i` of a point's block is of. -/
abbrev tok (t : Fin cfg0.N) (i : Fin 256) : Fin 16384 := ⟨(iOf t).val * 256 + i.val, by have := (iOf t).isLt; omega⟩

/-- The heads' rows of a point's blocks. -/
def hds (x1 : FVec Ideal S1x2x3x256x64 .bf16) (x2 : FVec Ideal S1x4x256x64 .bf16) (x3 : FVec Ideal S1x2x3x256x64 .bf16) : Fin 16 → FVec Ideal S256x64 .bf16 :=
  ![k0_pay3 (View.ld x1 r0_1), k0_pay4 (View.ld x1 r0_2), k0_pay5 (View.ld x1 r0_3), k0_pay6 (View.ld x1 r0_4), k0_pay7 (View.ld x1 r0_5),
    k0_pay8 (View.ld x1 r0_6), k0_pay9 (View.ld x2 r0_7), k0_pay10 (View.ld x2 r0_8), k0_pay11 (View.ld x2 r0_9), k0_pay12 (View.ld x2 r0_10),
    k0_pay13 (View.ld x3 r0_1), k0_pay14 (View.ld x3 r0_2), k0_pay15 (View.ld x3 r0_3), k0_pay16 (View.ld x3 r0_4), k0_pay17 (View.ld x3 r0_5),
    k0_pay18 (View.ld x3 r0_6)]

theorem hds_apply (x1 : FVec Ideal S1x2x3x256x64 .bf16) (x2 : FVec Ideal S1x4x256x64 .bf16) (x3 : FVec Ideal S1x2x3x256x64 .bf16)
    (h : Fin 16) (i : Fin 256) (d : Fin 64) :
    hds x1 x2 x3 h (ix2 i d) = head (fun g r d => x1 (ix5 0 g r i d)) (fun h d => x2 (ix4 0 h i d)) (fun g r d => x3 (ix5 0 g r i d)) h d := by
  fin_cases h <;> pointwise [hds, head, k0_pay3, k0_pay4, k0_pay5, k0_pay6, k0_pay7, k0_pay8, k0_pay9, k0_pay10, k0_pay11, k0_pay12, k0_pay13,
    k0_pay14, k0_pay15, k0_pay16, k0_pay17, k0_pay18]

variable (t : Fin cfg0.N)

theorem block_x (i : Fin 256) (j : Fin 1024) :
    (iblk m c 0 t : FVec Ideal S1x256x1024 .f32) (ix3 0 i j) = (m ((c : Thread nD τ).loc main_arg0) : FVec Ideal S2x16384x1024 .f32) (ix3 (bOf t) (tok t i) j) := by
  rw [← V_main_arg0 m c]
  blk_ext [iblk, idx t]

theorem block_oa (g : Fin 2) (r : Fin 3) (i : Fin 256) (d : Fin 64) :
    (iblk m c 1 t : FVec Ideal S1x2x3x256x64 .bf16) (ix5 0 g r i d)
      = (m ((c : Thread nD τ).loc main_arg1) : FVec Ideal S2x2x3x16384x64 .bf16) (ix5 (bOf t) g r (tok t i) d) := by
  rw [← V_main_arg1 m c]
  blk_ext [iblk, idx t]

theorem block_ob (h : Fin 4) (i : Fin 256) (d : Fin 64) :
    (iblk m c 2 t : FVec Ideal S1x4x256x64 .bf16) (ix4 0 h i d)
      = (m ((c : Thread nD τ).loc main_arg2) : FVec Ideal S2x4x16384x64 .bf16) (ix4 (bOf t) h (tok t i) d) := by
  rw [← V_main_arg2 m c]
  blk_ext [iblk, idx t]

theorem block_oc (g : Fin 2) (r : Fin 3) (i : Fin 256) (d : Fin 64) :
    (iblk m c 3 t : FVec Ideal S1x2x3x256x64 .bf16) (ix5 0 g r i d)
      = (m ((c : Thread nD τ).loc main_arg3) : FVec Ideal S2x2x3x16384x64 .bf16) (ix5 (bOf t) g r (tok t i) d) := by
  rw [← V_main_arg3 m c]
  blk_ext [iblk, idx t]

theorem block_mod (n : Fin 6144) :
    (iblk m c 4 t : FVec Ideal S1x1x6144 .f32) (ix3 0 0 n)
      = (m ((c : Thread nD τ).loc main_arg4) : FVec Ideal S3x1x6144 .f32) (ix3 ⟨(bOf t).val, by have := (bOf t).isLt; omega⟩ 0 n) := by
  rw [← V_main_arg4 m c]
  blk_ext [iblk, idx t]

theorem block_w (k j : Fin 1024) :
    (iblk m c 5 t : FVec Ideal S1024x1024 .bf16) (ix2 k j) = (m ((c : Thread nD τ).loc main_arg5) : FVec Ideal S1024x1024 .f32) (ix2 k j) := by
  refine Eq.trans ?_ (congrFun (entry_w m c) _)
  blk_ext [iblk, idx t]

theorem block_g (j : Fin 1024) :
    (iblk m c 6 t : FVec Ideal S1x1024 .f32) (ix2 0 j) = (m ((c : Thread nD τ).loc main_arg6) : FVec Ideal S1024 .f32) (ix1 j) := by
  refine Eq.trans ?_ ((congrFun (entry_g m c) (ix2 0 j)).trans (oneRow_apply _ j))
  blk_ext [iblk, idx t]

theorem block_w1 (k : Fin 1024) (n : Fin 2816) :
    (iblk m c 7 t : FVec Ideal S1024x2816 .bf16) (ix2 k n) = (m ((c : Thread nD τ).loc main_arg7) : FVec Ideal S1024x2816 .f32) (ix2 k n) := by
  refine Eq.trans ?_ (congrFun (entry_w1 m c) _)
  blk_ext [iblk, idx t]

theorem block_w3 (k : Fin 1024) (n : Fin 2816) :
    (iblk m c 8 t : FVec Ideal S1024x2816 .bf16) (ix2 k n) = (m ((c : Thread nD τ).loc main_arg8) : FVec Ideal S1024x2816 .f32) (ix2 k n) := by
  refine Eq.trans ?_ (congrFun (entry_w3 m c) _)
  blk_ext [iblk, idx t]

theorem block_w2 (n : Fin 2816) (j : Fin 1024) :
    (iblk m c 9 t : FVec Ideal S2816x1024 .bf16) (ix2 n j) = (m ((c : Thread nD τ).loc main_arg9) : FVec Ideal S2816x1024 .f32) (ix2 n j) := by
  refine Eq.trans ?_ (congrFun (entry_w2 m c) _)
  blk_ext [iblk, idx t]

theorem block_gf (j : Fin 1024) :
    (iblk m c 10 t : FVec Ideal S1x1024 .f32) (ix2 0 j) = (m ((c : Thread nD τ).loc main_arg10) : FVec Ideal S1024 .f32) (ix1 j) := by
  refine Eq.trans ?_ ((congrFun (entry_gf m c) (ix2 0 j)).trans (oneRow_apply _ j))
  blk_ext [iblk, idx t]

/-- The tokens' rows, loaded from their block. -/
theorem load_x (x0 : FVec Ideal S1x256x1024 .f32) (i : Fin 256) (j : Fin 1024) : k0_pay2 (View.ld x0 r0_0) (ix2 i j) = x0 (ix3 0 i j) := by
  pointwise [k0_pay2]

/-- The modulation, loaded from its block. -/
theorem load_mod (x4 : FVec Ideal S1x1x6144 .f32) (n : Fin 6144) : k0_pay19 (View.ld x4 r0_11) (ix2 0 n) = x4 (ix3 0 0 n) := by
  pointwise [k0_pay19]

/-- The point's result block, of its blocks. -/
theorem out_eq (x0 : Vec Ideal S1x256x1024 .f32) (x1 : Vec Ideal S1x2x3x256x64 .bf16) (x2 : Vec Ideal S1x4x256x64 .bf16) (x3 : Vec Ideal S1x2x3x256x64 .bf16)
    (x4 : Vec Ideal S1x1x6144 .f32) (x5 : Vec Ideal S1024x1024 .bf16) (x6 : Vec Ideal S1x1024 .f32) (x7 x8 : Vec Ideal S1024x2816 .bf16)
    (x9 : Vec Ideal S2816x1024 .bf16) (x10 : Vec Ideal S1x1024 .f32) :
    out0_11 (F := Ideal) x0 x1 x2 x3 x4 x5 x6 x7 x8 x9 x10
      = bodyV (k0_pay2 (View.ld x0 r0_0)) (hds x1 x2 x3) (k0_pay19 (View.ld x4 r0_11)) x5 x6 x7 x8 x9 x10 := by
  unfold_out out0_11
  refine (View.canon_cons_unit_lit _ _ _ (by decide)).trans ?_
  rw [show View.ld (Val := Elt Ideal) x5 r0_12 = x5 from View.ld_unit_lit _ x5 (by decide), show View.ld (Val := Elt Ideal) x6 r0_13 = x6 from View.ld_unit_lit _ x6 (by decide),
    show View.ld (Val := Elt Ideal) x7 r0_14 = x7 from View.ld_unit_lit _ x7 (by decide), show View.ld (Val := Elt Ideal) x8 r0_14 = x8 from View.ld_unit_lit _ x8 (by decide),
    show View.ld (Val := Elt Ideal) x9 r0_15 = x9 from View.ld_unit_lit _ x9 (by decide), show View.ld (Val := Elt Ideal) x10 r0_13 = x10 from View.ld_unit_lit _ x10 (by decide)]
  rfl

/-- A point's result block holds the reference's rows of its tokens. -/
theorem out_apply (i : Fin 256) (j : Fin 1024) :
    (out0_11 (F := Ideal) (iblk m c 0 t) (iblk m c 1 t) (iblk m c 2 t) (iblk m c 3 t) (iblk m c 4 t) (iblk m c 5 t) (iblk m c 6 t) (iblk m c 7 t)
        (iblk m c 8 t) (iblk m c 9 t) (iblk m c 10 t)) (ix3 0 i j)
      = Ref.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (ix3 (bOf t) (tok t i) j) := by
  refine (congrFun (out_eq _ _ _ _ _ _ _ _ _ _ _) _).trans ((bodyV_apply _ _ _ _ _ _ _ _ _ i j).trans ?_)
  refine Eq.trans ?_ (Ref.result_apply _ _ _ _ _ _ _ _ _ _ _ (bOf t) (tok t i) j).symm
  unfold heads
  simp only [hds_apply, load_x, load_mod, block_x, block_oa, block_ob, block_oc, block_mod, block_w, block_g, block_w1, block_w3, block_w2, block_gf]

/-- The call's result array is the reference's. -/
theorem final : (dats m 0 c).arrAt 11 cfg0.N
      = Ref.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (dats m 0 c).arrAt_eq_of_covers 11 _ (by decide +kernel) fun t _ y => ?_
  blk_simp
  rw [after0_11]
  have hy : y = (ix3 0 (y 1) (y 2) : S1x256x1024.Idx) := by blk_ext
  rw [hy]
  refine (out_apply m c t (y 1) (y 2)).trans (congrArg (Ref.result _ _ _ _ _ _ _ _ _ _ _) ?_)
  blk_ext [idx t]

end Post
-- ==== Proof.Diff.lean ====
/-
  The differential attention kernel's printed body as a sequence of the streamed softmax's steps: the start, thirty-two
  pairs of steps at computed offsets, thirty-two more at literal ones, the last accumulation, and the difference of the two
  maps' quotients, normed.
-/
module

public import proofs.«01_k».proof.Proof.Traj
public import proofs.«01_k».proof.Proof.Gen.DiffKernelIdeal.Skeleton

@[expose] public section

set_option maxRecDepth 65536

noncomputable section

namespace Diff

open Cert.DiffKernelIdeal Cert.DiffKernelIdeal.Gen Stream
open Idealize.ShloMosaic Idealize.ShloMosaic.TcCoe Idealize.ShloMosaic.Tactic
open Idealize.SL.Sem

instance : Stream.Facts 1024 64 where
  bits := bitsLt_bf16_f32
  castK := shapeCasts_S1x1x64x256_S64x256
  castV := shapeCasts_S1x1x256x128_S256x128
  castP := shapeCasts_S1024x256_S1024x256
  castR := shapeCasts_S1024x128_S1024x128
  castCol := shapeCasts_S1024_S1024x1
  red := reduces_S1024x256_S1024
  bcast := broadcasts_S1024x1_S1024x128
  lo := slices_S1024x256_o0_0_S1024x128
  hi := slices_S1024x256_o0_128_S1024x128
  cat := concatenates_S1024x128_S1024x128_S1024x256_d1
  inbP := inb_S1024x256_S1024x256_0_0
  inbR := inb_S1024x128_S1024x128_0_0
  posP := h_S1024x256
  posR := h_S1024x128
  posK := h_S1x1x64x256
  posV := h_S1x1x256x128
  packed := packedbf16_S1024x256_S1024x256_0_0
  wfK := dot_S1024x64_S64x256_S1024x256_1_0_0_1_n_n_wf
  wfV := dot_S1024x256_S256x128_S1024x128_1_0_0_1_n_n_wf

variable {F : FTy → Type} [FloatOps F]

/-- The kernel's memrefs as the streamed softmax names them. -/
def mems (arg4 : Memref sig .tc .vmem S1x1x64x16640 .bf16) (harg4 : arg4.IsWhole) (arg5 : Memref sig .tc .vmem S1x1x16640x128 .bf16) (harg5 : arg5.IsWhole) (arg12 : Memref sig .tc .vmem S1024x256 .bf16) (harg12 : arg12.IsWhole) (arg13 : Memref sig .tc .vmem S1024x128 .f32) (harg13 : arg13.IsWhole) (arg14 : Memref sig .tc .vmem S1024x256 .bf16) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) :
    Mems sig 1024 64 where
  kt := arg4
  v := arg5
  p := fun | false => arg12 | true => arg14
  r := fun | false => arg13 | true => arg15
  m := arg16
  a := arg17
  hkt := harg4
  hv := harg5
  hp := fun | false => harg12 | true => harg14
  hr := fun | false => harg13 | true => harg15
  hm := harg16
  ha := harg17

/-- The queries as the matrix the kernel multiplies: the two maps' rows below each other. -/
def qMat (x : FVec F S1x1x2x512x64 .bf16) : FVec F S1024x64 .bf16 :=
  shapeCast S1024x64 (shapeCast S2x512x64 x shapeCasts_S1x1x2x512x64_S2x512x64) shapeCasts_S2x512x64_S1024x64

/-- The exponential of two vectors' product sum. -/
def expDot (x y : FVec F S1x32 .f32) : FVec F S1x1 .f32 :=
  exp (shapeCast S1x1 (multiReduction .add [1] S1 (mulf (shapeCast S1x32 x shapeCasts_S1x32_S1x32) (shapeCast S1x32 y shapeCasts_S1x32_S1x32))
    0x00000000#32 reduces_S1x32_S1 (.inl rfl) rfl) shapeCasts_S1_S1x1)

/-- The weight of the second map. -/
def lam (x1 y1 x2 y2 : FVec F S1x32 .f32) : FVec F S1x1 .f32 :=
  addf (subf (expDot x1 y1) (expDot x2 y2)) (broadcast S1x1 (Scalar.ofBits .f32 0x3EB60549#32))

/-- One map's quotients: its rows of the sums, divided by their column 64. -/
def quot (a : FVec F S512x128 .f32) : FVec F S512x64 .f32 :=
  divf (extractStridedSlice S512x64 ![0, 0] a slices_S512x128_o0_0_S512x64)
    (broadcastTo S512x64 (extractStridedSlice S512x1 ![0, 64] a slices_S512x128_o0_64_S512x1) broadcasts_S512x1_S512x64)

/-- The norm of each row, times the factors. -/
def norm (o : FVec F S512x64 .f32) (g : FVec F S1x64 .f32) : FVec F S512x64 .f32 :=
  mulf (mulf o (broadcastTo S512x64 (rsqrt (addf (divf (shapeCast S512x1 (multiReduction .add [1] S512 (mulf o o) 0x00000000#32 reduces_S512x64_S512 (.inl rfl) rfl)
    shapeCasts_S512_S512x1) (broadcast S512x1 (Scalar.ofBits .f32 0x42800000#32))) (broadcast S512x1 (Scalar.ofBits .f32 0x358637BD#32)))) broadcasts_S512x1_S512x64))
    (broadcastTo S512x64 (shapeCast S1x64 g shapeCasts_S1x64_S1x64) broadcasts_S1x64_S512x64)

/-- The result's rows from the weight of the second map, the two maps' sums and the norm's factors. -/
def fin (l : FVec F S1x1 .f32) (a1 a2 : FVec F S512x128 .f32) (g : FVec F S1x64 .f32) : FVec F S1x1x512x64 .bf16 :=
  shapeCast S1x1x512x64 (truncf .bf16 (mulf (norm (subf (quot a1) (mulf (broadcastTo S512x64 l broadcasts_S1x1_S512x64) (quot a2))) g)
    (broadcast S512x64 (Scalar.ofBits .f32 0x3F24FD5C#32))) bitsLt_bf16_f32) shapeCasts_S512x64_S1x1x512x64

/-- A load of a whole vector of the second map's weight. -/
abbrev loadL (m : Memref sig .tc .vmem S1x32 .f32) : Prog (TpuEff nD τ sig (Elt F) Λ₀ .tc) (Vec F S1x32 .f32) :=
  Prog.lift (.load m (Rect.unit (s := S1x32) ![0, 0] S1x32.size inb_S1x32_S1x32_0_0).toLoadRect (View.loadsAt_vmem h_S1x32))

/-- Load the four vectors, the two maps' sums and the factors, store the result. -/
def finP (arg6 : Memref sig .tc .vmem S1x32 .f32) (arg7 : Memref sig .tc .vmem S1x32 .f32) (arg8 : Memref sig .tc .vmem S1x32 .f32) (arg9 : Memref sig .tc .vmem S1x32 .f32) (arg10 : Memref sig .tc .vmem S1x64 .f32) (arg11 : Memref sig .tc .vmem S1x1x512x64 .bf16) (harg11 : arg11.IsWhole) (arg17 : Memref sig .tc .vmem S1024x128 .f32) :
    Prog (TpuEff nD τ sig (Elt F) Λ₀ .tc) PUnit := do
  let x1 : Vec F S1x32 .f32 ← loadL arg6
  let y1 : Vec F S1x32 .f32 ← loadL arg7
  let x2 : Vec F S1x32 .f32 ← loadL arg8
  let y2 : Vec F S1x32 .f32 ← loadL arg9
  let a1 : Vec F S512x128 .f32 ← Prog.lift (.load arg17 (Rect.unit (s := S1024x128) ![0, 0] S512x128.size inb_S1024x128_S512x128_0_0).toLoadRect (View.loadsAt_vmem h_S512x128))
  let a2 : Vec F S512x128 .f32 ← Prog.lift (.load arg17 (Rect.unit (s := S1024x128) ![512, 0] S512x128.size inb_S1024x128_S512x128_512_0).toLoadRect (View.loadsAt_vmem h_S512x128))
  let g : Vec F S1x64 .f32 ← Prog.lift (.load arg10 (Rect.unit (s := S1x64) ![0, 0] S1x64.size inb_S1x64_S1x64_0_0).toLoadRect (View.loadsAt_vmem h_S1x64))
  let _ : Vec F S1x1x512x64 .bf16 ← Prog.lift (.load arg11 (Rect.unit (s := S1x1x512x64) ![0, 0, 0, 0] S1x1x512x64.size inb_S1x1x512x64_S1x1x512x64_0_0_0_0).toLoadRect (View.loadsAt_vmem h_S1x1x512x64))
  Prog.lift (.store arg11 (Rect.unit (s := S1x1x512x64) ![0, 0, 0, 0] S1x1x512x64.size inb_S1x1x512x64_S1x1x512x64_0_0_0_0) (fin (lam x1 y1 x2 y2) a1 a2 g) Finset.univ
    (View.stores_vmem h_S1x1x512x64 (harg11.storeExact_slice rfl _ packedbf16_S1x1x512x64_S1x1x512x64_0_0_0_0) (fun _ => rfl)) (.inl rfl))

/-- The keys that the second half's pairs load lie within the array. -/
theorem tailK_inb (u : Fin 32) : ∀ a, (![0, 0, 0, 256 * (33 + u.val)] : Fin 4 → ℕ) a + (sKB 64).size a ≤ (sKT 64).size a := by
  intro a; fin_cases a <;> simp [Shape.size] <;> omega
/-- So do the values. -/
theorem tailV_inb (u : Fin 32) : ∀ a, (![0, 0, 256 * (32 + u.val), 0] : Fin 4 → ℕ) a + sVB.size a ≤ sVT.size a := by
  intro a; fin_cases a <;> simp [Shape.size] <;> omega

/-- The parity of the buffers that hold block `u`'s probabilities. -/
abbrev par (u : ℕ) : Bool := u % 2 == 1

/-- The first half: thirty-two pairs of steps. -/
def head (q : FVec F S1024x64 .bf16) (B : Mems sig 1024 64) : Prog (TpuEff nD τ sig (Elt F) Λ₀ .tc) PUnit :=
  seqN 32 fun u => stepP q B (par u.val) (k0_off1 (BitVec.ofNat 32 (256 + 256 * u.val))) (k0_off1_inb u)
    (k0_off2 (BitVec.ofNat 32 (256 * u.val))) (k0_off2_inb u)

/-- The second half. -/
def tail (q : FVec F S1024x64 .bf16) (B : Mems sig 1024 64) : Prog (TpuEff nD τ sig (Elt F) Λ₀ .tc) PUnit :=
  seqN 32 fun u => stepP q B (par u.val) ![0, 0, 0, 256 * (33 + u.val)] (tailK_inb u) ![0, 0, 256 * (32 + u.val), 0] (tailV_inb u)

/-- The printed body is the sequence of steps. -/
theorem body_eq (i : grid0.Coords) (arg3 : Memref sig .tc .vmem S1x1x2x512x64 .bf16) (harg3 : arg3.IsWhole) (arg4 : Memref sig .tc .vmem S1x1x64x16640 .bf16) (harg4 : arg4.IsWhole) (arg5 : Memref sig .tc .vmem S1x1x16640x128 .bf16) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x64 .f32) (harg10 : arg10.IsWhole) (arg11 : Memref sig .tc .vmem S1x1x512x64 .bf16) (harg11 : arg11.IsWhole) (arg12 : Memref sig .tc .vmem S1024x256 .bf16) (harg12 : arg12.IsWhole) (arg13 : Memref sig .tc .vmem S1024x128 .f32) (harg13 : arg13.IsWhole) (arg14 : Memref sig .tc .vmem S1024x256 .bf16) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) :
    cc0_diff_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17
      = (do
        let x : Vec F S1x1x2x512x64 .bf16 ← Prog.lift (.load arg3 (Rect.unit (s := S1x1x2x512x64) ![0, 0, 0, 0, 0] S1x1x2x512x64.size inb_S1x1x2x512x64_S1x1x2x512x64_0_0_0_0_0).toLoadRect (View.loadsAt_vmem h_S1x1x2x512x64))
        startP (qMat x) (mems arg4 harg4 arg5 harg5 arg12 harg12 arg13 harg13 arg14 harg14 arg15 harg15 arg16 harg16 arg17 harg17) inb_S1x1x64x16640_S1x1x64x256_0_0_0_0
        head (qMat x) (mems arg4 harg4 arg5 harg5 arg12 harg12 arg13 harg13 arg14 harg14 arg15 harg15 arg16 harg16 arg17 harg17)
        tail (qMat x) (mems arg4 harg4 arg5 harg5 arg12 harg12 arg13 harg13 arg14 harg14 arg15 harg15 arg16 harg16 arg17 harg17)
        accP 64 arg5 ![0, 0, 16384, 0] inb_S1x1x16640x128_S1x1x256x128_0_0_16384_0 arg12 arg13 arg17
        finP arg6 arg7 arg8 arg9 arg10 arg11 harg11 arg17) := by
  unfold cc0_diff_attention k0_part80 k0_part81
  simp only [bind_assoc, pure_bind]
  sl_kernel_rfl

end Diff
-- ==== Proof.DiffRun.lean ====
/-
  The differential attention kernel's body as a triple: from the staged inputs to the staged result, whatever the scratch
  buffers held.
-/
module

public import proofs.«01_k».proof.Proof.Diff

@[expose] public section

set_option maxRecDepth 16384

noncomputable section

namespace Diff

open Cert.DiffKernelIdeal Cert.DiffKernelIdeal.Gen Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Where pair `u` of the first half loads its keys. -/
theorem off1_eq (u : Fin 32) : k0_off1 (BitVec.ofNat 32 (256 + 256 * u.val)) = ![0, 0, 0, 256 * (0 + u.val + 1)] :=
  (by decide +kernel : ∀ u : Fin 32, k0_off1 (BitVec.ofNat 32 (256 + 256 * u.val)) = ![0, 0, 0, 256 * (0 + u.val + 1)]) u

/-- Where it loads its values. -/
theorem off2_eq (u : Fin 32) : k0_off2 (BitVec.ofNat 32 (256 * u.val)) = ![0, 0, 256 * (0 + u.val), 0] :=
  (by decide +kernel : ∀ u : Fin 32, k0_off2 (BitVec.ofNat 32 (256 * u.val)) = ![0, 0, 256 * (0 + u.val), 0]) u

/-- Parities alternate. -/
theorem par_succ (u : ℕ) : par (u + 1) = !par u := by
  unfold par; rcases Nat.mod_two_eq_zero_or_one u with h | h <;> simp [Nat.add_mod, h]

/-- The first map's rows of the sums. -/
abbrev rows₁ (A : FVec F S1024x128 .f32) : FVec F S512x128 .f32 := VecWindow.window A ![0, 0] S512x128.size inb_S1024x128_S512x128_0_0
/-- The second map's. -/
abbrev rows₂ (A : FVec F S1024x128 .f32) : FVec F S512x128 .f32 := VecWindow.window A ![512, 0] S512x128.size inb_S1024x128_S512x128_512_0

/-- What the body leaves in the result's staging buffer, from the staged inputs. -/
def outsOf (Xq : FVec F S1x1x2x512x64 .bf16) (Xk : FVec F S1x1x64x16640 .bf16) (Xv : FVec F S1x1x16640x128 .bf16)
    (X₁ Y₁ X₂ Y₂ : FVec F S1x32 .f32) (Xg : FVec F S1x64 .f32) : FVec F S1x1x512x64 .bf16 :=
  fin (lam X₁ Y₁ X₂ Y₂) (rows₁ (ac (M := 1024) (D := 64) (qMat Xq) Xk Xv 65)) (rows₂ (ac (M := 1024) (D := 64) (qMat Xq) Xk Xv 65)) Xg

section Triples

variable {Ix : Type} [DecidableEq Ix] {Name : Type} [DecidableEq Name] {U : Type} [URA U] {Lvl : Type} [Preorder Lvl]

local notation "𝕄" => MT nD τ sig Ix (Elt F) Name U Lvl

variable (defs : Defs nD τ sig (Elt F) Λ₀) (𝒱 : Variants) (c : Dev nD) (E : Set Name)
variable (q : FVec F S1024x64 .bf16) (Xk : FVec F S1x1x64x16640 .bf16) (Xv : FVec F S1x1x16640x128 .bf16) (B : Mems sig 1024 64)

/-- The first half takes the state from block 0 to block 32. -/
theorem wp_head :
    (St q Xk Xv B c 0 false : sProp 𝕄) ⊢ wp frame (wpE defs 𝒱 (c : Thread nD τ) none) E (head q B)
      fun _ => St q Xk Xv B c 32 false := by
  refine wp_seqN defs 𝒱 c E (fun k => (St q Xk Xv B c k (par k) : sProp 𝕄)) 32 _ 0 fun u => ?_
  dsimp only
  rw [par_succ, Nat.zero_add]
  exact wp_stepP q Xk Xv B defs 𝒱 c E _ _ _ (k0_off1_inb u) _ (k0_off2_inb u)
    ((off1_eq u).trans (by rw [Nat.zero_add])) ((off2_eq u).trans (by rw [Nat.zero_add]))

/-- The second half takes it to block 64. -/
theorem wp_tail :
    (St q Xk Xv B c 32 false : sProp 𝕄) ⊢ wp frame (wpE defs 𝒱 (c : Thread nD τ) none) E (tail q B)
      fun _ => St q Xk Xv B c 64 false := by
  refine wp_seqN defs 𝒱 c E (fun k => (St q Xk Xv B c k (par k) : sProp 𝕄)) 32 _ 32 fun u => ?_
  have e : par (32 + u.val) = par u.val := by unfold par; congr 1; omega
  dsimp only
  rw [par_succ, e]
  exact wp_stepP q Xk Xv B defs 𝒱 c E _ _ _ (tailK_inb u) _ (tailV_inb u)
    (by rw [show 33 + u.val = 32 + u.val + 1 by omega]) rfl

/-- A load of a window reads the window of the value. -/
theorem readAt_window {sA : Shape} {eA : EltTy} (m : Memref sig .tc .vmem sA eA) (X : sA.Idx → Elt F eA) (o z : Fin sA.rank → ℕ)
    (h : ∀ a, o a + z a ≤ sA.size a) :
    View.readAt (Elt F) m.view (Rect.unit o z h).toLoadRect (m.view.rep X) = VecWindow.window X o z h :=
  View.readAt_rep_unit m.view X h rfl h

/-- The end's triple: the buffers it reads are kept, and the result's holds the normed difference. -/
theorem wp_finP (arg6 : Memref sig .tc .vmem S1x32 .f32) (arg7 : Memref sig .tc .vmem S1x32 .f32) (arg8 : Memref sig .tc .vmem S1x32 .f32) (arg9 : Memref sig .tc .vmem S1x32 .f32) (arg10 : Memref sig .tc .vmem S1x64 .f32) (arg11 : Memref sig .tc .vmem S1x1x512x64 .bf16) (harg11 : arg11.IsWhole) (arg17 : Memref sig .tc .vmem S1024x128 .f32)
    (X₁ Y₁ X₂ Y₂ : FVec F S1x32 .f32) (Xg : FVec F S1x64 .f32) (Xo : FVec F S1x1x512x64 .bf16) (A : FVec F S1024x128 .f32) (Q : PUnit → sProp 𝕄) :
    iprop(holds c arg6 X₁ ∗ holds c arg7 Y₁ ∗ holds c arg8 X₂ ∗ holds c arg9 Y₂ ∗ holds c arg10 Xg ∗ holds c arg17 A ∗ holds c arg11 Xo ∗
      ((holds c arg6 X₁ ∗ holds c arg7 Y₁ ∗ holds c arg8 X₂ ∗ holds c arg9 Y₂ ∗ holds c arg10 Xg ∗ holds c arg17 A ∗ holds c arg11 (fin (lam X₁ Y₁ X₂ Y₂) (rows₁ A) (rows₂ A) Xg)) -∗ Q ⟨⟩))
    ⊢ wp frame (wpE defs 𝒱 (c : Thread nD τ) none) E (finP arg6 arg7 arg8 arg9 arg10 arg11 harg11 arg17) Q := by
  unfold finP holds
  iintro ⟨H6, H7, H8, H9, H10, H17, H11, HQ⟩
  sl_exec!
  sl_step
  have e1 := View.readAt_rep_full (Val := Elt F) arg6.view X₁ inb_S1x32_S1x32_0_0
  have e2 := View.readAt_rep_full (Val := Elt F) arg7.view Y₁ inb_S1x32_S1x32_0_0
  have e3 := View.readAt_rep_full (Val := Elt F) arg8.view X₂ inb_S1x32_S1x32_0_0
  have e4 := View.readAt_rep_full (Val := Elt F) arg9.view Y₂ inb_S1x32_S1x32_0_0
  have e5 := View.readAt_rep_full (Val := Elt F) arg10.view Xg inb_S1x64_S1x64_0_0
  have e6 := readAt_window arg17 A ![0, 0] S512x128.size inb_S1024x128_S512x128_0_0
  have e7 := readAt_window arg17 A ![512, 0] S512x128.size inb_S1024x128_S512x128_512_0
  iapply HQ
  isplitl [H6]; · iexact H6
  isplitl [H7]; · iexact H7
  isplitl [H8]; · iexact H8
  isplitl [H9]; · iexact H9
  isplitl [H10]; · iexact H10
  isplitl [H17]; · iexact H17
  iapply (pointsTo_rep_of_read (c : Thread nD τ) arg11 _ fullShare _ ?_) $$ H11
  unfold wp_finP.sl.H11_1
  rw [View.read_writes_full, e5, e6, e7]
  unfold wp_finP.sl.r wp_finP.sl.r_1 wp_finP.sl.r_2 wp_finP.sl.r_3
  rw [e1, e2, e3, e4]

/-- The body's triple. -/
theorem wp_body (i : grid0.Coords) (arg3 : Memref sig .tc .vmem S1x1x2x512x64 .bf16) (harg3 : arg3.IsWhole) (arg4 : Memref sig .tc .vmem S1x1x64x16640 .bf16) (harg4 : arg4.IsWhole) (arg5 : Memref sig .tc .vmem S1x1x16640x128 .bf16) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x64 .f32) (harg10 : arg10.IsWhole) (arg11 : Memref sig .tc .vmem S1x1x512x64 .bf16) (harg11 : arg11.IsWhole) (arg12 : Memref sig .tc .vmem S1024x256 .bf16) (harg12 : arg12.IsWhole) (arg13 : Memref sig .tc .vmem S1024x128 .f32) (harg13 : arg13.IsWhole) (arg14 : Memref sig .tc .vmem S1024x256 .bf16) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole)
    (Xq : FVec F S1x1x2x512x64 .bf16) (X₁ Y₁ X₂ Y₂ : FVec F S1x32 .f32) (Xg : FVec F S1x64 .f32) (Q : PUnit → sProp 𝕄) :
    iprop(holds c arg3 Xq ∗ holds c arg4 Xk ∗ holds c arg5 Xv ∗ holds c arg6 X₁ ∗ holds c arg7 Y₁ ∗ holds c arg8 X₂ ∗ holds c arg9 Y₂ ∗ holds c arg10 Xg ∗ (∃ X, holds c arg11 X) ∗ (∃ X, holds c arg12 X) ∗ (∃ X, holds c arg13 X) ∗ (∃ X, holds c arg14 X) ∗ (∃ X, holds c arg15 X) ∗ (∃ X, holds c arg16 X) ∗ (∃ X, holds c arg17 X) ∗ ((holds c arg3 Xq ∗ holds c arg4 Xk ∗ holds c arg5 Xv ∗ holds c arg6 X₁ ∗ holds c arg7 Y₁ ∗ holds c arg8 X₂ ∗ holds c arg9 Y₂ ∗ holds c arg10 Xg ∗ holds c arg11 (outsOf Xq Xk Xv X₁ Y₁ X₂ Y₂ Xg) ∗ (∃ X, holds c arg12 X) ∗ (∃ X, holds c arg13 X) ∗ (∃ X, holds c arg14 X) ∗ (∃ X, holds c arg15 X) ∗ (∃ X, holds c arg16 X) ∗ (∃ X, holds c arg17 X)) -∗ Q ⟨⟩))
    ⊢ wp frame (wpE defs 𝒱 (c : Thread nD τ) none) E (cc0_diff_attention i arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  rw [body_eq, wp_bind]
  iintro ⟨H3, H4, H5, H6, H7, H8, H9, H10, ⟨%Xo, H11⟩, H12, H13, H14, H15, H16, H17, HQ⟩
  iapply (wp_loadP defs 𝒱 c E arg3 ![0, 0, 0, 0, 0] inb_S1x1x2x512x64_S1x1x2x512x64_0_0_0_0_0 (View.loadsAt_vmem h_S1x1x2x512x64) Xq)
  isplitl [H3]; · iexact H3
  iintro H3
  set B : Mems sig 1024 64 := mems arg4 harg4 arg5 harg5 arg12 harg12 arg13 harg13 arg14 harg14 arg15 harg15 arg16 harg16 arg17 harg17
  rw [wp_bind]
  iapply wp_wand_r
  isplitl [H4 H5 H16 H17 H12 H13 H14 H15]
  · iapply (wp_startP (qMat Xq) Xk Xv B defs 𝒱 c E inb_S1x1x64x16640_S1x1x64x256_0_0_0_0)
    isplitl [H4]; · iexact H4
    isplitl [H5]; · iexact H5
    isplitl [H16]; · iexact H16
    isplitl [H17]; · iexact H17
    isplitl [H12]; · iexact H12
    isplitl [H13]; · iexact H13
    isplitl [H14]; · iexact H14
    iexact H15
  iintro %_ HS
  rw [wp_bind]
  iapply wp_wand_r
  isplitl [HS]
  · iapply (wp_head defs 𝒱 c E (qMat Xq) Xk Xv B) $$ HS
  iintro %_ HS
  rw [wp_bind]
  iapply wp_wand_r
  isplitl [HS]
  · iapply (wp_tail defs 𝒱 c E (qMat Xq) Xk Xv B) $$ HS
  iintro %_ HS
  rw [wp_bind]
  iapply wp_wand_r
  isplitl [HS]
  · iapply (wp_lastP (qMat Xq) Xk Xv B defs 𝒱 c E 64 false ![0, 0, 16384, 0] inb_S1x1x16640x128_S1x1x256x128_0_0_16384_0 rfl) $$ HS
  iintro %_ ⟨H4, H5, H16, H17, H12, H13, H14, H15⟩
  iapply (wp_finP defs 𝒱 c E arg6 arg7 arg8 arg9 arg10 arg11 harg11 B.a X₁ Y₁ X₂ Y₂ Xg Xo (ac (qMat Xq) Xk Xv 65))
  isplitl [H6]; · iexact H6
  isplitl [H7]; · iexact H7
  isplitl [H8]; · iexact H8
  isplitl [H9]; · iexact H9
  isplitl [H10]; · iexact H10
  isplitl [H17]; · iexact H17
  isplitl [H11]; · iexact H11
  iintro ⟨H6, H7, H8, H9, H10, H17, H11⟩
  iapply HQ
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexists _; iexact H17

end Triples

end Diff
-- ==== Proof.DiffLaunch.lean ====
/-
  The differential attention call's run: every result block ends at what the body computes from the blocks it was staged,
  and nothing else of the memory changes.
-/
module

public import proofs.«01_k».proof.Proof.DiffRun
public import proofs.«01_k».proof.Proof.Gen.DiffKernelIdeal.Frame.Runs
public import Idealize.ShloMosaic.Lib.Pipeline.TableIdle

@[expose] public section

set_option maxRecDepth 16384

noncomputable section

namespace Diff

open Cert.DiffKernelIdeal Cert.DiffKernelIdeal.Gen Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's block at point `t`: what the body computes from the staged blocks. -/
def outsAt (c : Dev nD) (t : Fin cfg0.N) : FVec F S1x1x512x64 .bf16 :=
  outsOf (X0_0 m c t) (iblk m c 1 t) (iblk m c 2 t) (iblk m c 3 t) (iblk m c 4 t) (iblk m c 5 t) (iblk m c 6 t) (iblk m c 7 t)

/-- The arrays as the launch finds them; after the body each input's buffer as before it and the result's at
    `outsAt`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outsAt m c t
  Φ _ := Pipeline.ΦA spec0 c
  q _ := fullShare
  owed _ := 0

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outsAt m c t := by dsimp only [dats]

theorem before0_0 (c : Dev nD) (t : Fin cfg0.N) (d) : (dats m 0 c).before 0 t d = X0_0 m c t :=
  before0_0_of m (dats m 0 c) rfl (after0_0 m c) t d
theorem before0_1 (c : Dev nD) (t : Fin cfg0.N) (d) : (dats m 0 c).before 1 t d = iblk m c 1 t :=
  before0_1_of m (dats m 0 c) rfl (after0_1 m c) t d
theorem before0_2 (c : Dev nD) (t : Fin cfg0.N) (d) : (dats m 0 c).before 2 t d = iblk m c 2 t :=
  before0_2_of m (dats m 0 c) rfl (after0_2 m c) t d
theorem before0_3 (c : Dev nD) (t : Fin cfg0.N) (d) : (dats m 0 c).before 3 t d = iblk m c 3 t :=
  before0_3_of m (dats m 0 c) rfl (after0_3 m c) t d
theorem before0_4 (c : Dev nD) (t : Fin cfg0.N) (d) : (dats m 0 c).before 4 t d = iblk m c 4 t :=
  before0_4_of m (dats m 0 c) rfl (after0_4 m c) t d
theorem before0_5 (c : Dev nD) (t : Fin cfg0.N) (d) : (dats m 0 c).before 5 t d = iblk m c 5 t :=
  before0_5_of m (dats m 0 c) rfl (after0_5 m c) t d
theorem before0_6 (c : Dev nD) (t : Fin cfg0.N) (d) : (dats m 0 c).before 6 t d = iblk m c 6 t :=
  before0_6_of m (dats m 0 c) rfl (after0_6 m c) t d
theorem before0_7 (c : Dev nD) (t : Fin cfg0.N) (d) : (dats m 0 c).before 7 t d = iblk m c 7 t :=
  before0_7_of m (dats m 0 c) rfl (after0_7 m c) t d

/-- The launch's invariant: the six scratch buffers at any values, and the generator's register. -/
theorem inv_eq (c : Dev nD) : (Pipeline.ΦA spec0 c : sProp 𝕄) =
    iprop(((∃ X, holds c (Memref.whole cc0_scratch0) X)
      ∗ (∃ X, holds c (Memref.whole cc0_scratch1) X)
      ∗ (∃ X, holds c (Memref.whole cc0_scratch2) X)
      ∗ (∃ X, holds c (Memref.whole cc0_scratch3) X)
      ∗ (∃ X, holds c (Memref.whole cc0_scratch4) X)
      ∗ (∃ X, holds c (Memref.whole cc0_scratch5) X)) ∗ ∃ r, prngReg c r) := by
  rw [PhiA0_eq]
  simp only [owns_eq_rep]
  rfl

/-- The body meets the launch's obligation at every point. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8]
  rw [show (dats m 0 c).Φ t.castSucc = Pipeline.ΦA spec0 c from rfl, inv_eq]
  unfold outsAt
  simp only [owns_eq_rep]
  iintro ⟨⟨⟨H12, H13, H14, H15, H16, H17⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_body defs₀ Variants.none c Set.univ)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, H7, H8, H12, H13, H14, H15, H16, H17⟩
  isplitl [H12 H13 H14 H15 H16 H17 Hg]
  · isplitr [Hg]
    · isplitl [H12]; · iexact H12
      isplitl [H13]; · iexact H13
      isplitl [H14]; · iexact H14
      isplitl [H15]; · iexact H15
      isplitl [H16]; · iexact H16
      iexact H17
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option backward.isDefEq.respectTransparency.types false in
/-- Every execution ends, with every array at what the proof data say and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: the arguments end as they began, and the counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_with_sems (frame_of m ρ (dats m) fun _ _ => rfl) (run_main m ρ)

end Diff
-- ==== Proof.DiffRow.lean ====
/-
  A row of the differential attention's result: the difference of the two maps' rows, normed; and the constants.
-/
module

public import proofs.«01_k».proof.Proof.Softmax

@[expose] public section

noncomputable section

namespace Diff

open Stream
open Idealize.ShloMosaic

/-- The scale of the scores: `32 ^ (-1/2)` rounded. -/
abbrev scale : ℝ := 11863283 / 67108864

theorem ofBits_scale : Ideal.ofBits .f32 0x3E3504F3#32 = (scale : EReal) := by
  rw [show Ideal.ofBits .f32 0x3E3504F3#32 = ((11863283 * (2 ^ 26)⁻¹ : ℝ) : EReal) from by simp [Ideal.ofBits, Ideal.ieee]]
  norm_num

/-- The weight of the second map: the exponentials of two sums of products, their difference, and a constant. -/
def lamOf (x₁ y₁ x₂ y₂ : Fin 32 → EReal) : EReal :=
  Ideal.exp (∑ d, x₁ d * y₁ d) - Ideal.exp (∑ d, x₂ d * y₂ d) + Ideal.ofBits .f32 0x3EB60549#32

/-- A row's element, normed: times the inverse root of the row's mean square and a bit, times its factor and a constant. -/
def normed (o : Fin 64 → EReal) (g : EReal) (d : Fin 64) : EReal :=
  o d * Ideal.rsqrt (Ideal.div (∑ e, o e * o e) (Ideal.ofBits .f32 0x42800000#32) + Ideal.ofBits .f32 0x358637BD#32) * g
    * Ideal.ofBits .f32 0x3F24FD5C#32

theorem ofBits_lam : ∃ r : ℝ, Ideal.ofBits .f32 0x3EB60549#32 = (r : EReal) :=
  ⟨11928905 * (2 ^ 25)⁻¹, by simp [Ideal.ofBits, Ideal.ieee]⟩

/-- The weight of the second map is a real when the vectors are. -/
theorem lamOf_real (x₁ y₁ x₂ y₂ : Fin 32 → ℝ) :
    ∃ l : ℝ, lamOf (fun d => (x₁ d : EReal)) (fun d => (y₁ d : EReal)) (fun d => (x₂ d : EReal)) (fun d => (y₂ d : EReal)) = (l : EReal) := by
  obtain ⟨r, hr⟩ := ofBits_lam
  unfold lamOf
  simp only [← EReal.coe_mul, ← coe_sum, Ideal.exp_coe, ← EReal.coe_sub, hr, ← EReal.coe_add]
  exact ⟨_, rfl⟩

/-- The two maps' rows and the difference of the weights give the same row over the reals. -/
theorem difference {N : ℕ} (w₁ w₂ v : Fin N → ℝ) (l : ℝ) :
    (∑ n, (w₁ n : EReal) * (v n : EReal)) - (l : EReal) * ∑ n, (w₂ n : EReal) * (v n : EReal)
      = ∑ n, ((w₁ n : EReal) - (l : EReal) * (w₂ n : EReal)) * (v n : EReal) := by
  simp only [← EReal.coe_mul, ← coe_sum, ← EReal.coe_sub]
  congr 1
  rw [Finset.mul_sum, ← Finset.sum_sub_distrib]
  exact Finset.sum_congr rfl fun n _ => by ring

end Diff
-- ==== Proof.DiffValue.lean ====
/-
  What the differential attention kernel's body leaves, at an index: the normed difference of the values under the two
  softmaxes' weights.
-/
module

public import proofs.«01_k».proof.Proof.DiffRow
public import proofs.«01_k».proof.Proof.DiffRun
public import Idealize.ShloMosaic.Lib.Pointwise

@[expose] public section

set_option maxRecDepth 16384

noncomputable section

namespace Diff

open Cert.DiffKernelIdeal Cert.DiffKernelIdeal.Gen Stream
open Idealize.ShloMosaic

theorem expDot_apply (x y : FVec Ideal S1x32 .f32) : expDot x y (ix2 0 0) = Ideal.exp (∑ d : Fin 32, x (ix2 0 d) * y (ix2 0 d)) := by
  pointwise [expDot]

theorem lam_apply (x₁ y₁ x₂ y₂ : FVec Ideal S1x32 .f32) :
    lam x₁ y₁ x₂ y₂ (ix2 0 0) = lamOf (fun d => x₁ (ix2 0 d)) (fun d => y₁ (ix2 0 d)) (fun d => x₂ (ix2 0 d)) (fun d => y₂ (ix2 0 d)) := by
  unfold lamOf
  rw [← expDot_apply, ← expDot_apply]
  rfl

theorem quot_apply (a : FVec Ideal S512x128 .f32) (r : Fin 512) (d : Fin 64) :
    quot a (ix2 r d) = Ideal.div (a (ix2 r ⟨d.val, by omega⟩)) (a (ix2 r 64)) := by
  pointwise [quot]

theorem norm_apply (o : FVec Ideal S512x64 .f32) (g : FVec Ideal S1x64 .f32) (r : Fin 512) (d : Fin 64) :
    norm o g (ix2 r d) * Ideal.ofBits .f32 0x3F24FD5C#32 = normed (fun e => o (ix2 r e)) (g (ix2 0 d)) d := by
  unfold normed
  pointwise [norm]

/-- The result's row: the difference of the quotients, normed. -/
theorem fin_apply (l : FVec Ideal S1x1 .f32) (a1 a2 : FVec Ideal S512x128 .f32) (g : FVec Ideal S1x64 .f32) (r : Fin 512) (d : Fin 64) :
    fin l a1 a2 g (ix4 0 0 r d) = normed (fun e => quot a1 (ix2 r e) - l (ix2 0 0) * quot a2 (ix2 r e)) (g (ix2 0 d)) d := by
  have e : (fun e : Fin 64 => quot a1 (ix2 r e) - l (ix2 0 0) * quot a2 (ix2 r e))
      = fun e => subf (quot a1) (mulf (broadcastTo S512x64 l broadcasts_S1x1_S512x64) (quot a2)) (ix2 r e) := by
    funext e
    generalize quot a1 = x
    generalize quot a2 = y
    pointwise
  rw [e, ← norm_apply]
  unfold fin
  generalize norm (subf (quot a1) (mulf (broadcastTo S512x64 l broadcasts_S1x1_S512x64) (quot a2))) g = x
  pointwise

/-- Row `r` of map `h` in the matrix of both maps' rows. -/
abbrev row (h : Fin 2) (r : Fin 512) : Fin 1024 := ⟨512 * h.val + r.val, by omega⟩

/-- The matrix of queries holds the maps' rows below each other. -/
theorem qMat_apply (x : FVec Ideal S1x1x2x512x64 .bf16) (h : Fin 2) (r : Fin 512) (d : Fin 64) :
    qMat x (ix2 (row h r) d) = x (ix5 0 0 h r d) := by
  unfold qMat
  refine Eq.trans (b := shapeCast S2x512x64 x shapeCasts_S1x1x2x512x64_S2x512x64 (ix3 h r d)) ?_ ?_
  · refine congrArg (shapeCast S2x512x64 x _) (Shape.reshapeEquiv_eq_of_rowMajor _ ?_)
    rw [Shape.rowMajor_val_two, Shape.rowMajor_val_three]
    show (h.val * 512 + r.val) * 64 + d.val = (512 * h.val + r.val) * 64 + d.val
    omega
  · refine congrArg x (Shape.reshapeEquiv_eq_of_rowMajor _ ?_)
    rw [Shape.rowMajor_val_five, Shape.rowMajor_val_three]
    show (((0 * 1 + 0) * 2 + h.val) * 512 + r.val) * 64 + d.val = (h.val * 512 + r.val) * 64 + d.val
    omega

theorem rows₁_apply (A : FVec Ideal S1024x128 .f32) (r : Fin 512) (j : Fin 128) : rows₁ A (ix2 r j) = A (ix2 (row 0 r) j) := by
  refine congrArg A (funext fun a => Fin.ext ?_)
  fin_cases a
  · show 0 + 1 * r.val = 512 * 0 + r.val; omega
  · show 0 + 1 * j.val = j.val; omega

theorem rows₂_apply (A : FVec Ideal S1024x128 .f32) (r : Fin 512) (j : Fin 128) : rows₂ A (ix2 r j) = A (ix2 (row 1 r) j) := by
  refine congrArg A (funext fun a => Fin.ext ?_)
  fin_cases a
  · show 512 + 1 * r.val = 512 * 1 + r.val; omega
  · show 0 + 1 * j.val = j.val; omega

variable (Xq : FVec Ideal S1x1x2x512x64 .bf16) (Xk : FVec Ideal S1x1x64x16640 .bf16) (Xv : FVec Ideal S1x1x16640x128 .bf16)

/-- A map's quotient: the values under its softmax's weights, when the scores are reals and the values' column 64 is one. -/
theorem map_apply (σ : Fin 2 → Fin 512 → Fin 16640 → ℝ)
    (hσ : ∀ h r n, ∑ d : Fin 64, Xq (ix5 0 0 h r d) * Xk (ix4 0 0 d n) = (σ h r n : EReal))
    (hone : ∀ n : Fin 16640, Xv (ix4 0 0 n 64) = 1) (h : Fin 2) (r : Fin 512)
    (τ : Fin 16640 → ℝ) (ν : ℝ) (hτ : ∀ n, τ n = Real.log 2 * σ h r n) (j : Fin 128) :
    Ideal.div (ac (M := 1024) (D := 64) (qMat Xq) Xk Xv 65 (ix2 (row h r) j)) (ac (M := 1024) (D := 64) (qMat Xq) Xk Xv 65 (ix2 (row h r) 64))
      = ∑ n : Fin 16640, (weight τ ν n : EReal) * Xv (ix4 0 0 n j) := by
  refine quotient_apply (M := 1024) (D := 64) (q := qMat Xq) (Xk := Xk) Xv
    (fun i n => σ ⟨i.val / 512, by omega⟩ ⟨i.val % 512, by omega⟩ n) τ ν (fun i n => ?_) (row h r) (fun n => ?_) 64 hone _
  · rw [← hσ]
    refine Finset.sum_congr rfl fun d _ => congrArg (· * _) ?_
    rw [← qMat_apply Xq]
    exact congrArg (fun z => qMat Xq (ix2 z d)) (Fin.ext (by show i.val = 512 * (i.val / 512) + i.val % 512; omega))
  · rw [hτ]
    have hr := r.isLt
    have e1 : (⟨(row h r).val / 512, by omega⟩ : Fin 2) = h := Fin.ext (by show (512 * h.val + r.val) / 512 = h.val; omega)
    have e2 : (⟨(row h r).val % 512, by omega⟩ : Fin 512) = r := Fin.ext (by show (512 * h.val + r.val) % 512 = r.val; omega)
    rw [e1, e2]

/-- A result block's row. -/
theorem outsOf_apply (x₁ y₁ x₂ y₂ : FVec Ideal S1x32 .f32) (g : FVec Ideal S1x64 .f32) (σ : Fin 2 → Fin 512 → Fin 16640 → ℝ)
    (hσ : ∀ h r n, ∑ d : Fin 64, Xq (ix5 0 0 h r d) * Xk (ix4 0 0 d n) = (σ h r n : EReal))
    (hone : ∀ n : Fin 16640, Xv (ix4 0 0 n 64) = 1) (r : Fin 512) (d : Fin 64)
    (τ : Fin 2 → Fin 16640 → ℝ) (ν : Fin 2 → ℝ) (hτ : ∀ h n, τ h n = Real.log 2 * σ h r n) :
    outsOf Xq Xk Xv x₁ y₁ x₂ y₂ g (ix4 0 0 r d) = normed (fun e =>
      (∑ n : Fin 16640, (weight (τ 0) (ν 0) n : EReal) * Xv (ix4 0 0 n ⟨e.val, by omega⟩))
        - lam x₁ y₁ x₂ y₂ (ix2 0 0) * ∑ n : Fin 16640, (weight (τ 1) (ν 1) n : EReal) * Xv (ix4 0 0 n ⟨e.val, by omega⟩)) (g (ix2 0 d)) d := by
  unfold outsOf
  rw [fin_apply]
  refine congrArg (fun o => normed o (g (ix2 0 d)) d) (funext fun e => ?_)
  rw [quot_apply, quot_apply, rows₁_apply, rows₁_apply, rows₂_apply, rows₂_apply, map_apply Xq Xk Xv σ hσ hone 0 r (τ 0) (ν 0) (hτ 0),
    map_apply Xq Xk Xv σ hσ hone 1 r (τ 1) (ν 1) (hτ 1)]

end Diff
-- ==== Proof.DiffEntry.lean ====
/-
  The arrays the differential attention call is given: the scaled queries, each map's columns beside zeros, the transposed
  keys, the values beside ones and zeros, and the vectors as rows.
-/
module

public import proofs.«01_k».proof.Proof.DiffRow
public import proofs.«01_k».proof.Proof.Gen.DiffKernelIdeal.Frame.Runs
public import Idealize.ShloMosaic.Lib.Claim
public import Idealize.ShloMosaic.Lib.Pointwise
public import Idealize.ShloMosaic.Lib.Pointwise.IndexVar

@[expose] public section

set_option maxRecDepth 16384

noncomputable section

namespace Diff

open Cert.DiffKernelIdeal Cert.DiffKernelIdeal.Gen Stream
open Idealize.ShloMosaic Idealize.ShloMosaic.TcCoe

/-- The queries times the scale over `log 2`. -/
def scaled (q : FVec Ideal S2x4x16640x64 .f32) : FVec Ideal S2x4x16640x64 .f32 :=
  mulf q (broadcastInDim S2x4x16640x64 ![] bcast_S_S2x4x16640x64
    (Host.divf (constant S_ .f32 0x3E3504F3#32) (Host.log (constant S_ .f32 0x40000000#32))))

/-- Thirty-two columns of zeros. -/
def zeros : FVec Ideal S2x4x16640x32 .f32 := broadcastInDim S2x4x16640x32 ![] bcast_S_S2x4x16640x32 (constant S_ .f32 0x00000000#32)

/-- Columns put beside each other. -/
def beside (a b : FVec Ideal S2x4x16640x32 .f32) : FVec Ideal S2x4x16640x64 .f32 :=
  concatenate S2x4x16640x64 3 [⟨S2x4x16640x32, a⟩, ⟨S2x4x16640x32, b⟩] concatenates_S2x4x16640x32_S2x4x16640x32_S2x4x16640x64_d3

/-- The first map's queries. -/
def first (x : FVec Ideal S2x4x16640x64 .f32) : FVec Ideal S2x4x16640x64 .f32 :=
  beside (extractStridedSlice S2x4x16640x32 ![0, 0, 0, 0] x slices_S2x4x16640x64_S2x4x16640x32_0_0_0_0) zeros

/-- The second map's. -/
def second (x : FVec Ideal S2x4x16640x64 .f32) : FVec Ideal S2x4x16640x64 .f32 :=
  beside zeros (extractStridedSlice S2x4x16640x32 ![0, 0, 0, 32] x slices_S2x4x16640x64_S2x4x16640x32_0_0_0_32)

/-- The queries the call is given. -/
def queries (q : FVec Ideal S2x4x16640x64 .f32) : FVec Ideal S2x4x2x16640x64 .bf16 :=
  truncf .bf16 (concatenate S2x4x2x16640x64 2
    [⟨S2x4x1x16640x64, broadcastInDim S2x4x1x16640x64 ![0, 1, 3, 4] bcast_S2x4x16640x64_S2x4x1x16640x64_0_1_3_4 (first (scaled q))⟩,
    ⟨S2x4x1x16640x64, broadcastInDim S2x4x1x16640x64 ![0, 1, 3, 4] bcast_S2x4x16640x64_S2x4x1x16640x64_0_1_3_4 (second (scaled q))⟩]
    concatenates_S2x4x1x16640x64_S2x4x1x16640x64_S2x4x2x16640x64_d2) bitsLt_bf16_f32

/-- The keys the call is given. -/
def keys (k : FVec Ideal S2x4x16640x64 .f32) : FVec Ideal S2x4x64x16640 .bf16 :=
  truncf .bf16 (transpose S2x4x64x16640 [0, 1, 3, 2] k transposes_S2x4x16640x64_S2x4x64x16640_0_1_3_2) bitsLt_bf16_f32

/-- The values the call is given. -/
def values (v : FVec Ideal S2x4x16640x64 .f32) : FVec Ideal S2x4x16640x128 .bf16 :=
  truncf .bf16 (concatenate S2x4x16640x128 3 [⟨S2x4x16640x64, v⟩,
    ⟨S2x4x16640x1, broadcastInDim S2x4x16640x1 ![] bcast_S_S2x4x16640x1 (constant S_ .f32 0x3F800000#32)⟩,
    ⟨S2x4x16640x63, broadcastInDim S2x4x16640x63 ![] bcast_S_S2x4x16640x63 (constant S_ .f32 0x00000000#32)⟩]
    concatenates_S2x4x16640x64_S2x4x16640x1_S2x4x16640x63_S2x4x16640x128_d3) bitsLt_bf16_f32

/-- A vector as a row. -/
def asRow (x : FVec Ideal S32 .f32) : FVec Ideal S1x32 .f32 := broadcastInDim S1x32 ![1] bcast_S32_S1x32_1 x

/-- The norm's factors as a row. -/
def factors (x : FVec Ideal S64 .f32) : FVec Ideal S1x64 .f32 := broadcastInDim S1x64 ![1] bcast_S64_S1x64_1 x

theorem scaled_apply (q : FVec Ideal S2x4x16640x64 .f32) (b : Fin 2) (g : Fin 4) (n : Fin 16640) (d : Fin 64) :
    scaled q (ix4 b g n d) = q (ix4 b g n d) * ((scale / Real.log 2 : ℝ) : EReal) := by
  pointwise [scaled]
  rw [ofBits_scale, ofBits_two, Ideal.log_coe, if_neg (by norm_num), Ideal.div_coe (Real.log_pos (by norm_num)).ne', ← EReal.coe_mul, mul_one_div]

/-- Map 0 has the first thirty-two columns … -/
theorem queries_apply₀ (q : FVec Ideal S2x4x16640x64 .f32) (b : Fin 2) (g : Fin 4) (n : Fin 16640) (d : Fin 32) :
    queries q (ix5 b g 0 n ⟨d.val, by omega⟩) = scaled q (ix4 b g n ⟨d.val, by omega⟩) := by
  unfold queries
  generalize scaled q = x
  pointwise [first, beside]

/-- … and zeros after them; -/
theorem queries_zero₀ (q : FVec Ideal S2x4x16640x64 .f32) (b : Fin 2) (g : Fin 4) (n : Fin 16640) (d : Fin 32) :
    queries q (ix5 b g 0 n ⟨32 + d.val, by omega⟩) = 0 := by
  unfold queries
  generalize scaled q = x
  pointwise [first, beside, zeros]

/-- map 1 has zeros first … -/
theorem queries_zero₁ (q : FVec Ideal S2x4x16640x64 .f32) (b : Fin 2) (g : Fin 4) (n : Fin 16640) (d : Fin 32) :
    queries q (ix5 b g 1 n ⟨d.val, by omega⟩) = 0 := by
  unfold queries
  generalize scaled q = x
  pointwise [second, beside, zeros]

/-- … and the last thirty-two columns. -/
theorem queries_apply₁ (q : FVec Ideal S2x4x16640x64 .f32) (b : Fin 2) (g : Fin 4) (n : Fin 16640) (d : Fin 32) :
    queries q (ix5 b g 1 n ⟨32 + d.val, by omega⟩) = scaled q (ix4 b g n ⟨32 + d.val, by omega⟩) := by
  unfold queries
  generalize scaled q = x
  pointwise [second, beside]

theorem keys_apply (k : FVec Ideal S2x4x16640x64 .f32) (b : Fin 2) (g : Fin 4) (d : Fin 64) (n : Fin 16640) :
    keys k (ix4 b g d n) = k (ix4 b g n d) := by
  pointwise [keys]

theorem values_apply (v : FVec Ideal S2x4x16640x64 .f32) (b : Fin 2) (g : Fin 4) (n : Fin 16640) (d : Fin 64) :
    values v (ix4 b g n ⟨d.val, by omega⟩) = v (ix4 b g n d) := by
  pointwise [values]

/-- Column 64 of the values is one. -/
theorem values_one (v : FVec Ideal S2x4x16640x64 .f32) (b : Fin 2) (g : Fin 4) (n : Fin 16640) :
    values v (ix4 b g n 64) = 1 := by
  pointwise [values]

theorem asRow_apply (x : FVec Ideal S32 .f32) (d : Fin 32) : asRow x (ix2 0 d) = x (ix1 d) := by
  pointwise [asRow]

theorem factors_apply (x : FVec Ideal S64 .f32) (d : Fin 64) : factors x (ix2 0 d) = x (ix1 d) := by
  pointwise [factors]

variable (m : (ℓ : Loc nD τ sig) → Buf (Elt Ideal) ℓ) (c : Dev nD)

theorem entry_q : V m c main_v12 = queries (m ((c : Thread nD τ).loc main_arg0)) := by sl_kernel_rfl
theorem entry_k : V m c main_v14 = keys (m ((c : Thread nD τ).loc main_arg1)) := by sl_kernel_rfl
theorem entry_v : V m c main_v18 = values (m ((c : Thread nD τ).loc main_arg2)) := by sl_kernel_rfl
theorem entry_x₁ : V m c main_v19 = asRow (m ((c : Thread nD τ).loc main_arg3)) := by sl_kernel_rfl
theorem entry_y₁ : V m c main_v20 = asRow (m ((c : Thread nD τ).loc main_arg4)) := by sl_kernel_rfl
theorem entry_x₂ : V m c main_v21 = asRow (m ((c : Thread nD τ).loc main_arg5)) := by sl_kernel_rfl
theorem entry_y₂ : V m c main_v22 = asRow (m ((c : Thread nD τ).loc main_arg6)) := by sl_kernel_rfl
theorem entry_g : V m c main_v23 = factors (m ((c : Thread nD τ).loc main_arg7)) := by sl_kernel_rfl

end Diff
-- ==== Proof.DiffRef.lean ====
/-
  The differential attention's reference at an index: the values under the difference of the two softmaxes' weights, normed.
-/
module

public import proofs.«01_k».proof.Proof.DiffRow
public import proofs.«01_k».proof.Proof.RefValue
public import proofs.«01_k».proof.Proof.Gen.DiffReferenceIdeal
public import proofs.«01_k».proof.Proof.Gen.DiffReferenceIdeal.Run
public import Idealize.ShloMosaic.Lib.Pointwise

@[expose] public section

set_option maxRecDepth 16384

noncomputable section

namespace Diff.Ref

open Cert.DiffReferenceIdeal Cert.DiffReferenceIdeal.Gen Stream
open Idealize.ShloMosaic

/-- The latent queries. -/
def latent (q : FVec Ideal S2x4x16640x64 .f32) : FVec Ideal S2x4x16384x64 .f32 :=
  extractStridedSlice S2x4x16384x64 ![0, 0, 0, 0] q slices_S2x4x16640x64_S2x4x16384x64_0_0_0_0

/-- The scaled scores of one map's columns. -/
def scores (a : FVec Ideal S2x4x16384x32 .f32) (b : FVec Ideal S2x4x16640x32 .f32) : FVec Ideal S2x4x16384x16640 .f32 :=
  mulf (Host.dotGeneral dot_S2x4x16384x32_S2x4x16640x32_S2x4x16384x16640_3_3_2_2_01_01 none a b)
    (broadcastInDim S2x4x16384x16640 ![] bcast_S_S2x4x16384x16640 (constant S_ .f32 0x3E3504F3#32))

/-- The first map's scores. -/
def scores₁ (q k : FVec Ideal S2x4x16640x64 .f32) : FVec Ideal S2x4x16384x16640 .f32 :=
  scores (extractStridedSlice S2x4x16384x32 ![0, 0, 0, 0] (latent q) slices_S2x4x16384x64_S2x4x16384x32_0_0_0_0)
    (extractStridedSlice S2x4x16640x32 ![0, 0, 0, 0] k slices_S2x4x16640x64_S2x4x16640x32_0_0_0_0)

/-- The second map's. -/
def scores₂ (q k : FVec Ideal S2x4x16640x64 .f32) : FVec Ideal S2x4x16384x16640 .f32 :=
  scores (extractStridedSlice S2x4x16384x32 ![0, 0, 0, 32] (latent q) slices_S2x4x16384x64_S2x4x16384x32_0_0_0_32)
    (extractStridedSlice S2x4x16640x32 ![0, 0, 0, 32] k slices_S2x4x16640x64_S2x4x16640x32_0_0_0_32)

/-- The maximum of each query's scores. -/
def top (s : FVec Ideal S2x4x16384x16640 .f32) : FVec Ideal S2x4x16384 .f32 :=
  maximumf (broadcastInDim S2x4x16384 ![] bcast_S_S2x4x16384 (constant S_ .f32 0xFF800000#32))
    (Host.reduce FloatOps.maximumf s (constant S_ .f32 0xFF800000#32) reducesTo_S2x4x16384x16640_S2x4x16384_d3 h_S_)

/-- A number per query, repeated over the keys. -/
def spread (x : FVec Ideal S2x4x16384 .f32) : FVec Ideal S2x4x16384x16640 .f32 :=
  broadcastInDim S2x4x16384x16640 ![0, 1, 2, 3] bcast_S2x4x16384x1_S2x4x16384x16640_0_1_2_3
    (broadcastInDim S2x4x16384x1 ![0, 1, 2] bcast_S2x4x16384_S2x4x16384x1_0_1_2 x)

/-- The exponentials of the scores less the maximum. -/
def powers (s : FVec Ideal S2x4x16384x16640 .f32) : FVec Ideal S2x4x16384x16640 .f32 :=
  Host.exp (subf s (spread (top s)))

/-- The sum of each query's exponentials. -/
def total (p : FVec Ideal S2x4x16384x16640 .f32) : FVec Ideal S2x4x16384 .f32 :=
  Host.reduceAdd p (constant S_ .f32 0x00000000#32) reducesTo_S2x4x16384x16640_S2x4x16384_d3 h_S_

/-- The softmax of the scores. -/
def soft (s : FVec Ideal S2x4x16384x16640 .f32) : FVec Ideal S2x4x16384x16640 .f32 :=
  Host.divf (powers s) (spread (total (powers s)))

/-- The exponential of two vectors' product sum. -/
def expDot (x y : FVec Ideal S32 .f32) : FVec Ideal S_ .f32 :=
  Host.exp (Host.reduceAdd (mulf x y) (constant S_ .f32 0x00000000#32) reducesTo_S32_S_d0 h_S_)

/-- The weight of the second map. -/
def lam (x₁ y₁ x₂ y₂ : FVec Ideal S32 .f32) : FVec Ideal S_ .f32 :=
  addf (subf (expDot x₁ y₁) (expDot x₂ y₂)) (constant S_ .f32 0x3EB60549#32)

/-- The values under the difference of the maps. -/
def mix (s₁ s₂ : FVec Ideal S2x4x16384x16640 .f32) (l : FVec Ideal S_ .f32) (v : FVec Ideal S2x4x16640x64 .f32) : FVec Ideal S2x4x16384x64 .f32 :=
  Host.dotGeneral dot_S2x4x16384x16640_S2x4x16640x64_S2x4x16384x64_3_2_2_3_01_01 none
    (subf s₁ (mulf (broadcastInDim S2x4x16384x16640 ![] bcast_S_S2x4x16384x16640 l) s₂)) v

/-- The norm of each row. -/
def norm (o : FVec Ideal S2x4x16384x64 .f32) (g : FVec Ideal S64 .f32) : FVec Ideal S2x4x16384x64 .bf16 :=
  truncf .bf16 (mulf (mulf (mulf o (broadcastInDim S2x4x16384x64 ![0, 1, 2, 3] bcast_S2x4x16384x1_S2x4x16384x64_0_1_2_3
      (Host.rsqrt (addf (Host.divf (broadcastInDim S2x4x16384x1 ![0, 1, 2] bcast_S2x4x16384_S2x4x16384x1_0_1_2
        (Host.reduceAdd (mulf o o) (constant S_ .f32 0x00000000#32) reducesTo_S2x4x16384x64_S2x4x16384_d3 h_S_))
        (broadcastInDim S2x4x16384x1 ![] bcast_S_S2x4x16384x1 (constant S_ .f32 0x42800000#32)))
        (broadcastInDim S2x4x16384x1 ![] bcast_S_S2x4x16384x1 (constant S_ .f32 0x358637BD#32))))))
    (broadcastInDim S2x4x16384x64 ![0, 1, 2, 3] bcast_S1x1x1x64_S2x4x16384x64_0_1_2_3 (broadcastInDim S1x1x1x64 ![3] bcast_S64_S1x1x1x64_3 g)))
    (broadcastInDim S2x4x16384x64 ![] bcast_S_S2x4x16384x64 (constant S_ .f32 0x3F24FD5C#32))) bitsLt_bf16_f32

/-- The differential attention's result. -/
def result (q k v : FVec Ideal S2x4x16640x64 .f32) (x₁ y₁ x₂ y₂ : FVec Ideal S32 .f32) (g : FVec Ideal S64 .f32) : FVec Ideal S2x4x16384x64 .bf16 :=
  norm (mix (soft (scores₁ q k)) (soft (scores₂ q k)) (lam x₁ y₁ x₂ y₂) v) g

theorem scores_apply (x : FVec Ideal S2x4x16384x32 .f32) (y : FVec Ideal S2x4x16640x32 .f32) (b : Fin 2) (g : Fin 4) (t : Fin 16384) (n : Fin 16640) :
    scores x y (ix4 b g t n) = (∑ d : Fin 32, x (ix4 b g t d) * y (ix4 b g n d)) * (scale : EReal) := by
  rw [← ofBits_scale]
  pointwise [scores]

theorem scores₁_apply (q k : FVec Ideal S2x4x16640x64 .f32) (b : Fin 2) (g : Fin 4) (t : Fin 16384) (n : Fin 16640) :
    scores₁ q k (ix4 b g t n) = (∑ d : Fin 32, q (ix4 b g ⟨t.val, by omega⟩ ⟨d.val, by omega⟩) * k (ix4 b g n ⟨d.val, by omega⟩)) * (scale : EReal) := by
  unfold scores₁
  rw [scores_apply]
  pointwise [latent]

theorem scores₂_apply (q k : FVec Ideal S2x4x16640x64 .f32) (b : Fin 2) (g : Fin 4) (t : Fin 16384) (n : Fin 16640) :
    scores₂ q k (ix4 b g t n) = (∑ d : Fin 32, q (ix4 b g ⟨t.val, by omega⟩ ⟨32 + d.val, by omega⟩) * k (ix4 b g n ⟨32 + d.val, by omega⟩)) * (scale : EReal) := by
  unfold scores₂
  rw [scores_apply]
  pointwise [latent]

/-- The larger of the least element and a number is the number. -/
theorem max_bot (y : FVec Ideal S2x4x16384 .f32) (j : S2x4x16384.Idx) :
    maximumf (broadcastInDim S2x4x16384 ![] bcast_S_S2x4x16384 (constant S_ .f32 0xFF800000#32)) y j = y j := by
  show max (Ideal.ofBits .f32 0xFF800000#32) (y j) = y j
  rw [ofBits_bot, max_eq_right bot_le]

/-- The maximum of real scores is a real. -/
theorem top_real (f : S2x4x16384x16640.Idx → ℝ) (j : S2x4x16384.Idx) : ∃ ν : ℝ, top (fun i => (f i : EReal)) j = (ν : EReal) := by
  have hr : S2x4x16384x16640.Reduces [(3 : Fin 4)] S2x4x16384 := by decide
  obtain ⟨x, hx⟩ := fold_max_real (Finset.univ : Finset (Fin (S2x4x16384x16640.size (3 : Fin 4)))) (fun n => f (hr.lift j n)) _ ofBits_bot
    ⟨⟨0, by decide⟩, Finset.mem_univ _⟩
  have e : Host.reduce (FloatOps.maximumf (F := Ideal) (φ := .f32)) (fun i => (f i : EReal)) (constant S_ .f32 0xFF800000#32)
      reducesTo_S2x4x16384x16640_S2x4x16384_d3 h_S_ j = (x : EReal) :=
    (Host.reduce_eq_fold_single _ _ _ _ hr _ _).trans hx
  exact ⟨x, (max_bot _ _).trans e⟩

theorem spread_apply (x : FVec Ideal S2x4x16384 .f32) (b : Fin 2) (g : Fin 4) (t : Fin 16384) (n : Fin 16640) :
    spread x (ix4 b g t n) = x (ix3 b g t) := by
  pointwise [spread]

theorem total_apply (p : FVec Ideal S2x4x16384x16640 .f32) (b : Fin 2) (g : Fin 4) (t : Fin 16384) :
    total p (ix3 b g t) = ∑ n : Fin 16640, p (ix4 b g t n) := by
  pointwise [total]

theorem powers_apply (s : FVec Ideal S2x4x16384x16640 .f32) (b : Fin 2) (g : Fin 4) (t : Fin 16384) (n : Fin 16640) :
    powers s (ix4 b g t n) = Ideal.exp (s (ix4 b g t n) - top s (ix3 b g t)) := by
  unfold powers
  generalize top s = x
  refine Eq.trans (b := Ideal.exp (s (ix4 b g t n) - spread x (ix4 b g t n))) rfl ?_
  rw [spread_apply]

theorem soft_divided (s : FVec Ideal S2x4x16384x16640 .f32) (b : Fin 2) (g : Fin 4) (t : Fin 16384) (n : Fin 16640) :
    soft s (ix4 b g t n) = Ideal.div (powers s (ix4 b g t n)) (∑ n : Fin 16640, powers s (ix4 b g t n)) := by
  unfold soft
  generalize powers s = p
  rw [← total_apply]
  generalize total p = x
  refine Eq.trans (b := Ideal.div (p (ix4 b g t n)) (spread x (ix4 b g t n))) rfl ?_
  rw [spread_apply]

/-- The softmax of real scores has the softmax's weights. -/
theorem soft_apply (f : S2x4x16384x16640.Idx → ℝ) (b : Fin 2) (g : Fin 4) (t : Fin 16384) :
    ∃ ν : ℝ, ∀ n, soft (fun i => (f i : EReal)) (ix4 b g t n) = (weight (fun n => f (ix4 b g t n)) ν n : EReal) := by
  obtain ⟨ν, hν⟩ := top_real f (ix3 b g t)
  have hp : ∀ n, powers (fun i => (f i : EReal)) (ix4 b g t n) = ((Real.exp (f (ix4 b g t n) - ν) : ℝ) : EReal) := by
    intro n
    rw [powers_apply, hν, ← EReal.coe_sub, Ideal.exp_coe]
  refine ⟨ν, fun n => ?_⟩
  rw [soft_divided]
  simp only [hp]
  rw [← coe_sum, div_pos_coe (Finset.sum_pos (fun _ _ => Real.exp_pos _) ⟨0, Finset.mem_univ _⟩), ← EReal.coe_mul, mul_comm]
  rfl

theorem expDot_apply (x y : FVec Ideal S32 .f32) (i : S_.Idx) : expDot x y i = Ideal.exp (∑ d : Fin 32, x (ix1 d) * y (ix1 d)) := by
  pointwise [expDot]

theorem lam_apply (x₁ y₁ x₂ y₂ : FVec Ideal S32 .f32) (i : S_.Idx) :
    lam x₁ y₁ x₂ y₂ i = lamOf (fun d => x₁ (ix1 d)) (fun d => y₁ (ix1 d)) (fun d => x₂ (ix1 d)) (fun d => y₂ (ix1 d)) := by
  unfold lamOf
  rw [← expDot_apply x₁ y₁ i, ← expDot_apply x₂ y₂ i]
  rfl

theorem mix_apply (s₁ s₂ : FVec Ideal S2x4x16384x16640 .f32) (l : FVec Ideal S_ .f32) (v : FVec Ideal S2x4x16640x64 .f32)
    (x : EReal) (hl : ∀ i, l i = x) (b : Fin 2) (g : Fin 4) (t : Fin 16384) (d : Fin 64) :
    mix s₁ s₂ l v (ix4 b g t d) = ∑ n : Fin 16640, (s₁ (ix4 b g t n) - x * s₂ (ix4 b g t n)) * v (ix4 b g n d) := by
  obtain rfl : l = fun _ => x := funext hl
  pointwise [mix]

theorem norm_apply (o : FVec Ideal S2x4x16384x64 .f32) (f : FVec Ideal S64 .f32) (b : Fin 2) (g : Fin 4) (t : Fin 16384) (d : Fin 64) :
    norm o f (ix4 b g t d) = normed (fun e => o (ix4 b g t e)) (f (ix1 d)) d := by
  unfold normed
  pointwise [norm]

/-- The score of query `t` and key `n` in a map: over its thirty-two columns, scaled. -/
def score (o : ℕ) (ho : o ≤ 32) (q k : S2x4x16640x64.Idx → ℝ) (b : Fin 2) (g : Fin 4) (t : Fin 16384) (n : Fin 16640) : ℝ :=
  (∑ d : Fin 32, q (ix4 b g ⟨t.val, by omega⟩ ⟨o + d.val, by omega⟩) * k (ix4 b g n ⟨o + d.val, by omega⟩)) * scale

/-- The two maps' scores. -/
def mapScore (q k : S2x4x16640x64.Idx → ℝ) (h : Fin 2) : Fin 2 → Fin 4 → Fin 16384 → Fin 16640 → ℝ :=
  score (32 * h.val) (by omega) q k

theorem scores₁_real (q k : S2x4x16640x64.Idx → ℝ) :
    scores₁ (fun i => (q i : EReal)) (fun i => (k i : EReal)) = fun i => ((mapScore q k 0 (i 0) (i 1) (i 2) (i 3) : ℝ) : EReal) := by
  funext i
  refine Eq.trans (congrArg (scores₁ _ _) (a₂ := ix4 (i 0) (i 1) (i 2) (i 3)) (funext fun a => by fin_cases a <;> rfl)) ?_
  refine (scores₁_apply _ _ (i 0) (i 1) (i 2) (i 3)).trans ?_
  rw [_root_.Ref.coe_dot, ← EReal.coe_mul]
  unfold mapScore score
  simp only [Fin.val_zero, Nat.mul_zero, Nat.zero_add]

theorem scores₂_real (q k : S2x4x16640x64.Idx → ℝ) :
    scores₂ (fun i => (q i : EReal)) (fun i => (k i : EReal)) = fun i => ((mapScore q k 1 (i 0) (i 1) (i 2) (i 3) : ℝ) : EReal) := by
  funext i
  refine Eq.trans (congrArg (scores₂ _ _) (a₂ := ix4 (i 0) (i 1) (i 2) (i 3)) (funext fun a => by fin_cases a <;> rfl)) ?_
  refine (scores₂_apply _ _ (i 0) (i 1) (i 2) (i 3)).trans ?_
  rw [_root_.Ref.coe_dot, ← EReal.coe_mul]
  rfl

/-- With real queries and keys, a row of the result: the values under the difference of the softmaxes' weights, normed. -/
theorem result_apply (q k : S2x4x16640x64.Idx → ℝ) (v : FVec Ideal S2x4x16640x64 .f32) (x₁ y₁ x₂ y₂ : FVec Ideal S32 .f32) (f : FVec Ideal S64 .f32)
    (b : Fin 2) (g : Fin 4) (t : Fin 16384) (d : Fin 64) :
    ∃ ν : Fin 2 → ℝ, result (fun i => (q i : EReal)) (fun i => (k i : EReal)) v x₁ y₁ x₂ y₂ f (ix4 b g t d)
      = normed (fun e => ∑ n : Fin 16640, ((weight (mapScore q k 0 b g t) (ν 0) n : EReal)
        - lamOf (fun d => x₁ (ix1 d)) (fun d => y₁ (ix1 d)) (fun d => x₂ (ix1 d)) (fun d => y₂ (ix1 d)) * (weight (mapScore q k 1 b g t) (ν 1) n : EReal))
          * v (ix4 b g n e)) (f (ix1 d)) d := by
  obtain ⟨ν₀, h₀⟩ := soft_apply (fun i => mapScore q k 0 (i 0) (i 1) (i 2) (i 3)) b g t
  obtain ⟨ν₁, h₁⟩ := soft_apply (fun i => mapScore q k 1 (i 0) (i 1) (i 2) (i 3)) b g t
  refine ⟨![ν₀, ν₁], ?_⟩
  unfold result
  rw [norm_apply]
  refine congrArg (fun o => normed o (f (ix1 d)) d) (funext fun e => ?_)
  rw [mix_apply _ _ _ _ _ (lam_apply x₁ y₁ x₂ y₂), scores₁_real, scores₂_real]
  refine Finset.sum_congr rfl fun n _ => ?_
  rw [h₀, h₁]
  rfl

open Idealize.ShloMosaic.TcCoe in
/-- The printed reference's result array is the result of its arguments. -/
theorem res_eq (m : (ℓ : Loc nD τ sig) → Buf (Elt Ideal) ℓ) (c : Dev nD) : Value.res_main_v60 m c = result
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) := rfl

end Diff.Ref
-- ==== Proof.DiffFinal.lean ====
/-
  The differential attention call's result array is its reference's.
-/
module

public import proofs.«01_k».proof.Proof.DiffLaunch
public import proofs.«01_k».proof.Proof.DiffValue
public import proofs.«01_k».proof.Proof.DiffEntry
public import proofs.«01_k».proof.Proof.DiffRef
public import Idealize.ShloMosaic.Lib.Pipeline.ValueKit

@[expose] public section

set_option maxRecDepth 16384

noncomputable section

namespace Diff

open Cert.DiffKernelIdeal Cert.DiffKernelIdeal.Gen Stream
open Idealize.ShloMosaic Idealize.ShloMosaic.TcCoe
open Idealize.ShloMosaic.Pipeline (Dat)

variable (m : (ℓ : Loc nD τ sig) → Buf (Elt Ideal) ℓ) (c : Dev nD)

/-- Where each window's block lies at a point, by the point's batch, head and tile. -/
theorem idx : ∀ t : Fin cfg0.N, win0_0.index t = ![(grid0.coords t 0).val, (grid0.coords t 1).val, 0, (grid0.coords t 2).val, 0]
    ∧ win0_1.index t = ![(grid0.coords t 0).val, (grid0.coords t 1).val, 0, 0]
    ∧ win0_2.index t = ![(grid0.coords t 0).val, (grid0.coords t 1).val, 0, 0]
    ∧ win0_3.index t = ![0, 0] ∧ win0_4.index t = ![0, 0] ∧ win0_5.index t = ![0, 0] ∧ win0_6.index t = ![0, 0] ∧ win0_7.index t = ![0, 0]
    ∧ win0_8.index t = ![(grid0.coords t 0).val, (grid0.coords t 1).val, (grid0.coords t 2).val, 0] :=
  (by decide +kernel : ∀ t : Fin grid0.N, _)

abbrev bOf (t : Fin cfg0.N) : Fin 2 := ⟨(grid0.coords t 0).val, (grid0.coords t 0).isLt⟩
abbrev gOf (t : Fin cfg0.N) : Fin 4 := ⟨(grid0.coords t 1).val, (grid0.coords t 1).isLt⟩
abbrev iOf (t : Fin cfg0.N) : Fin 32 := ⟨(grid0.coords t 2).val, (grid0.coords t 2).isLt⟩

/-- Row `r` of a point's tile, among all tokens … -/
abbrev tokOf (t : Fin cfg0.N) (r : Fin 512) : Fin 16640 := ⟨(iOf t).val * 512 + r.val, by have := (iOf t).isLt; omega⟩
/-- … and among the latent ones. -/
abbrev latOf (t : Fin cfg0.N) (r : Fin 512) : Fin 16384 := ⟨(iOf t).val * 512 + r.val, by have := (iOf t).isLt; omega⟩

/-- The staged queries and keys. -/
abbrev qBlk (t : Fin cfg0.N) : FVec Ideal S1x1x2x512x64 .bf16 := X0_0 m c t
abbrev kBlk (t : Fin cfg0.N) : FVec Ideal S1x1x64x16640 .bf16 := iblk m c 1 t

/-- The queries' block. -/
theorem block_q (t : Fin cfg0.N) (h : Fin 2) (r : Fin 512) (d : Fin 64) :
    qBlk m c t (ix5 0 0 h r d)
      = queries (m ((c : Thread nD τ).loc main_arg0)) (ix5 (bOf t) (gOf t) h (tokOf t r) d) := by
  unfold qBlk X0_0 Pipeline.Window.fill
  rw [dif_pos (moved0_0 t _), ← entry_q]
  blk_ext [iblk, idx t]

/-- The keys' block. -/
theorem block_k (t : Fin cfg0.N) (d : Fin 64) (n : Fin 16640) :
    kBlk m c t (ix4 0 0 d n) = keys (m ((c : Thread nD τ).loc main_arg1)) (ix4 (bOf t) (gOf t) d n) := by
  rw [← entry_k]
  blk_ext [iblk, idx t]

/-- The values' block. -/
theorem block_v (t : Fin cfg0.N) (n : Fin 16640) (j : Fin 128) :
    (iblk m c 2 t : FVec Ideal S1x1x16640x128 .bf16) (ix4 0 0 n j) = values (m ((c : Thread nD τ).loc main_arg2)) (ix4 (bOf t) (gOf t) n j) := by
  rw [← entry_v]
  blk_ext [iblk, idx t]

/-- The four vectors and the factors are whole at every point. -/
theorem block_x₁ (t : Fin cfg0.N) (d : Fin 32) :
    (iblk m c 3 t : FVec Ideal S1x32 .f32) (ix2 0 d) = (m ((c : Thread nD τ).loc main_arg3) : FVec Ideal S32 .f32) (ix1 d) := by
  refine Eq.trans ?_ (asRow_apply _ d)
  rw [← entry_x₁]
  blk_ext [iblk, idx t]
theorem block_y₁ (t : Fin cfg0.N) (d : Fin 32) :
    (iblk m c 4 t : FVec Ideal S1x32 .f32) (ix2 0 d) = (m ((c : Thread nD τ).loc main_arg4) : FVec Ideal S32 .f32) (ix1 d) := by
  refine Eq.trans ?_ (asRow_apply _ d)
  rw [← entry_y₁]
  blk_ext [iblk, idx t]
theorem block_x₂ (t : Fin cfg0.N) (d : Fin 32) :
    (iblk m c 5 t : FVec Ideal S1x32 .f32) (ix2 0 d) = (m ((c : Thread nD τ).loc main_arg5) : FVec Ideal S32 .f32) (ix1 d) := by
  refine Eq.trans ?_ (asRow_apply _ d)
  rw [← entry_x₂]
  blk_ext [iblk, idx t]
theorem block_y₂ (t : Fin cfg0.N) (d : Fin 32) :
    (iblk m c 6 t : FVec Ideal S1x32 .f32) (ix2 0 d) = (m ((c : Thread nD τ).loc main_arg6) : FVec Ideal S32 .f32) (ix1 d) := by
  refine Eq.trans ?_ (asRow_apply _ d)
  rw [← entry_y₂]
  blk_ext [iblk, idx t]
theorem block_g (t : Fin cfg0.N) (d : Fin 64) :
    (iblk m c 7 t : FVec Ideal S1x64 .f32) (ix2 0 d) = (m ((c : Thread nD τ).loc main_arg7) : FVec Ideal S64 .f32) (ix1 d) := by
  refine Eq.trans ?_ (factors_apply _ d)
  rw [← entry_g]
  blk_ext [iblk, idx t]

/-- A sum over sixty-four columns, by its halves. -/
theorem sum_halves (f : Fin 64 → EReal) :
    ∑ d : Fin 64, f d = (∑ d : Fin 32, f ⟨d.val, by omega⟩) + ∑ d : Fin 32, f ⟨32 + d.val, by omega⟩ :=
  Fin.sum_univ_add (a := 32) (b := 32) f

/-- A map's scores from the block: those of its thirty-two columns, over `log 2`. -/
theorem scores_block (q k : S2x4x16640x64.Idx → ℝ)
    (hq : m ((c : Thread nD τ).loc main_arg0) = fun i => (q i : EReal)) (hk : m ((c : Thread nD τ).loc main_arg1) = fun i => (k i : EReal))
    (t : Fin cfg0.N) (h : Fin 2) (r : Fin 512) (n : Fin 16640) :
    ∑ d : Fin 64, qBlk m c t (ix5 0 0 h r d) * kBlk m c t (ix4 0 0 d n)
      = ((Ref.mapScore q k h (bOf t) (gOf t) (latOf t r) n / Real.log 2 : ℝ) : EReal) := by
  have key : ∀ o : ℕ, ∀ ho : o ≤ 32, ∑ d : Fin 32, scaled (m ((c : Thread nD τ).loc main_arg0)) (ix4 (bOf t) (gOf t) (tokOf t r) ⟨o + d.val, by omega⟩)
      * (m ((c : Thread nD τ).loc main_arg1) : FVec Ideal S2x4x16640x64 .f32) (ix4 (bOf t) (gOf t) n ⟨o + d.val, by omega⟩)
      = ((Ref.score o ho q k (bOf t) (gOf t) (latOf t r) n / Real.log 2 : ℝ) : EReal) := by
    intro o ho
    rw [hk]
    simp only [scaled_apply, hq, ← EReal.coe_mul]
    rw [_root_.Ref.coe_dot]
    congr 1
    unfold Ref.score
    rw [Finset.sum_mul, Finset.sum_div]
    exact Finset.sum_congr rfl fun d _ => by ring
  simp only [block_q, block_k, keys_apply]
  rw [sum_halves]
  have h2 := h.isLt
  rcases (by omega : h.val = 0 ∨ h.val = 1) with e | e
  · obtain rfl : h = 0 := Fin.ext e
    simp only [queries_apply₀, queries_zero₀, zero_mul, Finset.sum_const_zero, add_zero]
    refine Eq.trans (Finset.sum_congr rfl fun d _ => ?_) (key 0 (by omega))
    simp only [Nat.zero_add]
  · obtain rfl : h = 1 := Fin.ext e
    simp only [queries_apply₁, queries_zero₁, zero_mul, Finset.sum_const_zero, zero_add]
    exact key 32 le_rfl

section Final

variable (q k v : S2x4x16640x64.Idx → ℝ) (x₁ y₁ x₂ y₂ : S32.Idx → ℝ)
  (hq : m ((c : Thread nD τ).loc main_arg0) = fun i => (q i : EReal)) (hk : m ((c : Thread nD τ).loc main_arg1) = fun i => (k i : EReal))
  (hv : m ((c : Thread nD τ).loc main_arg2) = fun i => (v i : EReal)) (hx₁ : m ((c : Thread nD τ).loc main_arg3) = fun i => (x₁ i : EReal))
  (hy₁ : m ((c : Thread nD τ).loc main_arg4) = fun i => (y₁ i : EReal)) (hx₂ : m ((c : Thread nD τ).loc main_arg5) = fun i => (x₂ i : EReal))
  (hy₂ : m ((c : Thread nD τ).loc main_arg6) = fun i => (y₂ i : EReal))

/-- The reference's result at the arguments. -/
abbrev want : FVec Ideal Cert.DiffReferenceIdeal.S2x4x16384x64 .bf16 :=
  Ref.result (fun i => (q i : EReal)) (fun i => (k i : EReal)) (fun i => (v i : EReal)) (fun i => (x₁ i : EReal)) (fun i => (y₁ i : EReal))
    (fun i => (x₂ i : EReal)) (fun i => (y₂ i : EReal)) (m ((c : Thread nD τ).loc main_arg7))

include hq hk hv hx₁ hy₁ hx₂ hy₂

/-- At real arguments, a point's result block is the reference's rows there. -/
theorem outsAt_apply (t : Fin cfg0.N) (r : Fin 512) (d : Fin 64) :
    outsAt m c t (ix4 0 0 r d) = want m c q k v x₁ y₁ x₂ y₂ (ix4 (bOf t) (gOf t) (latOf t r) d) := by
  obtain ⟨ν, hν⟩ := Ref.result_apply q k (fun i => (v i : EReal)) (fun i => (x₁ i : EReal)) (fun i => (y₁ i : EReal))
    (fun i => (x₂ i : EReal)) (fun i => (y₂ i : EReal)) (m ((c : Thread nD τ).loc main_arg7)) (bOf t) (gOf t) (latOf t r) d
  have hl : (Real.log 2 : ℝ) ≠ 0 := (Real.log_pos (by norm_num)).ne'
  obtain ⟨l, hlam⟩ := lamOf_real (fun d => x₁ (ix1 d)) (fun d => y₁ (ix1 d)) (fun d => x₂ (ix1 d)) (fun d => y₂ (ix1 d))
  refine Eq.trans ?_ hν.symm
  refine (outsOf_apply (X0_0 m c t) (iblk m c 1 t) (iblk m c 2 t) (iblk m c 3 t) (iblk m c 4 t) (iblk m c 5 t) (iblk m c 6 t) (iblk m c 7 t)
    (fun h r n => Ref.mapScore q k h (bOf t) (gOf t) (latOf t r) n / Real.log 2) (scores_block m c q k hq hk t)
    (fun n => by rw [block_v, values_one]) r d (fun h => Ref.mapScore q k h (bOf t) (gOf t) (latOf t r)) ν (fun h n => by field_simp)).trans ?_
  rw [block_g]
  refine congrArg (fun o => normed o _ d) (funext fun e => ?_)
  rw [lam_apply]
  simp only [block_x₁, block_y₁, block_x₂, block_y₂, block_v, values_apply, hx₁, hy₁, hx₂, hy₂, hv]
  rw [hlam]
  exact difference _ _ (fun n => v (ix4 (bOf t) (gOf t) n e)) l

/-- At real arguments the call's result array is the reference's. -/
theorem final : (dats m 0 c).arrAt 8 cfg0.N = want m c q k v x₁ y₁ x₂ y₂ := by
  refine (dats m 0 c).arrAt_eq_of_covers 8 _ (by decide +kernel) fun t _ y => ?_
  blk_simp
  rw [after0_8]
  have hy : y = (ix4 0 0 (y 2) (y 3) : S1x1x512x64.Idx) := by blk_ext
  rw [hy]
  refine (outsAt_apply m c q k v x₁ y₁ x₂ y₂ hq hk hv hx₁ hy₁ hx₂ hy₂ t (y 2) (y 3)).trans (congrArg (want m c q k v x₁ y₁ x₂ y₂) ?_)
  blk_ext [idx t]

end Final

end Diff
-- ==== Proof.DiffFinite.lean ====
/-
  The differential attention's precondition: every query, key, value and element of the four vectors is a real.
-/
module

public import proofs.«01_k».proof.Proof.Finite
public import proofs.«01_k».proof.Proof.Gen.Pre_finite_diff

@[expose] public section

noncomputable section

namespace Cert.Pre_finite_diff

open Cert.Pre_finite_diff.Gen Idealize.ShloMosaic

/-- An array is one of reals. -/
abbrev Reals {s : Shape} (x : FVec Ideal s .f32) : Prop := ∃ y : s.Idx → ℝ, x = fun i => (y i : EReal)

/-- Elements whose sizes are all less than `⊤` make an array of reals. -/
theorem reals_of {s : Shape} (x : FVec Ideal s .f32)
    (h : ∀ i, Ideal.cmp .olt (max (x i) (-x i)) (Ideal.ofBits .f32 0x7F800000#32) = 1#1) : Reals x := by
  choose y hy using fun i => Cert.Pre_finite.real_of_lt (x i) (h i)
  exact ⟨y, funext hy⟩

/-- Under the precondition the first seven arguments are arrays of reals. -/
theorem reals (q k v : FVec Ideal S2x4x16640x64 .f32) (x₁ y₁ x₂ y₂ : FVec Ideal S32 .f32) (g : FVec Ideal S64 .f32)
    (h : fn q k v x₁ y₁ x₂ y₂ g = fun _ => 1#1) :
    Reals q ∧ Reals k ∧ Reals v ∧ Reals x₁ ∧ Reals y₁ ∧ Reals x₂ ∧ Reals y₂ := by
  have h0 := congrFun h (Shape.Idx.first h_S_)
  dsimp only [fn, fn_part1] at h0
  obtain ⟨h0, h7⟩ := IntOp.andi_eq_one.mp h0
  obtain ⟨h0, h6⟩ := IntOp.andi_eq_one.mp h0
  obtain ⟨h0, h5⟩ := IntOp.andi_eq_one.mp h0
  obtain ⟨h0, h4⟩ := IntOp.andi_eq_one.mp h0
  obtain ⟨h0, h3⟩ := IntOp.andi_eq_one.mp h0
  obtain ⟨h1, h2⟩ := IntOp.andi_eq_one.mp h0
  exact ⟨reals_of q (Host.reduce_andi_all _ _ _ _ _ h1), reals_of k (Host.reduce_andi_all _ _ _ _ _ h2),
    reals_of v (Host.reduce_andi_all _ _ _ _ _ h3), reals_of x₁ (Host.reduce_andi_all _ _ _ _ _ h4),
    reals_of y₁ (Host.reduce_andi_all _ _ _ _ _ h5), reals_of x₂ (Host.reduce_andi_all _ _ _ _ _ h6),
    reals_of y₂ (Host.reduce_andi_all _ _ _ _ _ h7)⟩

end Cert.Pre_finite_diff
-- ==== Proof.MidRun.lean ====
/-
  The first layer's closing kernel's body as a triple: from the staged inputs to the staged result of a latent tile or of
  the context tile, the other result's buffer untouched.
-/
module

public import proofs.«01_k».proof.Proof.Steps
public import proofs.«01_k».proof.Proof.Gen.MidKernelIdeal.Skeleton
public import proofs.«01_k».proof.Proof.Gen.MidKernelIdeal.Points
public import Idealize.ShloMosaic.Lib.Pipeline.FrameBody
public import Idealize.ShloMosaic.Lib.Tactic

@[expose] public section

set_option maxRecDepth 16384

noncomputable section

namespace Mid

open Cert.MidKernelIdeal Cert.MidKernelIdeal.Gen Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The rows of a block's one batch. -/
abbrev boxX : Rect S1x256x1024 := Rect.unit ![0, 0, 0] S1x256x1024.size inb_S1x256x1024_S1x256x1024_0_0_0

/-- The rows of head `(g, r)` of a part of six heads. -/
abbrev six (X : Vec F S1x2x3x256x64 .bf16) (g r : ℕ) (h : ∀ a, (![0, g, r, 0, 0] : Fin 5 → ℕ) a + S1x1x1x256x64.size a ≤ S1x2x3x256x64.size a) :
    FVec F S256x64 .bf16 :=
  k0_pay5 (View.ld (Val := Elt F) X (Rect.unit (s := S1x2x3x256x64) ![0, g, r, 0, 0] S1x1x1x256x64.size h))

/-- The rows of head `h` of a part of four heads. -/
abbrev four (X : Vec F S1x4x256x64 .bf16) (n : ℕ) (h : ∀ a, (![0, n, 0, 0] : Fin 4 → ℕ) a + S1x1x256x64.size a ≤ S1x4x256x64.size a) :
    FVec F S256x64 .bf16 :=
  k0_pay11 (View.ld (Val := Elt F) X (Rect.unit (s := S1x4x256x64) ![0, n, 0, 0] S1x1x256x64.size h))

/-- The sixteen heads' rows of three parts' blocks. -/
def hds (X : Vec F S1x2x3x256x64 .bf16) (Y : Vec F S1x4x256x64 .bf16) (Z : Vec F S1x2x3x256x64 .bf16) : Fin 16 → FVec F S256x64 .bf16 :=
  ![six X 0 0 inb_S1x2x3x256x64_S1x1x1x256x64_0_0_0_0_0, six X 0 1 inb_S1x2x3x256x64_S1x1x1x256x64_0_0_1_0_0, six X 0 2 inb_S1x2x3x256x64_S1x1x1x256x64_0_0_2_0_0,
    six X 1 0 inb_S1x2x3x256x64_S1x1x1x256x64_0_1_0_0_0, six X 1 1 inb_S1x2x3x256x64_S1x1x1x256x64_0_1_1_0_0, six X 1 2 inb_S1x2x3x256x64_S1x1x1x256x64_0_1_2_0_0,
    four Y 0 inb_S1x4x256x64_S1x1x256x64_0_0_0_0, four Y 1 inb_S1x4x256x64_S1x1x256x64_0_1_0_0, four Y 2 inb_S1x4x256x64_S1x1x256x64_0_2_0_0, four Y 3 inb_S1x4x256x64_S1x1x256x64_0_3_0_0,
    six Z 0 0 inb_S1x2x3x256x64_S1x1x1x256x64_0_0_0_0_0, six Z 0 1 inb_S1x2x3x256x64_S1x1x1x256x64_0_0_1_0_0, six Z 0 2 inb_S1x2x3x256x64_S1x1x1x256x64_0_0_2_0_0,
    six Z 1 0 inb_S1x2x3x256x64_S1x1x1x256x64_0_1_0_0_0, six Z 1 1 inb_S1x2x3x256x64_S1x1x1x256x64_0_1_1_0_0, six Z 1 2 inb_S1x2x3x256x64_S1x1x1x256x64_0_1_2_0_0]

/-- The test that a point's tile is the context's. -/
abbrev isCtx (i : grid0.Coords) : BitVec 1 := Scalar.cmpi .sge (BitVec.ofNat 32 (i 1).val) 64#32

section Block

variable (b : BitVec 1) (x : FVec F S256x1024 .f32) (u l : Fin 16 → FVec F S256x64 .bf16) (md : FVec F S1x1x6144 .f32)
  (w : FVec F S1024x1024 .bf16) (g : FVec F S1x1024 .f32) (w1 w3 : FVec F S1024x2816 .bf16) (w2 : FVec F S2816x1024 .bf16)

/-- The heads' rows a tile takes: the context's or the latent tokens'. -/
def sel (h : Fin 16) : FVec F S256x64 .bf16 := Scalar.select b (u h) (l h)

/-- The body's result of what it reads. -/
def blockV : FVec F S1x256x1024 .f32 :=
  k0_pay3 (k0_pay45 md)
    (k0_pay46 b x (u 9) (u 10) (u 11) (u 12) (u 13) (u 14) (u 15) (l 9) (l 10) (l 11) (l 12) (l 13) (l 14) (l 15)
      (sel b u l 0) (sel b u l 1) (sel b u l 2) (sel b u l 3) (sel b u l 4) (sel b u l 5) (sel b u l 6) (sel b u l 7) (sel b u l 8) md w)
    (k0_pay47 b x (u 9) (u 10) (u 11) (u 12) (u 13) (u 14) (u 15) (l 9) (l 10) (l 11) (l 12) (l 13) (l 14) (l 15)
      (sel b u l 0) (sel b u l 1) (sel b u l 2) (sel b u l 3) (sel b u l 4) (sel b u l 5) (sel b u l 6) (sel b u l 7) (sel b u l 8) md w g)
    (k0_pay48 b x (u 9) (u 10) (u 11) (u 12) (u 13) (u 14) (u 15) (l 9) (l 10) (l 11) (l 12) (l 13) (l 14) (l 15)
      (sel b u l 0) (sel b u l 1) (sel b u l 2) (sel b u l 3) (sel b u l 4) (sel b u l 5) (sel b u l 6) (sel b u l 7) (sel b u l 8) md w g w1)
    w3 w2

end Block

section Triples

variable (i : grid0.Coords) (x0 : Vec F S1x256x1024 .f32) (x1 : Vec F S1x256x1024 .f32) (x2 : Vec F S1x2x3x256x64 .bf16) (x3 : Vec F S1x4x256x64 .bf16) (x4 : Vec F S1x2x3x256x64 .bf16) (x5 : Vec F S1x2x3x256x64 .bf16) (x6 : Vec F S1x4x256x64 .bf16) (x7 : Vec F S1x2x3x256x64 .bf16) (x8 : Vec F S1x1x6144 .f32) (x9 : Vec F S1024x1024 .bf16) (x10 : Vec F S1x1024 .f32) (x11 : Vec F S1024x2816 .bf16) (x12 : Vec F S1024x2816 .bf16) (x13 : Vec F S2816x1024 .bf16)

/-- What the body stores, from the staged inputs. -/
def outOf : FVec F S1x256x1024 .f32 :=
  blockV (isCtx i) (k0_pay4 i (View.ld (Val := Elt F) x1 boxX) (View.ld (Val := Elt F) x0 boxX)) (hds x5 x6 x7) (hds x2 x3 x4)
    (View.ld (Val := Elt F) x8 (Rect.unit (s := S1x1x6144) ![0, 0, 0] S1x1x6144.size inb_S1x1x6144_S1x1x6144_0_0_0))
    (View.ld (Val := Elt F) x9 (Rect.unit (s := S1024x1024) ![0, 0] S1024x1024.size inb_S1024x1024_S1024x1024_0_0))
    (View.ld (Val := Elt F) x10 (Rect.unit (s := S1x1024) ![0, 0] S1x1024.size inb_S1x1024_S1x1024_0_0))
    (View.ld (Val := Elt F) x11 (Rect.unit (s := S1024x2816) ![0, 0] S1024x2816.size inb_S1024x2816_S1024x2816_0_0))
    (View.ld (Val := Elt F) x12 (Rect.unit (s := S1024x2816) ![0, 0] S1024x2816.size inb_S1024x2816_S1024x2816_0_0))
    (View.ld (Val := Elt F) x13 (Rect.unit (s := S2816x1024) ![0, 0] S2816x1024.size inb_S2816x1024_S2816x1024_0_0))

local notation "𝕄" => MT nD τ sig Unit (Elt F) ℕ (UR sig nD τ) ℕ

/-- Core `c` holds the fourteen staged inputs. -/
abbrev ins (c : Dev nD) (arg2 : Memref sig .tc .vmem S1x256x1024 .f32) (arg3 : Memref sig .tc .vmem S1x256x1024 .f32) (arg4 : Memref sig .tc .vmem S1x2x3x256x64 .bf16) (arg5 : Memref sig .tc .vmem S1x4x256x64 .bf16) (arg6 : Memref sig .tc .vmem S1x2x3x256x64 .bf16) (arg7 : Memref sig .tc .vmem S1x2x3x256x64 .bf16) (arg8 : Memref sig .tc .vmem S1x4x256x64 .bf16) (arg9 : Memref sig .tc .vmem S1x2x3x256x64 .bf16) (arg10 : Memref sig .tc .vmem S1x1x6144 .f32) (arg11 : Memref sig .tc .vmem S1024x1024 .bf16) (arg12 : Memref sig .tc .vmem S1x1024 .f32) (arg13 : Memref sig .tc .vmem S1024x2816 .bf16) (arg14 : Memref sig .tc .vmem S1024x2816 .bf16) (arg15 : Memref sig .tc .vmem S2816x1024 .bf16) : sProp 𝕄 :=
  iprop(holds c arg2 x0 ∗ holds c arg3 x1 ∗ holds c arg4 x2 ∗ holds c arg5 x3 ∗ holds c arg6 x4 ∗ holds c arg7 x5 ∗ holds c arg8 x6 ∗ holds c arg9 x7 ∗ holds c arg10 x8 ∗ holds c arg11 x9 ∗ holds c arg12 x10 ∗ holds c arg13 x11 ∗ holds c arg14 x12 ∗ holds c arg15 x13)

set_option maxHeartbeats 2000000 in
/-- A latent tile: the body stores its result in the latent tokens' buffer and leaves the context's as it is. -/
theorem wp_latent (c : Dev nD) (E : Set ℕ) (h1 : ¬k0_cond1 i = 1#1) (h2 : k0_cond2 i = 1#1) (arg2 : Memref sig .tc .vmem S1x256x1024 .f32) (harg2 : arg2.IsWhole) (arg3 : Memref sig .tc .vmem S1x256x1024 .f32) (harg3 : arg3.IsWhole) (arg4 : Memref sig .tc .vmem S1x2x3x256x64 .bf16) (harg4 : arg4.IsWhole) (arg5 : Memref sig .tc .vmem S1x4x256x64 .bf16) (harg5 : arg5.IsWhole) (arg6 : Memref sig .tc .vmem S1x2x3x256x64 .bf16) (harg6 : arg6.IsWhole) (arg7 : Memref sig .tc .vmem S1x2x3x256x64 .bf16) (harg7 : arg7.IsWhole) (arg8 : Memref sig .tc .vmem S1x4x256x64 .bf16) (harg8 : arg8.IsWhole) (arg9 : Memref sig .tc .vmem S1x2x3x256x64 .bf16) (harg9 : arg9.IsWhole) (arg10 : Memref sig .tc .vmem S1x1x6144 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (arg15 : Memref sig .tc .vmem S2816x1024 .bf16) (harg15 : arg15.IsWhole) (arg16 : Memref sig .tc .vmem S1x256x1024 .f32) (harg16 : arg16.IsWhole) (arg17 : Memref sig .tc .vmem S1x256x1024 .f32) (harg17 : arg17.IsWhole)
    (D X : FVec F S1x256x1024 .f32) (Q : PUnit → sProp 𝕄) :
    iprop(ins x0 x1 x2 x3 x4 x5 x6 x7 x8 x9 x10 x11 x12 x13 c arg2 arg3 arg4 arg5 arg6 arg7 arg8 arg9 arg10 arg11 arg12 arg13 arg14 arg15 ∗ holds c arg16 X ∗ holds c arg17 D ∗
      ((ins x0 x1 x2 x3 x4 x5 x6 x7 x8 x9 x10 x11 x12 x13 c arg2 arg3 arg4 arg5 arg6 arg7 arg8 arg9 arg10 arg11 arg12 arg13 arg14 arg15 ∗ holds c arg16 (outOf i x0 x1 x2 x3 x4 x5 x6 x7 x8 x9 x10 x11 x12 x13) ∗ holds c arg17 D) -∗ Q ⟨⟩))
    ⊢ wp frame (wpE (defs₀ (F := F)) Variants.none (c : Thread nD τ) none) E (cc0_post_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  rw [cc0_post_attention_eq_skeleton]; unfold cc0_post_attention_skel
  simp only [k0_part1_eq_skeleton, k0_part2_eq_skeleton, k0_part3_eq_skeleton, k0_part4_eq_skeleton, k0_part5_eq_skeleton]
  unfold ins holds
  iintro ⟨⟨H0, H1, H2, H3, H4, H5, H6, H7, H8, H9, H10, H11, H12, H13⟩, Hp, Hk, HQ⟩
  sl_exec
  sl_step
  iapply HQ
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitr [Hk]
  swap; · iexact Hk
  iapply (pointsTo_rep_of_read (c : Thread nD τ) arg16 _ fullShare _ ?_) $$ Hp
  conv_rhs => rw [← View.read_rep arg2.view x0, ← View.read_rep arg3.view x1, ← View.read_rep arg4.view x2, ← View.read_rep arg5.view x3, ← View.read_rep arg6.view x4, ← View.read_rep arg7.view x5, ← View.read_rep arg8.view x6, ← View.read_rep arg9.view x7, ← View.read_rep arg10.view x8, ← View.read_rep arg11.view x9, ← View.read_rep arg12.view x10, ← View.read_rep arg13.view x11, ← View.read_rep arg14.view x12, ← View.read_rep arg15.view x13]
  rw [View.read_writes_full]
  rfl

set_option maxHeartbeats 2000000 in
/-- The context tile: the body stores its result in the context's buffer and leaves the latent tokens' as it is. -/
theorem wp_ctx (c : Dev nD) (E : Set ℕ) (h1 : k0_cond1 i = 1#1) (h2 : ¬k0_cond2 i = 1#1) (arg2 : Memref sig .tc .vmem S1x256x1024 .f32) (harg2 : arg2.IsWhole) (arg3 : Memref sig .tc .vmem S1x256x1024 .f32) (harg3 : arg3.IsWhole) (arg4 : Memref sig .tc .vmem S1x2x3x256x64 .bf16) (harg4 : arg4.IsWhole) (arg5 : Memref sig .tc .vmem S1x4x256x64 .bf16) (harg5 : arg5.IsWhole) (arg6 : Memref sig .tc .vmem S1x2x3x256x64 .bf16) (harg6 : arg6.IsWhole) (arg7 : Memref sig .tc .vmem S1x2x3x256x64 .bf16) (harg7 : arg7.IsWhole) (arg8 : Memref sig .tc .vmem S1x4x256x64 .bf16) (harg8 : arg8.IsWhole) (arg9 : Memref sig .tc .vmem S1x2x3x256x64 .bf16) (harg9 : arg9.IsWhole) (arg10 : Memref sig .tc .vmem S1x1x6144 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (arg15 : Memref sig .tc .vmem S2816x1024 .bf16) (harg15 : arg15.IsWhole) (arg16 : Memref sig .tc .vmem S1x256x1024 .f32) (harg16 : arg16.IsWhole) (arg17 : Memref sig .tc .vmem S1x256x1024 .f32) (harg17 : arg17.IsWhole)
    (D X : FVec F S1x256x1024 .f32) (Q : PUnit → sProp 𝕄) :
    iprop(ins x0 x1 x2 x3 x4 x5 x6 x7 x8 x9 x10 x11 x12 x13 c arg2 arg3 arg4 arg5 arg6 arg7 arg8 arg9 arg10 arg11 arg12 arg13 arg14 arg15 ∗ holds c arg17 X ∗ holds c arg16 D ∗
      ((ins x0 x1 x2 x3 x4 x5 x6 x7 x8 x9 x10 x11 x12 x13 c arg2 arg3 arg4 arg5 arg6 arg7 arg8 arg9 arg10 arg11 arg12 arg13 arg14 arg15 ∗ holds c arg17 (outOf i x0 x1 x2 x3 x4 x5 x6 x7 x8 x9 x10 x11 x12 x13) ∗ holds c arg16 D) -∗ Q ⟨⟩))
    ⊢ wp frame (wpE (defs₀ (F := F)) Variants.none (c : Thread nD τ) none) E (cc0_post_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  rw [cc0_post_attention_eq_skeleton]; unfold cc0_post_attention_skel
  simp only [k0_part1_eq_skeleton, k0_part2_eq_skeleton, k0_part3_eq_skeleton, k0_part4_eq_skeleton, k0_part5_eq_skeleton]
  unfold ins holds
  iintro ⟨⟨H0, H1, H2, H3, H4, H5, H6, H7, H8, H9, H10, H11, H12, H13⟩, Hp, Hk, HQ⟩
  sl_exec
  sl_step
  iapply HQ
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitr [Hk]
  swap; · iexact Hk
  iapply (pointsTo_rep_of_read (c : Thread nD τ) arg17 _ fullShare _ ?_) $$ Hp
  conv_rhs => rw [← View.read_rep arg2.view x0, ← View.read_rep arg3.view x1, ← View.read_rep arg4.view x2, ← View.read_rep arg5.view x3, ← View.read_rep arg6.view x4, ← View.read_rep arg7.view x5, ← View.read_rep arg8.view x6, ← View.read_rep arg9.view x7, ← View.read_rep arg10.view x8, ← View.read_rep arg11.view x9, ← View.read_rep arg12.view x10, ← View.read_rep arg13.view x11, ← View.read_rep arg14.view x12, ← View.read_rep arg15.view x13]
  rw [View.read_writes_full]
  rfl

end Triples

end Mid
-- ==== Proof.MidLaunch.lean ====
/-
  The first layer's closing call's run: every block of its two results ends at what the body computes from the blocks it
  was staged, and nothing else of the memory changes.
-/
module

public import proofs.«01_k».proof.Proof.MidRun
public import proofs.«01_k».proof.Proof.Gen.MidKernelIdeal.Frame
public import Idealize.ShloMosaic.Lib.Pipeline.TableIdle

@[expose] public section

set_option maxRecDepth 16384

noncomputable section

namespace Mid

open Cert.MidKernelIdeal Cert.MidKernelIdeal.Gen Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point's tile is the context's at the last of each batch's points. -/
theorem cond1_iff : ∀ t : Fin cfg0.N, k0_cond1 (grid0.coords t) = 1#1 ↔ t.val % 65 = 64 :=
  (by decide +kernel : ∀ t : Fin grid0.N, k0_cond1 (grid0.coords t) = 1#1 ↔ t.val % 65 = 64)

/-- It is a latent tile at the others. -/
theorem cond2_iff : ∀ t : Fin cfg0.N, k0_cond2 (grid0.coords t) = 1#1 ↔ ¬t.val % 65 = 64 :=
  (by decide +kernel : ∀ t : Fin grid0.N, k0_cond2 (grid0.coords t) = 1#1 ↔ ¬t.val % 65 = 64)

/-- The latent tokens' result is written back at every point but the last latent tile's. -/
theorem flush14_iff : ∀ t : Fin cfg0.N, (cfg0.win 14).flush t = true ↔ ¬t.val % 65 = 63 :=
  (by decide +kernel : ∀ t : Fin grid0.N, win0_14.flush t = true ↔ ¬t.val % 65 = 63)

/-- The body stores nothing into the latent tokens' result at the context tile. -/
theorem idle14_iff (t : Fin cfg0.N) : cfg0.idle 14 (cfg0.grid.coords t) = true ↔ t.val % 65 = 64 := by
  show (!(k0_cond2 (grid0.coords t) == 1#1)) = true ↔ _
  rw [Bool.not_eq_true', beq_eq_false_iff_ne, ne_eq, cond2_iff, not_not]

/-- And nothing into the context's at a latent one. -/
theorem idle15_iff (t : Fin cfg0.N) : cfg0.idle 15 (cfg0.grid.coords t) = true ↔ ¬t.val % 65 = 64 := by
  show (!(k0_cond1 (grid0.coords t) == 1#1)) = true ↔ _
  rw [Bool.not_eq_true', beq_eq_false_iff_ne, ne_eq, cond1_iff]

/-- What the body computes at point `t` from the staged blocks. -/
def outAt (c : Dev nD) (t : Fin cfg0.N) : FVec F S1x256x1024 .f32 :=
  outOf (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The point whose result the latent tokens' buffer holds after point `t`: the point before, at a context tile. -/
def held (t : Fin cfg0.N) : Fin cfg0.N := if t.val % 65 = 64 then ⟨t.val - 1, by omega⟩ else t

/-- The arrays as the launch finds them; after the body each input's buffer as before it, the latent tokens' result's at
    what the body last stored there, and the context's at what it computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outAt m c (held t)
    | ⟨15, _⟩ => outAt m c t
    | ⟨n + 16, h⟩ => absurd h (by show ¬n + 16 < 16; omega)
  Φ _ := Pipeline.ΦA spec0 c
  q _ := fullShare
  owed _ := 0

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = outAt m c (held t) := by dsimp only [dats]
theorem after0_15 (c : Dev nD) (t : Fin cfg0.N) : (dats m 0 c).after 15 t = outAt m c t := by dsimp only [dats]

theorem before0_0 (c : Dev nD) (t : Fin cfg0.N) (d) : (dats m 0 c).before 0 t d = iblk m c 0 t :=
  before0_0_of m (dats m 0 c) rfl (after0_0 m c) t d
theorem before0_1 (c : Dev nD) (t : Fin cfg0.N) (d) : (dats m 0 c).before 1 t d = iblk m c 1 t :=
  before0_1_of m (dats m 0 c) rfl (after0_1 m c) t d
theorem before0_2 (c : Dev nD) (t : Fin cfg0.N) (d) : (dats m 0 c).before 2 t d = iblk m c 2 t :=
  before0_2_of m (dats m 0 c) rfl (after0_2 m c) t d
theorem before0_3 (c : Dev nD) (t : Fin cfg0.N) (d) : (dats m 0 c).before 3 t d = iblk m c 3 t :=
  before0_3_of m (dats m 0 c) rfl (after0_3 m c) t d
theorem before0_4 (c : Dev nD) (t : Fin cfg0.N) (d) : (dats m 0 c).before 4 t d = iblk m c 4 t :=
  before0_4_of m (dats m 0 c) rfl (after0_4 m c) t d
theorem before0_5 (c : Dev nD) (t : Fin cfg0.N) (d) : (dats m 0 c).before 5 t d = iblk m c 5 t :=
  before0_5_of m (dats m 0 c) rfl (after0_5 m c) t d
theorem before0_6 (c : Dev nD) (t : Fin cfg0.N) (d) : (dats m 0 c).before 6 t d = iblk m c 6 t :=
  before0_6_of m (dats m 0 c) rfl (after0_6 m c) t d
theorem before0_7 (c : Dev nD) (t : Fin cfg0.N) (d) : (dats m 0 c).before 7 t d = iblk m c 7 t :=
  before0_7_of m (dats m 0 c) rfl (after0_7 m c) t d
theorem before0_8 (c : Dev nD) (t : Fin cfg0.N) (d) : (dats m 0 c).before 8 t d = iblk m c 8 t :=
  before0_8_of m (dats m 0 c) rfl (after0_8 m c) t d
theorem before0_9 (c : Dev nD) (t : Fin cfg0.N) (d) : (dats m 0 c).before 9 t d = iblk m c 9 t :=
  before0_9_of m (dats m 0 c) rfl (after0_9 m c) t d
theorem before0_10 (c : Dev nD) (t : Fin cfg0.N) (d) : (dats m 0 c).before 10 t d = iblk m c 10 t :=
  before0_10_of m (dats m 0 c) rfl (after0_10 m c) t d
theorem before0_11 (c : Dev nD) (t : Fin cfg0.N) (d) : (dats m 0 c).before 11 t d = iblk m c 11 t :=
  before0_11_of m (dats m 0 c) rfl (after0_11 m c) t d
theorem before0_12 (c : Dev nD) (t : Fin cfg0.N) (d) : (dats m 0 c).before 12 t d = iblk m c 12 t :=
  before0_12_of m (dats m 0 c) rfl (after0_12 m c) t d
theorem before0_13 (c : Dev nD) (t : Fin cfg0.N) (d) : (dats m 0 c).before 13 t d = iblk m c 13 t :=
  before0_13_of m (dats m 0 c) rfl (after0_13 m c) t d

/-- At a context tile the latent tokens' buffer still holds what the point before left there. -/
theorem before0_14 (c : Dev nD) (t : Fin cfg0.N) (ht : t.val % 65 = 64) (d) : (dats m 0 c).before 14 t d = outAt m c (held t) := by
  have hcarry : ∀ (t : Fin cfg0.N) (_ : t.val ≠ 0), cfg0.idle 14 (cfg0.grid.coords t) = true → cfg0.fresh 14 t.val = false →
      (dats m 0 c).after 14 t = (dats m 0 c).after 14 ⟨t.val - 1, by omega⟩ := by
    intro t _ hi _
    have hm := (idle14_iff t).mp hi
    rw [after0_14, after0_14]
    have h2 : ¬(t.val - 1) % 65 = 64 := by omega
    unfold held
    rw [if_pos hm, if_neg h2]
  have hf : cfg0.fresh 14 t.val = false := by
    have hlt : t.val - 1 < cfg0.N := by omega
    have e : t.val = (t.val - 1) + 1 := by omega
    have h63 : (t.val - 1) % 65 = 63 := by omega
    rw [e, cfg0.fresh_succ 14 _ hlt]
    have h1 : (cfg0.win 14).flush ⟨t.val - 1, hlt⟩ = false := by
      rw [Bool.eq_false_iff]; exact fun h => (flush14_iff ⟨t.val - 1, hlt⟩).mp h h63
    have h2 : cfg0.idle 14 (cfg0.grid.coords ⟨t.val - 1, hlt⟩) = false := by
      rw [Bool.eq_false_iff]
      exact fun h => by have := (idle14_iff ⟨t.val - 1, hlt⟩).mp h; simp only at this; omega
    rw [h1, h2]; rfl
  rw [(dats m 0 c).before_out_traj 14 rfl (fun _ _ => rfl) hcarry t.val t rfl d, hf, if_neg Bool.false_ne_true, after0_14]
  have h2 : ¬(t.val - 1) % 65 = 64 := by omega
  unfold held
  rw [if_pos ht, if_neg h2]

/-- The body meets the launch's obligation at every point. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8, after0_9, after0_10, after0_11, after0_12, after0_13]
  have hF15 : (win0 15).flush t = true ↔ t.val % 65 = 64 := flush0_15 t
  by_cases ht : t.val % 65 = 64
  · have hi14 : idle0 14 (grid0.coords t) = true := (idle14_iff t).mpr ht
    have hf14 : (win0 14).flush t = true := (flush14_iff t).mpr (by omega)
    have hi15 : idle0 15 (grid0.coords t) = false := Bool.eq_false_iff.mpr fun h => (idle15_iff t).mp h ht
    simp only [hi14, hf14, hi15, before0_14 m c t ht]
    rw [after0_14, after0_15]
    unfold outAt
    simp only [owns_eq_rep]
    iintro ⟨Hf, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (wp_ctx (grid0.coords t) _ _ _ _ _ _ _ _ _ _ _ _ _ _ c Set.univ ((cond1_iff t).mpr ht) (fun h => (cond2_iff t).mp h ht))
    isplitl [H0 H1 H2 H3 H4 H5 H6 H7 H8 H9 H10 H11 H12 H13]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [H15]; · iexact H15
    isplitl [H14]; · iexact H14
    iintro ⟨⟨H0, H1, H2, H3, H4, H5, H6, H7, H8, H9, H10, H11, H12, H13⟩, H15, H14⟩
    isplitl [Hf]; · iexact Hf
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · have hi14 : idle0 14 (grid0.coords t) = false := Bool.eq_false_iff.mpr fun h => ht ((idle14_iff t).mp h)
    have hi15 : idle0 15 (grid0.coords t) = true := (idle15_iff t).mpr ht
    have hf15 : (win0 15).flush t = false := Bool.eq_false_iff.mpr fun h => ht (hF15.mp h)
    have hh : held t = t := if_neg ht
    simp only [hi14, hi15, hf15]
    rw [after0_14, hh]
    unfold outAt
    simp only [owns_eq_rep]
    iintro ⟨Hf, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (wp_latent (grid0.coords t) _ _ _ _ _ _ _ _ _ _ _ _ _ _ c Set.univ (fun h => ht ((cond1_iff t).mp h)) ((cond2_iff t).mpr ht))
    isplitl [H0 H1 H2 H3 H4 H5 H6 H7 H8 H9 H10 H11 H12 H13]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [H14]; · iexact H14
    isplitl [H15]; · iexact H15
    iintro ⟨⟨H0, H1, H2, H3, H4, H5, H6, H7, H8, H9, H10, H11, H12, H13⟩, H14, H15⟩
    isplitl [Hf]; · iexact Hf
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexists d15; iexact H15

set_option backward.isDefEq.respectTransparency.types false in
/-- Every execution ends, with every array at what the proof data say and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: the arguments end as they began, and the counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_with_sems (frame_of m ρ (dats m) fun _ _ => rfl) (run_main m ρ)

end Mid
-- ==== Proof.MidRef.lean ====
/-
  The reference of the first layer's closing part, at an index: for the latent tokens and for the context tokens, the row
  mathematics of each token.
-/
module

public import proofs.«01_k».proof.Proof.PostRef
public import proofs.«01_k».proof.Proof.Gen.MidReferenceIdeal.Run

@[expose] public section

set_option maxRecDepth 16384

noncomputable section

namespace Mid

open Idealize.ShloMosaic

/-- The row a token leaves the first layer with: after the attention and after the feed-forward layer. -/
def layerRow (x a : Fin 1024 → EReal) (md : Fin 6144 → EReal) (w : Fin 1024 → Fin 1024 → EReal) (g : Fin 1024 → EReal)
    (w1 w3 : Fin 1024 → Fin 2816 → EReal) (w2 : Fin 2816 → Fin 1024 → EReal) (j : Fin 1024) : EReal :=
  Post.fin (Post.mid x a md w) (Post.act (Post.hid (Post.mid x a md w) g md) w1 w3) md w2 j

end Mid

namespace Mid.Ref

open Cert.MidReferenceIdeal Cert.MidReferenceIdeal.Gen Stream
open Post (mid hid act fin head heads)
open Post.Ref (midOf normR hidR upR actR finR mod2)
open Idealize.ShloMosaic Idealize.ShloMosaic.TcCoe

/-! ## The latent tokens -/

/-- The latent tokens' result. -/
def latents (x : FVec Ideal S2x16384x1024 .f32) (oa : FVec Ideal S2x2x3x16384x64 .bf16) (ob : FVec Ideal S2x4x16384x64 .bf16)
    (oc : FVec Ideal S2x2x3x16384x64 .bf16) (md : FVec Ideal S3x1x6144 .f32) (w : FVec Ideal S1024x1024 .f32) (g : FVec Ideal S1024 .f32)
    (w1 w3 : FVec Ideal S1024x2816 .f32) (w2 : FVec Ideal S2816x1024 .f32) : FVec Ideal S2x16384x1024 .f32 :=
  finR (midOf x oa ob oc md w) (actR (upR (hidR (normR (midOf x oa ob oc md w) g) (mod2 md)) w1)
    (upR (hidR (normR (midOf x oa ob oc md w) g) (mod2 md)) w3)) (mod2 md) w2

/-- Each row of the latent tokens' result is the row mathematics of the token's. -/
theorem latents_apply (x : FVec Ideal S2x16384x1024 .f32) (oa : FVec Ideal S2x2x3x16384x64 .bf16) (ob : FVec Ideal S2x4x16384x64 .bf16)
    (oc : FVec Ideal S2x2x3x16384x64 .bf16) (md : FVec Ideal S3x1x6144 .f32) (w : FVec Ideal S1024x1024 .f32) (g : FVec Ideal S1024 .f32)
    (w1 w3 : FVec Ideal S1024x2816 .f32) (w2 : FVec Ideal S2816x1024 .f32) (b : Fin 2) (t : Fin 16384) (j : Fin 1024) :
    latents x oa ob oc md w g w1 w3 w2 (ix3 b t j)
      = layerRow (fun j => x (ix3 b t j)) (heads (fun g r d => oa (ix5 b g r t d)) (fun h d => ob (ix4 b h t d)) (fun g r d => oc (ix5 b g r t d)))
        (fun n => md (ix3 ⟨b.val, by omega⟩ 0 n)) (fun k j => w (ix2 k j)) (fun j => g (ix1 j)) (fun k n => w1 (ix2 k n)) (fun k n => w3 (ix2 k n))
        (fun n j => w2 (ix2 n j)) j := by
  unfold latents midOf
  simp only [Post.Ref.normR_apply, Post.Ref.finR_apply, Post.Ref.midR_apply, Post.Ref.actR_apply, Post.Ref.upR_apply, Post.Ref.hidR_apply,
    Post.Ref.mod2_apply, Post.Ref.merged_apply, Post.Ref.stack_apply]
  rfl

/-! ## The context tokens -/

/-- The context heads of the three parts, one after another. -/
def stackC (oa : FVec Ideal S2x2x3x256x64 .bf16) (ob : FVec Ideal S2x4x256x64 .bf16) (oc : FVec Ideal S2x2x3x256x64 .bf16) :
    FVec Ideal S2x16x256x64 .bf16 :=
  concatenate S2x16x256x64 1 [⟨S2x6x256x64, shapeCast _ oa shapeCasts_S2x2x3x256x64_S2x6x256x64⟩, ⟨S2x4x256x64, ob⟩,
    ⟨S2x6x256x64, shapeCast _ oc shapeCasts_S2x2x3x256x64_S2x6x256x64⟩]
    concatenates_S2x6x256x64_S2x4x256x64_S2x6x256x64_S2x16x256x64_d1

/-- They merged into one row per token. -/
def mergedC (s : FVec Ideal S2x16x256x64 .bf16) : FVec Ideal S2x256x1024 .f32 :=
  extf .f32 (shapeCast _ (transpose S2x256x16x64 [0, 2, 1, 3] s transposes_S2x16x256x64_S2x256x16x64_0_2_1_3)
    shapeCasts_S2x256x16x64_S2x256x1024) bitsLt_bf16_f32

/-- The context's modulation, the third of the array's rows. -/
def modC (md : FVec Ideal S3x1x6144 .f32) : FVec Ideal S6144 .f32 :=
  shapeCast _ (extractStridedSlice S1x1x6144 ![2, 0, 0] md slices_S3x1x6144_S1x1x6144_2_0_0) shapeCasts_S1x1x6144_S6144

/-- A number per column, repeated over the batches and the tokens. -/
def spreadC (v : FVec Ideal S1024 .f32) : FVec Ideal S2x256x1024 .f32 :=
  broadcastInDim S2x256x1024 ![0, 1, 2] bcast_S1x1x1024_S2x256x1024_0_1_2 (broadcastInDim S1x1x1024 ![2] bcast_S1024_S1x1x1024_2 v)

/-- The rows after the attention. -/
def midC (x a : FVec Ideal S2x256x1024 .f32) (md : FVec Ideal S6144 .f32) (w : FVec Ideal S1024x1024 .f32) : FVec Ideal S2x256x1024 .f32 :=
  addf x (mulf (spreadC (extractStridedSlice S1024 ![2048] md slices_S6144_S1024_2048))
    (Host.dotGeneral dot_S2x256x1024_S1024x1024_S2x256x1024_2_0_01_1_n_n none a w))

/-- The rows over the roots of their mean squares, scaled. -/
def normC (y : FVec Ideal S2x256x1024 .f32) (g : FVec Ideal S1024 .f32) : FVec Ideal S2x256x1024 .f32 :=
  mulf (mulf y (broadcastInDim S2x256x1024 ![0, 1, 2] bcast_S2x256x1_S2x256x1024_0_1_2 (Host.rsqrt (addf (Host.divf
      (broadcastInDim S2x256x1 ![0, 1] bcast_S2x256_S2x256x1_0_1
        (Host.reduceAdd (mulf y y) (constant S_ .f32 0x00000000#32) reducesTo_S2x256x1024_S2x256_d2 h_S_))
      (broadcastInDim S2x256x1 ![] bcast_S_S2x256x1 (constant S_ .f32 0x44800000#32)))
      (broadcastInDim S2x256x1 ![] bcast_S_S2x256x1 (constant S_ .f32 0x358637BD#32)))))) (spreadC g)

/-- The rows the feed-forward layer reads. -/
def hidC (z : FVec Ideal S2x256x1024 .f32) (md : FVec Ideal S6144 .f32) : FVec Ideal S2x256x1024 .f32 :=
  addf (mulf z (spreadC (addf (broadcastInDim S1024 ![] bcast_S_S1024 (constant S_ .f32 0x3F800000#32))
      (extractStridedSlice S1024 ![4096] md slices_S6144_S1024_4096))))
    (spreadC (extractStridedSlice S1024 ![3072] md slices_S6144_S1024_3072))

/-- The rows under a matrix of the feed-forward layer. -/
def upC (h : FVec Ideal S2x256x1024 .f32) (w : FVec Ideal S1024x2816 .f32) : FVec Ideal S2x256x2816 .f32 :=
  Host.dotGeneral dot_S2x256x1024_S1024x2816_S2x256x2816_2_0_01_1_n_n none h w

/-- The gated hidden rows. -/
def actC (u v : FVec Ideal S2x256x2816 .f32) : FVec Ideal S2x256x2816 .f32 :=
  mulf (mulf u (Host.divf (broadcastInDim S2x256x2816 ![] bcast_S_S2x256x2816 (constant S_ .f32 0x3F800000#32))
    (addf (broadcastInDim S2x256x2816 ![] bcast_S_S2x256x2816 (constant S_ .f32 0x3F800000#32)) (Host.exp (Host.negf u))))) v

/-- The rows after the feed-forward layer. -/
def finC (y : FVec Ideal S2x256x1024 .f32) (a : FVec Ideal S2x256x2816 .f32) (md : FVec Ideal S6144 .f32) (w : FVec Ideal S2816x1024 .f32) :
    FVec Ideal S2x256x1024 .f32 :=
  addf y (mulf (spreadC (extractStridedSlice S1024 ![5120] md slices_S6144_S1024_5120))
    (Host.dotGeneral dot_S2x256x2816_S2816x1024_S2x256x1024_2_0_01_1_n_n none a w))

/-- The context rows after the attention, of the arguments. -/
def midOfC (x : FVec Ideal S2x256x1024 .f32) (oa : FVec Ideal S2x2x3x256x64 .bf16) (ob : FVec Ideal S2x4x256x64 .bf16)
    (oc : FVec Ideal S2x2x3x256x64 .bf16) (md : FVec Ideal S3x1x6144 .f32) (w : FVec Ideal S1024x1024 .f32) : FVec Ideal S2x256x1024 .f32 :=
  midC x (mergedC (stackC oa ob oc)) (modC md) w

/-- The context tokens' result. -/
def contexts (x : FVec Ideal S2x256x1024 .f32) (oa : FVec Ideal S2x2x3x256x64 .bf16) (ob : FVec Ideal S2x4x256x64 .bf16)
    (oc : FVec Ideal S2x2x3x256x64 .bf16) (md : FVec Ideal S3x1x6144 .f32) (w : FVec Ideal S1024x1024 .f32) (g : FVec Ideal S1024 .f32)
    (w1 w3 : FVec Ideal S1024x2816 .f32) (w2 : FVec Ideal S2816x1024 .f32) : FVec Ideal S2x256x1024 .f32 :=
  finC (midOfC x oa ob oc md w) (actC (upC (hidC (normC (midOfC x oa ob oc md w) g) (modC md)) w1)
    (upC (hidC (normC (midOfC x oa ob oc md w) g) (modC md)) w3)) (modC md) w2

/-- Number `k` of a token's merged row is of head `k / 64`. -/
theorem mergedC_apply (s : FVec Ideal S2x16x256x64 .bf16) (b : Fin 2) (t : Fin 256) (k : Fin 1024) :
    mergedC s (ix3 b t k) = s (ix4 b ⟨k.val / 64, by omega⟩ t ⟨k.val % 64, by omega⟩) := by
  unfold mergedC
  refine Eq.trans (b := transpose S2x256x16x64 [0, 2, 1, 3] s transposes_S2x16x256x64_S2x256x16x64_0_2_1_3
    (ix4 b t ⟨k.val / 64, by omega⟩ ⟨k.val % 64, by omega⟩)) ?_ ?_
  · refine congrArg (transpose S2x256x16x64 [0, 2, 1, 3] s _) (Shape.reshapeEquiv_eq_of_rowMajor _ ?_)
    rw [Shape.rowMajor_val_three, Shape.rowMajor_val_four]
    show ((b.val * 256 + t.val) * 16 + k.val / 64) * 64 + k.val % 64 = (b.val * 256 + t.val) * 1024 + k.val
    omega
  · pointwise

/-- The six heads of a part, by group and place. -/
theorem sixC_apply (o : FVec Ideal S2x2x3x256x64 .bf16) (b : Fin 2) (h : Fin 6) (t : Fin 256) (d : Fin 64) :
    shapeCast S2x6x256x64 o shapeCasts_S2x2x3x256x64_S2x6x256x64 (ix4 b h t d)
      = o (ix5 b ⟨h.val / 3, by omega⟩ ⟨h.val % 3, by omega⟩ t d) := by
  refine congrArg o (Shape.reshapeEquiv_eq_of_rowMajor _ ?_)
  rw [Shape.rowMajor_val_five, Shape.rowMajor_val_four]
  show (((b.val * 2 + h.val / 3) * 3 + h.val % 3) * 256 + t.val) * 64 + d.val = ((b.val * 6 + h.val) * 256 + t.val) * 64 + d.val
  omega

/-- A head of the stack, by the part it is of. -/
theorem stackC_apply (oa : FVec Ideal S2x2x3x256x64 .bf16) (ob : FVec Ideal S2x4x256x64 .bf16) (oc : FVec Ideal S2x2x3x256x64 .bf16)
    (b : Fin 2) (h : Fin 16) (t : Fin 256) (d : Fin 64) :
    stackC oa ob oc (ix4 b h t d)
      = head (fun g r d => oa (ix5 b g r t d)) (fun h d => ob (ix4 b h t d)) (fun g r d => oc (ix5 b g r t d)) h d := by
  have hh := h.isLt
  unfold stackC head
  generalize hA : shapeCast S2x6x256x64 oa _ = A
  generalize hC : shapeCast S2x6x256x64 oc _ = C
  pointwise
  by_cases h1 : h.val < 6
  · rw [dif_pos h1, dif_pos h1, ← hA]
    exact sixC_apply oa b ⟨h.val, h1⟩ t d
  by_cases h2 : h.val - 6 < 4
  · rw [dif_neg h1, dif_pos h2, dif_neg h1, dif_pos h2]
  · rw [dif_neg h1, dif_neg h2, dif_neg h1, dif_neg h2, ← hC]
    exact sixC_apply oc b ⟨h.val - 6 - 4, by omega⟩ t d

theorem midC_apply (x a : FVec Ideal S2x256x1024 .f32) (md : FVec Ideal S6144 .f32) (w : FVec Ideal S1024x1024 .f32)
    (b : Fin 2) (t : Fin 256) (j : Fin 1024) :
    midC x a md w (ix3 b t j) = mid (fun j => x (ix3 b t j)) (fun k => a (ix3 b t k)) (fun n => md (ix1 n)) (fun k j => w (ix2 k j)) j := by
  pointwise [midC, spreadC, mid]

theorem normC_apply (y : FVec Ideal S2x256x1024 .f32) (g : FVec Ideal S1024 .f32) (b : Fin 2) (t : Fin 256) (j : Fin 1024) :
    normC y g (ix3 b t j) = Post.norm (fun j => y (ix3 b t j)) j * g (ix1 j) := by
  pointwise [normC, spreadC, Post.norm]

theorem hidC_apply (z : FVec Ideal S2x256x1024 .f32) (md : FVec Ideal S6144 .f32) (b : Fin 2) (t : Fin 256) (j : Fin 1024) :
    hidC z md (ix3 b t j) = z (ix3 b t j) * (Ideal.ofBits .f32 0x3F800000#32 + md (ix1 ⟨4096 + j.val, by omega⟩)) + md (ix1 ⟨3072 + j.val, by omega⟩) := by
  pointwise [hidC, spreadC]

theorem upC_apply (h : FVec Ideal S2x256x1024 .f32) (w : FVec Ideal S1024x2816 .f32) (b : Fin 2) (t : Fin 256) (n : Fin 2816) :
    upC h w (ix3 b t n) = ∑ k : Fin 1024, h (ix3 b t k) * w (ix2 k n) := by
  pointwise [upC]

theorem actC_apply (u v : FVec Ideal S2x256x2816 .f32) (b : Fin 2) (t : Fin 256) (n : Fin 2816) :
    actC u v (ix3 b t n) = u (ix3 b t n) * Ideal.logistic (u (ix3 b t n)) * v (ix3 b t n) := by
  pointwise [actC]
  rfl

theorem finC_apply (y : FVec Ideal S2x256x1024 .f32) (a : FVec Ideal S2x256x2816 .f32) (md : FVec Ideal S6144 .f32) (w : FVec Ideal S2816x1024 .f32)
    (b : Fin 2) (t : Fin 256) (j : Fin 1024) :
    finC y a md w (ix3 b t j) = fin (fun j => y (ix3 b t j)) (fun n => a (ix3 b t n)) (fun n => md (ix1 n)) (fun n j => w (ix2 n j)) j := by
  pointwise [finC, spreadC, fin]

theorem modC_apply (md : FVec Ideal S3x1x6144 .f32) (n : Fin 6144) : modC md (ix1 n) = md (ix3 2 0 n) := by
  pointwise [modC]

/-- Each row of the context tokens' result is the row mathematics of the token's. -/
theorem contexts_apply (x : FVec Ideal S2x256x1024 .f32) (oa : FVec Ideal S2x2x3x256x64 .bf16) (ob : FVec Ideal S2x4x256x64 .bf16)
    (oc : FVec Ideal S2x2x3x256x64 .bf16) (md : FVec Ideal S3x1x6144 .f32) (w : FVec Ideal S1024x1024 .f32) (g : FVec Ideal S1024 .f32)
    (w1 w3 : FVec Ideal S1024x2816 .f32) (w2 : FVec Ideal S2816x1024 .f32) (b : Fin 2) (t : Fin 256) (j : Fin 1024) :
    contexts x oa ob oc md w g w1 w3 w2 (ix3 b t j)
      = layerRow (fun j => x (ix3 b t j)) (heads (fun g r d => oa (ix5 b g r t d)) (fun h d => ob (ix4 b h t d)) (fun g r d => oc (ix5 b g r t d)))
        (fun n => md (ix3 2 0 n)) (fun k j => w (ix2 k j)) (fun j => g (ix1 j)) (fun k n => w1 (ix2 k n)) (fun k n => w3 (ix2 k n))
        (fun n j => w2 (ix2 n j)) j := by
  unfold contexts midOfC
  simp only [normC_apply, finC_apply, midC_apply, actC_apply, upC_apply, hidC_apply, modC_apply, mergedC_apply, stackC_apply]
  rfl

variable (m : (ℓ : Loc nD τ sig) → Buf (Elt Ideal) ℓ) (c : Dev nD)

/-- What the reference leaves of the latent tokens is `latents` of its arguments. -/
theorem res0_eq : Cert.MidReferenceIdeal.Value.res_main_v43 m c
    = latents (m ((c : Thread nD τ).loc main_arg0)) (m ((c : Thread nD τ).loc main_arg2)) (m ((c : Thread nD τ).loc main_arg3))
      (m ((c : Thread nD τ).loc main_arg4)) (m ((c : Thread nD τ).loc main_arg8)) (m ((c : Thread nD τ).loc main_arg9))
      (m ((c : Thread nD τ).loc main_arg10)) (m ((c : Thread nD τ).loc main_arg11)) (m ((c : Thread nD τ).loc main_arg12))
      (m ((c : Thread nD τ).loc main_arg13)) := rfl

/-- What it leaves of the context tokens is `contexts` of them. -/
theorem res1_eq : Cert.MidReferenceIdeal.Value.res_main_v92 m c
    = contexts (m ((c : Thread nD τ).loc main_arg1)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12))
      (m ((c : Thread nD τ).loc main_arg13)) := rfl

end Mid.Ref
-- ==== Proof.MidValue.lean ====
/-
  What the first layer's closing kernel's body stores, at an index, over what it reads.
-/
module

public import proofs.«01_k».proof.Proof.PostValue
public import proofs.«01_k».proof.Proof.MidRun
public import proofs.«01_k».proof.Proof.MidRef
public import Idealize.ShloMosaic.Lib.Pipeline.ValueKit

@[expose] public section

set_option maxRecDepth 16384

noncomputable section

namespace Mid

open Cert.MidKernelIdeal Cert.MidKernelIdeal.Gen Stream
open Post (midV normV hidV upV actV finV cat)
open Idealize.ShloMosaic

variable (b : BitVec 1) (x : FVec Ideal S256x1024 .f32) (u l : Fin 16 → FVec Ideal S256x64 .bf16) (md : FVec Ideal S1x1x6144 .f32)
  (w : FVec Ideal S1024x1024 .bf16) (g : FVec Ideal S1x1024 .f32) (w1 w3 : FVec Ideal S1024x2816 .bf16) (w2 : FVec Ideal S2816x1024 .bf16)

/-- The rows the body stores: the closing kernel's stages, of the heads the tile takes. -/
def rowsV (md : FVec Ideal S1x6144 .f32) : FVec Ideal S256x1024 .f32 :=
  finV (midV x (cat (sel b u l)) md w)
    (actV (upV (hidV (normV (midV x (cat (sel b u l)) md w) g) md) w1) (upV (hidV (normV (midV x (cat (sel b u l)) md w) g) md) w3)) md w2

/-- The body is its stages, one after another. -/
theorem blockV_eq : blockV b x u l md w g w1 w3 w2
    = shapeCast S1x256x1024 (rowsV b x u l w g w1 w3 w2 (k0_pay45 md)) shapeCasts_S256x1024_S1x256x1024 := rfl

/-- The modulation, of its block. -/
theorem pay45_apply (n : Fin 6144) : k0_pay45 md (ix2 0 n) = md (ix3 0 0 n) := by
  pointwise [k0_pay45]

/-- Each row the body stores is the row mathematics of the token's. -/
theorem blockV_apply (i : Fin 256) (j : Fin 1024) :
    blockV b x u l md w g w1 w3 w2 (ix3 0 i j)
      = layerRow (fun j => x (ix2 i j)) (fun k => sel b u l ⟨k.val / 64, by omega⟩ (ix2 i ⟨k.val % 64, by omega⟩)) (fun n => md (ix3 0 0 n))
        (fun k j => w (ix2 k j)) (fun j => g (ix2 0 j)) (fun k n => w1 (ix2 k n)) (fun k n => w3 (ix2 k n)) (fun n j => w2 (ix2 n j)) j := by
  rw [blockV_eq]
  refine Eq.trans (b := rowsV b x u l w g w1 w3 w2 (k0_pay45 md) (ix2 i j)) ?_ ?_
  · generalize rowsV b x u l w g w1 w3 w2 (k0_pay45 md) = p
    pointwise
  · unfold rowsV
    simp only [Post.normV_apply, Post.finV_apply, Post.midV_apply, Post.actV_apply, Post.upV_apply, Post.hidV_apply, Post.cat_apply, pay45_apply]
    rfl

/-- A head's rows, of the three parts' blocks. -/
theorem hds_apply (X : Vec Ideal S1x2x3x256x64 .bf16) (Y : Vec Ideal S1x4x256x64 .bf16) (Z : Vec Ideal S1x2x3x256x64 .bf16)
    (h : Fin 16) (i : Fin 256) (d : Fin 64) :
    hds (F := Ideal) X Y Z h (ix2 i d) = Post.head (fun g r d => X (ix5 0 g r i d)) (fun h d => Y (ix4 0 h i d)) (fun g r d => Z (ix5 0 g r i d)) h d := by
  fin_cases h <;> pointwise [hds, six, four, Post.head, k0_pay5, k0_pay11]

/-- The test of a tile, by its number. -/
theorem isCtx_eq : ∀ i : grid0.Coords, isCtx i = if (i 1).val = 64 then 1#1 else 0#1 := by
  intro i
  have h : ∀ n : Fin 65, Scalar.cmpi .sge (BitVec.ofNat 32 n.val) 64#32 = if n.val = 64 then 1#1 else 0#1 := by decide +kernel
  exact h (i 1)

variable (i : grid0.Coords) (x0 x1 : Vec Ideal S1x256x1024 .f32) (x2 : Vec Ideal S1x2x3x256x64 .bf16) (x3 : Vec Ideal S1x4x256x64 .bf16)
  (x4 x5 : Vec Ideal S1x2x3x256x64 .bf16) (x6 : Vec Ideal S1x4x256x64 .bf16) (x7 : Vec Ideal S1x2x3x256x64 .bf16) (x8 : Vec Ideal S1x1x6144 .f32)
  (x9 : Vec Ideal S1024x1024 .bf16) (x10 : Vec Ideal S1x1024 .f32) (x11 x12 : Vec Ideal S1024x2816 .bf16) (x13 : Vec Ideal S2816x1024 .bf16)

/-- What the body stores, the whole loads being of what is staged. -/
theorem outOf_eq : outOf (F := Ideal) i x0 x1 x2 x3 x4 x5 x6 x7 x8 x9 x10 x11 x12 x13
    = blockV (isCtx i) (k0_pay4 i x1 x0) (hds x5 x6 x7) (hds x2 x3 x4) x8 x9 x10 x11 x12 x13 := by
  unfold outOf
  rw [show View.ld (Val := Elt Ideal) x0 boxX = x0 from View.ld_unit_lit _ x0 (by decide), show View.ld (Val := Elt Ideal) x1 boxX = x1 from View.ld_unit_lit _ x1 (by decide)]
  rw [show View.ld (Val := Elt Ideal) x8 (Rect.unit (s := S1x1x6144) ![0, 0, 0] S1x1x6144.size inb_S1x1x6144_S1x1x6144_0_0_0) = x8 from View.ld_unit_lit _ x8 (by decide),
    show View.ld (Val := Elt Ideal) x9 (Rect.unit (s := S1024x1024) ![0, 0] S1024x1024.size inb_S1024x1024_S1024x1024_0_0) = x9 from View.ld_unit_lit _ x9 (by decide),
    show View.ld (Val := Elt Ideal) x10 (Rect.unit (s := S1x1024) ![0, 0] S1x1024.size inb_S1x1024_S1x1024_0_0) = x10 from View.ld_unit_lit _ x10 (by decide),
    show View.ld (Val := Elt Ideal) x11 (Rect.unit (s := S1024x2816) ![0, 0] S1024x2816.size inb_S1024x2816_S1024x2816_0_0) = x11 from View.ld_unit_lit _ x11 (by decide),
    show View.ld (Val := Elt Ideal) x12 (Rect.unit (s := S1024x2816) ![0, 0] S1024x2816.size inb_S1024x2816_S1024x2816_0_0) = x12 from View.ld_unit_lit _ x12 (by decide),
    show View.ld (Val := Elt Ideal) x13 (Rect.unit (s := S2816x1024) ![0, 0] S2816x1024.size inb_S2816x1024_S2816x1024_0_0) = x13 from View.ld_unit_lit _ x13 (by decide)]

/-- The tokens' rows a latent tile takes. -/
theorem pay4_latent (h : ¬(i 1).val = 64) (r : Fin 256) (j : Fin 1024) : k0_pay4 (F := Ideal) i x1 x0 (ix2 r j) = x0 (ix3 0 r j) := by
  have e : k0_pay4 (F := Ideal) i x1 x0 = Scalar.select (isCtx i) (shapeCast S256x1024 x1 shapeCasts_S1x256x1024_S256x1024)
      (shapeCast S256x1024 x0 shapeCasts_S1x256x1024_S256x1024) := rfl
  rw [e, isCtx_eq, if_neg h]
  pointwise

/-- The tokens' rows a context tile takes. -/
theorem pay4_ctx (h : (i 1).val = 64) (r : Fin 256) (j : Fin 1024) : k0_pay4 (F := Ideal) i x1 x0 (ix2 r j) = x1 (ix3 0 r j) := by
  have e : k0_pay4 (F := Ideal) i x1 x0 = Scalar.select (isCtx i) (shapeCast S256x1024 x1 shapeCasts_S1x256x1024_S256x1024)
      (shapeCast S256x1024 x0 shapeCasts_S1x256x1024_S256x1024) := rfl
  rw [e, isCtx_eq, if_pos h]
  pointwise

/-- What the body stores at a latent tile: the latent tokens' rows. -/
theorem outOf_latent (h : ¬(i 1).val = 64) (r : Fin 256) (j : Fin 1024) :
    outOf (F := Ideal) i x0 x1 x2 x3 x4 x5 x6 x7 x8 x9 x10 x11 x12 x13 (ix3 0 r j)
      = layerRow (fun j => x0 (ix3 0 r j)) (Post.heads (fun g k d => x2 (ix5 0 g k r d)) (fun h d => x3 (ix4 0 h r d)) (fun g k d => x4 (ix5 0 g k r d)))
        (fun n => x8 (ix3 0 0 n)) (fun k j => x9 (ix2 k j)) (fun j => x10 (ix2 0 j)) (fun k n => x11 (ix2 k n)) (fun k n => x12 (ix2 k n))
        (fun n j => x13 (ix2 n j)) j := by
  have hs : ∀ k, sel (isCtx i) (hds (F := Ideal) x5 x6 x7) (hds x2 x3 x4) k = hds x2 x3 x4 k := by
    intro k; unfold sel; rw [isCtx_eq, if_neg h]; rfl
  rw [outOf_eq, blockV_apply]
  simp only [hs, hds_apply, pay4_latent i x0 x1 h]
  rfl

/-- What it stores at a context tile: the context tokens' rows. -/
theorem outOf_ctx (h : (i 1).val = 64) (r : Fin 256) (j : Fin 1024) :
    outOf (F := Ideal) i x0 x1 x2 x3 x4 x5 x6 x7 x8 x9 x10 x11 x12 x13 (ix3 0 r j)
      = layerRow (fun j => x1 (ix3 0 r j)) (Post.heads (fun g k d => x5 (ix5 0 g k r d)) (fun h d => x6 (ix4 0 h r d)) (fun g k d => x7 (ix5 0 g k r d)))
        (fun n => x8 (ix3 0 0 n)) (fun k j => x9 (ix2 k j)) (fun j => x10 (ix2 0 j)) (fun k n => x11 (ix2 k n)) (fun k n => x12 (ix2 k n))
        (fun n j => x13 (ix2 n j)) j := by
  have hs : ∀ k, sel (isCtx i) (hds (F := Ideal) x5 x6 x7) (hds x2 x3 x4) k = hds x5 x6 x7 k := by
    intro k; unfold sel; rw [isCtx_eq, if_pos h]; rfl
  rw [outOf_eq, blockV_apply]
  simp only [hs, hds_apply, pay4_ctx i x0 x1 h]
  rfl

end Mid
-- ==== Proof.MidFinal.lean ====
/-
  The first layer's closing call's two result arrays are the reference's.
-/
module

public import proofs.«01_k».proof.Proof.MidLaunch
public import proofs.«01_k».proof.Proof.MidValue

@[expose] public section

set_option maxRecDepth 16384

noncomputable section

namespace Mid

open Cert.MidKernelIdeal Cert.MidKernelIdeal.Gen Stream
open Idealize.ShloMosaic Idealize.ShloMosaic.TcCoe Idealize.SL.Sem
open Idealize.ShloMosaic.Pipeline (Dat)

variable (m : (ℓ : Loc nD τ sig) → Buf (Elt Ideal) ℓ) (c : Dev nD)

/-- The weights are given to the call as they are. -/
theorem entry_w : (V m c main_v0 : FVec Ideal S1024x1024 .bf16) = m ((c : Thread nD τ).loc main_arg9) := by sl_kernel_rfl
theorem entry_w1 : (V m c main_v1 : FVec Ideal S1024x2816 .bf16) = m ((c : Thread nD τ).loc main_arg11) := by sl_kernel_rfl
theorem entry_w3 : (V m c main_v2 : FVec Ideal S1024x2816 .bf16) = m ((c : Thread nD τ).loc main_arg12) := by sl_kernel_rfl
theorem entry_w2 : (V m c main_v3 : FVec Ideal S2816x1024 .bf16) = m ((c : Thread nD τ).loc main_arg13) := by sl_kernel_rfl

/-- The norm's scale, as one row. -/
def oneRow (g : FVec Ideal S1024 .f32) : FVec Ideal S1x1024 .f32 := broadcastInDim S1x1024 ![1] bcast_S1024_S1x1024_1 g

theorem oneRow_apply (g : FVec Ideal S1024 .f32) (j : Fin 1024) : oneRow g (ix2 0 j) = g (ix1 j) := by
  pointwise [oneRow]

theorem entry_g : (V m c main_v4 : FVec Ideal S1x1024 .f32) = oneRow (m ((c : Thread nD τ).loc main_arg10)) := by sl_kernel_rfl

/-- Where each window's block lies at a point, by the point's batch and tile: the context tile keeps the blocks of the last
    latent one. -/
theorem idx : ∀ t : Fin cfg0.N, win0_0.index t = ![(grid0.coords t 0).val, min (grid0.coords t 1).val 63, 0]
    ∧ win0_1.index t = ![(grid0.coords t 0).val, 0, 0]
    ∧ win0_2.index t = ![(grid0.coords t 0).val, 0, 0, min (grid0.coords t 1).val 63, 0]
    ∧ win0_3.index t = ![(grid0.coords t 0).val, 0, min (grid0.coords t 1).val 63, 0]
    ∧ win0_4.index t = ![(grid0.coords t 0).val, 0, 0, min (grid0.coords t 1).val 63, 0]
    ∧ win0_5.index t = ![(grid0.coords t 0).val, 0, 0, 0, 0]
    ∧ win0_6.index t = ![(grid0.coords t 0).val, 0, 0, 0]
    ∧ win0_7.index t = ![(grid0.coords t 0).val, 0, 0, 0, 0]
    ∧ win0_8.index t = ![if (grid0.coords t 1).val = 64 then 2 else (grid0.coords t 0).val, 0, 0]
    ∧ win0_9.index t = ![0, 0] ∧ win0_10.index t = ![0, 0] ∧ win0_11.index t = ![0, 0] ∧ win0_12.index t = ![0, 0]
    ∧ win0_13.index t = ![0, 0]
    ∧ win0_14.index t = ![(grid0.coords t 0).val, min (grid0.coords t 1).val 63, 0]
    ∧ win0_15.index t = ![(grid0.coords t 0).val, 0, 0] :=
  (by decide +kernel : ∀ t : Fin grid0.N, _)

/-- A point's tile, by its number. -/
theorem tile_eq : ∀ t : Fin cfg0.N, (grid0.coords t 1).val = t.val % 65 := (by decide +kernel : ∀ t : Fin grid0.N, _)

abbrev bOf (t : Fin cfg0.N) : Fin 2 := ⟨(grid0.coords t 0).val, (grid0.coords t 0).isLt⟩

/-- The latent token that row `i` of a point's block is of. -/
abbrev tok (t : Fin cfg0.N) (i : Fin 256) : Fin 16384 := ⟨min (grid0.coords t 1).val 63 * 256 + i.val, by omega⟩

variable (t : Fin cfg0.N)

theorem block_x (i : Fin 256) (j : Fin 1024) :
    (iblk m c 0 t : FVec Ideal S1x256x1024 .f32) (ix3 0 i j)
      = (m ((c : Thread nD τ).loc main_arg0) : FVec Ideal S2x16384x1024 .f32) (ix3 (bOf t) (tok t i) j) := by
  rw [← V_main_arg0 m c]
  blk_ext [iblk, idx t]

theorem block_oa (g : Fin 2) (r : Fin 3) (i : Fin 256) (d : Fin 64) :
    (iblk m c 2 t : FVec Ideal S1x2x3x256x64 .bf16) (ix5 0 g r i d)
      = (m ((c : Thread nD τ).loc main_arg2) : FVec Ideal S2x2x3x16384x64 .bf16) (ix5 (bOf t) g r (tok t i) d) := by
  rw [← V_main_arg2 m c]
  blk_ext [iblk, idx t]

theorem block_ob (h : Fin 4) (i : Fin 256) (d : Fin 64) :
    (iblk m c 3 t : FVec Ideal S1x4x256x64 .bf16) (ix4 0 h i d)
      = (m ((c : Thread nD τ).loc main_arg3) : FVec Ideal S2x4x16384x64 .bf16) (ix4 (bOf t) h (tok t i) d) := by
  rw [← V_main_arg3 m c]
  blk_ext [iblk, idx t]

theorem block_oc (g : Fin 2) (r : Fin 3) (i : Fin 256) (d : Fin 64) :
    (iblk m c 4 t : FVec Ideal S1x2x3x256x64 .bf16) (ix5 0 g r i d)
      = (m ((c : Thread nD τ).loc main_arg4) : FVec Ideal S2x2x3x16384x64 .bf16) (ix5 (bOf t) g r (tok t i) d) := by
  rw [← V_main_arg4 m c]
  blk_ext [iblk, idx t]

theorem block_ctx (i : Fin 256) (j : Fin 1024) :
    (iblk m c 1 t : FVec Ideal S1x256x1024 .f32) (ix3 0 i j)
      = (m ((c : Thread nD τ).loc main_arg1) : FVec Ideal S2x256x1024 .f32) (ix3 (bOf t) i j) := by
  rw [← V_main_arg1 m c]
  blk_ext [iblk, idx t]

theorem block_oa_ctx (g : Fin 2) (r : Fin 3) (i : Fin 256) (d : Fin 64) :
    (iblk m c 5 t : FVec Ideal S1x2x3x256x64 .bf16) (ix5 0 g r i d)
      = (m ((c : Thread nD τ).loc main_arg5) : FVec Ideal S2x2x3x256x64 .bf16) (ix5 (bOf t) g r i d) := by
  rw [← V_main_arg5 m c]
  blk_ext [iblk, idx t]

theorem block_ob_ctx (h : Fin 4) (i : Fin 256) (d : Fin 64) :
    (iblk m c 6 t : FVec Ideal S1x4x256x64 .bf16) (ix4 0 h i d)
      = (m ((c : Thread nD τ).loc main_arg6) : FVec Ideal S2x4x256x64 .bf16) (ix4 (bOf t) h i d) := by
  rw [← V_main_arg6 m c]
  blk_ext [iblk, idx t]

theorem block_oc_ctx (g : Fin 2) (r : Fin 3) (i : Fin 256) (d : Fin 64) :
    (iblk m c 7 t : FVec Ideal S1x2x3x256x64 .bf16) (ix5 0 g r i d)
      = (m ((c : Thread nD τ).loc main_arg7) : FVec Ideal S2x2x3x256x64 .bf16) (ix5 (bOf t) g r i d) := by
  rw [← V_main_arg7 m c]
  blk_ext [iblk, idx t]

/-- The modulation's row a point takes: its batch's at a latent tile, the third at the context tile. -/
abbrev rowOf (t : Fin cfg0.N) : Fin 3 := ⟨if (grid0.coords t 1).val = 64 then 2 else (bOf t).val, by have := (bOf t).isLt; split <;> omega⟩

theorem block_mod (n : Fin 6144) :
    (iblk m c 8 t : FVec Ideal S1x1x6144 .f32) (ix3 0 0 n)
      = (m ((c : Thread nD τ).loc main_arg8) : FVec Ideal S3x1x6144 .f32) (ix3 (rowOf t) 0 n) := by
  rw [← V_main_arg8 m c]
  blk_ext [iblk, idx t]

theorem block_w (k j : Fin 1024) :
    (iblk m c 9 t : FVec Ideal S1024x1024 .bf16) (ix2 k j)
      = (m ((c : Thread nD τ).loc main_arg9) : FVec Ideal S1024x1024 .f32) (ix2 k j) := by
  refine Eq.trans ?_ (congrFun (entry_w m c) _)
  blk_ext [iblk, idx t]

theorem block_g (j : Fin 1024) :
    (iblk m c 10 t : FVec Ideal S1x1024 .f32) (ix2 0 j)
      = (m ((c : Thread nD τ).loc main_arg10) : FVec Ideal S1024 .f32) (ix1 j) := by
  refine Eq.trans ?_ ((congrFun (entry_g m c) (ix2 0 j)).trans (oneRow_apply _ j))
  blk_ext [iblk, idx t]

theorem block_w1 (k : Fin 1024) (n : Fin 2816) :
    (iblk m c 11 t : FVec Ideal S1024x2816 .bf16) (ix2 k n)
      = (m ((c : Thread nD τ).loc main_arg11) : FVec Ideal S1024x2816 .f32) (ix2 k n) := by
  refine Eq.trans ?_ (congrFun (entry_w1 m c) _)
  blk_ext [iblk, idx t]

theorem block_w3 (k : Fin 1024) (n : Fin 2816) :
    (iblk m c 12 t : FVec Ideal S1024x2816 .bf16) (ix2 k n)
      = (m ((c : Thread nD τ).loc main_arg12) : FVec Ideal S1024x2816 .f32) (ix2 k n) := by
  refine Eq.trans ?_ (congrFun (entry_w3 m c) _)
  blk_ext [iblk, idx t]

theorem block_w2 (n : Fin 2816) (j : Fin 1024) :
    (iblk m c 13 t : FVec Ideal S2816x1024 .bf16) (ix2 n j)
      = (m ((c : Thread nD τ).loc main_arg13) : FVec Ideal S2816x1024 .f32) (ix2 n j) := by
  refine Eq.trans ?_ (congrFun (entry_w2 m c) _)
  blk_ext [iblk, idx t]

/-- What the latent tokens' result should be. -/
def want0 : FVec Ideal S2x16384x1024 .f32 :=
  Ref.latents (m ((c : Thread nD τ).loc main_arg0)) (m ((c : Thread nD τ).loc main_arg2)) (m ((c : Thread nD τ).loc main_arg3))
    (m ((c : Thread nD τ).loc main_arg4)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13))

/-- And the context tokens'. -/
def want1 : FVec Ideal S2x256x1024 .f32 :=
  Ref.contexts (m ((c : Thread nD τ).loc main_arg1)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13))

/-- At a latent tile the body computes the reference's rows of its latent tokens. -/
theorem outAt_latent (ht : ¬t.val % 65 = 64) (i : Fin 256) (j : Fin 1024) :
    outAt (F := Ideal) m c t (ix3 0 i j) = want0 m c (ix3 (bOf t) (tok t i) j) := by
  have h : ¬(grid0.coords t 1).val = 64 := by rw [tile_eq]; exact ht
  unfold outAt want0
  refine (outOf_latent _ _ _ _ _ _ _ _ _ _ _ _ _ _ _ h i j).trans (Eq.trans ?_ (Ref.latents_apply _ _ _ _ _ _ _ _ _ _ (bOf t) (tok t i) j).symm)
  have hr : rowOf t = ⟨(bOf t).val, by have := (bOf t).isLt; omega⟩ := Fin.ext (if_neg h)
  simp only [block_x, block_oa, block_ob, block_oc, block_mod, hr, block_w, block_g, block_w1, block_w3, block_w2]

/-- At a context tile it computes those of the batch's context tokens. -/
theorem outAt_ctx (ht : t.val % 65 = 64) (i : Fin 256) (j : Fin 1024) :
    outAt (F := Ideal) m c t (ix3 0 i j) = want1 m c (ix3 (bOf t) i j) := by
  have h : (grid0.coords t 1).val = 64 := by rw [tile_eq]; exact ht
  unfold outAt want1
  refine (outOf_ctx _ _ _ _ _ _ _ _ _ _ _ _ _ _ _ h i j).trans (Eq.trans ?_ (Ref.contexts_apply _ _ _ _ _ _ _ _ _ _ (bOf t) i j).symm)
  have hr : rowOf t = 2 := Fin.ext (if_pos h)
  simp only [block_ctx, block_oa_ctx, block_ob_ctx, block_oc_ctx, block_mod, hr, block_w, block_g, block_w1, block_w3, block_w2]

/-- The point whose block the latent tokens' buffer holds is of the same batch, lies at the same rows, and is a latent one. -/
theorem held_spec : ∀ t : Fin cfg0.N, ¬(held t).val % 65 = 64 ∧ (grid0.coords (held t) 0).val = (grid0.coords t 0).val
    ∧ min (grid0.coords (held t) 1).val 63 = min (grid0.coords t 1).val 63 :=
  (by decide +kernel : ∀ t : Fin grid0.N, ¬(held t).val % 65 = 64 ∧ (grid0.coords (held t) 0).val = (grid0.coords t 0).val
    ∧ min (grid0.coords (held t) 1).val 63 = min (grid0.coords t 1).val 63)

/-- The latent tokens' result array is the reference's. -/
theorem final0 : (dats m 0 c).arrAt 14 cfg0.N = want0 m c := by
  refine (dats m 0 c).arrAt_eq_of_covers 14 _ (by decide +kernel) fun t _ y => ?_
  blk_simp
  rw [after0_14]
  have hy : y = (ix3 0 (y 1) (y 2) : S1x256x1024.Idx) := by blk_ext
  obtain ⟨h1, h2, h3⟩ := held_spec t
  rw [hy]
  refine (outAt_latent m c (held t) h1 (y 1) (y 2)).trans (congrArg (want0 m c) ?_)
  have hb : bOf (held t) = bOf t := Fin.ext h2
  have ht : tok (held t) (y 1) = tok t (y 1) := Fin.ext (congrArg (· * 256 + (y 1).val) h3)
  rw [hb, ht]
  blk_ext [idx t]

/-- The context tokens' result array is the reference's. -/
theorem final1 : (dats m 0 c).arrAt 15 cfg0.N = want1 m c := by
  refine (dats m 0 c).arrAt_eq_of_covers 15 _ (by decide +kernel) fun t hf y => ?_
  blk_simp
  rw [after0_15]
  have hy : y = (ix3 0 (y 1) (y 2) : S1x256x1024.Idx) := by blk_ext
  rw [hy]
  refine (outAt_ctx m c t ((flush0_15 t).mp hf) (y 1) (y 2)).trans (congrArg (want1 m c) ?_)
  blk_ext [idx t]

/-- The frame, at any instance of the floats. -/
def FrameAt (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0)

/-- It holds. -/
theorem frameAt (F : FTy → Type) [FloatOps F] : FrameAt F := fun m g _ => run_frame m g

end Mid
-- ==== Proof.ProjRef.lean ====
/-
  The reference of the input projection's values, at an index: each row of them is the row mathematics of its token.
-/
module

public import proofs.«01_k».proof.Proof.MidRef
public import proofs.«01_k».proof.Proof.Gen.ProjReferenceIdeal.Run

@[expose] public section

set_option maxRecDepth 16384

noncomputable section

namespace Proj

open Idealize.ShloMosaic

/-- The row the projection reads: normed, scaled, then scaled and shifted by the modulation. -/
def hid (x g : Fin 1024 → EReal) (md : Fin 6144 → EReal) (j : Fin 1024) : EReal :=
  Post.norm x j * g j * (Ideal.ofBits .f32 0x3F800000#32 + md ⟨1024 + j.val, by omega⟩) + md ⟨j.val, by omega⟩

/-- A token's row under the projection's weights. -/
def proj (x g : Fin 1024 → EReal) (md : Fin 6144 → EReal) (w : Fin 1024 → Fin 2048 → EReal) (n : Fin 2048) : EReal :=
  ∑ k, hid x g md k * w k n

/-- A head's 64 numbers, a one behind them, and zeros behind it. -/
def lane (v : Fin 64 → EReal) (l : Fin 128) : EReal :=
  if h : l.val < 64 then v ⟨l.val, h⟩ else if l.val = 64 then Ideal.ofBits .f32 0x3F800000#32 else Ideal.ofBits .f32 0x00000000#32

/-- The 64 numbers of a projected row from number `o` on, with the one and the zeros. -/
def value (p : Fin 2048 → EReal) (o : ℕ) (ho : o + 64 ≤ 2048) (l : Fin 128) : EReal := lane (fun d => p ⟨o + d.val, by omega⟩) l

end Proj

namespace Proj.Ref

open Cert.ProjReferenceIdeal Cert.ProjReferenceIdeal.Gen Stream
open Post.Ref (normR mod2)
open Mid.Ref (normC modC spreadC)
open Idealize.ShloMosaic Idealize.ShloMosaic.TcCoe

/-! ## The projected rows -/

/-- The latent rows the projection reads. -/
def hidL (z : FVec Ideal S2x16384x1024 .f32) (md : FVec Ideal S2x1x6144 .f32) : FVec Ideal S2x16384x1024 .f32 :=
  addf (mulf z (broadcastInDim S2x16384x1024 ![0, 1, 2] bcast_S2x1x1024_S2x16384x1024_0_1_2
      (addf (broadcastInDim S2x1x1024 ![] bcast_S_S2x1x1024 (constant S_ .f32 0x3F800000#32))
        (extractStridedSlice S2x1x1024 ![0, 0, 1024] md slices_S2x1x6144_S2x1x1024_0_0_1024))))
    (broadcastInDim S2x16384x1024 ![0, 1, 2] bcast_S2x1x1024_S2x16384x1024_0_1_2
      (extractStridedSlice S2x1x1024 ![0, 0, 0] md slices_S2x1x6144_S2x1x1024_0_0_0))

/-- The context rows the projection reads. -/
def hidC (z : FVec Ideal S2x256x1024 .f32) (md : FVec Ideal S6144 .f32) : FVec Ideal S2x256x1024 .f32 :=
  addf (mulf z (spreadC (addf (broadcastInDim S1024 ![] bcast_S_S1024 (constant S_ .f32 0x3F800000#32))
      (extractStridedSlice S1024 ![1024] md slices_S6144_S1024_1024))))
    (spreadC (extractStridedSlice S1024 ![0] md slices_S6144_S1024_0))

/-- The latent rows under the weights. -/
def projL (x : FVec Ideal S2x16384x1024 .f32) (md : FVec Ideal S3x1x6144 .f32) (g : FVec Ideal S1024 .f32) (w : FVec Ideal S1024x2048 .f32) :
    FVec Ideal S2x16384x2048 .f32 :=
  Host.dotGeneral dot_S2x16384x1024_S1024x2048_S2x16384x2048_2_0_01_1_n_n none (hidL (normR x g) (mod2 md)) w

/-- The context rows under the weights. -/
def projC (x : FVec Ideal S2x256x1024 .f32) (md : FVec Ideal S3x1x6144 .f32) (g : FVec Ideal S1024 .f32) (w : FVec Ideal S1024x2048 .f32) :
    FVec Ideal S2x256x2048 .f32 :=
  Host.dotGeneral dot_S2x256x1024_S1024x2048_S2x256x2048_2_0_01_1_n_n none (hidC (normC x g) (modC md)) w

theorem hidL_apply (z : FVec Ideal S2x16384x1024 .f32) (md : FVec Ideal S2x1x6144 .f32) (b : Fin 2) (t : Fin 16384) (j : Fin 1024) :
    hidL z md (ix3 b t j)
      = z (ix3 b t j) * (Ideal.ofBits .f32 0x3F800000#32 + md (ix3 b 0 ⟨1024 + j.val, by omega⟩)) + md (ix3 b 0 ⟨j.val, by omega⟩) := by
  pointwise [hidL]

theorem hidC_apply (z : FVec Ideal S2x256x1024 .f32) (md : FVec Ideal S6144 .f32) (b : Fin 2) (t : Fin 256) (j : Fin 1024) :
    hidC z md (ix3 b t j)
      = z (ix3 b t j) * (Ideal.ofBits .f32 0x3F800000#32 + md (ix1 ⟨1024 + j.val, by omega⟩)) + md (ix1 ⟨j.val, by omega⟩) := by
  pointwise [hidC, spreadC]

theorem projL_apply (x : FVec Ideal S2x16384x1024 .f32) (md : FVec Ideal S3x1x6144 .f32) (g : FVec Ideal S1024 .f32)
    (w : FVec Ideal S1024x2048 .f32) (b : Fin 2) (t : Fin 16384) (n : Fin 2048) :
    projL x md g w (ix3 b t n)
      = proj (fun j => x (ix3 b t j)) (fun j => g (ix1 j)) (fun n => md (ix3 ⟨b.val, by omega⟩ 0 n)) (fun k n => w (ix2 k n)) n := by
  refine Eq.trans (b := ∑ k : Fin 1024, hidL (normR x g) (mod2 md) (ix3 b t k) * w (ix2 k n)) ?_ ?_
  · unfold projL
    generalize hidL (normR x g) (mod2 md) = h
    pointwise
  · simp only [hidL_apply, Post.Ref.normR_apply, Post.Ref.mod2_apply]
    rfl

theorem projC_apply (x : FVec Ideal S2x256x1024 .f32) (md : FVec Ideal S3x1x6144 .f32) (g : FVec Ideal S1024 .f32)
    (w : FVec Ideal S1024x2048 .f32) (b : Fin 2) (t : Fin 256) (n : Fin 2048) :
    projC x md g w (ix3 b t n)
      = proj (fun j => x (ix3 b t j)) (fun j => g (ix1 j)) (fun n => md (ix3 2 0 n)) (fun k n => w (ix2 k n)) n := by
  refine Eq.trans (b := ∑ k : Fin 1024, hidC (normC x g) (modC md) (ix3 b t k) * w (ix2 k n)) ?_ ?_
  · unfold projC
    generalize hidC (normC x g) (modC md) = h
    pointwise
  · simp only [hidC_apply, Mid.Ref.normC_apply, Mid.Ref.modC_apply]
    rfl

end Proj.Ref
-- ==== Proof.ProjValue.lean ====
/-
  What the input projection's body stores of the values, at an index, over what it reads.
-/
module

public import proofs.«01_k».proof.Proof.PostValue
public import proofs.«01_k».proof.Proof.ProjRef
public import proofs.«01_k».proof.Proof.Gen.ProjKernelIdeal.Frame
public import Idealize.ShloMosaic.Lib.Pipeline.ValueKit
public import Idealize.ShloMosaic.Lib.KernelVsHost

@[expose] public section

set_option maxRecDepth 16384

noncomputable section

namespace Proj

open Cert.ProjKernelIdeal Cert.ProjKernelIdeal.Gen Stream
open Post (normV)
open Idealize.ShloMosaic

/-! ## The projected rows -/

/-- The rows the projection reads. -/
def hidV (z : FVec Ideal S256x1024 .f32) (md : FVec Ideal S1x6144 .f32) : FVec Ideal S256x1024 .bf16 :=
  truncf .bf16 (addf (mulf z (broadcastTo S256x1024 (addf (broadcast S1x1024 (Scalar.ofBits .f32 0x3F800000#32))
      (extractStridedSlice S1x1024 ![0, 1024] md slices_S1x6144_o0_1024_S1x1024)) broadcasts_S1x1024_S256x1024))
    (broadcastTo S256x1024 (extractStridedSlice S1x1024 ![0, 0] md slices_S1x6144_o0_0_S1x1024) broadcasts_S1x1024_S256x1024)) bitsLt_bf16_f32

theorem hidV_apply (z : FVec Ideal S256x1024 .f32) (md : FVec Ideal S1x6144 .f32) (i : Fin 256) (j : Fin 1024) :
    hidV z md (ix2 i j) = z (ix2 i j) * (Ideal.ofBits .f32 0x3F800000#32 + md (ix2 0 ⟨1024 + j.val, by omega⟩)) + md (ix2 0 ⟨j.val, by omega⟩) := by
  pointwise [hidV]

/-- The rows under the weights. -/
def projV (h : FVec Ideal S256x1024 .bf16) (w : FVec Ideal S1024x2048 .bf16) : FVec Ideal S256x2048 .f32 :=
  matmul dot_S256x1024_S1024x2048_S256x2048_1_0_0_1_n_n none h (shapeCast S1024x2048 w shapeCasts_S1024x2048_S1024x2048)
    (constant S256x2048 .f32 0x00000000#32)

theorem projV_apply (h : FVec Ideal S256x1024 .bf16) (w : FVec Ideal S1024x2048 .bf16) (i : Fin 256) (n : Fin 2048) :
    projV h w (ix2 i n) = ∑ k : Fin 1024, h (ix2 i k) * w (ix2 k n) := by
  pointwise [projV]

/-- The rows a tile takes: the context's or the latent ones. -/
def rowsV (i : grid0.Coords) (x0 x1 : FVec Ideal S1x256x1024 .f32) : FVec Ideal S256x1024 .f32 :=
  Scalar.select (Scalar.cmpi .sge (BitVec.ofNat 32 (i 1).val) 64#32) (shapeCast S256x1024 x1 shapeCasts_S1x256x1024_S256x1024)
    (shapeCast S256x1024 x0 shapeCasts_S1x256x1024_S256x1024)

/-- The modulation as one row. -/
def modV (x2 : FVec Ideal S1x1x6144 .f32) : FVec Ideal S1x6144 .f32 := shapeCast S1x6144 x2 shapeCasts_S1x1x6144_S1x6144

theorem modV_apply (x2 : FVec Ideal S1x1x6144 .f32) (n : Fin 6144) : modV x2 (ix2 0 n) = x2 (ix3 0 0 n) := by
  pointwise [modV]

/-- The test of a tile, by its number. -/
theorem isCtx_eq (i : grid0.Coords) : Scalar.cmpi .sge (BitVec.ofNat 32 (i 1).val) 64#32 = if (i 1).val = 64 then 1#1 else 0#1 := by
  have h : ∀ n : Fin 65, Scalar.cmpi .sge (BitVec.ofNat 32 n.val) 64#32 = if n.val = 64 then 1#1 else 0#1 := by decide +kernel
  exact h (i 1)

theorem rowsV_latent (i : grid0.Coords) (x0 x1 : FVec Ideal S1x256x1024 .f32) (h : ¬(i 1).val = 64) (r : Fin 256) (j : Fin 1024) :
    rowsV i x0 x1 (ix2 r j) = x0 (ix3 0 r j) := by
  unfold rowsV
  rw [isCtx_eq, if_neg h]
  pointwise

theorem rowsV_ctx (i : grid0.Coords) (x0 x1 : FVec Ideal S1x256x1024 .f32) (h : (i 1).val = 64) (r : Fin 256) (j : Fin 1024) :
    rowsV i x0 x1 (ix2 r j) = x1 (ix3 0 r j) := by
  unfold rowsV
  rw [isCtx_eq, if_pos h]
  pointwise

/-- The projected rows of a point, of its blocks. -/
def P (i : grid0.Coords) (x0 x1 : FVec Ideal S1x256x1024 .f32) (x2 : FVec Ideal S1x1x6144 .f32) (x3 : FVec Ideal S1x1024 .f32)
    (x4 : FVec Ideal S1024x2048 .bf16) : FVec Ideal S256x2048 .f32 :=
  projV (hidV (normV (rowsV i x0 x1) x3) (modV x2)) x4

theorem P_apply (i : grid0.Coords) (x0 x1 : FVec Ideal S1x256x1024 .f32) (x2 : FVec Ideal S1x1x6144 .f32) (x3 : FVec Ideal S1x1024 .f32)
    (x4 : FVec Ideal S1024x2048 .bf16) (r : Fin 256) (n : Fin 2048) :
    P i x0 x1 x2 x3 x4 (ix2 r n)
      = proj (fun j => rowsV i x0 x1 (ix2 r j)) (fun j => x3 (ix2 0 j)) (fun n => x2 (ix3 0 0 n)) (fun k n => x4 (ix2 k n)) n := by
  unfold P
  simp only [projV_apply, hidV_apply, Post.normV_apply, modV_apply]
  rfl

/-! ## A stored head -/

/-- The lane numbers. -/
abbrev lanes : IVec S256x128 32 := iota .tc S256x128 32 [1] iota_S256x128_d1_w32

/-- A head as the body stores it: its 64 numbers, a one behind them, and zeros. -/
def stored (v : FVec Ideal S256x128 .f32) : FVec Ideal S1x1x256x128 .bf16 :=
  shapeCast S1x1x256x128 (truncf .bf16 (select k0_pay3 v (select (cmpi .eq lanes (broadcast S256x128 64#32))
      (broadcast S256x128 (Scalar.ofBits (F := Ideal) .f32 0x3F800000#32)) (broadcast S256x128 (Scalar.ofBits (F := Ideal) .f32 0x00000000#32))))
    bitsLt_bf16_f32) shapeCasts_S256x128_S1x1x256x128

theorem slt_lane : ∀ l : Fin 128, Scalar.cmpi .slt (BitVec.ofNat 32 l.val) 64#32 = if l.val < 64 then 1#1 else 0#1 := by decide +kernel
theorem eq_lane : ∀ l : Fin 128, Scalar.cmpi .eq (BitVec.ofNat 32 l.val) 64#32 = if l.val = 64 then 1#1 else 0#1 := by decide +kernel

/-- It at an index. -/
theorem stored_apply (v : FVec Ideal S256x128 .f32) (i : Fin 256) (l : Fin 128) :
    stored v (ix4 0 0 i l) = lane (fun d => v (ix2 i ⟨d.val, by omega⟩)) l := by
  refine Eq.trans (b := Scalar.select (Scalar.cmpi .slt (BitVec.ofNat 32 l.val) 64#32) (v (ix2 i l))
    (Scalar.select (Scalar.cmpi .eq (BitVec.ofNat 32 l.val) 64#32) (Ideal.ofBits .f32 0x3F800000#32) (Ideal.ofBits .f32 0x00000000#32))) ?_ ?_
  · pointwise [stored, k0_pay3, lanes]
    rfl
  · rw [slt_lane, eq_lane]
    unfold lane
    by_cases h1 : l.val < 64
    · rw [if_pos h1, dif_pos h1]; rfl
    · rw [if_neg h1, dif_neg h1]
      by_cases h2 : l.val = 64
      · rw [if_pos h2, if_pos h2]; rfl
      · rw [if_neg h2, if_neg h2]; rfl

/-- The second head of two beside each other, brought to the front. -/
theorem rolled_apply (v : FVec Ideal S256x128 .f32) (i : Fin 256) (d : Fin 64) :
    dynamicRotate 1 64#32 none v rotates_S256x128_d1 (ix2 i ⟨d.val, by omega⟩) = v (ix2 i ⟨64 + d.val, by omega⟩) := by
  refine dynamicRotate_apply 1 64#32 v rotates_S256x128_d1 _ _ fun b => ?_
  fin_cases b
  · rfl
  · show 64 + d.val = (d.val + 128 - 64) % 128
    omega

/-- The first head of the two from number `o` on. -/
theorem first_apply (p : FVec Ideal S256x2048 .f32) (o : ℕ) (ho : o + 128 ≤ 2048) (hs : S256x2048.Slices ![0, o] S256x128) (i : Fin 256) (l : Fin 128) :
    stored (extractStridedSlice S256x128 ![0, o] p hs) (ix4 0 0 i l) = value (fun n => p (ix2 i n)) o (by omega) l := by
  rw [stored_apply]
  unfold value
  refine congrArg (fun f => lane f l) (funext fun d => ?_)
  refine congrArg p (funext fun b => ?_)
  fin_cases b
  · exact Fin.ext (by show 0 + i.val = i.val; omega)
  · rfl

/-- The second. -/
theorem second_apply (p : FVec Ideal S256x2048 .f32) (o : ℕ) (ho : o + 128 ≤ 2048) (hs : S256x2048.Slices ![0, o] S256x128) (i : Fin 256) (l : Fin 128) :
    stored (dynamicRotate 1 64#32 none (extractStridedSlice S256x128 ![0, o] p hs) rotates_S256x128_d1) (ix4 0 0 i l)
      = value (fun n => p (ix2 i n)) (o + 64) (by omega) l := by
  rw [stored_apply]
  unfold value
  refine congrArg (fun f => lane f l) (funext fun d => ?_)
  rw [rolled_apply]
  refine congrArg p (funext fun b => ?_)
  fin_cases b
  · exact Fin.ext (by show 0 + i.val = i.val; omega)
  · exact Fin.ext (by show o + (64 + d.val) = o + 64 + d.val; omega)

/-! ## The stored blocks -/

variable (i : grid0.Coords) (x0 x1 : Vec Ideal S1x256x1024 .f32) (x2 : Vec Ideal S1x1x6144 .f32) (x3 : Vec Ideal S1x1024 .f32)
  (x4 : Vec Ideal S1024x2048 .bf16) (x5 x6 x7 x8 : Vec Ideal S256x128 .f32) (x9 x10 : Vec Ideal S1x128 .f32)

/-- The body's projected rows, the whole loads being of what is staged. -/
theorem pay104_eq : k0_pay104 (F := Ideal) i x0 x1 x2 x3 x4 x5 x6 x7 x8 x9 x10 = P i x0 x1 x2 x3 x4 := by
  unfold k0_pay104
  rw [show View.ld (Val := Elt Ideal) x0 r0_0 = x0 from View.ld_unit_lit _ x0 (by decide), show View.ld (Val := Elt Ideal) x1 r0_0 = x1 from View.ld_unit_lit _ x1 (by decide),
    show View.ld (Val := Elt Ideal) x2 r0_1 = x2 from View.ld_unit_lit _ x2 (by decide), show View.ld (Val := Elt Ideal) x3 r0_2 = x3 from View.ld_unit_lit _ x3 (by decide),
    show View.ld (Val := Elt Ideal) x4 r0_3 = x4 from View.ld_unit_lit _ x4 (by decide)]
  rfl

/-- The two heads of the pair of numbers from `o` on, as stored one after another. -/
abbrev first (p : FVec Ideal S256x2048 .f32) (o : ℕ) (hs : S256x2048.Slices ![0, o] S256x128) : FVec Ideal S1x1x256x128 .bf16 :=
  stored (extractStridedSlice S256x128 ![0, o] p hs)
abbrev second (p : FVec Ideal S256x2048 .f32) (o : ℕ) (hs : S256x2048.Slices ![0, o] S256x128) : FVec Ideal S1x1x256x128 .bf16 :=
  stored (dynamicRotate 1 64#32 none (extractStridedSlice S256x128 ![0, o] p hs) rotates_S256x128_d1)

theorem out13_eq : out0_13 (F := Ideal) i x0 x1 x2 x3 x4 x5 x6 x7 x8 x9 x10
    = View.canon [⟨r0_15, second (P i x0 x1 x2 x3 x4) 512 slices_S256x2048_o0_512_S256x128⟩,
      ⟨r0_14, first (P i x0 x1 x2 x3 x4) 512 slices_S256x2048_o0_512_S256x128⟩] := by
  unfold out0_13
  rw [pay104_eq]
  rfl

theorem out16_eq : out0_16 (F := Ideal) i x0 x1 x2 x3 x4 x5 x6 x7 x8 x9 x10
    = View.canon [⟨r0_31, second (P i x0 x1 x2 x3 x4) 1280 slices_S256x2048_o0_1280_S256x128⟩,
      ⟨r0_30, first (P i x0 x1 x2 x3 x4) 1280 slices_S256x2048_o0_1280_S256x128⟩,
      ⟨r0_23, second (P i x0 x1 x2 x3 x4) 1152 slices_S256x2048_o0_1152_S256x128⟩,
      ⟨r0_22, first (P i x0 x1 x2 x3 x4) 1152 slices_S256x2048_o0_1152_S256x128⟩] := by
  unfold out0_16
  rw [pay104_eq]
  rfl

theorem out19_eq : out0_19 (F := Ideal) i x0 x1 x2 x3 x4 x5 x6 x7 x8 x9 x10
    = View.canon [⟨r0_15, second (P i x0 x1 x2 x3 x4) 1920 slices_S256x2048_o0_1920_S256x128⟩,
      ⟨r0_14, first (P i x0 x1 x2 x3 x4) 1920 slices_S256x2048_o0_1920_S256x128⟩] := by
  unfold out0_19
  rw [pay104_eq]
  rfl

/-- A block index of one head, by its row and lane. -/
theorem idx_eq (x : S1x1x256x128.Idx) : x = ix4 0 0 (x 2) (x 3) := by blk_ext

/-- A stored head where a buffer's row `r` and lane `l` lie in it. -/
theorem first_at (p : FVec Ideal S256x2048 .f32) (o : ℕ) (ho : o + 128 ≤ 2048) (hs : S256x2048.Slices ![0, o] S256x128) (x : S1x1x256x128.Idx)
    (r : Fin 256) (l : Fin 128) (hr : r.val = (x 2).val) (hl : l.val = (x 3).val) (o' : ℕ) (ho' : o' + 64 ≤ 2048) (e : o' = o) :
    first p o hs x = value (fun n => p (ix2 r n)) o' ho' l := by
  subst e
  obtain rfl : r = x 2 := Fin.ext hr
  obtain rfl : l = x 3 := Fin.ext hl
  exact (congrArg _ (idx_eq x)).trans (first_apply p _ ho hs (x 2) (x 3))

theorem second_at (p : FVec Ideal S256x2048 .f32) (o : ℕ) (ho : o + 128 ≤ 2048) (hs : S256x2048.Slices ![0, o] S256x128) (x : S1x1x256x128.Idx)
    (r : Fin 256) (l : Fin 128) (hr : r.val = (x 2).val) (hl : l.val = (x 3).val) (o' : ℕ) (ho' : o' + 64 ≤ 2048) (e : o' = o + 64) :
    second p o hs x = value (fun n => p (ix2 r n)) o' ho' l := by
  subst e
  obtain rfl : r = x 2 := Fin.ext hr
  obtain rfl : l = x 3 := Fin.ext hl
  exact (congrArg _ (idx_eq x)).trans (second_apply p _ ho hs (x 2) (x 3))

/-- A buffer of two heads, each stored whole. -/
theorem canon2_apply (p : FVec Ideal S256x2048 .f32) (o : ℕ) (ho : o + 128 ≤ 2048) (hs : S256x2048.Slices ![0, o] S256x128)
    (h : Fin 2) (r : Fin 256) (l : Fin 128) :
    (View.canon [⟨r0_15, second p o hs⟩, ⟨r0_14, first p o hs⟩] : Vec Ideal S1x2x256x128 .bf16) (ix4 0 h r l)
      = value (fun n => p (ix2 r n)) (o + 64 * h.val) (by omega) l := by
  canon_tiles x hx <;> change h.val = _ at hx1
  · exact second_at p o ho hs x r l hx2 hx3 _ _ (by omega)
  · exact first_at p o ho hs x r l hx2 hx3 _ _ (by omega)

/-- A buffer of four. -/
theorem canon4_apply (p : FVec Ideal S256x2048 .f32) (h : Fin 4) (r : Fin 256) (l : Fin 128) :
    (View.canon [⟨r0_31, second p 1280 slices_S256x2048_o0_1280_S256x128⟩, ⟨r0_30, first p 1280 slices_S256x2048_o0_1280_S256x128⟩,
      ⟨r0_23, second p 1152 slices_S256x2048_o0_1152_S256x128⟩, ⟨r0_22, first p 1152 slices_S256x2048_o0_1152_S256x128⟩] : Vec Ideal S1x4x256x128 .bf16) (ix4 0 h r l)
      = value (fun n => p (ix2 r n)) (1152 + 64 * h.val) (by omega) l := by
  canon_tiles x hx <;> change h.val = _ at hx1
  · exact second_at p 1280 (by omega) _ x r l hx2 hx3 _ _ (by omega)
  · exact first_at p 1280 (by omega) _ x r l hx2 hx3 _ _ (by omega)
  · exact second_at p 1152 (by omega) _ x r l hx2 hx3 _ _ (by omega)
  · exact first_at p 1152 (by omega) _ x r l hx2 hx3 _ _ (by omega)

end Proj
-- ==== Proof.ProjHeads.lean ====
/-
  The reference's values of a number of heads, at an index, over the projected numbers of the latent and the context tokens.
-/
module

public import proofs.«01_k».proof.Proof.ProjRef

@[expose] public section

set_option maxRecDepth 16384

noncomputable section

namespace Proj.Ref

open Cert.ProjReferenceIdeal Cert.ProjReferenceIdeal.Gen Stream
open Idealize.ShloMosaic Idealize.ShloMosaic.TcCoe

/-! ## The values of two heads -/

/-- The latent tokens' numbers and behind them the context's. -/
def join2 (a : FVec Ideal S2x16384x128 .f32) (c : FVec Ideal S2x256x128 .f32) : FVec Ideal S2x16640x128 .f32 :=
  concatenate S2x16640x128 1 [⟨S2x16384x128, a⟩, ⟨S2x256x128, c⟩] concatenates_S2x16384x128_S2x256x128_S2x16640x128_d1

/-- A token's numbers by head. -/
def byHead2 (v : FVec Ideal S2x16640x128 .f32) : FVec Ideal S2x2x16640x64 .f32 :=
  transpose S2x2x16640x64 [0, 2, 1, 3] (shapeCast S2x16640x2x64 v shapeCasts_S2x16640x128_S2x16640x2x64) transposes_S2x16640x2x64_S2x2x16640x64_0_2_1_3

/-- The one and the zeros behind each head. -/
def ones2 (v : FVec Ideal S2x2x16640x64 .f32) : FVec Ideal S2x2x16640x128 .bf16 :=
  truncf .bf16 (concatenate S2x2x16640x128 3 [⟨S2x2x16640x64, v⟩,
    ⟨S2x2x16640x1, broadcastInDim S2x2x16640x1 ![] bcast_S_S2x2x16640x1 (constant (F := Ideal) S_ .f32 0x3F800000#32)⟩,
    ⟨S2x2x16640x63, broadcastInDim S2x2x16640x63 ![] bcast_S_S2x2x16640x63 (constant (F := Ideal) S_ .f32 0x00000000#32)⟩]
    concatenates_S2x2x16640x64_S2x2x16640x1_S2x2x16640x63_S2x2x16640x128_d3) bitsLt_bf16_f32

/-- The values of two heads, of their numbers. -/
def values2 (a : FVec Ideal S2x16384x128 .f32) (c : FVec Ideal S2x256x128 .f32) : FVec Ideal S2x2x16640x128 .bf16 :=
  ones2 (byHead2 (join2 a c))

theorem join2_latent (a : FVec Ideal S2x16384x128 .f32) (c : FVec Ideal S2x256x128 .f32) (b : Fin 2) (t : Fin 16384) (n : Fin 128) :
    join2 a c (ix3 b ⟨t.val, by omega⟩ n) = a (ix3 b t n) := by
  have ht := t.isLt
  pointwise [join2]

theorem join2_context (a : FVec Ideal S2x16384x128 .f32) (c : FVec Ideal S2x256x128 .f32) (b : Fin 2) (t : Fin 256) (n : Fin 128) :
    join2 a c (ix3 b ⟨16384 + t.val, by omega⟩ n) = c (ix3 b t n) := by
  pointwise [join2]

theorem byHead2_apply (v : FVec Ideal S2x16640x128 .f32) (b h : Fin 2) (t : Fin 16640) (d : Fin 64) :
    byHead2 v (ix4 b h t d) = v (ix3 b t ⟨64 * h.val + d.val, by omega⟩) := by
  refine Eq.trans (b := shapeCast S2x16640x2x64 v shapeCasts_S2x16640x128_S2x16640x2x64 (ix4 b t h d)) ?_ ?_
  · unfold byHead2
    generalize shapeCast S2x16640x2x64 v _ = u
    pointwise
  · refine congrArg v (Shape.reshapeEquiv_eq_of_rowMajor _ ?_)
    rw [Shape.rowMajor_val_three, Shape.rowMajor_val_four]
    have e : (b.val * 16640 + t.val) * 128 + (64 * h.val + d.val) = ((b.val * 16640 + t.val) * 2 + h.val) * 64 + d.val := by omega
    exact e

theorem ones2_apply (v : FVec Ideal S2x2x16640x64 .f32) (b h : Fin 2) (t : Fin 16640) (l : Fin 128) :
    ones2 v (ix4 b h t l) = lane (fun d => v (ix4 b h t d)) l := by
  have hl := l.isLt
  unfold ones2 lane
  pointwise
  by_cases h1 : l.val < 64
  · rw [dif_pos h1, dif_pos h1]
  · rw [dif_neg h1, dif_neg h1]
    by_cases h2 : l.val = 64
    · rw [if_pos h2, dif_pos (by omega)]
    · rw [if_neg h2, dif_neg (by omega)]

/-- A latent token's values. -/
theorem values2_latent (a : FVec Ideal S2x16384x128 .f32) (c : FVec Ideal S2x256x128 .f32) (b h : Fin 2) (t : Fin 16384) (l : Fin 128) :
    values2 a c (ix4 b h ⟨t.val, by omega⟩ l) = lane (fun d => a (ix3 b t ⟨64 * h.val + d.val, by omega⟩)) l := by
  unfold values2
  simp only [ones2_apply, byHead2_apply, join2_latent]

/-- A context token's values. -/
theorem values2_context (a : FVec Ideal S2x16384x128 .f32) (c : FVec Ideal S2x256x128 .f32) (b h : Fin 2) (t : Fin 256) (l : Fin 128) :
    values2 a c (ix4 b h ⟨16384 + t.val, by omega⟩ l) = lane (fun d => c (ix3 b t ⟨64 * h.val + d.val, by omega⟩)) l := by
  unfold values2
  simp only [ones2_apply, byHead2_apply, join2_context]

/-! ## The values of four heads -/

/-- The latent tokens' numbers and behind them the context's. -/
def join4 (a : FVec Ideal S2x16384x256 .f32) (c : FVec Ideal S2x256x256 .f32) : FVec Ideal S2x16640x256 .f32 :=
  concatenate S2x16640x256 1 [⟨S2x16384x256, a⟩, ⟨S2x256x256, c⟩] concatenates_S2x16384x256_S2x256x256_S2x16640x256_d1

/-- A token's numbers by head. -/
def byHead4 (v : FVec Ideal S2x16640x256 .f32) : FVec Ideal S2x4x16640x64 .f32 :=
  transpose S2x4x16640x64 [0, 2, 1, 3] (shapeCast S2x16640x4x64 v shapeCasts_S2x16640x256_S2x16640x4x64) transposes_S2x16640x4x64_S2x4x16640x64_0_2_1_3

/-- The one and the zeros behind each head. -/
def ones4 (v : FVec Ideal S2x4x16640x64 .f32) : FVec Ideal S2x4x16640x128 .bf16 :=
  truncf .bf16 (concatenate S2x4x16640x128 3 [⟨S2x4x16640x64, v⟩,
    ⟨S2x4x16640x1, broadcastInDim S2x4x16640x1 ![] bcast_S_S2x4x16640x1 (constant (F := Ideal) S_ .f32 0x3F800000#32)⟩,
    ⟨S2x4x16640x63, broadcastInDim S2x4x16640x63 ![] bcast_S_S2x4x16640x63 (constant (F := Ideal) S_ .f32 0x00000000#32)⟩]
    concatenates_S2x4x16640x64_S2x4x16640x1_S2x4x16640x63_S2x4x16640x128_d3) bitsLt_bf16_f32

/-- The values of four heads, of their numbers. -/
def values4 (a : FVec Ideal S2x16384x256 .f32) (c : FVec Ideal S2x256x256 .f32) : FVec Ideal S2x4x16640x128 .bf16 :=
  ones4 (byHead4 (join4 a c))

theorem join4_latent (a : FVec Ideal S2x16384x256 .f32) (c : FVec Ideal S2x256x256 .f32) (b : Fin 2) (t : Fin 16384) (n : Fin 256) :
    join4 a c (ix3 b ⟨t.val, by omega⟩ n) = a (ix3 b t n) := by
  have ht := t.isLt
  pointwise [join4]

theorem join4_context (a : FVec Ideal S2x16384x256 .f32) (c : FVec Ideal S2x256x256 .f32) (b : Fin 2) (t : Fin 256) (n : Fin 256) :
    join4 a c (ix3 b ⟨16384 + t.val, by omega⟩ n) = c (ix3 b t n) := by
  pointwise [join4]

theorem byHead4_apply (v : FVec Ideal S2x16640x256 .f32) (b : Fin 2) (h : Fin 4) (t : Fin 16640) (d : Fin 64) :
    byHead4 v (ix4 b h t d) = v (ix3 b t ⟨64 * h.val + d.val, by omega⟩) := by
  refine Eq.trans (b := shapeCast S2x16640x4x64 v shapeCasts_S2x16640x256_S2x16640x4x64 (ix4 b t h d)) ?_ ?_
  · unfold byHead4
    generalize shapeCast S2x16640x4x64 v _ = u
    pointwise
  · refine congrArg v (Shape.reshapeEquiv_eq_of_rowMajor _ ?_)
    rw [Shape.rowMajor_val_three, Shape.rowMajor_val_four]
    have e : (b.val * 16640 + t.val) * 256 + (64 * h.val + d.val) = ((b.val * 16640 + t.val) * 4 + h.val) * 64 + d.val := by omega
    exact e

theorem ones4_apply (v : FVec Ideal S2x4x16640x64 .f32) (b : Fin 2) (h : Fin 4) (t : Fin 16640) (l : Fin 128) :
    ones4 v (ix4 b h t l) = lane (fun d => v (ix4 b h t d)) l := by
  have hl := l.isLt
  unfold ones4 lane
  pointwise
  by_cases h1 : l.val < 64
  · rw [dif_pos h1, dif_pos h1]
  · rw [dif_neg h1, dif_neg h1]
    by_cases h2 : l.val = 64
    · rw [if_pos h2, dif_pos (by omega)]
    · rw [if_neg h2, dif_neg (by omega)]

/-- A latent token's values. -/
theorem values4_latent (a : FVec Ideal S2x16384x256 .f32) (c : FVec Ideal S2x256x256 .f32) (b : Fin 2) (h : Fin 4) (t : Fin 16384) (l : Fin 128) :
    values4 a c (ix4 b h ⟨t.val, by omega⟩ l) = lane (fun d => a (ix3 b t ⟨64 * h.val + d.val, by omega⟩)) l := by
  unfold values4
  simp only [ones4_apply, byHead4_apply, join4_latent]

/-- A context token's values. -/
theorem values4_context (a : FVec Ideal S2x16384x256 .f32) (c : FVec Ideal S2x256x256 .f32) (b : Fin 2) (h : Fin 4) (t : Fin 256) (l : Fin 128) :
    values4 a c (ix4 b h ⟨16384 + t.val, by omega⟩ l) = lane (fun d => c (ix3 b t ⟨64 * h.val + d.val, by omega⟩)) l := by
  unfold values4
  simp only [ones4_apply, byHead4_apply, join4_context]

/-! ## The reference's results -/

variable (m : (ℓ : Loc nD τ sig) → Buf (Elt Ideal) ℓ) (c : Dev nD)

/-- The latent tokens' projected rows, of the arguments. -/
def latents : FVec Ideal S2x16384x2048 .f32 :=
  projL (m ((c : Thread nD τ).loc main_arg0)) (m ((c : Thread nD τ).loc main_arg2)) (m ((c : Thread nD τ).loc main_arg3))
    (m ((c : Thread nD τ).loc main_arg4))

/-- And the context tokens'. -/
def contexts : FVec Ideal S2x256x2048 .f32 :=
  projC (m ((c : Thread nD τ).loc main_arg1)) (m ((c : Thread nD τ).loc main_arg2)) (m ((c : Thread nD τ).loc main_arg3))
    (m ((c : Thread nD τ).loc main_arg4))

/-- The first mixer's two heads, the second's four, and the third's two, of the projected rows. -/
def valuesA (p : FVec Ideal S2x16384x2048 .f32) (q : FVec Ideal S2x256x2048 .f32) : FVec Ideal S2x2x16640x128 .bf16 :=
  values2 (extractStridedSlice S2x16384x128 ![0, 0, 512] p slices_S2x16384x2048_S2x16384x128_0_0_512)
    (extractStridedSlice S2x256x128 ![0, 0, 512] q slices_S2x256x2048_S2x256x128_0_0_512)
def valuesB (p : FVec Ideal S2x16384x2048 .f32) (q : FVec Ideal S2x256x2048 .f32) : FVec Ideal S2x4x16640x128 .bf16 :=
  values4 (extractStridedSlice S2x16384x256 ![0, 0, 1152] p slices_S2x16384x2048_S2x16384x256_0_0_1152)
    (extractStridedSlice S2x256x256 ![0, 0, 1152] q slices_S2x256x2048_S2x256x256_0_0_1152)
def valuesC (p : FVec Ideal S2x16384x2048 .f32) (q : FVec Ideal S2x256x2048 .f32) : FVec Ideal S2x2x16640x128 .bf16 :=
  values2 (extractStridedSlice S2x16384x128 ![0, 0, 1920] p slices_S2x16384x2048_S2x16384x128_0_0_1920)
    (extractStridedSlice S2x256x128 ![0, 0, 1920] q slices_S2x256x2048_S2x256x128_0_0_1920)

theorem res0_eq : Cert.ProjReferenceIdeal.Value.res_main_v65 m c = valuesA (latents m c) (contexts m c) := rfl
theorem res1_eq : Cert.ProjReferenceIdeal.Value.res_main_v76 m c = valuesB (latents m c) (contexts m c) := rfl
theorem res2_eq : Cert.ProjReferenceIdeal.Value.res_main_v87 m c = valuesC (latents m c) (contexts m c) := rfl

/-- A slice of the projected numbers, by its first number. -/
theorem cut (n o : ℕ) (w : ℕ) (p : FVec Ideal ⟨3, ![2, n, 2048]⟩ .f32) (hs : (⟨3, ![2, n, 2048]⟩ : Shape).Slices ![0, 0, o] ⟨3, ![2, n, w]⟩)
    (ho : o + w ≤ 2048) (b : Fin 2) (t : Fin n) (k : Fin w) :
    extractStridedSlice ⟨3, ![2, n, w]⟩ ![0, 0, o] p hs (ix3 b t k) = p (ix3 b t ⟨o + k.val, by omega⟩) := by
  refine congrArg p (funext fun a => ?_)
  fin_cases a
  · exact Fin.ext (Nat.zero_add _)
  · exact Fin.ext (Nat.zero_add _)
  · rfl

/-- The 64 numbers of a head in a slice, as numbers of the projected row. -/
theorem cut_lane (n o w : ℕ) (p : FVec Ideal ⟨3, ![2, n, 2048]⟩ .f32) (hs : (⟨3, ![2, n, 2048]⟩ : Shape).Slices ![0, 0, o] ⟨3, ![2, n, w]⟩)
    (ho : o + w ≤ 2048) (b : Fin 2) (t : Fin n) (h : ℕ) (hw : 64 * h + 64 ≤ w) (l : Fin 128) :
    lane (fun d => extractStridedSlice ⟨3, ![2, n, w]⟩ ![0, 0, o] p hs (ix3 b t ⟨64 * h + d.val, by omega⟩)) l
      = value (fun k => p (ix3 b t k)) (o + 64 * h) (by omega) l := by
  refine congrArg (fun f => lane f l) (funext fun d => (cut n o w p hs ho b t _).trans (congrArg (fun k => p (ix3 b t k)) (Fin.ext ?_)))
  exact (Nat.add_assoc _ _ _).symm

/-! A token's values are of its projected row, from its head's first number on. -/

theorem valuesA_latent (p : FVec Ideal S2x16384x2048 .f32) (q : FVec Ideal S2x256x2048 .f32) (b : Fin 2) (h : Fin 2) (t : Fin 16384) (l : Fin 128) :
    valuesA p q (ix4 b h ⟨t.val, by omega⟩ l) = value (fun n => p (ix3 b t n)) (512 + 64 * h.val) (by omega) l :=
  (values2_latent _ _ b h t l).trans (cut_lane 16384 512 128 p _ (by omega) b t h.val (by omega) l)

theorem valuesA_context (p : FVec Ideal S2x16384x2048 .f32) (q : FVec Ideal S2x256x2048 .f32) (b : Fin 2) (h : Fin 2) (t : Fin 256) (l : Fin 128) :
    valuesA p q (ix4 b h ⟨16384 + t.val, by omega⟩ l) = value (fun n => q (ix3 b t n)) (512 + 64 * h.val) (by omega) l :=
  (values2_context _ _ b h t l).trans (cut_lane 256 512 128 q _ (by omega) b t h.val (by omega) l)

theorem valuesB_latent (p : FVec Ideal S2x16384x2048 .f32) (q : FVec Ideal S2x256x2048 .f32) (b : Fin 2) (h : Fin 4) (t : Fin 16384) (l : Fin 128) :
    valuesB p q (ix4 b h ⟨t.val, by omega⟩ l) = value (fun n => p (ix3 b t n)) (1152 + 64 * h.val) (by omega) l :=
  (values4_latent _ _ b h t l).trans (cut_lane 16384 1152 256 p _ (by omega) b t h.val (by omega) l)

theorem valuesB_context (p : FVec Ideal S2x16384x2048 .f32) (q : FVec Ideal S2x256x2048 .f32) (b : Fin 2) (h : Fin 4) (t : Fin 256) (l : Fin 128) :
    valuesB p q (ix4 b h ⟨16384 + t.val, by omega⟩ l) = value (fun n => q (ix3 b t n)) (1152 + 64 * h.val) (by omega) l :=
  (values4_context _ _ b h t l).trans (cut_lane 256 1152 256 q _ (by omega) b t h.val (by omega) l)

theorem valuesC_latent (p : FVec Ideal S2x16384x2048 .f32) (q : FVec Ideal S2x256x2048 .f32) (b : Fin 2) (h : Fin 2) (t : Fin 16384) (l : Fin 128) :
    valuesC p q (ix4 b h ⟨t.val, by omega⟩ l) = value (fun n => p (ix3 b t n)) (1920 + 64 * h.val) (by omega) l :=
  (values2_latent _ _ b h t l).trans (cut_lane 16384 1920 128 p _ (by omega) b t h.val (by omega) l)

theorem valuesC_context (p : FVec Ideal S2x16384x2048 .f32) (q : FVec Ideal S2x256x2048 .f32) (b : Fin 2) (h : Fin 2) (t : Fin 256) (l : Fin 128) :
    valuesC p q (ix4 b h ⟨16384 + t.val, by omega⟩ l) = value (fun n => q (ix3 b t n)) (1920 + 64 * h.val) (by omega) l :=
  (values2_context _ _ b h t l).trans (cut_lane 256 1920 128 q _ (by omega) b t h.val (by omega) l)

end Proj.Ref
-- ==== Proof.ProjFinal.lean ====
/-
  The input projection's three arrays of values are the reference's.
-/
module

public import proofs.«01_k».proof.Proof.Gen.ProjKernelIdeal.Value
public import proofs.«01_k».proof.Proof.ProjValue
public import proofs.«01_k».proof.Proof.ProjHeads

@[expose] public section

set_option maxRecDepth 16384

noncomputable section

namespace Proj

open Cert.ProjKernelIdeal Cert.ProjKernelIdeal.Gen Stream
open Idealize.ShloMosaic Idealize.ShloMosaic.TcCoe
open Idealize.ShloMosaic.Pipeline (Dat)

variable (m : (ℓ : Loc nD τ sig) → Buf (Elt Ideal) ℓ) (c : Dev nD)

/-- The weights are given to the call as they are. -/
theorem entry_w : (V m c main_v82 : FVec Ideal S1024x2048 .bf16) = m ((c : Thread nD τ).loc main_arg4) := by sl_kernel_rfl

/-- The norm's scale, as one row. -/
def oneRow (g : FVec Ideal S1024 .f32) : FVec Ideal S1x1024 .f32 := broadcastInDim S1x1024 ![1] bcast_S1024_S1x1024_1 g

theorem oneRow_apply (g : FVec Ideal S1024 .f32) (j : Fin 1024) : oneRow g (ix2 0 j) = g (ix1 j) := by
  pointwise [oneRow]

theorem entry_g : (V m c main_v91 : FVec Ideal S1x1024 .f32) = oneRow (m ((c : Thread nD τ).loc main_arg3)) := by sl_kernel_rfl

/-- Where each window's block lies at a point, by the point's batch and tile: the context tile keeps the block of the last
    latent one. -/
theorem idx : ∀ t : Fin cfg0.N, win0_0.index t = ![(grid0.coords t 0).val, min (grid0.coords t 1).val 63, 0]
    ∧ win0_1.index t = ![(grid0.coords t 0).val, 0, 0]
    ∧ win0_2.index t = ![if (grid0.coords t 1).val = 64 then 2 else (grid0.coords t 0).val, 0, 0]
    ∧ win0_3.index t = ![0, 0] ∧ win0_4.index t = ![0, 0]
    ∧ win0_13.index t = ![(grid0.coords t 0).val, 0, (grid0.coords t 1).val, 0]
    ∧ win0_16.index t = ![(grid0.coords t 0).val, 0, (grid0.coords t 1).val, 0]
    ∧ win0_19.index t = ![(grid0.coords t 0).val, 0, (grid0.coords t 1).val, 0] :=
  (by decide +kernel : ∀ t : Fin grid0.N, _)

abbrev bOf (t : Fin cfg0.N) : Fin 2 := ⟨(grid0.coords t 0).val, (grid0.coords t 0).isLt⟩
abbrev iOf (t : Fin cfg0.N) : Fin 65 := ⟨(grid0.coords t 1).val, (grid0.coords t 1).isLt⟩

/-- The latent token that row `i` of a point's block is of. -/
abbrev tok (t : Fin cfg0.N) (i : Fin 256) : Fin 16384 := ⟨min (grid0.coords t 1).val 63 * 256 + i.val, by omega⟩

variable (t : Fin cfg0.N)

theorem block_x (i : Fin 256) (j : Fin 1024) :
    (iblk m c 0 t : FVec Ideal S1x256x1024 .f32) (ix3 0 i j)
      = (m ((c : Thread nD τ).loc main_arg0) : FVec Ideal S2x16384x1024 .f32) (ix3 (bOf t) (tok t i) j) := by
  rw [← V_main_arg0 m c]
  blk_ext [iblk, idx t]

theorem block_ctx (i : Fin 256) (j : Fin 1024) :
    (iblk m c 1 t : FVec Ideal S1x256x1024 .f32) (ix3 0 i j)
      = (m ((c : Thread nD τ).loc main_arg1) : FVec Ideal S2x256x1024 .f32) (ix3 (bOf t) i j) := by
  rw [← V_main_arg1 m c]
  blk_ext [iblk, idx t]

/-- The modulation's row a point takes: its batch's at a latent tile, the third at the context tile. -/
abbrev rowOf (t : Fin cfg0.N) : Fin 3 := ⟨if (grid0.coords t 1).val = 64 then 2 else (bOf t).val, by have := (bOf t).isLt; split <;> omega⟩

theorem block_mod (n : Fin 6144) :
    (iblk m c 2 t : FVec Ideal S1x1x6144 .f32) (ix3 0 0 n)
      = (m ((c : Thread nD τ).loc main_arg2) : FVec Ideal S3x1x6144 .f32) (ix3 (rowOf t) 0 n) := by
  rw [← V_main_arg2 m c]
  blk_ext [iblk, idx t]

theorem block_g (j : Fin 1024) :
    (iblk m c 3 t : FVec Ideal S1x1024 .f32) (ix2 0 j)
      = (m ((c : Thread nD τ).loc main_arg3) : FVec Ideal S1024 .f32) (ix1 j) := by
  refine Eq.trans ?_ ((congrFun (entry_g m c) (ix2 0 j)).trans (oneRow_apply _ j))
  blk_ext [iblk, idx t]

theorem block_w (k : Fin 1024) (n : Fin 2048) :
    (iblk m c 4 t : FVec Ideal S1024x2048 .bf16) (ix2 k n)
      = (m ((c : Thread nD τ).loc main_arg4) : FVec Ideal S1024x2048 .f32) (ix2 k n) := by
  refine Eq.trans ?_ (congrFun (entry_w m c) _)
  blk_ext [iblk, idx t]

/-- The latent tokens' projected rows, of the arguments. -/
def latents : FVec Ideal Cert.ProjReferenceIdeal.S2x16384x2048 .f32 :=
  Ref.projL (m ((c : Thread nD τ).loc main_arg0)) (m ((c : Thread nD τ).loc main_arg2)) (m ((c : Thread nD τ).loc main_arg3))
    (m ((c : Thread nD τ).loc main_arg4))

/-- And the context tokens'. -/
def contexts : FVec Ideal Cert.ProjReferenceIdeal.S2x256x2048 .f32 :=
  Ref.projC (m ((c : Thread nD τ).loc main_arg1)) (m ((c : Thread nD τ).loc main_arg2)) (m ((c : Thread nD τ).loc main_arg3))
    (m ((c : Thread nD τ).loc main_arg4))

/-- A point's projected rows, of its blocks. -/
def rowsAt : FVec Ideal S256x2048 .f32 := P (grid0.coords t) (iblk m c 0 t) (iblk m c 1 t) (iblk m c 2 t) (iblk m c 3 t) (iblk m c 4 t)

theorem rowsAt_latent (h : ¬(grid0.coords t 1).val = 64) (r : Fin 256) (n : Fin 2048) :
    rowsAt m c t (ix2 r n) = latents m c (ix3 (bOf t) (tok t r) n) := by
  unfold rowsAt latents
  refine (P_apply _ _ _ _ _ _ r n).trans (Eq.trans ?_ (Ref.projL_apply _ _ _ _ (bOf t) (tok t r) n).symm)
  have hr : rowOf t = ⟨(bOf t).val, by have := (bOf t).isLt; omega⟩ := Fin.ext (if_neg h)
  simp only [rowsV_latent _ _ _ h, block_x, block_mod, hr, block_g, block_w]

theorem rowsAt_ctx (h : (grid0.coords t 1).val = 64) (r : Fin 256) (n : Fin 2048) :
    rowsAt m c t (ix2 r n) = contexts m c (ix3 (bOf t) r n) := by
  unfold rowsAt contexts
  refine (P_apply _ _ _ _ _ _ r n).trans (Eq.trans ?_ (Ref.projC_apply _ _ _ _ (bOf t) r n).symm)
  have hr : rowOf t = 2 := Fin.ext (if_pos h)
  simp only [rowsV_ctx _ _ _ h, block_ctx, block_mod, hr, block_g, block_w]

/-- A point's token in the arrays of values: a latent one, or at the context tile a context one behind them. -/
abbrev place (t : Fin cfg0.N) (r : Fin 256) : Fin 16640 := ⟨(grid0.coords t 1).val * 256 + r.val, by have := (iOf t).isLt; simp only [iOf] at this; omega⟩

theorem place_latent (h : ¬(grid0.coords t 1).val = 64) (r : Fin 256) : place t r = ⟨(tok t r).val, by omega⟩ := by
  have h1 := (iOf t).isLt
  simp only [iOf] at h1
  have e : min (grid0.coords t 1).val 63 = (grid0.coords t 1).val := by omega
  exact Fin.ext (congrArg (· * 256 + r.val) e.symm)

theorem place_ctx (h : (grid0.coords t 1).val = 64) (r : Fin 256) : place t r = ⟨16384 + r.val, by omega⟩ :=
  Fin.ext (by show (grid0.coords t 1).val * 256 + r.val = 16384 + r.val; rw [h])

/-- The first mixer's values a point stores are the reference's. -/
theorem pointA (h : Fin 2) (r : Fin 256) (l : Fin 128) :
    value (fun n => rowsAt m c t (ix2 r n)) (512 + 64 * h.val) (by omega) l = Ref.valuesA (latents m c) (contexts m c) (ix4 (bOf t) h (place t r) l) := by
  by_cases ht : (grid0.coords t 1).val = 64
  · rw [place_ctx t ht, Ref.valuesA_context, funext (rowsAt_ctx m c t ht r)]
  · rw [place_latent t ht, Ref.valuesA_latent, funext (rowsAt_latent m c t ht r)]

/-- The second's. -/
theorem pointB (h : Fin 4) (r : Fin 256) (l : Fin 128) :
    value (fun n => rowsAt m c t (ix2 r n)) (1152 + 64 * h.val) (by omega) l = Ref.valuesB (latents m c) (contexts m c) (ix4 (bOf t) h (place t r) l) := by
  by_cases ht : (grid0.coords t 1).val = 64
  · rw [place_ctx t ht, Ref.valuesB_context, funext (rowsAt_ctx m c t ht r)]
  · rw [place_latent t ht, Ref.valuesB_latent, funext (rowsAt_latent m c t ht r)]

/-- The third's. -/
theorem pointC (h : Fin 2) (r : Fin 256) (l : Fin 128) :
    value (fun n => rowsAt m c t (ix2 r n)) (1920 + 64 * h.val) (by omega) l = Ref.valuesC (latents m c) (contexts m c) (ix4 (bOf t) h (place t r) l) := by
  by_cases ht : (grid0.coords t 1).val = 64
  · rw [place_ctx t ht, Ref.valuesC_context, funext (rowsAt_ctx m c t ht r)]
  · rw [place_latent t ht, Ref.valuesC_latent, funext (rowsAt_latent m c t ht r)]

/-! ## The arrays -/

theorem finalA : (dats m 0 c).arrAt 13 cfg0.N = Ref.valuesA (latents m c) (contexts m c) := by
  refine (dats m 0 c).arrAt_eq_of_covers 13 _ (by decide +kernel) fun t _ y => ?_
  blk_simp
  rw [after0_13]
  have hy : y = (ix4 0 (y 1) (y 2) (y 3) : S1x2x256x128.Idx) := by blk_ext
  rw [hy]
  refine (congrFun (out13_eq _ _ _ _ _ _ _ _ _ _ _ _) _).trans ((canon2_apply _ 512 (by omega) _ (y 1) (y 2) (y 3)).trans
    ((pointA m c t (y 1) (y 2) (y 3)).trans (congrArg (Ref.valuesA _ _) ?_)))
  blk_ext [idx t]

theorem finalB : (dats m 0 c).arrAt 16 cfg0.N = Ref.valuesB (latents m c) (contexts m c) := by
  refine (dats m 0 c).arrAt_eq_of_covers 16 _ (by decide +kernel) fun t _ y => ?_
  blk_simp
  rw [after0_16]
  have hy : y = (ix4 0 (y 1) (y 2) (y 3) : S1x4x256x128.Idx) := by blk_ext
  rw [hy]
  refine (congrFun (out16_eq _ _ _ _ _ _ _ _ _ _ _ _) _).trans ((canon4_apply _ (y 1) (y 2) (y 3)).trans
    ((pointB m c t (y 1) (y 2) (y 3)).trans (congrArg (Ref.valuesB _ _) ?_)))
  blk_ext [idx t]

theorem finalC : (dats m 0 c).arrAt 19 cfg0.N = Ref.valuesC (latents m c) (contexts m c) := by
  refine (dats m 0 c).arrAt_eq_of_covers 19 _ (by decide +kernel) fun t _ y => ?_
  blk_simp
  rw [after0_19]
  have hy : y = (ix4 0 (y 1) (y 2) (y 3) : S1x2x256x128.Idx) := by blk_ext
  rw [hy]
  refine (congrFun (out19_eq _ _ _ _ _ _ _ _ _ _ _ _) _).trans ((canon2_apply _ 1920 (by omega) _ (y 1) (y 2) (y 3)).trans
    ((pointC m c t (y 1) (y 2) (y 3)).trans (congrArg (Ref.valuesC _ _) ?_)))
  blk_ext [idx t]

end Proj
-- ==== Proof.lean ====
/-
  The claims: every program's executions end with the arguments unchanged and every counter at zero; each kernel is its
  idealization; at finite queries and keys the attention call's result array is its reference's; at any arguments the closing
  call's result array is its reference's; at finite queries, keys, values and vectors so is the differential attention's; and at
  any arguments the first layer's closing call's two result arrays are its reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.PostKernel
public import proofs.«01_k».proof.Proof.Gen.PostKernel.Skeleton
public import proofs.«01_k».proof.Proof.Gen.PostKernel.Launch
public import proofs.«01_k».proof.Proof.Gen.PostKernel.Points
public import proofs.«01_k».proof.Proof.Gen.PostKernel.Frame
public import proofs.«01_k».proof.Proof.Gen.PostKernelIdeal
public import proofs.«01_k».proof.Proof.Gen.PostKernelIdeal.Skeleton
public import proofs.«01_k».proof.Proof.Gen.PostKernelIdeal.Launch
public import proofs.«01_k».proof.Proof.Gen.PostKernelIdeal.Points
public import proofs.«01_k».proof.Proof.Gen.PostKernelIdeal.Frame
public import proofs.«01_k».proof.Proof.Gen.PostKernelIdeal.Value
public import proofs.«01_k».proof.Proof.Gen.PostReferenceIdeal
public import proofs.«01_k».proof.Proof.Gen.PostReferenceIdeal.Run
public import proofs.«01_k».proof.Proof.Gen.Pre_finite
public import proofs.«01_k».proof.Proof.Gen.DiffKernel
public import proofs.«01_k».proof.Proof.Gen.DiffKernel.Skeleton
public import proofs.«01_k».proof.Proof.Gen.DiffKernel.Launch
public import proofs.«01_k».proof.Proof.Gen.DiffKernel.Points
public import proofs.«01_k».proof.Proof.Gen.DiffKernel.Frame
public import proofs.«01_k».proof.Proof.Gen.DiffKernelIdeal
public import proofs.«01_k».proof.Proof.Gen.DiffKernelIdeal.Skeleton
public import proofs.«01_k».proof.Proof.Gen.DiffKernelIdeal.Launch
public import proofs.«01_k».proof.Proof.Gen.DiffKernelIdeal.Points
public import proofs.«01_k».proof.Proof.Gen.DiffKernelIdeal.Frame
public import proofs.«01_k».proof.Proof.Gen.DiffReferenceIdeal
public import proofs.«01_k».proof.Proof.Gen.DiffReferenceIdeal.Run
public import proofs.«01_k».proof.Proof.Gen.Pre_finite_diff
public import proofs.«01_k».proof.Proof.Gen.MidKernel
public import proofs.«01_k».proof.Proof.Gen.MidKernel.Skeleton
public import proofs.«01_k».proof.Proof.Gen.MidKernel.Launch
public import proofs.«01_k».proof.Proof.Gen.MidKernel.Points
public import proofs.«01_k».proof.Proof.Gen.MidKernel.Frame
public import proofs.«01_k».proof.Proof.Gen.MidKernelIdeal
public import proofs.«01_k».proof.Proof.Gen.MidKernelIdeal.Skeleton
public import proofs.«01_k».proof.Proof.Gen.MidKernelIdeal.Launch
public import proofs.«01_k».proof.Proof.Gen.MidKernelIdeal.Points
public import proofs.«01_k».proof.Proof.Gen.MidKernelIdeal.Frame
public import proofs.«01_k».proof.Proof.Gen.MidReferenceIdeal
public import proofs.«01_k».proof.Proof.Gen.MidReferenceIdeal.Run
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjKernelIdeal.Value
public import proofs.«01_k».proof.Proof.Gen.ProjReferenceIdeal
public import proofs.«01_k».proof.Proof.Gen.ProjReferenceIdeal.Run
public import proofs.«01_k».proof.Proof.Frames
public import proofs.«01_k».proof.Proof.Finite
public import proofs.«01_k».proof.Proof.GqaFinal
public import proofs.«01_k».proof.Proof.PostFinal
public import proofs.«01_k».proof.Proof.DiffFinal
public import proofs.«01_k».proof.Proof.DiffFinite
public import proofs.«01_k».proof.Proof.MidFinal
public import proofs.«01_k».proof.Proof.ProjFinal
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference's frame: host operations write no argument, and it has no semaphores. -/
theorem frame_referenceIdeal : Cert.quiescent_ReferenceIdeal := fun m g _ =>
  θ_run_mono (Cert.ReferenceIdeal.Value.run m g) fun r h => ⟨fun c => (h c).2, sem_eq_zero_of_no_sems (by decide) r.2⟩

/-- At finite queries and keys the kernel's result array is the reference's. -/
theorem algebraic : Cert.algebraic_KernelIdeal_ReferenceIdeal_pre_finite := by
  intro m g m' g' hpre hagree
  refine ⟨fun c => (Gqa.dats m 0 c).arrAt 3 Cert.KernelIdeal.cfg0.N,
    θ_run_mono (θ_run_and (Gqa.run_main m g) (Gqa.run_frame m g)) fun r h c => ⟨(h.1.1 c).1 3, h.2.1 c⟩,
    θ_run_mono (Cert.ReferenceIdeal.Value.run m' g') fun r h c => ⟨(h c).1.trans ?_, (h c).2⟩⟩
  obtain ⟨⟨q, hq⟩, ⟨k, hk⟩⟩ := Cert.Pre_finite.reals _ _ _ (hpre c)
  rw [(hagree c).1, (hagree c).2.1, (hagree c).2.2]
  refine Eq.trans ?_ (Gqa.final m c q k hq hk).symm
  rw [← hq, ← hk]
  rfl

/-- The closing reference's frame. -/
theorem frame_postReferenceIdeal : Cert.quiescent_PostReferenceIdeal := fun m g _ =>
  θ_run_mono (Cert.PostReferenceIdeal.Value.run m g) fun r h => ⟨fun c => (h c).2, sem_eq_zero_of_no_sems (by decide) r.2⟩

/-- The closing call's result array is its reference's, whatever the arguments are. -/
theorem algebraic_post : Cert.algebraic_PostKernelIdeal_PostReferenceIdeal := by
  intro m g m' g' _ hagree
  refine ⟨fun c => (Cert.PostKernelIdeal.Gen.dats m 0 c).arrAt 11 Cert.PostKernelIdeal.cfg0.N, Cert.PostKernelIdeal.Value.run_blocks m g,
    θ_run_mono (Cert.PostReferenceIdeal.Value.run m' g') fun r h c => ⟨(h c).1.trans ?_, (h c).2⟩⟩
  obtain ⟨h0, h1, h2, h3, h4, h5, h6, h7, h8, h9, h10⟩ := hagree c
  refine (Post.Ref.res_eq m' c).trans (Eq.trans ?_ (Post.final m c).symm)
  rw [← h0, ← h1, ← h2, ← h3, ← h4, ← h5, ← h6, ← h7, ← h8, ← h9, ← h10]

/-- The idealized differential attention's frame. -/
theorem frame_diffKernelIdeal : Cert.quiescent_DiffKernelIdeal := fun m g _ => Diff.run_frame m g

/-- Its reference's frame. -/
theorem frame_diffReferenceIdeal : Cert.quiescent_DiffReferenceIdeal := fun m g _ =>
  θ_run_mono (Cert.DiffReferenceIdeal.Value.run m g) fun r h => ⟨fun c => (h c).2, sem_eq_zero_of_no_sems (by decide) r.2⟩

/-- At finite queries, keys, values and vectors the differential attention's result array is its reference's. -/
theorem algebraic_diff : Cert.algebraic_DiffKernelIdeal_DiffReferenceIdeal_pre_finite_diff := by
  intro m g m' g' hpre hagree
  refine ⟨fun c => (Diff.dats m 0 c).arrAt 8 Cert.DiffKernelIdeal.cfg0.N,
    θ_run_mono (θ_run_and (Diff.run_main m g) (Diff.run_frame m g)) fun r h c => ⟨(h.1.1 c).1 8, h.2.1 c⟩,
    θ_run_mono (Cert.DiffReferenceIdeal.Value.run m' g') fun r h c => ⟨(h c).1.trans ?_, (h c).2⟩⟩
  obtain ⟨⟨q, hq⟩, ⟨k, hk⟩, ⟨v, hv⟩, ⟨x₁, hx₁⟩, ⟨y₁, hy₁⟩, ⟨x₂, hx₂⟩, ⟨y₂, hy₂⟩⟩ := Cert.Pre_finite_diff.reals _ _ _ _ _ _ _ _ (hpre c)
  obtain ⟨h0, h1, h2, h3, h4, h5, h6, h7⟩ := hagree c
  refine (Diff.Ref.res_eq m' c).trans (Eq.trans ?_ (Diff.final m c q k v x₁ y₁ x₂ y₂ hq hk hv hx₁ hy₁ hx₂ hy₂).symm)
  rw [h0, h1, h2, h3, h4, h5, h6, h7]
  unfold Diff.want
  rw [← hq, ← hk, ← hv, ← hx₁, ← hy₁, ← hx₂, ← hy₂]

/-- The first layer's closing call as printed and as idealized is the same text, so that the frames are the same statement. -/
theorem quiescent_MidKernel_eq : Cert.quiescent_MidKernel = Mid.FrameAt Bits := by sl_kernel_rfl

/-- Its frame as printed. -/
theorem frame_midKernel : Cert.quiescent_MidKernel := quiescent_MidKernel_eq ▸ Mid.frameAt Bits

/-- Its frame as idealized. -/
theorem frame_midKernelIdeal : Cert.quiescent_MidKernelIdeal := Mid.frameAt Ideal

/-- Its reference's frame. -/
theorem frame_midReferenceIdeal : Cert.quiescent_MidReferenceIdeal := fun m g _ =>
  θ_run_mono (Cert.MidReferenceIdeal.Value.run m g) fun r h => ⟨fun c => (h c).2.2, sem_eq_zero_of_no_sems (by decide) r.2⟩

/-- The first layer's closing call's two result arrays are its reference's, whatever the arguments are. -/
theorem algebraic_mid : Cert.algebraic_MidKernelIdeal_MidReferenceIdeal := by
  intro m g m' g' _ hagree
  refine ⟨fun c => (Mid.dats m 0 c).arrAt 14 Cert.MidKernelIdeal.cfg0.N, fun c => (Mid.dats m 0 c).arrAt 15 Cert.MidKernelIdeal.cfg0.N,
    θ_run_mono (θ_run_and (Mid.run_main m g) (Mid.run_frame m g)) fun r h c => ⟨(h.1.1 c).1 14, (h.1.1 c).1 15, h.2.1 c⟩,
    θ_run_mono (Cert.MidReferenceIdeal.Value.run m' g') fun r h c => ⟨(h c).1.trans ?_, (h c).2.1.trans ?_, (h c).2.2⟩⟩
  all_goals obtain ⟨h0, h1, h2, h3, h4, h5, h6, h7, h8, h9, h10, h11, h12, h13⟩ := hagree c
  · refine (Mid.Ref.res0_eq m' c).trans (Eq.trans ?_ (Mid.final0 m c).symm)
    unfold Mid.want0
    rw [← h0, ← h2, ← h3, ← h4, ← h8, ← h9, ← h10, ← h11, ← h12, ← h13]
  · refine (Mid.Ref.res1_eq m' c).trans (Eq.trans ?_ (Mid.final1 m c).symm)
    unfold Mid.want1
    rw [← h1, ← h5, ← h6, ← h7, ← h8, ← h9, ← h10, ← h11, ← h12, ← h13]

/-- The reference of the input projection's values: its frame. -/
theorem frame_projReferenceIdeal : Cert.quiescent_ProjReferenceIdeal := fun m g _ =>
  θ_run_mono (Cert.ProjReferenceIdeal.Value.run m g) fun r h => ⟨fun c => (h c).2.2.2, sem_eq_zero_of_no_sems (by decide) r.2⟩

/-- The input projection's three arrays of values are its reference's, whatever the arguments are. -/
theorem algebraic_proj : Cert.algebraic_ProjKernelIdeal_ProjReferenceIdeal := by
  intro m g m' g' _ hagree
  refine ⟨fun c => (Cert.ProjKernelIdeal.Gen.dats m 0 c).arrAt 13 Cert.ProjKernelIdeal.cfg0.N,
    fun c => (Cert.ProjKernelIdeal.Gen.dats m 0 c).arrAt 16 Cert.ProjKernelIdeal.cfg0.N,
    fun c => (Cert.ProjKernelIdeal.Gen.dats m 0 c).arrAt 19 Cert.ProjKernelIdeal.cfg0.N,
    θ_run_mono (Cert.ProjKernelIdeal.Value.run_blocks m g) fun r h c => by
      obtain ⟨-, -, hA, -, -, hB, -, -, hC, hk⟩ := h c
      exact ⟨hA, hB, hC, hk⟩,
    θ_run_mono (Cert.ProjReferenceIdeal.Value.run m' g') fun r h c => ⟨(h c).1.trans ?_, (h c).2.1.trans ?_, (h c).2.2.1.trans ?_, (h c).2.2.2⟩⟩
  all_goals
    obtain ⟨h0, h1, h2, h3, h4, -, -⟩ := hagree c
    have hl : Proj.Ref.latents m' c = Proj.latents m c := by
      unfold Proj.Ref.latents Proj.latents
      rw [← h0, ← h2, ← h3, ← h4]
    have hc : Proj.Ref.contexts m' c = Proj.contexts m c := by
      unfold Proj.Ref.contexts Proj.contexts
      rw [← h1, ← h2, ← h3, ← h4]
  · refine (Proj.Ref.res0_eq m' c).trans (Eq.trans ?_ (Proj.finalA m c).symm)
    rw [hl, hc]
  · refine (Proj.Ref.res1_eq m' c).trans (Eq.trans ?_ (Proj.finalB m c).symm)
    rw [hl, hc]
  · refine (Proj.Ref.res2_eq m' c).trans (Eq.trans ?_ (Proj.finalC m c).symm)
    rw [hl, hc]

theorem claim : Cert.Claim := ⟨Cert.Kernel.Gen.facts, Cert.KernelIdeal.Gen.facts, Cert.ReferenceIdeal.Gen.facts, Cert.PostKernel.Gen.facts,
  Cert.PostKernelIdeal.Gen.facts, Cert.PostReferenceIdeal.Gen.facts, Cert.DiffKernel.Gen.facts, Cert.DiffKernelIdeal.Gen.facts,
  Cert.DiffReferenceIdeal.Gen.facts, Cert.MidKernel.Gen.facts, Cert.MidKernelIdeal.Gen.facts, Cert.MidReferenceIdeal.Gen.facts,
  Cert.ProjKernel.Gen.facts, Cert.ProjKernelIdeal.Gen.facts, Cert.ProjReferenceIdeal.Gen.facts,
  Cert.Pre_finite.Gen.facts, Cert.Pre_finite_diff.Gen.facts,
  frame_kernel, frame_kernelIdeal, fun m g _ => frame_kernelIdeal m g trivial, frame_referenceIdeal,
  fun m g _ => frame_referenceIdeal m g trivial, fun m g _ => Cert.PostKernel.Gen.frame m g, fun m g _ => Cert.PostKernelIdeal.Gen.frame m g,
  frame_postReferenceIdeal, fun m g _ => Cert.DiffKernel.Gen.frame m g, frame_diffKernelIdeal,
  fun m g _ => frame_diffKernelIdeal m g trivial, frame_diffReferenceIdeal, fun m g _ => frame_diffReferenceIdeal m g trivial,
  frame_midKernel, frame_midKernelIdeal, frame_midReferenceIdeal,
  fun m g _ => Cert.ProjKernel.Gen.frame m g, fun m g _ => Cert.ProjKernelIdeal.Gen.frame m g, frame_projReferenceIdeal,
  trivial, algebraic, trivial, algebraic_post, trivial, algebraic_diff, trivial, algebraic_mid, trivial, algebraic_proj⟩

end Cert.Proof

end
